-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Reference2 (m : (ℓ : Loc Cert.Reference2.nD Cert.Reference2.τ Cert.Reference2.sig) → Buf (Elt Bits) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Reference3 (m : (ℓ : Loc Cert.Reference3.nD Cert.Reference3.τ Cert.Reference3.sig) → Buf (Elt Bits) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Reference4 (m : (ℓ : Loc Cert.Reference4.nD Cert.Reference4.τ Cert.Reference4.sig) → Buf (Elt Bits) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Reference5 (m : (ℓ : Loc Cert.Reference5.nD Cert.Reference5.τ Cert.Reference5.sig) → Buf (Elt Bits) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_heads [hPre_finite_heads : Cert.Pre_finite_heads.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_heads.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_heads [hPre_finite_heads : Cert.Pre_finite_heads.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_heads.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Reference6 (m : (ℓ : Loc Cert.Reference6.nD Cert.Reference6.τ Cert.Reference6.sig) → Buf (Elt Bits) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Reference7 (m : (ℓ : Loc Cert.Reference7.nD Cert.Reference7.τ Cert.Reference7.sig) → Buf (Elt Bits) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Reference8 (m : (ℓ : Loc Cert.Reference8.nD Cert.Reference8.τ Cert.Reference8.sig) → Buf (Elt Bits) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_logits [hPre_finite_logits : Cert.Pre_finite_logits.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_logits.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_logits [hPre_finite_logits : Cert.Pre_finite_logits.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_logits.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def Pre_Reference9 (m : (ℓ : Loc Cert.Reference9.nD Cert.Reference9.τ Cert.Reference9.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1)
      ∧ r.2.mem ((c.tc : Thread Cert.Reference2.nD Cert.Reference2.τ).loc Cert.Reference2.main_arg2) = m ((c.tc : Thread Cert.Reference2.nD Cert.Reference2.τ).loc Cert.Reference2.main_arg2)
      ∧ r.2.mem ((c.tc : Thread Cert.Reference2.nD Cert.Reference2.τ).loc Cert.Reference2.main_arg3) = m ((c.tc : Thread Cert.Reference2.nD Cert.Reference2.τ).loc Cert.Reference2.main_arg3)
      ∧ r.2.mem ((c.tc : Thread Cert.Reference2.nD Cert.Reference2.τ).loc Cert.Reference2.main_arg4) = m ((c.tc : Thread Cert.Reference2.nD Cert.Reference2.τ).loc Cert.Reference2.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3 [hReference3 : Cert.Reference3.Facts] : Prop :=
  ∀ (m : (ℓ : Loc Cert.Reference3.nD Cert.Reference3.τ Cert.Reference3.sig) → Buf (Elt Bits) ℓ) (g : Dev Cert.Reference3.nD → PrngReg), Pre_Reference3 m →
    θ_run (Cert.Reference3.defs (F := Bits)) (onTc (τ := Cert.Reference3.τ) (Cert.Reference3.main (F := Bits))) ⟨m, fun _ => 0, g⟩ (fun r => (∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1)
      ∧ r.2.mem ((c.tc : Thread Cert.Reference3.nD Cert.Reference3.τ).loc Cert.Reference3.main_arg2) = m ((c.tc : Thread Cert.Reference3.nD Cert.Reference3.τ).loc Cert.Reference3.main_arg2)
      ∧ r.2.mem ((c.tc : Thread Cert.Reference3.nD Cert.Reference3.τ).loc Cert.Reference3.main_arg3) = m ((c.tc : Thread Cert.Reference3.nD Cert.Reference3.τ).loc Cert.Reference3.main_arg3)
      ∧ r.2.mem ((c.tc : Thread Cert.Reference3.nD Cert.Reference3.τ).loc Cert.Reference3.main_arg4) = m ((c.tc : Thread Cert.Reference3.nD Cert.Reference3.τ).loc Cert.Reference3.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4 [hReference4 : Cert.Reference4.Facts] : Prop :=
  ∀ (m : (ℓ : Loc Cert.Reference4.nD Cert.Reference4.τ Cert.Reference4.sig) → Buf (Elt Bits) ℓ) (g : Dev Cert.Reference4.nD → PrngReg), Pre_Reference4 m →
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1)
      ∧ r.2.mem ((c.tc : Thread Cert.Reference4.nD Cert.Reference4.τ).loc Cert.Reference4.main_arg2) = m ((c.tc : Thread Cert.Reference4.nD Cert.Reference4.τ).loc Cert.Reference4.main_arg2)
      ∧ r.2.mem ((c.tc : Thread Cert.Reference4.nD Cert.Reference4.τ).loc Cert.Reference4.main_arg3) = m ((c.tc : Thread Cert.Reference4.nD Cert.Reference4.τ).loc Cert.Reference4.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5 [hReference5 : Cert.Reference5.Facts] : Prop :=
  ∀ (m : (ℓ : Loc Cert.Reference5.nD Cert.Reference5.τ Cert.Reference5.sig) → Buf (Elt Bits) ℓ) (g : Dev Cert.Reference5.nD → PrngReg), Pre_Reference5 m →
    θ_run (Cert.Reference5.defs (F := Bits)) (onTc (τ := Cert.Reference5.τ) (Cert.Reference5.main (F := Bits))) ⟨m, fun _ => 0, g⟩ (fun r => (∀ c : Dev Cert.Reference5.nD,
      r.2.mem ((c.tc : Thread Cert.Reference5.nD Cert.Reference5.τ).loc Cert.Reference5.main_arg0) = m ((c.tc : Thread Cert.Reference5.nD Cert.Reference5.τ).loc Cert.Reference5.main_arg0)
      ∧ r.2.mem ((c.tc : Thread Cert.Reference5.nD Cert.Reference5.τ).loc Cert.Reference5.main_arg1) = m ((c.tc : Thread Cert.Reference5.nD Cert.Reference5.τ).loc Cert.Reference5.main_arg1)
      ∧ r.2.mem ((c.tc : Thread Cert.Reference5.nD Cert.Reference5.τ).loc Cert.Reference5.main_arg2) = m ((c.tc : Thread Cert.Reference5.nD Cert.Reference5.τ).loc Cert.Reference5.main_arg2)
      ∧ r.2.mem ((c.tc : Thread Cert.Reference5.nD Cert.Reference5.τ).loc Cert.Reference5.main_arg3) = m ((c.tc : Thread Cert.Reference5.nD Cert.Reference5.τ).loc Cert.Reference5.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_heads [hKernel6Ideal : Cert.Kernel6Ideal.Facts] [hPre_finite_heads : Cert.Pre_finite_heads.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_heads m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_heads [hReference6Ideal : Cert.Reference6Ideal.Facts] [hPre_finite_heads : Cert.Pre_finite_heads.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_heads m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6 [hReference6 : Cert.Reference6.Facts] : Prop :=
  ∀ (m : (ℓ : Loc Cert.Reference6.nD Cert.Reference6.τ Cert.Reference6.sig) → Buf (Elt Bits) ℓ) (g : Dev Cert.Reference6.nD → PrngReg), Pre_Reference6 m →
    θ_run (Cert.Reference6.defs (F := Bits)) (onTc (τ := Cert.Reference6.τ) (Cert.Reference6.main (F := Bits))) ⟨m, fun _ => 0, g⟩ (fun r => (∀ c : Dev Cert.Reference6.nD,
      r.2.mem ((c.tc : Thread Cert.Reference6.nD Cert.Reference6.τ).loc Cert.Reference6.main_arg0) = m ((c.tc : Thread Cert.Reference6.nD Cert.Reference6.τ).loc Cert.Reference6.main_arg0)
      ∧ r.2.mem ((c.tc : Thread Cert.Reference6.nD Cert.Reference6.τ).loc Cert.Reference6.main_arg1) = m ((c.tc : Thread Cert.Reference6.nD Cert.Reference6.τ).loc Cert.Reference6.main_arg1)
      ∧ r.2.mem ((c.tc : Thread Cert.Reference6.nD Cert.Reference6.τ).loc Cert.Reference6.main_arg2) = m ((c.tc : Thread Cert.Reference6.nD Cert.Reference6.τ).loc Cert.Reference6.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7 [hReference7 : Cert.Reference7.Facts] : Prop :=
  ∀ (m : (ℓ : Loc Cert.Reference7.nD Cert.Reference7.τ Cert.Reference7.sig) → Buf (Elt Bits) ℓ) (g : Dev Cert.Reference7.nD → PrngReg), Pre_Reference7 m →
    θ_run (Cert.Reference7.defs (F := Bits)) (onTc (τ := Cert.Reference7.τ) (Cert.Reference7.main (F := Bits))) ⟨m, fun _ => 0, g⟩ (fun r => (∀ c : Dev Cert.Reference7.nD,
      r.2.mem ((c.tc : Thread Cert.Reference7.nD Cert.Reference7.τ).loc Cert.Reference7.main_arg0) = m ((c.tc : Thread Cert.Reference7.nD Cert.Reference7.τ).loc Cert.Reference7.main_arg0)
      ∧ r.2.mem ((c.tc : Thread Cert.Reference7.nD Cert.Reference7.τ).loc Cert.Reference7.main_arg1) = m ((c.tc : Thread Cert.Reference7.nD Cert.Reference7.τ).loc Cert.Reference7.main_arg1)
      ∧ r.2.mem ((c.tc : Thread Cert.Reference7.nD Cert.Reference7.τ).loc Cert.Reference7.main_arg2) = m ((c.tc : Thread Cert.Reference7.nD Cert.Reference7.τ).loc Cert.Reference7.main_arg2)
      ∧ r.2.mem ((c.tc : Thread Cert.Reference7.nD Cert.Reference7.τ).loc Cert.Reference7.main_arg3) = m ((c.tc : Thread Cert.Reference7.nD Cert.Reference7.τ).loc Cert.Reference7.main_arg3)
      ∧ r.2.mem ((c.tc : Thread Cert.Reference7.nD Cert.Reference7.τ).loc Cert.Reference7.main_arg4) = m ((c.tc : Thread Cert.Reference7.nD Cert.Reference7.τ).loc Cert.Reference7.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8 [hReference8 : Cert.Reference8.Facts] : Prop :=
  ∀ (m : (ℓ : Loc Cert.Reference8.nD Cert.Reference8.τ Cert.Reference8.sig) → Buf (Elt Bits) ℓ) (g : Dev Cert.Reference8.nD → PrngReg), Pre_Reference8 m →
    θ_run (Cert.Reference8.defs (F := Bits)) (onTc (τ := Cert.Reference8.τ) (Cert.Reference8.main (F := Bits))) ⟨m, fun _ => 0, g⟩ (fun r => (∀ c : Dev Cert.Reference8.nD,
      r.2.mem ((c.tc : Thread Cert.Reference8.nD Cert.Reference8.τ).loc Cert.Reference8.main_arg0) = m ((c.tc : Thread Cert.Reference8.nD Cert.Reference8.τ).loc Cert.Reference8.main_arg0)
      ∧ r.2.mem ((c.tc : Thread Cert.Reference8.nD Cert.Reference8.τ).loc Cert.Reference8.main_arg1) = m ((c.tc : Thread Cert.Reference8.nD Cert.Reference8.τ).loc Cert.Reference8.main_arg1)
      ∧ r.2.mem ((c.tc : Thread Cert.Reference8.nD Cert.Reference8.τ).loc Cert.Reference8.main_arg2) = m ((c.tc : Thread Cert.Reference8.nD Cert.Reference8.τ).loc Cert.Reference8.main_arg2)
      ∧ r.2.mem ((c.tc : Thread Cert.Reference8.nD Cert.Reference8.τ).loc Cert.Reference8.main_arg3) = m ((c.tc : Thread Cert.Reference8.nD Cert.Reference8.τ).loc Cert.Reference8.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite_logits [hKernel9Ideal : Cert.Kernel9Ideal.Facts] [hPre_finite_logits : Cert.Pre_finite_logits.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_logits m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite_logits [hReference9Ideal : Cert.Reference9Ideal.Facts] [hPre_finite_logits : Cert.Pre_finite_logits.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_logits m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9 [hReference9 : Cert.Reference9.Facts] : Prop :=
  ∀ (m : (ℓ : Loc Cert.Reference9.nD Cert.Reference9.τ Cert.Reference9.sig) → Buf (Elt Bits) ℓ) (g : Dev Cert.Reference9.nD → PrngReg), Pre_Reference9 m →
    θ_run (Cert.Reference9.defs (F := Bits)) (onTc (τ := Cert.Reference9.τ) (Cert.Reference9.main (F := Bits))) ⟨m, fun _ => 0, g⟩ (fun r => (∀ c : Dev Cert.Reference9.nD,
      r.2.mem ((c.tc : Thread Cert.Reference9.nD Cert.Reference9.τ).loc Cert.Reference9.main_arg0) = m ((c.tc : Thread Cert.Reference9.nD Cert.Reference9.τ).loc Cert.Reference9.main_arg0)
      ∧ r.2.mem ((c.tc : Thread Cert.Reference9.nD Cert.Reference9.τ).loc Cert.Reference9.main_arg1) = m ((c.tc : Thread Cert.Reference9.nD Cert.Reference9.τ).loc Cert.Reference9.main_arg1)
      ∧ r.2.mem ((c.tc : Thread Cert.Reference9.nD Cert.Reference9.τ).loc Cert.Reference9.main_arg2) = m ((c.tc : Thread Cert.Reference9.nD Cert.Reference9.τ).loc Cert.Reference9.main_arg2))
      ∧ r.2.sem = fun _ => 0)

def preserves_Kernel_KernelIdeal : Prop :=
  IdealRules.named_const.Statement Cert.KernelIdeal.κ "mask" .f32 0xF149F2CA#32 ⊥

def preserves_Reference_ReferenceIdeal : Prop :=
  True

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def preserves_Reference2_Reference2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def preserves_Reference3_Reference3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def preserves_Reference4_Reference4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def preserves_Reference5_Reference5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def preserves_Reference6_Reference6Ideal : Prop :=
  True

def algebraic_Kernel6Ideal_Reference6Ideal_pre_finite_heads [hKernel6Ideal : Cert.Kernel6Ideal.Facts] [hReference6Ideal : Cert.Reference6Ideal.Facts] [hPre_finite_heads : Cert.Pre_finite_heads.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_heads m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)) (v2 : (c : Dev Cert.Kernel6Ideal.nD) → Buf (Elt Ideal) ((c.tc : Thread Cert.Kernel6Ideal.nD Cert.Kernel6Ideal.τ).loc Cert.Kernel6Ideal.main_v10_2)) (v3 : (c : Dev Cert.Kernel6Ideal.nD) → Buf (Elt Ideal) ((c.tc : Thread Cert.Kernel6Ideal.nD Cert.Kernel6Ideal.τ).loc Cert.Kernel6Ideal.main_v10_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_v10_2) = v2 c
          ∧ r.2.mem ((c.tc : Thread Cert.Kernel6Ideal.nD Cert.Kernel6Ideal.τ).loc Cert.Kernel6Ideal.main_v10_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v36) = v1 c
          ∧ r.2.mem ((c.tc : Thread Cert.Reference6Ideal.nD Cert.Reference6Ideal.τ).loc Cert.Reference6Ideal.main_v38) = v2 c
          ∧ r.2.mem ((c.tc : Thread Cert.Reference6Ideal.nD Cert.Reference6Ideal.τ).loc Cert.Reference6Ideal.main_v39) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def preserves_Reference7_Reference7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def preserves_Reference8_Reference8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v51) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def preserves_Reference9_Reference9Ideal : Prop :=
  True

def algebraic_Kernel9Ideal_Reference9Ideal_pre_finite_logits [hKernel9Ideal : Cert.Kernel9Ideal.Facts] [hReference9Ideal : Cert.Reference9Ideal.Facts] [hPre_finite_logits : Cert.Pre_finite_logits.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_logits m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v6_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v43) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hReference2 : Cert.Reference2.Facts) (hKernel3 : Cert.Kernel3.Facts) (hKernel3Ideal : Cert.Kernel3Ideal.Facts) (hReference3Ideal : Cert.Reference3Ideal.Facts) (hReference3 : Cert.Reference3.Facts) (hKernel4 : Cert.Kernel4.Facts) (hKernel4Ideal : Cert.Kernel4Ideal.Facts) (hReference4Ideal : Cert.Reference4Ideal.Facts) (hReference4 : Cert.Reference4.Facts) (hKernel5 : Cert.Kernel5.Facts) (hKernel5Ideal : Cert.Kernel5Ideal.Facts) (hReference5Ideal : Cert.Reference5Ideal.Facts) (hReference5 : Cert.Reference5.Facts) (hKernel6 : Cert.Kernel6.Facts) (hKernel6Ideal : Cert.Kernel6Ideal.Facts) (hReference6Ideal : Cert.Reference6Ideal.Facts) (hReference6 : Cert.Reference6.Facts) (hKernel7 : Cert.Kernel7.Facts) (hKernel7Ideal : Cert.Kernel7Ideal.Facts) (hReference7Ideal : Cert.Reference7Ideal.Facts) (hReference7 : Cert.Reference7.Facts) (hKernel8 : Cert.Kernel8.Facts) (hKernel8Ideal : Cert.Kernel8Ideal.Facts) (hReference8Ideal : Cert.Reference8Ideal.Facts) (hReference8 : Cert.Reference8.Facts) (hKernel9 : Cert.Kernel9.Facts) (hKernel9Ideal : Cert.Kernel9Ideal.Facts) (hReference9Ideal : Cert.Reference9Ideal.Facts) (hReference9 : Cert.Reference9.Facts) (hPre_finite_values : Cert.Pre_finite_values.Facts) (hPre_finite_heads : Cert.Pre_finite_heads.Facts) (hPre_finite_logits : Cert.Pre_finite_logits.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Reference2 (hReference2 := hReference2)
    ∧ quiescent_Kernel3 (hKernel3 := hKernel3)
    ∧ quiescent_Kernel3Ideal (hKernel3Ideal := hKernel3Ideal)
    ∧ quiescent_Reference3Ideal (hReference3Ideal := hReference3Ideal)
    ∧ quiescent_Reference3 (hReference3 := hReference3)
    ∧ quiescent_Kernel4 (hKernel4 := hKernel4)
    ∧ quiescent_Kernel4Ideal (hKernel4Ideal := hKernel4Ideal)
    ∧ quiescent_Reference4Ideal (hReference4Ideal := hReference4Ideal)
    ∧ quiescent_Reference4 (hReference4 := hReference4)
    ∧ quiescent_Kernel5 (hKernel5 := hKernel5)
    ∧ quiescent_Kernel5Ideal (hKernel5Ideal := hKernel5Ideal)
    ∧ quiescent_Reference5Ideal (hReference5Ideal := hReference5Ideal)
    ∧ quiescent_Reference5 (hReference5 := hReference5)
    ∧ quiescent_Kernel6 (hKernel6 := hKernel6)
    ∧ quiescent_Kernel6Ideal (hKernel6Ideal := hKernel6Ideal)
    ∧ quiescent_Kernel6Ideal_pre_finite_heads (hKernel6Ideal := hKernel6Ideal) (hPre_finite_heads := hPre_finite_heads)
    ∧ quiescent_Reference6Ideal (hReference6Ideal := hReference6Ideal)
    ∧ quiescent_Reference6Ideal_pre_finite_heads (hReference6Ideal := hReference6Ideal) (hPre_finite_heads := hPre_finite_heads)
    ∧ quiescent_Reference6 (hReference6 := hReference6)
    ∧ quiescent_Kernel7 (hKernel7 := hKernel7)
    ∧ quiescent_Kernel7Ideal (hKernel7Ideal := hKernel7Ideal)
    ∧ quiescent_Reference7Ideal (hReference7Ideal := hReference7Ideal)
    ∧ quiescent_Reference7 (hReference7 := hReference7)
    ∧ quiescent_Kernel8 (hKernel8 := hKernel8)
    ∧ quiescent_Kernel8Ideal (hKernel8Ideal := hKernel8Ideal)
    ∧ quiescent_Reference8Ideal (hReference8Ideal := hReference8Ideal)
    ∧ quiescent_Reference8 (hReference8 := hReference8)
    ∧ quiescent_Kernel9 (hKernel9 := hKernel9)
    ∧ quiescent_Kernel9Ideal (hKernel9Ideal := hKernel9Ideal)
    ∧ quiescent_Kernel9Ideal_pre_finite_logits (hKernel9Ideal := hKernel9Ideal) (hPre_finite_logits := hPre_finite_logits)
    ∧ quiescent_Reference9Ideal (hReference9Ideal := hReference9Ideal)
    ∧ quiescent_Reference9Ideal_pre_finite_logits (hReference9Ideal := hReference9Ideal) (hPre_finite_logits := hPre_finite_logits)
    ∧ quiescent_Reference9 (hReference9 := hReference9)
    ∧ preserves_Kernel_KernelIdeal
    ∧ preserves_Reference_ReferenceIdeal
    ∧ algebraic_KernelIdeal_ReferenceIdeal_pre_finite_values (hKernelIdeal := hKernelIdeal) (hReferenceIdeal := hReferenceIdeal) (hPre_finite_values := hPre_finite_values)
    ∧ preserves_Kernel2_Kernel2Ideal
    ∧ preserves_Reference2_Reference2Ideal
    ∧ algebraic_Kernel2Ideal_Reference2Ideal (hKernel2Ideal := hKernel2Ideal) (hReference2Ideal := hReference2Ideal)
    ∧ preserves_Kernel3_Kernel3Ideal
    ∧ preserves_Reference3_Reference3Ideal
    ∧ algebraic_Kernel3Ideal_Reference3Ideal (hKernel3Ideal := hKernel3Ideal) (hReference3Ideal := hReference3Ideal)
    ∧ preserves_Kernel4_Kernel4Ideal
    ∧ preserves_Reference4_Reference4Ideal
    ∧ algebraic_Kernel4Ideal_Reference4Ideal (hKernel4Ideal := hKernel4Ideal) (hReference4Ideal := hReference4Ideal)
    ∧ preserves_Kernel5_Kernel5Ideal
    ∧ preserves_Reference5_Reference5Ideal
    ∧ algebraic_Kernel5Ideal_Reference5Ideal (hKernel5Ideal := hKernel5Ideal) (hReference5Ideal := hReference5Ideal)
    ∧ preserves_Kernel6_Kernel6Ideal
    ∧ preserves_Reference6_Reference6Ideal
    ∧ algebraic_Kernel6Ideal_Reference6Ideal_pre_finite_heads (hKernel6Ideal := hKernel6Ideal) (hReference6Ideal := hReference6Ideal) (hPre_finite_heads := hPre_finite_heads)
    ∧ preserves_Kernel7_Kernel7Ideal
    ∧ preserves_Reference7_Reference7Ideal
    ∧ algebraic_Kernel7Ideal_Reference7Ideal (hKernel7Ideal := hKernel7Ideal) (hReference7Ideal := hReference7Ideal)
    ∧ preserves_Kernel8_Kernel8Ideal
    ∧ preserves_Reference8_Reference8Ideal
    ∧ algebraic_Kernel8Ideal_Reference8Ideal (hKernel8Ideal := hKernel8Ideal) (hReference8Ideal := hReference8Ideal)
    ∧ preserves_Kernel9_Kernel9Ideal
    ∧ preserves_Reference9_Reference9Ideal
    ∧ algebraic_Kernel9Ideal_Reference9Ideal_pre_finite_logits (hKernel9Ideal := hKernel9Ideal) (hReference9Ideal := hReference9Ideal) (hPre_finite_logits := hPre_finite_logits)
-- ==== Pre_finite_heads.lean ====
abbrev S17664x11264 : Shape := ⟨2, ![17664, 11264]⟩
abbrev S1x64 : Shape := ⟨2, ![1, 64]⟩
abbrev S17664x2048 : Shape := ⟨2, ![17664, 2048]⟩
abbrev S_ : Shape := ⟨0, ![]⟩

class Facts : Prop where
  slices_S17664x11264_S17664x2048_0_4096 : S17664x11264.Slices ![0, 4096] S17664x2048
  bcast_S_S17664x2048 : S_.BroadcastsInDim S17664x2048 (![] : Fin 0 → Fin S17664x2048.rank)

variable [Facts]

def fn {F : FTy → Type} [FloatOps F] (main_arg0 : FVec F S17664x11264 .f32) (main_arg1 : FVec F S1x64 .f32) (main_arg2 : FVec F S1x64 .f32) : IVec S17664x2048 1 :=
  let main_v0 : FVec F S17664x2048 .f32 := (extractStridedSlice S17664x2048 ![0, 4096] · slices_S17664x11264_S17664x2048_0_4096) main_arg0
  let main_v1 : FVec F S17664x2048 .f32 := Host.absf main_v0
  let main_cst : FVec F S_ .f32 := constant S_ .f32 0x7F800000#32
  let main_v2 : FVec F S17664x2048 .f32 := broadcastInDim S17664x2048 ![] bcast_S_S17664x2048 main_cst
  let main_v3 : IVec S17664x2048 1 := cmpf .olt main_v1 main_v2
  main_v3
-- ==== Pre_finite_logits.lean ====
abbrev S8x2064x11264 : Shape := ⟨3, ![8, 2064, 11264]⟩
abbrev S2x1024 : Shape := ⟨2, ![2, 1024]⟩
abbrev S1x128 : Shape := ⟨2, ![1, 128]⟩
abbrev S_ : Shape := ⟨0, ![]⟩

class Facts : Prop where
  bcast_S_S2x1024 : S_.BroadcastsInDim S2x1024 (![] : Fin 0 → Fin S2x1024.rank)

variable [Facts]

def fn {F : FTy → Type} [FloatOps F] (main_arg0 : FVec F S8x2064x11264 .f32) (main_arg1 : FVec F S2x1024 .f32) (main_arg2 : FVec F S1x128 .f32) : IVec S2x1024 1 :=
  let main_v0 : FVec F S2x1024 .f32 := Host.absf main_arg1
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  main_v2
-- ==== Pre_finite_values.lean ====
abbrev S8x2064x8x2x64 : Shape := ⟨5, ![8, 2064, 8, 2, 64]⟩
abbrev S8x2064x8x128 : Shape := ⟨4, ![8, 2064, 8, 128]⟩
abbrev S32x8 : Shape := ⟨2, ![32, 8]⟩
abbrev S1x4x64 : Shape := ⟨3, ![1, 4, 64]⟩
abbrev S1x128 : Shape := ⟨2, ![1, 128]⟩
abbrev S_ : Shape := ⟨0, ![]⟩

class Facts : Prop where
  bcast_S_S8x2064x8x128 : S_.BroadcastsInDim S8x2064x8x128 (![] : Fin 0 → Fin S8x2064x8x128.rank)
  bcast_S_S1x4x64 : S_.BroadcastsInDim S1x4x64 (![] : Fin 0 → Fin S1x4x64.rank)

variable [Facts]

def fn {F : FTy → Type} [FloatOps F] (main_arg0 : FVec F S8x2064x8x2x64 .f32) (main_arg1 : FVec F S8x2064x8x2x64 .f32) (main_arg2 : FVec F S8x2064x8x128 .f32) (main_arg3 : FVec F S32x8 .f32) (main_arg4 : FVec F S1x4x64 .f32) (main_arg5 : FVec F S1x128 .f32) : IVec S8x2064x8x128 1 × IVec S1x4x64 1 :=
  let main_v0 : FVec F S8x2064x8x128 .f32 := Host.absf main_arg2
  let main_cst : FVec F S_ .f32 := constant S_ .f32 0x7F800000#32
  let main_v1 : FVec F S8x2064x8x128 .f32 := broadcastInDim S8x2064x8x128 ![] bcast_S_S8x2064x8x128 main_cst
  let main_v2 : IVec S8x2064x8x128 1 := cmpf .olt main_v0 main_v1
  let main_v3 : FVec F S1x4x64 .f32 := Host.absf main_arg4
  let main_cst_0 : FVec F S_ .f32 := constant S_ .f32 0x7F800000#32
  let main_v4 : FVec F S1x4x64 .f32 := broadcastInDim S1x4x64 ![] bcast_S_S1x4x64 main_cst_0
  let main_v5 : IVec S1x4x64 1 := cmpf .olt main_v3 main_v4
  (main_v2, main_v5)
-- ==== Kernel.lean ====
abbrev S8x2064x8x2x64 : Shape := ⟨5, ![8, 2064, 8, 2, 64]⟩
abbrev S8x2064x8x128 : Shape := ⟨4, ![8, 2064, 8, 128]⟩
abbrev S32x8 : Shape := ⟨2, ![32, 8]⟩
abbrev S1x4x64 : Shape := ⟨3, ![1, 4, 64]⟩
abbrev S1x128 : Shape := ⟨2, ![1, 128]⟩
abbrev S_ : Shape := ⟨0, ![]⟩
abbrev S8x2064x1024 : Shape := ⟨3, ![8, 2064, 1024]⟩
abbrev S8x2176x1024 : Shape := ⟨3, ![8, 2176, 1024]⟩
abbrev S17408x1024 : Shape := ⟨2, ![17408, 1024]⟩
abbrev S17664x1024 : Shape := ⟨2, ![17664, 1024]⟩
abbrev S4x64 : Shape := ⟨2, ![4, 64]⟩
abbrev S128 : Shape := ⟨1, ![128]⟩
abbrev S128x1024 : Shape := ⟨2, ![128, 1024]⟩
abbrev S2176x1024 : Shape := ⟨2, ![2176, 1024]⟩
abbrev S2x8x256x128 : Shape := ⟨4, ![2, 8, 256, 128]⟩
abbrev S128x128 : Shape := ⟨2, ![128, 128]⟩
abbrev S1x1 : Shape := ⟨2, ![1, 1]⟩
abbrev S1x1x128x128 : Shape := ⟨4, ![1, 1, 128, 128]⟩
abbrev S1x64 : Shape := ⟨2, ![1, 64]⟩
abbrev S1 : Shape := ⟨1, ![1]⟩
abbrev S256x128 : Shape := ⟨2, ![256, 128]⟩
abbrev S256x1 : Shape := ⟨2, ![256, 1]⟩
abbrev S256 : Shape := ⟨1, ![256]⟩
abbrev S1x1x256x128 : Shape := ⟨4, ![1, 1, 256, 128]⟩
abbrev S128x1 : Shape := ⟨2, ![128, 1]⟩

abbrev nBuf : Space → Nat
  | .hbm => 40
  | .vmem => 11
  | .smem => 1
  | _ => 0

abbrev bufTy : (tb : Table) → Fin (tcTables nBuf tb) → BufTy
  | .hbm, ⟨0, _⟩ => ⟨S8x2064x8x2x64, .f32⟩
  | .hbm, ⟨1, _⟩ => ⟨S8x2064x8x2x64, .f32⟩
  | .hbm, ⟨2, _⟩ => ⟨S8x2064x8x128, .f32⟩
  | .hbm, ⟨3, _⟩ => ⟨S32x8, .f32⟩
  | .hbm, ⟨4, _⟩ => ⟨S1x4x64, .f32⟩
  | .hbm, ⟨5, _⟩ => ⟨S1x128, .f32⟩
  | .hbm, ⟨6, _⟩ => ⟨S_, .f32⟩
  | .hbm, ⟨7, _⟩ => ⟨S8x2064x8x2x64, .f32⟩
  | .hbm, ⟨8, _⟩ => ⟨S8x2064x8x2x64, .f32⟩
  | .hbm, ⟨9, _⟩ => ⟨S8x2064x1024, .f32⟩
  | .hbm, ⟨10, _⟩ => ⟨S_, .i32⟩
  | .hbm, ⟨11, _⟩ => ⟨S_, .f32⟩
  | .hbm, ⟨12, _⟩ => ⟨S8x2176x1024, .f32⟩
  | .hbm, ⟨13, _⟩ => ⟨S17408x1024, .f32⟩
  | .hbm, ⟨14, _⟩ => ⟨S_, .i32⟩
  | .hbm, ⟨15, _⟩ => ⟨S_, .f32⟩
  | .hbm, ⟨16, _⟩ => ⟨S17664x1024, .f32⟩
  | .hbm, ⟨17, _⟩ => ⟨S17664x1024, .bf16⟩
  | .hbm, ⟨18, _⟩ => ⟨S8x2064x1024, .f32⟩
  | .hbm, ⟨19, _⟩ => ⟨S_, .i32⟩
  | .hbm, ⟨20, _⟩ => ⟨S_, .f32⟩
  | .hbm, ⟨21, _⟩ => ⟨S8x2176x1024, .f32⟩
  | .hbm, ⟨22, _⟩ => ⟨S17408x1024, .f32⟩
  | .hbm, ⟨23, _⟩ => ⟨S_, .i32⟩
  | .hbm, ⟨24, _⟩ => ⟨S_, .f32⟩
  | .hbm, ⟨25, _⟩ => ⟨S17664x1024, .f32⟩
  | .hbm, ⟨26, _⟩ => ⟨S17664x1024, .bf16⟩
  | .hbm, ⟨27, _⟩ => ⟨S8x2064x1024, .f32⟩
  | .hbm, ⟨28, _⟩ => ⟨S_, .i32⟩
  | .hbm, ⟨29, _⟩ => ⟨S_, .f32⟩
  | .hbm, ⟨30, _⟩ => ⟨S8x2176x1024, .f32⟩
  | .hbm, ⟨31, _⟩ => ⟨S17408x1024, .f32⟩
  | .hbm, ⟨32, _⟩ => ⟨S_, .i32⟩
  | .hbm, ⟨33, _⟩ => ⟨S_, .f32⟩
  | .hbm, ⟨34, _⟩ => ⟨S17664x1024, .f32⟩
  | .hbm, ⟨35, _⟩ => ⟨S17664x1024, .bf16⟩
  | .hbm, ⟨36, _⟩ => ⟨S4x64, .f32⟩
  | .hbm, ⟨37, _⟩ => ⟨S128, .f32⟩
  | .hbm, ⟨38, _⟩ => ⟨S1x128, .f32⟩
  | .hbm, ⟨39, _⟩ => ⟨S17408x1024, .f32⟩
  | .local _ .vmem, ⟨0, _⟩ => ⟨S4x64, .f32⟩
  | .local _ .vmem, ⟨1, _⟩ => ⟨S1x128, .f32⟩
  | .local _ .vmem, ⟨2, _⟩ => ⟨S128x1024, .bf16⟩
  | .local _ .vmem, ⟨3, _⟩ => ⟨S128x1024, .bf16⟩
  | .local _ .vmem, ⟨4, _⟩ => ⟨S2176x1024, .bf16⟩
  | .local _ .vmem, ⟨5, _⟩ => ⟨S2176x1024, .bf16⟩
  | .local _ .vmem, ⟨6, _⟩ => ⟨S2176x1024, .bf16⟩
  | .local _ .vmem, ⟨7, _⟩ => ⟨S2176x1024, .bf16⟩
  | .local _ .vmem, ⟨8, _⟩ => ⟨S128x1024, .f32⟩
  | .local _ .vmem, ⟨9, _⟩ => ⟨S128x1024, .f32⟩
  | .local _ .vmem, ⟨10, _⟩ => ⟨S2x8x256x128, .f32⟩
  | .local _ .smem, ⟨0, _⟩ => ⟨S32x8, .f32⟩
  | _, _ => ⟨S8x2064x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_call2_v0 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_call3_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_call4_v0 : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_call5_v0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 17], ![false, false]⟩

@[reducible] def k0_t1_loop (i : grid0.Coords) : Scf.Loop 32 :=
  let c0_i32_16 : BitVec 32 := 0#32
  let arg1 : BitVec 32 := BitVec.ofNat 32 (i 1).val
  let c1_i32 : BitVec 32 := 1#32
  let v40 : BitVec 32 := Scalar.subi arg1 c1_i32
  let c0_i32_15 : BitVec 32 := 0#32
  let v41 : BitVec 32 := Scalar.maxsi v40 c0_i32_15
  let v42 : BitVec 32 := Scalar.subi v41 c0_i32_16
  let c1_i32_17 : BitVec 32 := 1#32
  let v44 : BitVec 32 := Scalar.divsi v42 c1_i32_17
  let v45 : BitVec 32 := Scalar.muli v44 c1_i32_17
  let v46 : BitVec 32 := Scalar.addi c0_i32_16 v45
  let c1_i32_18 : BitVec 32 := 1#32
  ⟨c0_i32_16, v46, c1_i32_18⟩
def k0_mult1 (i : grid0.Coords) (k0_t1 : Fin (k0_t1_loop i).trips) : BitVec 32 :=
  let c0_i32_16 : BitVec 32 := 0#32
  let c1_i32_18 : BitVec 32 := 1#32
  let arg10 : BitVec 32 := Scf.iv c0_i32_16 c1_i32_18 k0_t1
  let c128_i32_292 : BitVec 32 := 128#32
  let v761 : BitVec 32 := Scalar.muli arg10 c128_i32_292
  v761
def k0_off1 (i : grid0.Coords) (k0_t1 : Fin (k0_t1_loop i).trips) : Fin 2 → Nat :=
  let c0_i32_16 : BitVec 32 := 0#32
  let c1_i32_18 : BitVec 32 := 1#32
  let arg10 : BitVec 32 := Scf.iv c0_i32_16 c1_i32_18 k0_t1
  let c128_i32_292 : BitVec 32 := 128#32
  let v761 : BitVec 32 := Scalar.muli arg10 c128_i32_292
  let v762 : BitVec 32 := v761
  let v763 : Index := Scalar.indexCast v762
  let c0_293 : Index := 0#32
  ![v763.toNat, 0]
@[reducible] def k0_t2_loop (i : grid0.Coords) : Scf.Loop 32 :=
  let c0_i32_16 : BitVec 32 := 0#32
  let arg1 : BitVec 32 := BitVec.ofNat 32 (i 1).val
  let c1_i32 : BitVec 32 := 1#32
  let v40 : BitVec 32 := Scalar.subi arg1 c1_i32
  let c0_i32_15 : BitVec 32 := 0#32
  let v41 : BitVec 32 := Scalar.maxsi v40 c0_i32_15
  let v42 : BitVec 32 := Scalar.subi v41 c0_i32_16
  let c1_i32_17 : BitVec 32 := 1#32
  let v44 : BitVec 32 := Scalar.divsi v42 c1_i32_17
  let v45 : BitVec 32 := Scalar.muli v44 c1_i32_17
  let v46 : BitVec 32 := Scalar.addi c0_i32_16 v45
  let v43 : BitVec 32 := Scalar.addi c0_i32_16 v42
  let c1_i32_19 : BitVec 32 := 1#32
  ⟨v46, v43, c1_i32_19⟩
def k0_mult2 (i : grid0.Coords) (k0_t2 : Fin (k0_t2_loop i).trips) : BitVec 32 :=
  let c0_i32_16 : BitVec 32 := 0#32
  let arg1 : BitVec 32 := BitVec.ofNat 32 (i 1).val
  let c1_i32 : BitVec 32 := 1#32
  let v40 : BitVec 32 := Scalar.subi arg1 c1_i32
  let c0_i32_15 : BitVec 32 := 0#32
  let v41 : BitVec 32 := Scalar.maxsi v40 c0_i32_15
  let v42 : BitVec 32 := Scalar.subi v41 c0_i32_16
  let c1_i32_17 : BitVec 32 := 1#32
  let v44 : BitVec 32 := Scalar.divsi v42 c1_i32_17
  let v45 : BitVec 32 := Scalar.muli v44 c1_i32_17
  let v46 : BitVec 32 := Scalar.addi c0_i32_16 v45
  let c1_i32_19 : BitVec 32 := 1#32
  let arg10 : BitVec 32 := Scf.iv v46 c1_i32_19 k0_t2
  let c128_i32_292 : BitVec 32 := 128#32
  let v761 : BitVec 32 := Scalar.muli arg10 c128_i32_292
  v761
def k0_off2 (i : grid0.Coords) (k0_t2 : Fin (k0_t2_loop i).trips) : Fin 2 → Nat :=
  let c0_i32_16 : BitVec 32 := 0#32
  let arg1 : BitVec 32 := BitVec.ofNat 32 (i 1).val
  let c1_i32 : BitVec 32 := 1#32
  let v40 : BitVec 32 := Scalar.subi arg1 c1_i32
  let c0_i32_15 : BitVec 32 := 0#32
  let v41 : BitVec 32 := Scalar.maxsi v40 c0_i32_15
  let v42 : BitVec 32 := Scalar.subi v41 c0_i32_16
  let c1_i32_17 : BitVec 32 := 1#32
  let v44 : BitVec 32 := Scalar.divsi v42 c1_i32_17
  let v45 : BitVec 32 := Scalar.muli v44 c1_i32_17
  let v46 : BitVec 32 := Scalar.addi c0_i32_16 v45
  let c1_i32_19 : BitVec 32 := 1#32
  let arg10 : BitVec 32 := Scf.iv v46 c1_i32_19 k0_t2
  let c128_i32_292 : BitVec 32 := 128#32
  let v761 : BitVec 32 := Scalar.muli arg10 c128_i32_292
  let v762 : BitVec 32 := v761
  let v763 : Index := Scalar.indexCast v762
  let c0_293 : Index := 0#32
  ![v763.toNat, 0]
def k0_cond2 (i : grid0.Coords) : BitVec 1 :=
  let arg1 : BitVec 32 := BitVec.ofNat 32 (i 1).val
  let c1_i32_20 : BitVec 32 := 1#32
  let v49 : BitVec 1 := Scalar.cmpi .sge arg1 c1_i32_20
  let v50 : BitVec 32 := Scalar.extui v49
  let c0_i32_21 : BitVec 32 := 0#32
  let v51 : BitVec 1 := Scalar.cmpi .ne v50 c0_i32_21
  v51

def k0_mult3 (i : grid0.Coords) : BitVec 32 :=
  let arg1 : BitVec 32 := BitVec.ofNat 32 (i 1).val
  let c1_i32_292 : BitVec 32 := 1#32
  let v761 : BitVec 32 := Scalar.subi arg1 c1_i32_292
  let c128_i32_293 : BitVec 32 := 128#32
  let v762 : BitVec 32 := Scalar.muli v761 c128_i32_293
  v762
def k0_off3 (i : grid0.Coords) : Fin 2 → Nat :=
  let arg1 : BitVec 32 := BitVec.ofNat 32 (i 1).val
  let c1_i32_292 : BitVec 32 := 1#32
  let v761 : BitVec 32 := Scalar.subi arg1 c1_i32_292
  let c128_i32_293 : BitVec 32 := 128#32
  let v762 : BitVec 32 := Scalar.muli v761 c128_i32_293
  let v763 : BitVec 32 := v762
  let v764 : Index := Scalar.indexCast v763
  let c0_294 : Index := 0#32
  ![v764.toNat, 0]
def k0_mult4 (i : grid0.Coords) : BitVec 32 :=
  let arg1 : BitVec 32 := BitVec.ofNat 32 (i 1).val
  let c128_i32 : BitVec 32 := 128#32
  let v53 : BitVec 32 := Scalar.muli arg1 c128_i32
  v53
def k0_off4 (i : grid0.Coords) : Fin 2 → Nat :=
  let arg1 : BitVec 32 := BitVec.ofNat 32 (i 1).val
  let c128_i32 : BitVec 32 := 128#32
  let v53 : BitVec 32 := Scalar.muli arg1 c128_i32
  let v54 : BitVec 32 := v53
  let v55 : Index := Scalar.indexCast v54
  let c0_22 : Index := 0#32
  ![v55.toNat, 0]
@[reducible] def k0_t3_loop (i : grid0.Coords) : Scf.Loop 32 :=
  let c0_i32_50 : BitVec 32 := 0#32
  let arg1 : BitVec 32 := BitVec.ofNat 32 (i 1).val
  let c1_i32_48 : BitVec 32 := 1#32
  let v132 : BitVec 32 := Scalar.subi arg1 c1_i32_48
  let c0_i32_49 : BitVec 32 := 0#32
  let v133 : BitVec 32 := Scalar.maxsi v132 c0_i32_49
  let v134 : BitVec 32 := Scalar.subi v133 c0_i32_50
  let c1_i32_51 : BitVec 32 := 1#32
  let v136 : BitVec 32 := Scalar.divsi v134 c1_i32_51
  let v137 : BitVec 32 := Scalar.muli v136 c1_i32_51
  let v138 : BitVec 32 := Scalar.addi c0_i32_50 v137
  let c1_i32_52 : BitVec 32 := 1#32
  ⟨c0_i32_50, v138, c1_i32_52⟩
def k0_mult5 (i : grid0.Coords) (k0_t3 : Fin (k0_t3_loop i).trips) : BitVec 32 :=
  let c0_i32_50 : BitVec 32 := 0#32
  let c1_i32_52 : BitVec 32 := 1#32
  let arg10 : BitVec 32 := Scf.iv c0_i32_50 c1_i32_52 k0_t3
  let c128_i32_292 : BitVec 32 := 128#32
  let v761 : BitVec 32 := Scalar.muli arg10 c128_i32_292
  v761
def k0_off5 (i : grid0.Coords) (k0_t3 : Fin (k0_t3_loop i).trips) : Fin 2 → Nat :=
  let c0_i32_50 : BitVec 32 := 0#32
  let c1_i32_52 : BitVec 32 := 1#32
  let arg10 : BitVec 32 := Scf.iv c0_i32_50 c1_i32_52 k0_t3
  let c128_i32_292 : BitVec 32 := 128#32
  let v761 : BitVec 32 := Scalar.muli arg10 c128_i32_292
  let v762 : BitVec 32 := v761
  let v763 : Index := Scalar.indexCast v762
  let c128_293 : Index := 128#32
  ![v763.toNat, 128]
@[reducible] def k0_t4_loop (i : grid0.Coords) : Scf.Loop 32 :=
  let c0_i32_50 : BitVec 32 := 0#32
  let arg1 : BitVec 32 := BitVec.ofNat 32 (i 1).val
  let c1_i32_48 : BitVec 32 := 1#32
  let v132 : BitVec 32 := Scalar.subi arg1 c1_i32_48
  let c0_i32_49 : BitVec 32 := 0#32
  let v133 : BitVec 32 := Scalar.maxsi v132 c0_i32_49
  let v134 : BitVec 32 := Scalar.subi v133 c0_i32_50
  let c1_i32_51 : BitVec 32 := 1#32
  let v136 : BitVec 32 := Scalar.divsi v134 c1_i32_51
  let v137 : BitVec 32 := Scalar.muli v136 c1_i32_51
  let v138 : BitVec 32 := Scalar.addi c0_i32_50 v137
  let v135 : BitVec 32 := Scalar.addi c0_i32_50 v134
  let c1_i32_53 : BitVec 32 := 1#32
  ⟨v138, v135, c1_i32_53⟩
def k0_mult6 (i : grid0.Coords) (k0_t4 : Fin (k0_t4_loop i).trips) : BitVec 32 :=
  let c0_i32_50 : BitVec 32 := 0#32
  let arg1 : BitVec 32 := BitVec.ofNat 32 (i 1).val
  let c1_i32_48 : BitVec 32 := 1#32
  let v132 : BitVec 32 := Scalar.subi arg1 c1_i32_48
  let c0_i32_49 : BitVec 32 := 0#32
  let v133 : BitVec 32 := Scalar.maxsi v132 c0_i32_49
  let v134 : BitVec 32 := Scalar.subi v133 c0_i32_50
  let c1_i32_51 : BitVec 32 := 1#32
  let v136 : BitVec 32 := Scalar.divsi v134 c1_i32_51
  let v137 : BitVec 32 := Scalar.muli v136 c1_i32_51
  let v138 : BitVec 32 := Scalar.addi c0_i32_50 v137
  let c1_i32_53 : BitVec 32 := 1#32
  let arg10 : BitVec 32 := Scf.iv v138 c1_i32_53 k0_t4
  let c128_i32_292 : BitVec 32 := 128#32
  let v761 : BitVec 32 := Scalar.muli arg10 c128_i32_292
  v761
def k0_off6 (i : grid0.Coords) (k0_t4 : Fin (k0_t4_loop i).trips) : Fin 2 → Nat :=
  let c0_i32_50 : BitVec 32 := 0#32
  let arg1 : BitVec 32 := BitVec.ofNat 32 (i 1).val
  let c1_i32_48 : BitVec 32 := 1#32
  let v132 : BitVec 32 := Scalar.subi arg1 c1_i32_48
  let c0_i32_49 : BitVec 32 := 0#32
  let v133 : BitVec 32 := Scalar.maxsi v132 c0_i32_49
  let v134 : BitVec 32 := Scalar.subi v133 c0_i32_50
  let c1_i32_51 : BitVec 32 := 1#32
  let v136 : BitVec 32 := Scalar.divsi v134 c1_i32_51
  let v137 : BitVec 32 := Scalar.muli v136 c1_i32_51
  let v138 : BitVec 32 := Scalar.addi c0_i32_50 v137
  let c1_i32_53 : BitVec 32 := 1#32
  let arg10 : BitVec 32 := Scf.iv v138 c1_i32_53 k0_t4
  let c128_i32_292 : BitVec 32 := 128#32
  let v761 : BitVec 32 := Scalar.muli arg10 c128_i32_292
  let v762 : BitVec 32 := v761
  let v763 : Index := Scalar.indexCast v762
  let c128_293 : Index := 128#32
  ![v763.toNat, 128]
def k0_cond3 (i : grid0.Coords) : BitVec 1 :=
  let arg1 : BitVec 32 := BitVec.ofNat 32 (i 1).val
  let c1_i32_54 : BitVec 32 := 1#32
  let v141 : BitVec 1 := Scalar.cmpi .sge arg1 c1_i32_54
  let v142 : BitVec 32 := Scalar.extui v141
  let c0_i32_55 : BitVec 32 := 0#32
  let v143 : BitVec 1 := Scalar.cmpi .ne v142 c0_i32_55
  v143

def k0_mult7 (i : grid0.Coords) : BitVec 32 :=
  let arg1 : BitVec 32 := BitVec.ofNat 32 (i 1).val
  let c1_i32_292 : BitVec 32 := 1#32
  let v761 : BitVec 32 := Scalar.subi arg1 c1_i32_292
  let c128_i32_293 : BitVec 32 := 128#32
  let v762 : BitVec 32 := Scalar.muli v761 c128_i32_293
  v762
def k0_off7 (i : grid0.Coords) : Fin 2 → Nat :=
  let arg1 : BitVec 32 := BitVec.ofNat 32 (i 1).val
  let c1_i32_292 : BitVec 32 := 1#32
  let v761 : BitVec 32 := Scalar.subi arg1 c1_i32_292
  let c128_i32_293 : BitVec 32 := 128#32
  let v762 : BitVec 32 := Scalar.muli v761 c128_i32_293
  let v763 : BitVec 32 := v762
  let v764 : Index := Scalar.indexCast v763
  let c128_294 : Index := 128#32
  ![v764.toNat, 128]
def k0_mult8 (i : grid0.Coords) : BitVec 32 :=
  let arg1 : BitVec 32 := BitVec.ofNat 32 (i 1).val
  let c128_i32_56 : BitVec 32 := 128#32
  let v145 : BitVec 32 := Scalar.muli arg1 c128_i32_56
  v145
def k0_off8 (i : grid0.Coords) : Fin 2 → Nat :=
  let arg1 : BitVec 32 := BitVec.ofNat 32 (i 1).val
  let c128_i32_56 : BitVec 32 := 128#32
  let v145 : BitVec 32 := Scalar.muli arg1 c128_i32_56
  let v146 : BitVec 32 := v145
  let v147 : Index := Scalar.indexCast v146
  let c128_57 : Index := 128#32
  ![v147.toNat, 128]
@[reducible] def k0_t5_loop (i : grid0.Coords) : Scf.Loop 32 :=
  let c0_i32_86 : BitVec 32 := 0#32
  let arg1 : BitVec 32 := BitVec.ofNat 32 (i 1).val
  let c1_i32_84 : BitVec 32 := 1#32
  let v224 : BitVec 32 := Scalar.subi arg1 c1_i32_84
  let c0_i32_85 : BitVec 32 := 0#32
  let v225 : BitVec 32 := Scalar.maxsi v224 c0_i32_85
  let v226 : BitVec 32 := Scalar.subi v225 c0_i32_86
  let c1_i32_87 : BitVec 32 := 1#32
  let v228 : BitVec 32 := Scalar.divsi v226 c1_i32_87
  let v229 : BitVec 32 := Scalar.muli v228 c1_i32_87
  let v230 : BitVec 32 := Scalar.addi c0_i32_86 v229
  let c1_i32_88 : BitVec 32 := 1#32
  ⟨c0_i32_86, v230, c1_i32_88⟩
def k0_mult9 (i : grid0.Coords) (k0_t5 : Fin (k0_t5_loop i).trips) : BitVec 32 :=
  let c0_i32_86 : BitVec 32 := 0#32
  let c1_i32_88 : BitVec 32 := 1#32
  let arg10 : BitVec 32 := Scf.iv c0_i32_86 c1_i32_88 k0_t5
  let c128_i32_292 : BitVec 32 := 128#32
  let v761 : BitVec 32 := Scalar.muli arg10 c128_i32_292
  v761
def k0_off9 (i : grid0.Coords) (k0_t5 : Fin (k0_t5_loop i).trips) : Fin 2 → Nat :=
  let c0_i32_86 : BitVec 32 := 0#32
  let c1_i32_88 : BitVec 32 := 1#32
  let arg10 : BitVec 32 := Scf.iv c0_i32_86 c1_i32_88 k0_t5
  let c128_i32_292 : BitVec 32 := 128#32
  let v761 : BitVec 32 := Scalar.muli arg10 c128_i32_292
  let v762 : BitVec 32 := v761
  let v763 : Index := Scalar.indexCast v762
  let c256_293 : Index := 256#32
  ![v763.toNat, 256]
@[reducible] def k0_t6_loop (i : grid0.Coords) : Scf.Loop 32 :=
  let c0_i32_86 : BitVec 32 := 0#32
  let arg1 : BitVec 32 := BitVec.ofNat 32 (i 1).val
  let c1_i32_84 : BitVec 32 := 1#32
  let v224 : BitVec 32 := Scalar.subi arg1 c1_i32_84
  let c0_i32_85 : BitVec 32 := 0#32
  let v225 : BitVec 32 := Scalar.maxsi v224 c0_i32_85
  let v226 : BitVec 32 := Scalar.subi v225 c0_i32_86
  let c1_i32_87 : BitVec 32 := 1#32
  let v228 : BitVec 32 := Scalar.divsi v226 c1_i32_87
  let v229 : BitVec 32 := Scalar.muli v228 c1_i32_87
  let v230 : BitVec 32 := Scalar.addi c0_i32_86 v229
  let v227 : BitVec 32 := Scalar.addi c0_i32_86 v226
  let c1_i32_89 : BitVec 32 := 1#32
  ⟨v230, v227, c1_i32_89⟩
def k0_mult10 (i : grid0.Coords) (k0_t6 : Fin (k0_t6_loop i).trips) : BitVec 32 :=
  let c0_i32_86 : BitVec 32 := 0#32
  let arg1 : BitVec 32 := BitVec.ofNat 32 (i 1).val
  let c1_i32_84 : BitVec 32 := 1#32
  let v224 : BitVec 32 := Scalar.subi arg1 c1_i32_84
  let c0_i32_85 : BitVec 32 := 0#32
  let v225 : BitVec 32 := Scalar.maxsi v224 c0_i32_85
  let v226 : BitVec 32 := Scalar.subi v225 c0_i32_86
  let c1_i32_87 : BitVec 32 := 1#32
  let v228 : BitVec 32 := Scalar.divsi v226 c1_i32_87
  let v229 : BitVec 32 := Scalar.muli v228 c1_i32_87
  let v230 : BitVec 32 := Scalar.addi c0_i32_86 v229
  let c1_i32_89 : BitVec 32 := 1#32
  let arg10 : BitVec 32 := Scf.iv v230 c1_i32_89 k0_t6
  let c128_i32_292 : BitVec 32 := 128#32
  let v761 : BitVec 32 := Scalar.muli arg10 c128_i32_292
  v761
def k0_off10 (i : grid0.Coords) (k0_t6 : Fin (k0_t6_loop i).trips) : Fin 2 → Nat :=
  let c0_i32_86 : BitVec 32 := 0#32
  let arg1 : BitVec 32 := BitVec.ofNat 32 (i 1).val
  let c1_i32_84 : BitVec 32 := 1#32
  let v224 : BitVec 32 := Scalar.subi arg1 c1_i32_84
  let c0_i32_85 : BitVec 32 := 0#32
  let v225 : BitVec 32 := Scalar.maxsi v224 c0_i32_85
  let v226 : BitVec 32 := Scalar.subi v225 c0_i32_86
  let c1_i32_87 : BitVec 32 := 1#32
  let v228 : BitVec 32 := Scalar.divsi v226 c1_i32_87
  let v229 : BitVec 32 := Scalar.muli v228 c1_i32_87
  let v230 : BitVec 32 := Scalar.addi c0_i32_86 v229
  let c1_i32_89 : BitVec 32 := 1#32
  let arg10 : BitVec 32 := Scf.iv v230 c1_i32_89 k0_t6
  let c128_i32_292 : BitVec 32 := 128#32
  let v761 : BitVec 32 := Scalar.muli arg10 c128_i32_292
  let v762 : BitVec 32 := v761
  let v763 : Index := Scalar.indexCast v762
  let c256_293 : Index := 256#32
  ![v763.toNat, 256]
def k0_cond4 (i : grid0.Coords) : BitVec 1 :=
  let arg1 : BitVec 32 := BitVec.ofNat 32 (i 1).val
  let c1_i32_90 : BitVec 32 := 1#32
  let v233 : BitVec 1 := Scalar.cmpi .sge arg1 c1_i32_90
  let v234 : BitVec 32 := Scalar.extui v233
  let c0_i32_91 : BitVec 32 := 0#32
  let v235 : BitVec 1 := Scalar.cmpi .ne v234 c0_i32_91
  v235

def k0_mult11 (i : grid0.Coords) : BitVec 32 :=
  let arg1 : BitVec 32 := BitVec.ofNat 32 (i 1).val
  let c1_i32_292 : BitVec 32 := 1#32
  let v761 : BitVec 32 := Scalar.subi arg1 c1_i32_292
  let c128_i32_293 : BitVec 32 := 128#32
  let v762 : BitVec 32 := Scalar.muli v761 c128_i32_293
  v762
def k0_off11 (i : grid0.Coords) : Fin 2 → Nat :=
  let arg1 : BitVec 32 := BitVec.ofNat 32 (i 1).val
  let c1_i32_292 : BitVec 32 := 1#32
  let v761 : BitVec 32 := Scalar.subi arg1 c1_i32_292
  let c128_i32_293 : BitVec 32 := 128#32
  let v762 : BitVec 32 := Scalar.muli v761 c128_i32_293
  let v763 : BitVec 32 := v762
  let v764 : Index := Scalar.indexCast v763
  let c256_294 : Index := 256#32
  ![v764.toNat, 256]
def k0_mult12 (i : grid0.Coords) : BitVec 32 :=
  let arg1 : BitVec 32 := BitVec.ofNat 32 (i 1).val
  let c128_i32_92 : BitVec 32 := 128#32
  let v237 : BitVec 32 := Scalar.muli arg1 c128_i32_92
  v237
def k0_off12 (i : grid0.Coords) : Fin 2 → Nat :=
  let arg1 : BitVec 32 := BitVec.ofNat 32 (i 1).val
  let c128_i32_92 : BitVec 32 := 128#32
  let v237 : BitVec 32 := Scalar.muli arg1 c128_i32_92
  let v238 : BitVec 32 := v237
  let v239 : Index := Scalar.indexCast v238
  let c256_93 : Index := 256#32
  ![v239.toNat, 256]
@[reducible] def k0_t7_loop (i : grid0.Coords) : Scf.Loop 32 :=
  let c0_i32_122 : BitVec 32 := 0#32
  let arg1 : BitVec 32 := BitVec.ofNat 32 (i 1).val
  let c1_i32_120 : BitVec 32 := 1#32
  let v316 : BitVec 32 := Scalar.subi arg1 c1_i32_120
  let c0_i32_121 : BitVec 32 := 0#32
  let v317 : BitVec 32 := Scalar.maxsi v316 c0_i32_121
  let v318 : BitVec 32 := Scalar.subi v317 c0_i32_122
  let c1_i32_123 : BitVec 32 := 1#32
  let v320 : BitVec 32 := Scalar.divsi v318 c1_i32_123
  let v321 : BitVec 32 := Scalar.muli v320 c1_i32_123
  let v322 : BitVec 32 := Scalar.addi c0_i32_122 v321
  let c1_i32_124 : BitVec 32 := 1#32
  ⟨c0_i32_122, v322, c1_i32_124⟩
def k0_mult13 (i : grid0.Coords) (k0_t7 : Fin (k0_t7_loop i).trips) : BitVec 32 :=
  let c0_i32_122 : BitVec 32 := 0#32
  let c1_i32_124 : BitVec 32 := 1#32
  let arg10 : BitVec 32 := Scf.iv c0_i32_122 c1_i32_124 k0_t7
  let c128_i32_292 : BitVec 32 := 128#32
  let v761 : BitVec 32 := Scalar.muli arg10 c128_i32_292
  v761
def k0_off13 (i : grid0.Coords) (k0_t7 : Fin (k0_t7_loop i).trips) : Fin 2 → Nat :=
  let c0_i32_122 : BitVec 32 := 0#32
  let c1_i32_124 : BitVec 32 := 1#32
  let arg10 : BitVec 32 := Scf.iv c0_i32_122 c1_i32_124 k0_t7
  let c128_i32_292 : BitVec 32 := 128#32
  let v761 : BitVec 32 := Scalar.muli arg10 c128_i32_292
  let v762 : BitVec 32 := v761
  let v763 : Index := Scalar.indexCast v762
  let c384_293 : Index := 384#32
  ![v763.toNat, 384]
@[reducible] def k0_t8_loop (i : grid0.Coords) : Scf.Loop 32 :=
  let c0_i32_122 : BitVec 32 := 0#32
  let arg1 : BitVec 32 := BitVec.ofNat 32 (i 1).val
  let c1_i32_120 : BitVec 32 := 1#32
  let v316 : BitVec 32 := Scalar.subi arg1 c1_i32_120
  let c0_i32_121 : BitVec 32 := 0#32
  let v317 : BitVec 32 := Scalar.maxsi v316 c0_i32_121
  let v318 : BitVec 32 := Scalar.subi v317 c0_i32_122
  let c1_i32_123 : BitVec 32 := 1#32
  let v320 : BitVec 32 := Scalar.divsi v318 c1_i32_123
  let v321 : BitVec 32 := Scalar.muli v320 c1_i32_123
  let v322 : BitVec 32 := Scalar.addi c0_i32_122 v321
  let v319 : BitVec 32 := Scalar.addi c0_i32_122 v318
  let c1_i32_125 : BitVec 32 := 1#32
  ⟨v322, v319, c1_i32_125⟩
def k0_mult14 (i : grid0.Coords) (k0_t8 : Fin (k0_t8_loop i).trips) : BitVec 32 :=
  let c0_i32_122 : BitVec 32 := 0#32
  let arg1 : BitVec 32 := BitVec.ofNat 32 (i 1).val
  let c1_i32_120 : BitVec 32 := 1#32
  let v316 : BitVec 32 := Scalar.subi arg1 c1_i32_120
  let c0_i32_121 : BitVec 32 := 0#32
  let v317 : BitVec 32 := Scalar.maxsi v316 c0_i32_121
  let v318 : BitVec 32 := Scalar.subi v317 c0_i32_122
  let c1_i32_123 : BitVec 32 := 1#32
  let v320 : BitVec 32 := Scalar.divsi v318 c1_i32_123
  let v321 : BitVec 32 := Scalar.muli v320 c1_i32_123
  let v322 : BitVec 32 := Scalar.addi c0_i32_122 v321
  let c1_i32_125 : BitVec 32 := 1#32
  let arg10 : BitVec 32 := Scf.iv v322 c1_i32_125 k0_t8
  let c128_i32_292 : BitVec 32 := 128#32
  let v761 : BitVec 32 := Scalar.muli arg10 c128_i32_292
  v761
def k0_off14 (i : grid0.Coords) (k0_t8 : Fin (k0_t8_loop i).trips) : Fin 2 → Nat :=
  let c0_i32_122 : BitVec 32 := 0#32
  let arg1 : BitVec 32 := BitVec.ofNat 32 (i 1).val
  let c1_i32_120 : BitVec 32 := 1#32
  let v316 : BitVec 32 := Scalar.subi arg1 c1_i32_120
  let c0_i32_121 : BitVec 32 := 0#32
  let v317 : BitVec 32 := Scalar.maxsi v316 c0_i32_121
  let v318 : BitVec 32 := Scalar.subi v317 c0_i32_122
  let c1_i32_123 : BitVec 32 := 1#32
  let v320 : BitVec 32 := Scalar.divsi v318 c1_i32_123
  let v321 : BitVec 32 := Scalar.muli v320 c1_i32_123
  let v322 : BitVec 32 := Scalar.addi c0_i32_122 v321
  let c1_i32_125 : BitVec 32 := 1#32
  let arg10 : BitVec 32 := Scf.iv v322 c1_i32_125 k0_t8
  let c128_i32_292 : BitVec 32 := 128#32
  let v761 : BitVec 32 := Scalar.muli arg10 c128_i32_292
  let v762 : BitVec 32 := v761
  let v763 : Index := Scalar.indexCast v762
  let c384_293 : Index := 384#32
  ![v763.toNat, 384]
def k0_cond5 (i : grid0.Coords) : BitVec 1 :=
  let arg1 : BitVec 32 := BitVec.ofNat 32 (i 1).val
  let c1_i32_126 : BitVec 32 := 1#32
  let v325 : BitVec 1 := Scalar.cmpi .sge arg1 c1_i32_126
  let v326 : BitVec 32 := Scalar.extui v325
  let c0_i32_127 : BitVec 32 := 0#32
  let v327 : BitVec 1 := Scalar.cmpi .ne v326 c0_i32_127
  v327

def k0_mult15 (i : grid0.Coords) : BitVec 32 :=
  let arg1 : BitVec 32 := BitVec.ofNat 32 (i 1).val
  let c1_i32_292 : BitVec 32 := 1#32
  let v761 : BitVec 32 := Scalar.subi arg1 c1_i32_292
  let c128_i32_293 : BitVec 32 := 128#32
  let v762 : BitVec 32 := Scalar.muli v761 c128_i32_293
  v762
def k0_off15 (i : grid0.Coords) : Fin 2 → Nat :=
  let arg1 : BitVec 32 := BitVec.ofNat 32 (i 1).val
  let c1_i32_292 : BitVec 32 := 1#32
  let v761 : BitVec 32 := Scalar.subi arg1 c1_i32_292
  let c128_i32_293 : BitVec 32 := 128#32
  let v762 : BitVec 32 := Scalar.muli v761 c128_i32_293
  let v763 : BitVec 32 := v762
  let v764 : Index := Scalar.indexCast v763
  let c384_294 : Index := 384#32
  ![v764.toNat, 384]
def k0_mult16 (i : grid0.Coords) : BitVec 32 :=
  let arg1 : BitVec 32 := BitVec.ofNat 32 (i 1).val
  let c128_i32_128 : BitVec 32 := 128#32
  let v329 : BitVec 32 := Scalar.muli arg1 c128_i32_128
  v329
def k0_off16 (i : grid0.Coords) : Fin 2 → Nat :=
  let arg1 : BitVec 32 := BitVec.ofNat 32 (i 1).val
  let c128_i32_128 : BitVec 32 := 128#32
  let v329 : BitVec 32 := Scalar.muli arg1 c128_i32_128
  let v330 : BitVec 32 := v329
  let v331 : Index := Scalar.indexCast v330
  let c384_129 : Index := 384#32
  ![v331.toNat, 384]
@[reducible] def k0_t9_loop (i : grid0.Coords) : Scf.Loop 32 :=
  let c0_i32_158 : BitVec 32 := 0#32
  let arg1 : BitVec 32 := BitVec.ofNat 32 (i 1).val
  let c1_i32_156 : BitVec 32 := 1#32
  let v408 : BitVec 32 := Scalar.subi arg1 c1_i32_156
  let c0_i32_157 : BitVec 32 := 0#32
  let v409 : BitVec 32 := Scalar.maxsi v408 c0_i32_157
  let v410 : BitVec 32 := Scalar.subi v409 c0_i32_158
  let c1_i32_159 : BitVec 32 := 1#32
  let v412 : BitVec 32 := Scalar.divsi v410 c1_i32_159
  let v413 : BitVec 32 := Scalar.muli v412 c1_i32_159
  let v414 : BitVec 32 := Scalar.addi c0_i32_158 v413
  let c1_i32_160 : BitVec 32 := 1#32
  ⟨c0_i32_158, v414, c1_i32_160⟩
def k0_mult17 (i : grid0.Coords) (k0_t9 : Fin (k0_t9_loop i).trips) : BitVec 32 :=
  let c0_i32_158 : BitVec 32 := 0#32
  let c1_i32_160 : BitVec 32 := 1#32
  let arg10 : BitVec 32 := Scf.iv c0_i32_158 c1_i32_160 k0_t9
  let c128_i32_292 : BitVec 32 := 128#32
  let v761 : BitVec 32 := Scalar.muli arg10 c128_i32_292
  v761
def k0_off17 (i : grid0.Coords) (k0_t9 : Fin (k0_t9_loop i).trips) : Fin 2 → Nat :=
  let c0_i32_158 : BitVec 32 := 0#32
  let c1_i32_160 : BitVec 32 := 1#32
  let arg10 : BitVec 32 := Scf.iv c0_i32_158 c1_i32_160 k0_t9
  let c128_i32_292 : BitVec 32 := 128#32
  let v761 : BitVec 32 := Scalar.muli arg10 c128_i32_292
  let v762 : BitVec 32 := v761
  let v763 : Index := Scalar.indexCast v762
  let c512_293 : Index := 512#32
  ![v763.toNat, 512]
@[reducible] def k0_t10_loop (i : grid0.Coords) : Scf.Loop 32 :=
  let c0_i32_158 : BitVec 32 := 0#32
  let arg1 : BitVec 32 := BitVec.ofNat 32 (i 1).val
  let c1_i32_156 : BitVec 32 := 1#32
  let v408 : BitVec 32 := Scalar.subi arg1 c1_i32_156
  let c0_i32_157 : BitVec 32 := 0#32
  let v409 : BitVec 32 := Scalar.maxsi v408 c0_i32_157
  let v410 : BitVec 32 := Scalar.subi v409 c0_i32_158
  let c1_i32_159 : BitVec 32 := 1#32
  let v412 : BitVec 32 := Scalar.divsi v410 c1_i32_159
  let v413 : BitVec 32 := Scalar.muli v412 c1_i32_159
  let v414 : BitVec 32 := Scalar.addi c0_i32_158 v413
  let v411 : BitVec 32 := Scalar.addi c0_i32_158 v410
  let c1_i32_161 : BitVec 32 := 1#32
  ⟨v414, v411, c1_i32_161⟩
def k0_mult18 (i : grid0.Coords) (k0_t10 : Fin (k0_t10_loop i).trips) : BitVec 32 :=
  let c0_i32_158 : BitVec 32 := 0#32
  let arg1 : BitVec 32 := BitVec.ofNat 32 (i 1).val
  let c1_i32_156 : BitVec 32 := 1#32
  let v408 : BitVec 32 := Scalar.subi arg1 c1_i32_156
  let c0_i32_157 : BitVec 32 := 0#32
  let v409 : BitVec 32 := Scalar.maxsi v408 c0_i32_157
  let v410 : BitVec 32 := Scalar.subi v409 c0_i32_158
  let c1_i32_159 : BitVec 32 := 1#32
  let v412 : BitVec 32 := Scalar.divsi v410 c1_i32_159
  let v413 : BitVec 32 := Scalar.muli v412 c1_i32_159
  let v414 : BitVec 32 := Scalar.addi c0_i32_158 v413
  let c1_i32_161 : BitVec 32 := 1#32
  let arg10 : BitVec 32 := Scf.iv v414 c1_i32_161 k0_t10
  let c128_i32_292 : BitVec 32 := 128#32
  let v761 : BitVec 32 := Scalar.muli arg10 c128_i32_292
  v761
def k0_off18 (i : grid0.Coords) (k0_t10 : Fin (k0_t10_loop i).trips) : Fin 2 → Nat :=
  let c0_i32_158 : BitVec 32 := 0#32
  let arg1 : BitVec 32 := BitVec.ofNat 32 (i 1).val
  let c1_i32_156 : BitVec 32 := 1#32
  let v408 : BitVec 32 := Scalar.subi arg1 c1_i32_156
  let c0_i32_157 : BitVec 32 := 0#32
  let v409 : BitVec 32 := Scalar.maxsi v408 c0_i32_157
  let v410 : BitVec 32 := Scalar.subi v409 c0_i32_158
  let c1_i32_159 : BitVec 32 := 1#32
  let v412 : BitVec 32 := Scalar.divsi v410 c1_i32_159
  let v413 : BitVec 32 := Scalar.muli v412 c1_i32_159
  let v414 : BitVec 32 := Scalar.addi c0_i32_158 v413
  let c1_i32_161 : BitVec 32 := 1#32
  let arg10 : BitVec 32 := Scf.iv v414 c1_i32_161 k0_t10
  let c128_i32_292 : BitVec 32 := 128#32
  let v761 : BitVec 32 := Scalar.muli arg10 c128_i32_292
  let v762 : BitVec 32 := v761
  let v763 : Index := Scalar.indexCast v762
  let c512_293 : Index := 512#32
  ![v763.toNat, 512]
def k0_cond6 (i : grid0.Coords) : BitVec 1 :=
  let arg1 : BitVec 32 := BitVec.ofNat 32 (i 1).val
  let c1_i32_162 : BitVec 32 := 1#32
  let v417 : BitVec 1 := Scalar.cmpi .sge arg1 c1_i32_162
  let v418 : BitVec 32 := Scalar.extui v417
  let c0_i32_163 : BitVec 32 := 0#32
  let v419 : BitVec 1 := Scalar.cmpi .ne v418 c0_i32_163
  v419

def k0_mult19 (i : grid0.Coords) : BitVec 32 :=
  let arg1 : BitVec 32 := BitVec.ofNat 32 (i 1).val
  let c1_i32_292 : BitVec 32 := 1#32
  let v761 : BitVec 32 := Scalar.subi arg1 c1_i32_292
  let c128_i32_293 : BitVec 32 := 128#32
  let v762 : BitVec 32 := Scalar.muli v761 c128_i32_293
  v762
def k0_off19 (i : grid0.Coords) : Fin 2 → Nat :=
  let arg1 : BitVec 32 := BitVec.ofNat 32 (i 1).val
  let c1_i32_292 : BitVec 32 := 1#32
  let v761 : BitVec 32 := Scalar.subi arg1 c1_i32_292
  let c128_i32_293 : BitVec 32 := 128#32
  let v762 : BitVec 32 := Scalar.muli v761 c128_i32_293
  let v763 : BitVec 32 := v762
  let v764 : Index := Scalar.indexCast v763
  let c512_294 : Index := 512#32
  ![v764.toNat, 512]
def k0_mult20 (i : grid0.Coords) : BitVec 32 :=
  let arg1 : BitVec 32 := BitVec.ofNat 32 (i 1).val
  let c128_i32_164 : BitVec 32 := 128#32
  let v421 : BitVec 32 := Scalar.muli arg1 c128_i32_164
  v421
def k0_off20 (i : grid0.Coords) : Fin 2 → Nat :=
  let arg1 : BitVec 32 := BitVec.ofNat 32 (i 1).val
  let c128_i32_164 : BitVec 32 := 128#32
  let v421 : BitVec 32 := Scalar.muli arg1 c128_i32_164
  let v422 : BitVec 32 := v421
  let v423 : Index := Scalar.indexCast v422
  let c512_165 : Index := 512#32
  ![v423.toNat, 512]
@[reducible] def k0_t11_loop (i : grid0.Coords) : Scf.Loop 32 :=
  let c0_i32_194 : BitVec 32 := 0#32
  let arg1 : BitVec 32 := BitVec.ofNat 32 (i 1).val
  let c1_i32_192 : BitVec 32 := 1#32
  let v500 : BitVec 32 := Scalar.subi arg1 c1_i32_192
  let c0_i32_193 : BitVec 32 := 0#32
  let v501 : BitVec 32 := Scalar.maxsi v500 c0_i32_193
  let v502 : BitVec 32 := Scalar.subi v501 c0_i32_194
  let c1_i32_195 : BitVec 32 := 1#32
  let v504 : BitVec 32 := Scalar.divsi v502 c1_i32_195
  let v505 : BitVec 32 := Scalar.muli v504 c1_i32_195
  let v506 : BitVec 32 := Scalar.addi c0_i32_194 v505
  let c1_i32_196 : BitVec 32 := 1#32
  ⟨c0_i32_194, v506, c1_i32_196⟩
def k0_mult21 (i : grid0.Coords) (k0_t11 : Fin (k0_t11_loop i).trips) : BitVec 32 :=
  let c0_i32_194 : BitVec 32 := 0#32
  let c1_i32_196 : BitVec 32 := 1#32
  let arg10 : BitVec 32 := Scf.iv c0_i32_194 c1_i32_196 k0_t11
  let c128_i32_292 : BitVec 32 := 128#32
  let v761 : BitVec 32 := Scalar.muli arg10 c128_i32_292
  v761
def k0_off21 (i : grid0.Coords) (k0_t11 : Fin (k0_t11_loop i).trips) : Fin 2 → Nat :=
  let c0_i32_194 : BitVec 32 := 0#32
  let c1_i32_196 : BitVec 32 := 1#32
  let arg10 : BitVec 32 := Scf.iv c0_i32_194 c1_i32_196 k0_t11
  let c128_i32_292 : BitVec 32 := 128#32
  let v761 : BitVec 32 := Scalar.muli arg10 c128_i32_292
  let v762 : BitVec 32 := v761
  let v763 : Index := Scalar.indexCast v762
  let c640_293 : Index := 640#32
  ![v763.toNat, 640]
@[reducible] def k0_t12_loop (i : grid0.Coords) : Scf.Loop 32 :=
  let c0_i32_194 : BitVec 32 := 0#32
  let arg1 : BitVec 32 := BitVec.ofNat 32 (i 1).val
  let c1_i32_192 : BitVec 32 := 1#32
  let v500 : BitVec 32 := Scalar.subi arg1 c1_i32_192
  let c0_i32_193 : BitVec 32 := 0#32
  let v501 : BitVec 32 := Scalar.maxsi v500 c0_i32_193
  let v502 : BitVec 32 := Scalar.subi v501 c0_i32_194
  let c1_i32_195 : BitVec 32 := 1#32
  let v504 : BitVec 32 := Scalar.divsi v502 c1_i32_195
  let v505 : BitVec 32 := Scalar.muli v504 c1_i32_195
  let v506 : BitVec 32 := Scalar.addi c0_i32_194 v505
  let v503 : BitVec 32 := Scalar.addi c0_i32_194 v502
  let c1_i32_197 : BitVec 32 := 1#32
  ⟨v506, v503, c1_i32_197⟩
def k0_mult22 (i : grid0.Coords) (k0_t12 : Fin (k0_t12_loop i).trips) : BitVec 32 :=
  let c0_i32_194 : BitVec 32 := 0#32
  let arg1 : BitVec 32 := BitVec.ofNat 32 (i 1).val
  let c1_i32_192 : BitVec 32 := 1#32
  let v500 : BitVec 32 := Scalar.subi arg1 c1_i32_192
  let c0_i32_193 : BitVec 32 := 0#32
  let v501 : BitVec 32 := Scalar.maxsi v500 c0_i32_193
  let v502 : BitVec 32 := Scalar.subi v501 c0_i32_194
  let c1_i32_195 : BitVec 32 := 1#32
  let v504 : BitVec 32 := Scalar.divsi v502 c1_i32_195
  let v505 : BitVec 32 := Scalar.muli v504 c1_i32_195
  let v506 : BitVec 32 := Scalar.addi c0_i32_194 v505
  let c1_i32_197 : BitVec 32 := 1#32
  let arg10 : BitVec 32 := Scf.iv v506 c1_i32_197 k0_t12
  let c128_i32_292 : BitVec 32 := 128#32
  let v761 : BitVec 32 := Scalar.muli arg10 c128_i32_292
  v761
def k0_off22 (i : grid0.Coords) (k0_t12 : Fin (k0_t12_loop i).trips) : Fin 2 → Nat :=
  let c0_i32_194 : BitVec 32 := 0#32
  let arg1 : BitVec 32 := BitVec.ofNat 32 (i 1).val
  let c1_i32_192 : BitVec 32 := 1#32
  let v500 : BitVec 32 := Scalar.subi arg1 c1_i32_192
  let c0_i32_193 : BitVec 32 := 0#32
  let v501 : BitVec 32 := Scalar.maxsi v500 c0_i32_193
  let v502 : BitVec 32 := Scalar.subi v501 c0_i32_194
  let c1_i32_195 : BitVec 32 := 1#32
  let v504 : BitVec 32 := Scalar.divsi v502 c1_i32_195
  let v505 : BitVec 32 := Scalar.muli v504 c1_i32_195
  let v506 : BitVec 32 := Scalar.addi c0_i32_194 v505
  let c1_i32_197 : BitVec 32 := 1#32
  let arg10 : BitVec 32 := Scf.iv v506 c1_i32_197 k0_t12
  let c128_i32_292 : BitVec 32 := 128#32
  let v761 : BitVec 32 := Scalar.muli arg10 c128_i32_292
  let v762 : BitVec 32 := v761
  let v763 : Index := Scalar.indexCast v762
  let c640_293 : Index := 640#32
  ![v763.toNat, 640]
def k0_cond7 (i : grid0.Coords) : BitVec 1 :=
  let arg1 : BitVec 32 := BitVec.ofNat 32 (i 1).val
  let c1_i32_198 : BitVec 32 := 1#32
  let v509 : BitVec 1 := Scalar.cmpi .sge arg1 c1_i32_198
  let v510 : BitVec 32 := Scalar.extui v509
  let c0_i32_199 : BitVec 32 := 0#32
  let v511 : BitVec 1 := Scalar.cmpi .ne v510 c0_i32_199
  v511

def k0_mult23 (i : grid0.Coords) : BitVec 32 :=
  let arg1 : BitVec 32 := BitVec.ofNat 32 (i 1).val
  let c1_i32_292 : BitVec 32 := 1#32
  let v761 : BitVec 32 := Scalar.subi arg1 c1_i32_292
  let c128_i32_293 : BitVec 32 := 128#32
  let v762 : BitVec 32 := Scalar.muli v761 c128_i32_293
  v762
def k0_off23 (i : grid0.Coords) : Fin 2 → Nat :=
  let arg1 : BitVec 32 := BitVec.ofNat 32 (i 1).val
  let c1_i32_292 : BitVec 32 := 1#32
  let v761 : BitVec 32 := Scalar.subi arg1 c1_i32_292
  let c128_i32_293 : BitVec 32 := 128#32
  let v762 : BitVec 32 := Scalar.muli v761 c128_i32_293
  let v763 : BitVec 32 := v762
  let v764 : Index := Scalar.indexCast v763
  let c640_294 : Index := 640#32
  ![v764.toNat, 640]
def k0_mult24 (i : grid0.Coords) : BitVec 32 :=
  let arg1 : BitVec 32 := BitVec.ofNat 32 (i 1).val
  let c128_i32_200 : BitVec 32 := 128#32
  let v513 : BitVec 32 := Scalar.muli arg1 c128_i32_200
  v513
def k0_off24 (i : grid0.Coords) : Fin 2 → Nat :=
  let arg1 : BitVec 32 := BitVec.ofNat 32 (i 1).val
  let c128_i32_200 : BitVec 32 := 128#32
  let v513 : BitVec 32 := Scalar.muli arg1 c128_i32_200
  let v514 : BitVec 32 := v513
  let v515 : Index := Scalar.indexCast v514
  let c640_201 : Index := 640#32
  ![v515.toNat, 640]
@[reducible] def k0_t13_loop (i : grid0.Coords) : Scf.Loop 32 :=
  let c0_i32_230 : BitVec 32 := 0#32
  let arg1 : BitVec 32 := BitVec.ofNat 32 (i 1).val
  let c1_i32_228 : BitVec 32 := 1#32
  let v592 : BitVec 32 := Scalar.subi arg1 c1_i32_228
  let c0_i32_229 : BitVec 32 := 0#32
  let v593 : BitVec 32 := Scalar.maxsi v592 c0_i32_229
  let v594 : BitVec 32 := Scalar.subi v593 c0_i32_230
  let c1_i32_231 : BitVec 32 := 1#32
  let v596 : BitVec 32 := Scalar.divsi v594 c1_i32_231
  let v597 : BitVec 32 := Scalar.muli v596 c1_i32_231
  let v598 : BitVec 32 := Scalar.addi c0_i32_230 v597
  let c1_i32_232 : BitVec 32 := 1#32
  ⟨c0_i32_230, v598, c1_i32_232⟩
def k0_mult25 (i : grid0.Coords) (k0_t13 : Fin (k0_t13_loop i).trips) : BitVec 32 :=
  let c0_i32_230 : BitVec 32 := 0#32
  let c1_i32_232 : BitVec 32 := 1#32
  let arg10 : BitVec 32 := Scf.iv c0_i32_230 c1_i32_232 k0_t13
  let c128_i32_292 : BitVec 32 := 128#32
  let v761 : BitVec 32 := Scalar.muli arg10 c128_i32_292
  v761
def k0_off25 (i : grid0.Coords) (k0_t13 : Fin (k0_t13_loop i).trips) : Fin 2 → Nat :=
  let c0_i32_230 : BitVec 32 := 0#32
  let c1_i32_232 : BitVec 32 := 1#32
  let arg10 : BitVec 32 := Scf.iv c0_i32_230 c1_i32_232 k0_t13
  let c128_i32_292 : BitVec 32 := 128#32
  let v761 : BitVec 32 := Scalar.muli arg10 c128_i32_292
  let v762 : BitVec 32 := v761
  let v763 : Index := Scalar.indexCast v762
  let c768_293 : Index := 768#32
  ![v763.toNat, 768]
@[reducible] def k0_t14_loop (i : grid0.Coords) : Scf.Loop 32 :=
  let c0_i32_230 : BitVec 32 := 0#32
  let arg1 : BitVec 32 := BitVec.ofNat 32 (i 1).val
  let c1_i32_228 : BitVec 32 := 1#32
  let v592 : BitVec 32 := Scalar.subi arg1 c1_i32_228
  let c0_i32_229 : BitVec 32 := 0#32
  let v593 : BitVec 32 := Scalar.maxsi v592 c0_i32_229
  let v594 : BitVec 32 := Scalar.subi v593 c0_i32_230
  let c1_i32_231 : BitVec 32 := 1#32
  let v596 : BitVec 32 := Scalar.divsi v594 c1_i32_231
  let v597 : BitVec 32 := Scalar.muli v596 c1_i32_231
  let v598 : BitVec 32 := Scalar.addi c0_i32_230 v597
  let v595 : BitVec 32 := Scalar.addi c0_i32_230 v594
  let c1_i32_233 : BitVec 32 := 1#32
  ⟨v598, v595, c1_i32_233⟩
def k0_mult26 (i : grid0.Coords) (k0_t14 : Fin (k0_t14_loop i).trips) : BitVec 32 :=
  let c0_i32_230 : BitVec 32 := 0#32
  let arg1 : BitVec 32 := BitVec.ofNat 32 (i 1).val
  let c1_i32_228 : BitVec 32 := 1#32
  let v592 : BitVec 32 := Scalar.subi arg1 c1_i32_228
  let c0_i32_229 : BitVec 32 := 0#32
  let v593 : BitVec 32 := Scalar.maxsi v592 c0_i32_229
  let v594 : BitVec 32 := Scalar.subi v593 c0_i32_230
  let c1_i32_231 : BitVec 32 := 1#32
  let v596 : BitVec 32 := Scalar.divsi v594 c1_i32_231
  let v597 : BitVec 32 := Scalar.muli v596 c1_i32_231
  let v598 : BitVec 32 := Scalar.addi c0_i32_230 v597
  let c1_i32_233 : BitVec 32 := 1#32
  let arg10 : BitVec 32 := Scf.iv v598 c1_i32_233 k0_t14
  let c128_i32_292 : BitVec 32 := 128#32
  let v761 : BitVec 32 := Scalar.muli arg10 c128_i32_292
  v761
def k0_off26 (i : grid0.Coords) (k0_t14 : Fin (k0_t14_loop i).trips) : Fin 2 → Nat :=
  let c0_i32_230 : BitVec 32 := 0#32
  let arg1 : BitVec 32 := BitVec.ofNat 32 (i 1).val
  let c1_i32_228 : BitVec 32 := 1#32
  let v592 : BitVec 32 := Scalar.subi arg1 c1_i32_228
  let c0_i32_229 : BitVec 32 := 0#32
  let v593 : BitVec 32 := Scalar.maxsi v592 c0_i32_229
  let v594 : BitVec 32 := Scalar.subi v593 c0_i32_230
  let c1_i32_231 : BitVec 32 := 1#32
  let v596 : BitVec 32 := Scalar.divsi v594 c1_i32_231
  let v597 : BitVec 32 := Scalar.muli v596 c1_i32_231
  let v598 : BitVec 32 := Scalar.addi c0_i32_230 v597
  let c1_i32_233 : BitVec 32 := 1#32
  let arg10 : BitVec 32 := Scf.iv v598 c1_i32_233 k0_t14
  let c128_i32_292 : BitVec 32 := 128#32
  let v761 : BitVec 32 := Scalar.muli arg10 c128_i32_292
  let v762 : BitVec 32 := v761
  let v763 : Index := Scalar.indexCast v762
  let c768_293 : Index := 768#32
  ![v763.toNat, 768]
def k0_cond8 (i : grid0.Coords) : BitVec 1 :=
  let arg1 : BitVec 32 := BitVec.ofNat 32 (i 1).val
  let c1_i32_234 : BitVec 32 := 1#32
  let v601 : BitVec 1 := Scalar.cmpi .sge arg1 c1_i32_234
  let v602 : BitVec 32 := Scalar.extui v601
  let c0_i32_235 : BitVec 32 := 0#32
  let v603 : BitVec 1 := Scalar.cmpi .ne v602 c0_i32_235
  v603

def k0_mult27 (i : grid0.Coords) : BitVec 32 :=
  let arg1 : BitVec 32 := BitVec.ofNat 32 (i 1).val
  let c1_i32_292 : BitVec 32 := 1#32
  let v761 : BitVec 32 := Scalar.subi arg1 c1_i32_292
  let c128_i32_293 : BitVec 32 := 128#32
  let v762 : BitVec 32 := Scalar.muli v761 c128_i32_293
  v762
def k0_off27 (i : grid0.Coords) : Fin 2 → Nat :=
  let arg1 : BitVec 32 := BitVec.ofNat 32 (i 1).val
  let c1_i32_292 : BitVec 32 := 1#32
  let v761 : BitVec 32 := Scalar.subi arg1 c1_i32_292
  let c128_i32_293 : BitVec 32 := 128#32
  let v762 : BitVec 32 := Scalar.muli v761 c128_i32_293
  let v763 : BitVec 32 := v762
  let v764 : Index := Scalar.indexCast v763
  let c768_294 : Index := 768#32
  ![v764.toNat, 768]
def k0_mult28 (i : grid0.Coords) : BitVec 32 :=
  let arg1 : BitVec 32 := BitVec.ofNat 32 (i 1).val
  let c128_i32_236 : BitVec 32 := 128#32
  let v605 : BitVec 32 := Scalar.muli arg1 c128_i32_236
  v605
def k0_off28 (i : grid0.Coords) : Fin 2 → Nat :=
  let arg1 : BitVec 32 := BitVec.ofNat 32 (i 1).val
  let c128_i32_236 : BitVec 32 := 128#32
  let v605 : BitVec 32 := Scalar.muli arg1 c128_i32_236
  let v606 : BitVec 32 := v605
  let v607 : Index := Scalar.indexCast v606
  let c768_237 : Index := 768#32
  ![v607.toNat, 768]
@[reducible] def k0_t15_loop (i : grid0.Coords) : Scf.Loop 32 :=
  let c0_i32_266 : BitVec 32 := 0#32
  let arg1 : BitVec 32 := BitVec.ofNat 32 (i 1).val
  let c1_i32_264 : BitVec 32 := 1#32
  let v684 : BitVec 32 := Scalar.subi arg1 c1_i32_264
  let c0_i32_265 : BitVec 32 := 0#32
  let v685 : BitVec 32 := Scalar.maxsi v684 c0_i32_265
  let v686 : BitVec 32 := Scalar.subi v685 c0_i32_266
  let c1_i32_267 : BitVec 32 := 1#32
  let v688 : BitVec 32 := Scalar.divsi v686 c1_i32_267
  let v689 : BitVec 32 := Scalar.muli v688 c1_i32_267
  let v690 : BitVec 32 := Scalar.addi c0_i32_266 v689
  let c1_i32_268 : BitVec 32 := 1#32
  ⟨c0_i32_266, v690, c1_i32_268⟩
def k0_mult29 (i : grid0.Coords) (k0_t15 : Fin (k0_t15_loop i).trips) : BitVec 32 :=
  let c0_i32_266 : BitVec 32 := 0#32
  let c1_i32_268 : BitVec 32 := 1#32
  let arg10 : BitVec 32 := Scf.iv c0_i32_266 c1_i32_268 k0_t15
  let c128_i32_292 : BitVec 32 := 128#32
  let v761 : BitVec 32 := Scalar.muli arg10 c128_i32_292
  v761
def k0_off29 (i : grid0.Coords) (k0_t15 : Fin (k0_t15_loop i).trips) : Fin 2 → Nat :=
  let c0_i32_266 : BitVec 32 := 0#32
  let c1_i32_268 : BitVec 32 := 1#32
  let arg10 : BitVec 32 := Scf.iv c0_i32_266 c1_i32_268 k0_t15
  let c128_i32_292 : BitVec 32 := 128#32
  let v761 : BitVec 32 := Scalar.muli arg10 c128_i32_292
  let v762 : BitVec 32 := v761
  let v763 : Index := Scalar.indexCast v762
  let c896_293 : Index := 896#32
  ![v763.toNat, 896]
@[reducible] def k0_t16_loop (i : grid0.Coords) : Scf.Loop 32 :=
  let c0_i32_266 : BitVec 32 := 0#32
  let arg1 : BitVec 32 := BitVec.ofNat 32 (i 1).val
  let c1_i32_264 : BitVec 32 := 1#32
  let v684 : BitVec 32 := Scalar.subi arg1 c1_i32_264
  let c0_i32_265 : BitVec 32 := 0#32
  let v685 : BitVec 32 := Scalar.maxsi v684 c0_i32_265
  let v686 : BitVec 32 := Scalar.subi v685 c0_i32_266
  let c1_i32_267 : BitVec 32 := 1#32
  let v688 : BitVec 32 := Scalar.divsi v686 c1_i32_267
  let v689 : BitVec 32 := Scalar.muli v688 c1_i32_267
  let v690 : BitVec 32 := Scalar.addi c0_i32_266 v689
  let v687 : BitVec 32 := Scalar.addi c0_i32_266 v686
  let c1_i32_269 : BitVec 32 := 1#32
  ⟨v690, v687, c1_i32_269⟩
def k0_mult30 (i : grid0.Coords) (k0_t16 : Fin (k0_t16_loop i).trips) : BitVec 32 :=
  let c0_i32_266 : BitVec 32 := 0#32
  let arg1 : BitVec 32 := BitVec.ofNat 32 (i 1).val
  let c1_i32_264 : BitVec 32 := 1#32
  let v684 : BitVec 32 := Scalar.subi arg1 c1_i32_264
  let c0_i32_265 : BitVec 32 := 0#32
  let v685 : BitVec 32 := Scalar.maxsi v684 c0_i32_265
  let v686 : BitVec 32 := Scalar.subi v685 c0_i32_266
  let c1_i32_267 : BitVec 32 := 1#32
  let v688 : BitVec 32 := Scalar.divsi v686 c1_i32_267
  let v689 : BitVec 32 := Scalar.muli v688 c1_i32_267
  let v690 : BitVec 32 := Scalar.addi c0_i32_266 v689
  let c1_i32_269 : BitVec 32 := 1#32
  let arg10 : BitVec 32 := Scf.iv v690 c1_i32_269 k0_t16
  let c128_i32_292 : BitVec 32 := 128#32
  let v761 : BitVec 32 := Scalar.muli arg10 c128_i32_292
  v761
def k0_off30 (i : grid0.Coords) (k0_t16 : Fin (k0_t16_loop i).trips) : Fin 2 → Nat :=
  let c0_i32_266 : BitVec 32 := 0#32
  let arg1 : BitVec 32 := BitVec.ofNat 32 (i 1).val
  let c1_i32_264 : BitVec 32 := 1#32
  let v684 : BitVec 32 := Scalar.subi arg1 c1_i32_264
  let c0_i32_265 : BitVec 32 := 0#32
  let v685 : BitVec 32 := Scalar.maxsi v684 c0_i32_265
  let v686 : BitVec 32 := Scalar.subi v685 c0_i32_266
  let c1_i32_267 : BitVec 32 := 1#32
  let v688 : BitVec 32 := Scalar.divsi v686 c1_i32_267
  let v689 : BitVec 32 := Scalar.muli v688 c1_i32_267
  let v690 : BitVec 32 := Scalar.addi c0_i32_266 v689
  let c1_i32_269 : BitVec 32 := 1#32
  let arg10 : BitVec 32 := Scf.iv v690 c1_i32_269 k0_t16
  let c128_i32_292 : BitVec 32 := 128#32
  let v761 : BitVec 32 := Scalar.muli arg10 c128_i32_292
  let v762 : BitVec 32 := v761
  let v763 : Index := Scalar.indexCast v762
  let c896_293 : Index := 896#32
  ![v763.toNat, 896]
def k0_cond9 (i : grid0.Coords) : BitVec 1 :=
  let arg1 : BitVec 32 := BitVec.ofNat 32 (i 1).val
  let c1_i32_270 : BitVec 32 := 1#32
  let v693 : BitVec 1 := Scalar.cmpi .sge arg1 c1_i32_270
  let v694 : BitVec 32 := Scalar.extui v693
  let c0_i32_271 : BitVec 32 := 0#32
  let v695 : BitVec 1 := Scalar.cmpi .ne v694 c0_i32_271
  v695

def k0_mult31 (i : grid0.Coords) : BitVec 32 :=
  let arg1 : BitVec 32 := BitVec.ofNat 32 (i 1).val
  let c1_i32_292 : BitVec 32 := 1#32
  let v761 : BitVec 32 := Scalar.subi arg1 c1_i32_292
  let c128_i32_293 : BitVec 32 := 128#32
  let v762 : BitVec 32 := Scalar.muli v761 c128_i32_293
  v762
def k0_off31 (i : grid0.Coords) : Fin 2 → Nat :=
  let arg1 : BitVec 32 := BitVec.ofNat 32 (i 1).val
  let c1_i32_292 : BitVec 32 := 1#32
  let v761 : BitVec 32 := Scalar.subi arg1 c1_i32_292
  let c128_i32_293 : BitVec 32 := 128#32
  let v762 : BitVec 32 := Scalar.muli v761 c128_i32_293
  let v763 : BitVec 32 := v762
  let v764 : Index := Scalar.indexCast v763
  let c896_294 : Index := 896#32
  ![v764.toNat, 896]
def k0_mult32 (i : grid0.Coords) : BitVec 32 :=
  let arg1 : BitVec 32 := BitVec.ofNat 32 (i 1).val
  let c128_i32_272 : BitVec 32 := 128#32
  let v697 : BitVec 32 := Scalar.muli arg1 c128_i32_272
  v697
def k0_off32 (i : grid0.Coords) : Fin 2 → Nat :=
  let arg1 : BitVec 32 := BitVec.ofNat 32 (i 1).val
  let c128_i32_272 : BitVec 32 := 128#32
  let v697 : BitVec 32 := Scalar.muli arg1 c128_i32_272
  let v698 : BitVec 32 := v697
  let v699 : Index := Scalar.indexCast v698
  let c896_273 : Index := 896#32
  ![v699.toNat, 896]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2176x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== Reference.lean ====
abbrev S8x2064x8x2x64 : Shape := ⟨5, ![8, 2064, 8, 2, 64]⟩
abbrev S8x2064x8x128 : Shape := ⟨4, ![8, 2064, 8, 128]⟩
abbrev S32x8 : Shape := ⟨2, ![32, 8]⟩
abbrev S1x4x64 : Shape := ⟨3, ![1, 4, 64]⟩
abbrev S1x128 : Shape := ⟨2, ![1, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S2064 : Shape := ⟨1, ![2064]⟩
abbrev S2064x1 : Shape := ⟨2, ![2064, 1]⟩
abbrev S1x2064 : Shape := ⟨2, ![1, 2064]⟩
abbrev S2064x2064 : Shape := ⟨2, ![2064, 2064]⟩
abbrev S2064x2064x1 : Shape := ⟨3, ![2064, 2064, 1]⟩
abbrev S2064x2064x8 : Shape := ⟨3, ![2064, 2064, 8]⟩
abbrev S8x2064x2064 : Shape := ⟨3, ![8, 2064, 2064]⟩
abbrev S8x2x8x2064x2064 : Shape := ⟨5, ![8, 2, 8, 2064, 2064]⟩
abbrev S1x1x8x2064x2064 : Shape := ⟨5, ![1, 1, 8, 2064, 2064]⟩
abbrev S8x2x8x2064 : Shape := ⟨4, ![8, 2, 8, 2064]⟩
abbrev S8x2x8x2064x1 : Shape := ⟨5, ![8, 2, 8, 2064, 1]⟩
abbrev S8x1x8x2064x2064 : Shape := ⟨5, ![8, 1, 8, 2064, 2064]⟩
abbrev S8x8x2064x2064 : Shape := ⟨4, ![8, 8, 2064, 2064]⟩
abbrev S8x8x128x2064 : Shape := ⟨4, ![8, 8, 128, 2064]⟩
abbrev S128 : Shape := ⟨1, ![128]⟩
abbrev S8x2064x8 : Shape := ⟨3, ![8, 2064, 8]⟩
abbrev S8x2064x8x1 : Shape := ⟨4, ![8, 2064, 8, 1]⟩
abbrev S1x1x1x128 : Shape := ⟨4, ![1, 1, 1, 128]⟩
abbrev S8x2064x1024 : Shape := ⟨3, ![8, 2064, 1024]⟩
abbrev S8x2176x1024 : Shape := ⟨3, ![8, 2176, 1024]⟩
abbrev S17408x1024 : Shape := ⟨2, ![17408, 1024]⟩

abbrev nBuf : Space → Nat
  | .hbm => 135
  | .vmem => 0
  | .smem => 0
  | _ => 0

abbrev hbmTy0_0 (i : Nat) : BufTy := match i % 128 with
  | 0 => ⟨S8x2064x8x2x64, .f32⟩
  | 1 => ⟨S8x2064x8x2x64, .f32⟩
  | 2 => ⟨S8x2064x8x128, .f32⟩
  | 3 => ⟨S32x8, .f32⟩
  | 4 => ⟨S1x4x64, .f32⟩
  | 5 => ⟨S1x128, .f32⟩
  | 6 => ⟨S4x64, .f32⟩
  | 7 => ⟨S1x64, .f32⟩
  | 8 => ⟨S64, .f32⟩
  | 9 => ⟨S1x64, .f32⟩
  | 10 => ⟨S64, .f32⟩
  | 11 => ⟨S64, .f32⟩
  | 12 => ⟨S_, .f32⟩
  | 13 => ⟨S_, .f32⟩
  | 14 => ⟨S_, .f32⟩
  | 15 => ⟨S1x64, .f32⟩
  | 16 => ⟨S64, .f32⟩
  | 17 => ⟨S1x64, .f32⟩
  | 18 => ⟨S64, .f32⟩
  | 19 => ⟨S64, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S2064, .i32⟩
  | 27 => ⟨S2064x1, .i32⟩
  | 28 => ⟨S1x2064, .i32⟩
  | 29 => ⟨S2064x2064, .i32⟩
  | 30 => ⟨S2064x2064, .i32⟩
  | 31 => ⟨S2064x2064, .i32⟩
  | 32 => ⟨S_, .i32⟩
  | 33 => ⟨S2064x2064, .i32⟩
  | 34 => ⟨S2064x2064, .i32⟩
  | 35 => ⟨S_, .i32⟩
  | 36 => ⟨S2064x2064, .i32⟩
  | 37 => ⟨S2064x2064, .i32⟩
  | 38 => ⟨S2064x2064, .f32⟩
  | 39 => ⟨S_, .f32⟩
  | 40 => ⟨S2064x2064, .f32⟩
  | 41 => ⟨S2064x2064, .f32⟩
  | 42 => ⟨S2064x2064, .f32⟩
  | 43 => ⟨S_, .f32⟩
  | 44 => ⟨S2064x2064, .f32⟩
  | 45 => ⟨S2064x2064, .f32⟩
  | 46 => ⟨S_, .f32⟩
  | 47 => ⟨S2064x2064, .f32⟩
  | 48 => ⟨S2064x2064, .f32⟩
  | 49 => ⟨S2064x2064, .i32⟩
  | 50 => ⟨S_, .i32⟩
  | 51 => ⟨S2064x2064, .i32⟩
  | 52 => ⟨S2064x2064, .i32⟩
  | 53 => ⟨S_, .i32⟩
  | 54 => ⟨S2064x2064, .i32⟩
  | 55 => ⟨S2064x2064, .i1⟩
  | 56 => ⟨S_, .i32⟩
  | 57 => ⟨S2064x2064, .i32⟩
  | 58 => ⟨S2064x2064, .i32⟩
  | 59 => ⟨S2064x2064, .i32⟩
  | 60 => ⟨S_, .i32⟩
  | 61 => ⟨S2064x2064, .i32⟩
  | 62 => ⟨S2064x2064, .i1⟩
  | 63 => ⟨S_, .i32⟩
  | 64 => ⟨S2064x2064, .i32⟩
  | 65 => ⟨S2064x2064, .i32⟩
  | 66 => ⟨S2064x2064, .i32⟩
  | 67 => ⟨S2064x2064x1, .i32⟩
  | 68 => ⟨S2064x2064x8, .f32⟩
  | 69 => ⟨S8x2064x2064, .f32⟩
  | 70 => ⟨S8x2x8x2064x2064, .f32⟩
  | 71 => ⟨S_, .f32⟩
  | 72 => ⟨S8x2x8x2064x2064, .f32⟩
  | 73 => ⟨S8x2x8x2064x2064, .f32⟩
  | 74 => ⟨S1x1x8x2064x2064, .f32⟩
  | 75 => ⟨S8x2x8x2064x2064, .f32⟩
  | 76 => ⟨S8x2x8x2064x2064, .f32⟩
  | 77 => ⟨S2064x1, .i32⟩
  | 78 => ⟨S1x2064, .i32⟩
  | 79 => ⟨S2064x2064, .i32⟩
  | 80 => ⟨S2064x2064, .i32⟩
  | 81 => ⟨S2064x2064, .i1⟩
  | 82 => ⟨S_, .f32⟩
  | 83 => ⟨S_, .f32⟩
  | 84 => ⟨S8x2x8x2064x2064, .i1⟩
  | 85 => ⟨S8x2x8x2064x2064, .f32⟩
  | 86 => ⟨S8x2x8x2064x2064, .f32⟩
  | 87 => ⟨S_, .f32⟩
  | 88 => ⟨S8x2x8x2064, .f32⟩
  | 89 => ⟨S_, .f32⟩
  | 90 => ⟨S8x2x8x2064, .f32⟩
  | 91 => ⟨S8x2x8x2064, .f32⟩
  | 92 => ⟨S8x2x8x2064x1, .f32⟩
  | 93 => ⟨S8x2x8x2064x2064, .f32⟩
  | 94 => ⟨S8x2x8x2064x2064, .f32⟩
  | 95 => ⟨S8x2x8x2064x2064, .f32⟩
  | 96 => ⟨S_, .f32⟩
  | 97 => ⟨S8x2x8x2064, .f32⟩
  | 98 => ⟨S8x2x8x2064x1, .f32⟩
  | 99 => ⟨S8x2x8x2064x2064, .f32⟩
  | 100 => ⟨S8x2x8x2064x2064, .f32⟩
  | 101 => ⟨S8x1x8x2064x2064, .f32⟩
  | 102 => ⟨S8x8x2064x2064, .f32⟩
  | 103 => ⟨S8x1x8x2064x2064, .f32⟩
  | 104 => ⟨S8x8x2064x2064, .f32⟩
  | 105 => ⟨S8x8x2064x2064, .f32⟩
  | 106 => ⟨S8x8x2064x2064, .f32⟩
  | 107 => ⟨S8x8x2064x2064, .f32⟩
  | 108 => ⟨S8x8x128x2064, .f32⟩
  | 109 => ⟨S8x2064x8x128, .f32⟩
  | 110 => ⟨S128, .f32⟩
  | 111 => ⟨S8x2064x8x128, .f32⟩
  | 112 => ⟨S_, .f32⟩
  | 113 => ⟨S8x2064x8, .f32⟩
  | 114 => ⟨S8x2064x8x1, .f32⟩
  | 115 => ⟨S_, .f32⟩
  | 116 => ⟨S8x2064x8x1, .f32⟩
  | 117 => ⟨S8x2064x8x1, .f32⟩
  | 118 => ⟨S_, .f32⟩
  | 119 => ⟨S8x2064x8x1, .f32⟩
  | 120 => ⟨S8x2064x8x1, .f32⟩
  | 121 => ⟨S8x2064x8x1, .f32⟩
  | 122 => ⟨S8x2064x8x128, .f32⟩
  | 123 => ⟨S8x2064x8x128, .f32⟩
  | 124 => ⟨S1x1x1x128, .f32⟩
  | 125 => ⟨S8x2064x8x128, .f32⟩
  | 126 => ⟨S8x2064x8x128, .f32⟩
  | 127 => ⟨S_, .f32⟩
  | _ => ⟨S8x2064x8x2x64, .f32⟩

abbrev hbmTy0_1 (i : Nat) : BufTy := match i % 128 with
  | 0 => ⟨S8x2064x8x128, .f32⟩
  | 1 => ⟨S8x2064x8x128, .f32⟩
  | 2 => ⟨S8x2064x1024, .f32⟩
  | 3 => ⟨S_, .i32⟩
  | 4 => ⟨S_, .f32⟩
  | 5 => ⟨S8x2176x1024, .f32⟩
  | 6 => ⟨S17408x1024, .f32⟩
  | _ => ⟨S8x2064x8x2x64, .f32⟩

abbrev hbmTy (i : Nat) : BufTy := match i / 128 with
  | 0 => hbmTy0_0 i
  | 1 => hbmTy0_1 i
  | _ => ⟨S8x2064x8x2x64, .f32⟩

abbrev bufTy : (tb : Table) → Fin (tcTables nBuf tb) → BufTy
  | .hbm, ⟨i, _⟩ => hbmTy i
  | _, _ => ⟨S8x2064x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev main_v39 : Ref sig .tc := ⟨.hbm, 55, rfl⟩
abbrev main_c_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_cst_14 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_15 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_16 : Ref sig .tc := ⟨.hbm, 112, rfl⟩
abbrev main_v85 : Ref sig .tc := ⟨.hbm, 113, rfl⟩
abbrev main_v86 : Ref sig .tc := ⟨.hbm, 114, rfl⟩
abbrev main_cst_17 : Ref sig .tc := ⟨.hbm, 115, rfl⟩
abbrev main_v87 : Ref sig .tc := ⟨.hbm, 116, rfl⟩
abbrev main_v88 : Ref sig .tc := ⟨.hbm, 117, rfl⟩
abbrev main_cst_18 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_19 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_c_20 : Ref sig .tc := ⟨.hbm, 131, rfl⟩
abbrev main_call2_v0 : Ref sig .tc := ⟨.hbm, 132, rfl⟩
abbrev main_v100 : Ref sig .tc := ⟨.hbm, 133, rfl⟩
abbrev main_v101 : Ref sig .tc := ⟨.hbm, 134, rfl⟩

abbrev nD : Nat := 1
abbrev τ : Topo := Topo.v7x

variable {F : FTy → Type} [FloatOps F]
-- ==== Kernel2.lean ====
abbrev S8x2048x2048 : Shape := ⟨3, ![8, 2048, 2048]⟩
abbrev S32x8x2048 : Shape := ⟨3, ![32, 8, 2048]⟩
abbrev S16x2048 : Shape := ⟨2, ![16, 2048]⟩
abbrev S1x2048 : Shape := ⟨2, ![1, 2048]⟩
abbrev S1x2048x11264 : Shape := ⟨3, ![1, 2048, 11264]⟩
abbrev S_ : Shape := ⟨0, ![]⟩
abbrev S112x2048 : Shape := ⟨2, ![112, 2048]⟩
abbrev S128x2048 : Shape := ⟨2, ![128, 2048]⟩
abbrev S1x128x2048 : Shape := ⟨3, ![1, 128, 2048]⟩
abbrev S8x128x2048 : Shape := ⟨3, ![8, 128, 2048]⟩
abbrev S8x2176x2048 : Shape := ⟨3, ![8, 2176, 2048]⟩
abbrev S17408x2048 : Shape := ⟨2, ![17408, 2048]⟩
abbrev S256x2048 : Shape := ⟨2, ![256, 2048]⟩
abbrev S17664x2048 : Shape := ⟨2, ![17664, 2048]⟩
abbrev S2048 : Shape := ⟨1, ![2048]⟩
abbrev S2048x11264 : Shape := ⟨2, ![2048, 11264]⟩
abbrev S17664x11264 : Shape := ⟨2, ![17664, 11264]⟩
abbrev S768x2048 : Shape := ⟨2, ![768, 2048]⟩
abbrev S2048x1024 : Shape := ⟨2, ![2048, 1024]⟩
abbrev S768x1024 : Shape := ⟨2, ![768, 1024]⟩
abbrev S768 : Shape := ⟨1, ![768]⟩
abbrev S768x1 : Shape := ⟨2, ![768, 1]⟩

abbrev nBuf : Space → Nat
  | .hbm => 19
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S32x8x2048, .f32⟩
  | .hbm, ⟨2, _⟩ => ⟨S16x2048, .f32⟩
  | .hbm, ⟨3, _⟩ => ⟨S1x2048, .f32⟩
  | .hbm, ⟨4, _⟩ => ⟨S1x2048x11264, .f32⟩
  | .hbm, ⟨5, _⟩ => ⟨S_, .f32⟩
  | .hbm, ⟨6, _⟩ => ⟨S112x2048, .f32⟩
  | .hbm, ⟨7, _⟩ => ⟨S128x2048, .f32⟩
  | .hbm, ⟨8, _⟩ => ⟨S1x128x2048, .f32⟩
  | .hbm, ⟨9, _⟩ => ⟨S8x128x2048, .f32⟩
  | .hbm, ⟨10, _⟩ => ⟨S8x2176x2048, .f32⟩
  | .hbm, ⟨11, _⟩ => ⟨S17408x2048, .f32⟩
  | .hbm, ⟨12, _⟩ => ⟨S256x2048, .f32⟩
  | .hbm, ⟨13, _⟩ => ⟨S17664x2048, .f32⟩
  | .hbm, ⟨14, _⟩ => ⟨S2048, .f32⟩
  | .hbm, ⟨15, _⟩ => ⟨S2048x11264, .f32⟩
  | .hbm, ⟨16, _⟩ => ⟨S2048x11264, .bf16⟩
  | .hbm, ⟨17, _⟩ => ⟨S1x2048, .f32⟩
  | .hbm, ⟨18, _⟩ => ⟨S17664x11264, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S768x1024, .f32⟩
  | .local _ .vmem, ⟨6, _⟩ => ⟨S768x1024, .f32⟩
  | .local _ .vmem, ⟨7, _⟩ => ⟨S768x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![23, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2.lean ====
abbrev S8x2048x2048 : Shape := ⟨3, ![8, 2048, 2048]⟩
abbrev S32x8x2048 : Shape := ⟨3, ![32, 8, 2048]⟩
abbrev S16x2048 : Shape := ⟨2, ![16, 2048]⟩
abbrev S1x2048 : Shape := ⟨2, ![1, 2048]⟩
abbrev S1x2048x11264 : Shape := ⟨3, ![1, 2048, 11264]⟩
abbrev S1x16x2048 : Shape := ⟨3, ![1, 16, 2048]⟩
abbrev S8x16x2048 : Shape := ⟨3, ![8, 16, 2048]⟩
abbrev S8x2064x2048 : Shape := ⟨3, ![8, 2064, 2048]⟩
abbrev S2048 : Shape := ⟨1, ![2048]⟩
abbrev S_ : Shape := ⟨0, ![]⟩
abbrev S8x2064 : Shape := ⟨2, ![8, 2064]⟩
abbrev S8x2064x1 : Shape := ⟨3, ![8, 2064, 1]⟩
abbrev S1x1x2048 : Shape := ⟨3, ![1, 1, 2048]⟩
abbrev S2048x11264 : Shape := ⟨2, ![2048, 11264]⟩
abbrev S8x2064x11264 : Shape := ⟨3, ![8, 2064, 11264]⟩
abbrev S32x8 : Shape := ⟨2, ![32, 8]⟩
abbrev S32x8x1 : Shape := ⟨3, ![32, 8, 1]⟩
abbrev S32x8x11264 : Shape := ⟨3, ![32, 8, 11264]⟩
abbrev S8x2176x11264 : Shape := ⟨3, ![8, 2176, 11264]⟩
abbrev S17408x11264 : Shape := ⟨2, ![17408, 11264]⟩
abbrev S256x11264 : Shape := ⟨2, ![256, 11264]⟩
abbrev S17664x11264 : Shape := ⟨2, ![17664, 11264]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S32x8x2048, .f32⟩
  | .hbm, ⟨2, _⟩ => ⟨S16x2048, .f32⟩
  | .hbm, ⟨3, _⟩ => ⟨S1x2048, .f32⟩
  | .hbm, ⟨4, _⟩ => ⟨S1x2048x11264, .f32⟩
  | .hbm, ⟨5, _⟩ => ⟨S1x16x2048, .f32⟩
  | .hbm, ⟨6, _⟩ => ⟨S8x16x2048, .f32⟩
  | .hbm, ⟨7, _⟩ => ⟨S8x2064x2048, .f32⟩
  | .hbm, ⟨8, _⟩ => ⟨S2048, .f32⟩
  | .hbm, ⟨9, _⟩ => ⟨S8x2064x2048, .f32⟩
  | .hbm, ⟨10, _⟩ => ⟨S_, .f32⟩
  | .hbm, ⟨11, _⟩ => ⟨S8x2064, .f32⟩
  | .hbm, ⟨12, _⟩ => ⟨S8x2064x1, .f32⟩
  | .hbm, ⟨13, _⟩ => ⟨S_, .f32⟩
  | .hbm, ⟨14, _⟩ => ⟨S8x2064x1, .f32⟩
  | .hbm, ⟨15, _⟩ => ⟨S8x2064x1, .f32⟩
  | .hbm, ⟨16, _⟩ => ⟨S_, .f32⟩
  | .hbm, ⟨17, _⟩ => ⟨S8x2064x1, .f32⟩
  | .hbm, ⟨18, _⟩ => ⟨S8x2064x1, .f32⟩
  | .hbm, ⟨19, _⟩ => ⟨S8x2064x1, .f32⟩
  | .hbm, ⟨20, _⟩ => ⟨S8x2064x2048, .f32⟩
  | .hbm, ⟨21, _⟩ => ⟨S8x2064x2048, .f32⟩
  | .hbm, ⟨22, _⟩ => ⟨S1x1x2048, .f32⟩
  | .hbm, ⟨23, _⟩ => ⟨S8x2064x2048, .f32⟩
  | .hbm, ⟨24, _⟩ => ⟨S8x2064x2048, .f32⟩
  | .hbm, ⟨25, _⟩ => ⟨S2048x11264, .f32⟩
  | .hbm, ⟨26, _⟩ => ⟨S8x2064x11264, .f32⟩
  | .hbm, ⟨27, _⟩ => ⟨S2048, .f32⟩
  | .hbm, ⟨28, _⟩ => ⟨S32x8x2048, .f32⟩
  | .hbm, ⟨29, _⟩ => ⟨S_, .f32⟩
  | .hbm, ⟨30, _⟩ => ⟨S32x8, .f32⟩
  | .hbm, ⟨31, _⟩ => ⟨S32x8x1, .f32⟩
  | .hbm, ⟨32, _⟩ => ⟨S_, .f32⟩
  | .hbm, ⟨33, _⟩ => ⟨S32x8x1, .f32⟩
  | .hbm, ⟨34, _⟩ => ⟨S32x8x1, .f32⟩
  | .hbm, ⟨35, _⟩ => ⟨S_, .f32⟩
  | .hbm, ⟨36, _⟩ => ⟨S32x8x1, .f32⟩
  | .hbm, ⟨37, _⟩ => ⟨S32x8x1, .f32⟩
  | .hbm, ⟨38, _⟩ => ⟨S32x8x1, .f32⟩
  | .hbm, ⟨39, _⟩ => ⟨S32x8x2048, .f32⟩
  | .hbm, ⟨40, _⟩ => ⟨S32x8x2048, .f32⟩
  | .hbm, ⟨41, _⟩ => ⟨S1x1x2048, .f32⟩
  | .hbm, ⟨42, _⟩ => ⟨S32x8x2048, .f32⟩
  | .hbm, ⟨43, _⟩ => ⟨S32x8x2048, .f32⟩
  | .hbm, ⟨44, _⟩ => ⟨S2048x11264, .f32⟩
  | .hbm, ⟨45, _⟩ => ⟨S32x8x11264, .f32⟩
  | .hbm, ⟨46, _⟩ => ⟨S_, .i32⟩
  | .hbm, ⟨47, _⟩ => ⟨S_, .f32⟩
  | .hbm, ⟨48, _⟩ => ⟨S8x2176x11264, .f32⟩
  | .hbm, ⟨49, _⟩ => ⟨S17408x11264, .f32⟩
  | .hbm, ⟨50, _⟩ => ⟨S256x11264, .f32⟩
  | .hbm, ⟨51, _⟩ => ⟨S17664x11264, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c : Ref sig .tc := ⟨.hbm, 46, rfl⟩
abbrev main_call0_v0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel3.lean ====
abbrev S17664x1024 : Shape := ⟨2, ![17664, 1024]⟩
abbrev S17664x11264 : Shape := ⟨2, ![17664, 11264]⟩
abbrev S1x1024x2048 : Shape := ⟨3, ![1, 1024, 2048]⟩
abbrev S1024x2048 : Shape := ⟨2, ![1024, 2048]⟩
abbrev S17664x2048 : Shape := ⟨2, ![17664, 2048]⟩
abbrev S768x1024 : Shape := ⟨2, ![768, 1024]⟩
abbrev S1024x1024 : Shape := ⟨2, ![1024, 1024]⟩

abbrev nBuf : Space → Nat
  | .hbm => 10
  | .vmem => 14
  | .smem => 0
  | _ => 0

abbrev bufTy : (tb : Table) → Fin (tcTables nBuf tb) → BufTy
  | .hbm, ⟨0, _⟩ => ⟨S17664x1024, .f32⟩
  | .hbm, ⟨1, _⟩ => ⟨S17664x1024, .f32⟩
  | .hbm, ⟨2, _⟩ => ⟨S17664x11264, .f32⟩
  | .hbm, ⟨3, _⟩ => ⟨S1x1024x2048, .f32⟩
  | .hbm, ⟨4, _⟩ => ⟨S1x1024x2048, .f32⟩
  | .hbm, ⟨5, _⟩ => ⟨S1024x2048, .f32⟩
  | .hbm, ⟨6, _⟩ => ⟨S1024x2048, .bf16⟩
  | .hbm, ⟨7, _⟩ => ⟨S1024x2048, .f32⟩
  | .hbm, ⟨8, _⟩ => ⟨S1024x2048, .bf16⟩
  | .hbm, ⟨9, _⟩ => ⟨S17664x2048, .bf16⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S768x1024, .bf16⟩
  | .local _ .vmem, ⟨13, _⟩ => ⟨S768x1024, .bf16⟩
  | _, _ => ⟨S17664x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![23, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3.lean ====
abbrev S17664x1024 : Shape := ⟨2, ![17664, 1024]⟩
abbrev S17664x11264 : Shape := ⟨2, ![17664, 11264]⟩
abbrev S1x1024x2048 : Shape := ⟨3, ![1, 1024, 2048]⟩
abbrev S1024x2048 : Shape := ⟨2, ![1024, 2048]⟩
abbrev S17664x2048 : Shape := ⟨2, ![17664, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S17664x1024, .f32⟩
  | .hbm, ⟨1, _⟩ => ⟨S17664x1024, .f32⟩
  | .hbm, ⟨2, _⟩ => ⟨S17664x11264, .f32⟩
  | .hbm, ⟨3, _⟩ => ⟨S1x1024x2048, .f32⟩
  | .hbm, ⟨4, _⟩ => ⟨S1x1024x2048, .f32⟩
  | .hbm, ⟨5, _⟩ => ⟨S1024x2048, .f32⟩
  | .hbm, ⟨6, _⟩ => ⟨S17664x2048, .f32⟩
  | .hbm, ⟨7, _⟩ => ⟨S1024x2048, .f32⟩
  | .hbm, ⟨8, _⟩ => ⟨S17664x2048, .f32⟩
  | .hbm, ⟨9, _⟩ => ⟨S17664x2048, .f32⟩
  | .hbm, ⟨10, _⟩ => ⟨S17664x2048, .f32⟩
  | .hbm, ⟨11, _⟩ => ⟨S17664x2048, .f32⟩
  | .hbm, ⟨12, _⟩ => ⟨S17664x2048, .f32⟩
  | .hbm, ⟨13, _⟩ => ⟨S_, .f32⟩
  | .hbm, ⟨14, _⟩ => ⟨S17664x2048, .f32⟩
  | .hbm, ⟨15, _⟩ => ⟨S17664x2048, .f32⟩
  | .hbm, ⟨16, _⟩ => ⟨S_, .f32⟩
  | .hbm, ⟨17, _⟩ => ⟨S17664x2048, .f32⟩
  | .hbm, ⟨18, _⟩ => ⟨S17664x2048, .f32⟩
  | .hbm, ⟨19, _⟩ => ⟨S17664x2048, .f32⟩
  | .hbm, ⟨20, _⟩ => ⟨S17664x2048, .f32⟩
  | .hbm, ⟨21, _⟩ => ⟨S17664x2048, .f32⟩
  | .hbm, ⟨22, _⟩ => ⟨S_, .f32⟩
  | .hbm, ⟨23, _⟩ => ⟨S17664x2048, .f32⟩
  | .hbm, ⟨24, _⟩ => ⟨S17664x2048, .f32⟩
  | .hbm, ⟨25, _⟩ => ⟨S_, .f32⟩
  | .hbm, ⟨26, _⟩ => ⟨S17664x2048, .f32⟩
  | .hbm, ⟨27, _⟩ => ⟨S17664x2048, .f32⟩
  | .hbm, ⟨28, _⟩ => ⟨S17664x2048, .f32⟩
  | .hbm, ⟨29, _⟩ => ⟨S17664x2048, .f32⟩
  | .hbm, ⟨30, _⟩ => ⟨S17664x2048, .bf16⟩
  | _, _ => ⟨S17664x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel4.lean ====
abbrev S17664x2048 : Shape := ⟨2, ![17664, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S17664x2048, .f32⟩
  | .hbm, ⟨1, _⟩ => ⟨S17664x2048, .bf16⟩
  | .hbm, ⟨2, _⟩ => ⟨S1x2048x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S2048, .f32⟩
  | .hbm, ⟨7, _⟩ => ⟨S1x2048, .f32⟩
  | .hbm, ⟨8, _⟩ => ⟨S17664x2048, .f32⟩
  | .hbm, ⟨9, _⟩ => ⟨S17664x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S2048x2048, .bf16⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S17664x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![69], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4.lean ====
abbrev S17664x2048 : Shape := ⟨2, ![17664, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S17664 : Shape := ⟨1, ![17664]⟩
abbrev S17664x1 : Shape := ⟨2, ![17664, 1]⟩

abbrev nBuf : Space → Nat
  | .hbm => 26
  | .vmem => 0
  | .smem => 0
  | _ => 0

abbrev bufTy : (tb : Table) → Fin (tcTables nBuf tb) → BufTy
  | .hbm, ⟨0, _⟩ => ⟨S17664x2048, .f32⟩
  | .hbm, ⟨1, _⟩ => ⟨S17664x2048, .bf16⟩
  | .hbm, ⟨2, _⟩ => ⟨S1x2048x2048, .f32⟩
  | .hbm, ⟨3, _⟩ => ⟨S1x2048, .f32⟩
  | .hbm, ⟨4, _⟩ => ⟨S17664x2048, .f32⟩
  | .hbm, ⟨5, _⟩ => ⟨S2048x2048, .f32⟩
  | .hbm, ⟨6, _⟩ => ⟨S17664x2048, .f32⟩
  | .hbm, ⟨7, _⟩ => ⟨S17664x2048, .f32⟩
  | .hbm, ⟨8, _⟩ => ⟨S2048, .f32⟩
  | .hbm, ⟨9, _⟩ => ⟨S17664x2048, .f32⟩
  | .hbm, ⟨10, _⟩ => ⟨S_, .f32⟩
  | .hbm, ⟨11, _⟩ => ⟨S17664, .f32⟩
  | .hbm, ⟨12, _⟩ => ⟨S17664x1, .f32⟩
  | .hbm, ⟨13, _⟩ => ⟨S_, .f32⟩
  | .hbm, ⟨14, _⟩ => ⟨S17664x1, .f32⟩
  | .hbm, ⟨15, _⟩ => ⟨S17664x1, .f32⟩
  | .hbm, ⟨16, _⟩ => ⟨S_, .f32⟩
  | .hbm, ⟨17, _⟩ => ⟨S17664x1, .f32⟩
  | .hbm, ⟨18, _⟩ => ⟨S17664x1, .f32⟩
  | .hbm, ⟨19, _⟩ => ⟨S17664x1, .f32⟩
  | .hbm, ⟨20, _⟩ => ⟨S17664x2048, .f32⟩
  | .hbm, ⟨21, _⟩ => ⟨S17664x2048, .f32⟩
  | .hbm, ⟨22, _⟩ => ⟨S1x2048, .f32⟩
  | .hbm, ⟨23, _⟩ => ⟨S17664x2048, .f32⟩
  | .hbm, ⟨24, _⟩ => ⟨S17664x2048, .f32⟩
  | .hbm, ⟨25, _⟩ => ⟨S17664x2048, .bf16⟩
  | _, _ => ⟨S17664x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel5.lean ====
abbrev S17664x2048 : Shape := ⟨2, ![17664, 2048]⟩
abbrev S1x2048x2048 : Shape := ⟨3, ![1, 2048, 2048]⟩
abbrev S1x8x128x128 : Shape := ⟨4, ![1, 8, 128, 128]⟩
abbrev S2048x2048 : Shape := ⟨2, ![2048, 2048]⟩
abbrev S8x128x128 : Shape := ⟨3, ![8, 128, 128]⟩
abbrev S16x128x17664 : Shape := ⟨3, ![16, 128, 17664]⟩
abbrev S256x2048 : Shape := ⟨2, ![256, 2048]⟩
abbrev S16x128x256 : Shape := ⟨3, ![16, 128, 256]⟩
abbrev S256x128 : Shape := ⟨2, ![256, 128]⟩
abbrev S1x128x128 : Shape := ⟨3, ![1, 128, 128]⟩
abbrev S128x128 : Shape := ⟨2, ![128, 128]⟩
abbrev S128x256 : Shape := ⟨2, ![128, 256]⟩
abbrev S1x128x256 : Shape := ⟨3, ![1, 128, 256]⟩

abbrev nBuf : Space → Nat
  | .hbm => 11
  | .vmem => 7
  | .smem => 0
  | _ => 0

abbrev bufTy : (tb : Table) → Fin (tcTables nBuf tb) → BufTy
  | .hbm, ⟨0, _⟩ => ⟨S17664x2048, .bf16⟩
  | .hbm, ⟨1, _⟩ => ⟨S1x2048x2048, .f32⟩
  | .hbm, ⟨2, _⟩ => ⟨S1x8x128x128, .f32⟩
  | .hbm, ⟨3, _⟩ => ⟨S1x8x128x128, .f32⟩
  | .hbm, ⟨4, _⟩ => ⟨S2048x2048, .f32⟩
  | .hbm, ⟨5, _⟩ => ⟨S2048x2048, .bf16⟩
  | .hbm, ⟨6, _⟩ => ⟨S8x128x128, .f32⟩
  | .hbm, ⟨7, _⟩ => ⟨S8x128x128, .bf16⟩
  | .hbm, ⟨8, _⟩ => ⟨S8x128x128, .f32⟩
  | .hbm, ⟨9, _⟩ => ⟨S8x128x128, .bf16⟩
  | .hbm, ⟨10, _⟩ => ⟨S16x128x17664, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S8x128x128, .bf16⟩
  | .local _ .vmem, ⟨4, _⟩ => ⟨S8x128x128, .bf16⟩
  | .local _ .vmem, ⟨5, _⟩ => ⟨S16x128x256, .f32⟩
  | .local _ .vmem, ⟨6, _⟩ => ⟨S16x128x256, .f32⟩
  | _, _ => ⟨S17664x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![69], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5.lean ====
abbrev S17664x2048 : Shape := ⟨2, ![17664, 2048]⟩
abbrev S1x2048x2048 : Shape := ⟨3, ![1, 2048, 2048]⟩
abbrev S1x8x128x128 : Shape := ⟨4, ![1, 8, 128, 128]⟩
abbrev S2048x2048 : Shape := ⟨2, ![2048, 2048]⟩
abbrev S17664x8x2x128 : Shape := ⟨4, ![17664, 8, 2, 128]⟩
abbrev S17664x8x1x128 : Shape := ⟨4, ![17664, 8, 1, 128]⟩
abbrev S17664x8x128 : Shape := ⟨3, ![17664, 8, 128]⟩
abbrev S8x128x128 : Shape := ⟨3, ![8, 128, 128]⟩
abbrev S8x128x17664 : Shape := ⟨3, ![8, 128, 17664]⟩
abbrev S8x2x128x17664 : Shape := ⟨4, ![8, 2, 128, 17664]⟩
abbrev S16x128x17664 : Shape := ⟨3, ![16, 128, 17664]⟩

abbrev nBuf : Space → Nat
  | .hbm => 23
  | .vmem => 0
  | .smem => 0
  | _ => 0

abbrev bufTy : (tb : Table) → Fin (tcTables nBuf tb) → BufTy
  | .hbm, ⟨0, _⟩ => ⟨S17664x2048, .bf16⟩
  | .hbm, ⟨1, _⟩ => ⟨S1x2048x2048, .f32⟩
  | .hbm, ⟨2, _⟩ => ⟨S1x8x128x128, .f32⟩
  | .hbm, ⟨3, _⟩ => ⟨S1x8x128x128, .f32⟩
  | .hbm, ⟨4, _⟩ => ⟨S17664x2048, .f32⟩
  | .hbm, ⟨5, _⟩ => ⟨S2048x2048, .f32⟩
  | .hbm, ⟨6, _⟩ => ⟨S17664x2048, .f32⟩
  | .hbm, ⟨7, _⟩ => ⟨S17664x8x2x128, .f32⟩
  | .hbm, ⟨8, _⟩ => ⟨S17664x8x1x128, .f32⟩
  | .hbm, ⟨9, _⟩ => ⟨S17664x8x128, .f32⟩
  | .hbm, ⟨10, _⟩ => ⟨S8x128x128, .f32⟩
  | .hbm, ⟨11, _⟩ => ⟨S8x128x17664, .f32⟩
  | .hbm, ⟨12, _⟩ => ⟨S17664x8x128, .f32⟩
  | .hbm, ⟨13, _⟩ => ⟨S17664x8x1x128, .f32⟩
  | .hbm, ⟨14, _⟩ => ⟨S17664x8x128, .f32⟩
  | .hbm, ⟨15, _⟩ => ⟨S8x128x128, .f32⟩
  | .hbm, ⟨16, _⟩ => ⟨S8x128x17664, .f32⟩
  | .hbm, ⟨17, _⟩ => ⟨S17664x8x128, .f32⟩
  | .hbm, ⟨18, _⟩ => ⟨S17664x8x1x128, .f32⟩
  | .hbm, ⟨19, _⟩ => ⟨S17664x8x1x128, .f32⟩
  | .hbm, ⟨20, _⟩ => ⟨S17664x8x2x128, .f32⟩
  | .hbm, ⟨21, _⟩ => ⟨S8x2x128x17664, .f32⟩
  | .hbm, ⟨22, _⟩ => ⟨S16x128x17664, .f32⟩
  | _, _ => ⟨S17664x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Kernel6.lean ====
abbrev S17664x11264 : Shape := ⟨2, ![17664, 11264]⟩
abbrev S1x64 : Shape := ⟨2, ![1, 64]⟩
abbrev S64 : Shape := ⟨1, ![64]⟩
abbrev S2x64 : Shape := ⟨2, ![2, 64]⟩
abbrev S128 : Shape := ⟨1, ![128]⟩
abbrev S1x128 : Shape := ⟨2, ![1, 128]⟩
abbrev S17664x1024 : Shape := ⟨2, ![17664, 1024]⟩
abbrev S768x1024 : Shape := ⟨2, ![768, 1024]⟩
abbrev S128x128 : Shape := ⟨2, ![128, 128]⟩
abbrev S768x128 : Shape := ⟨2, ![768, 128]⟩

abbrev nBuf : Space → Nat
  | .hbm => 17
  | .vmem => 16
  | .smem => 0
  | _ => 0

abbrev bufTy : (tb : Table) → Fin (tcTables nBuf tb) → BufTy
  | .hbm, ⟨0, _⟩ => ⟨S17664x11264, .f32⟩
  | .hbm, ⟨1, _⟩ => ⟨S1x64, .f32⟩
  | .hbm, ⟨2, _⟩ => ⟨S1x64, .f32⟩
  | .hbm, ⟨3, _⟩ => ⟨S64, .f32⟩
  | .hbm, ⟨4, _⟩ => ⟨S64, .f32⟩
  | .hbm, ⟨5, _⟩ => ⟨S1x64, .f32⟩
  | .hbm, ⟨6, _⟩ => ⟨S2x64, .f32⟩
  | .hbm, ⟨7, _⟩ => ⟨S128, .f32⟩
  | .hbm, ⟨8, _⟩ => ⟨S1x128, .f32⟩
  | .hbm, ⟨9, _⟩ => ⟨S1x64, .f32⟩
  | .hbm, ⟨10, _⟩ => ⟨S2x64, .f32⟩
  | .hbm, ⟨11, _⟩ => ⟨S128, .f32⟩
  | .hbm, ⟨12, _⟩ => ⟨S1x128, .f32⟩
  | .hbm, ⟨13, _⟩ => ⟨S17664x1024, .bf16⟩
  | .hbm, ⟨14, _⟩ => ⟨S17664x1024, .f32⟩
  | .hbm, ⟨15, _⟩ => ⟨S17664x1024, .bf16⟩
  | .hbm, ⟨16, _⟩ => ⟨S17664x1024, .bf16⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S1x128, .f32⟩
  | .local _ .vmem, ⟨7, _⟩ => ⟨S1x128, .f32⟩
  | .local _ .vmem, ⟨8, _⟩ => ⟨S768x1024, .bf16⟩
  | .local _ .vmem, ⟨9, _⟩ => ⟨S768x1024, .bf16⟩
  | .local _ .vmem, ⟨10, _⟩ => ⟨S768x1024, .f32⟩
  | .local _ .vmem, ⟨11, _⟩ => ⟨S768x1024, .f32⟩
  | .local _ .vmem, ⟨12, _⟩ => ⟨S768x1024, .bf16⟩
  | .local _ .vmem, ⟨13, _⟩ => ⟨S768x1024, .bf16⟩
  | .local _ .vmem, ⟨14, _⟩ => ⟨S768x1024, .bf16⟩
  | .local _ .vmem, ⟨15, _⟩ => ⟨S768x1024, .bf16⟩
  | _, _ => ⟨S17664x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev main_v10_2 : Ref sig .tc := ⟨.hbm, 15, rfl⟩
abbrev main_v10_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![23], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S768x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S768x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6.lean ====
abbrev S17664x11264 : Shape := ⟨2, ![17664, 11264]⟩
abbrev S1x64 : Shape := ⟨2, ![1, 64]⟩
abbrev S17664x1024 : Shape := ⟨2, ![17664, 1024]⟩
abbrev S17664x8x2x64 : Shape := ⟨4, ![17664, 8, 2, 64]⟩
abbrev S64 : Shape := ⟨1, ![64]⟩
abbrev S_ : Shape := ⟨0, ![]⟩
abbrev S17664x8x2 : Shape := ⟨3, ![17664, 8, 2]⟩
abbrev S17664x8x2x1 : Shape := ⟨4, ![17664, 8, 2, 1]⟩
abbrev S1x1x1x64 : Shape := ⟨4, ![1, 1, 1, 64]⟩

abbrev nBuf : Space → Nat
  | .hbm => 50
  | .vmem => 0
  | .smem => 0
  | _ => 0

abbrev bufTy : (tb : Table) → Fin (tcTables nBuf tb) → BufTy
  | .hbm, ⟨0, _⟩ => ⟨S17664x11264, .f32⟩
  | .hbm, ⟨1, _⟩ => ⟨S1x64, .f32⟩
  | .hbm, ⟨2, _⟩ => ⟨S1x64, .f32⟩
  | .hbm, ⟨3, _⟩ => ⟨S17664x1024, .f32⟩
  | .hbm, ⟨4, _⟩ => ⟨S17664x8x2x64, .f32⟩
  | .hbm, ⟨5, _⟩ => ⟨S64, .f32⟩
  | .hbm, ⟨6, _⟩ => ⟨S17664x8x2x64, .f32⟩
  | .hbm, ⟨7, _⟩ => ⟨S_, .f32⟩
  | .hbm, ⟨8, _⟩ => ⟨S17664x8x2, .f32⟩
  | .hbm, ⟨9, _⟩ => ⟨S17664x8x2x1, .f32⟩
  | .hbm, ⟨10, _⟩ => ⟨S_, .f32⟩
  | .hbm, ⟨11, _⟩ => ⟨S17664x8x2x1, .f32⟩
  | .hbm, ⟨12, _⟩ => ⟨S17664x8x2x1, .f32⟩
  | .hbm, ⟨13, _⟩ => ⟨S_, .f32⟩
  | .hbm, ⟨14, _⟩ => ⟨S17664x8x2x1, .f32⟩
  | .hbm, ⟨15, _⟩ => ⟨S17664x8x2x1, .f32⟩
  | .hbm, ⟨16, _⟩ => ⟨S17664x8x2x1, .f32⟩
  | .hbm, ⟨17, _⟩ => ⟨S17664x8x2x64, .f32⟩
  | .hbm, ⟨18, _⟩ => ⟨S17664x8x2x64, .f32⟩
  | .hbm, ⟨19, _⟩ => ⟨S1x1x1x64, .f32⟩
  | .hbm, ⟨20, _⟩ => ⟨S17664x8x2x64, .f32⟩
  | .hbm, ⟨21, _⟩ => ⟨S17664x8x2x64, .f32⟩
  | .hbm, ⟨22, _⟩ => ⟨S17664x1024, .f32⟩
  | .hbm, ⟨23, _⟩ => ⟨S17664x8x2x64, .f32⟩
  | .hbm, ⟨24, _⟩ => ⟨S64, .f32⟩
  | .hbm, ⟨25, _⟩ => ⟨S17664x8x2x64, .f32⟩
  | .hbm, ⟨26, _⟩ => ⟨S_, .f32⟩
  | .hbm, ⟨27, _⟩ => ⟨S17664x8x2, .f32⟩
  | .hbm, ⟨28, _⟩ => ⟨S17664x8x2x1, .f32⟩
  | .hbm, ⟨29, _⟩ => ⟨S_, .f32⟩
  | .hbm, ⟨30, _⟩ => ⟨S17664x8x2x1, .f32⟩
  | .hbm, ⟨31, _⟩ => ⟨S17664x8x2x1, .f32⟩
  | .hbm, ⟨32, _⟩ => ⟨S_, .f32⟩
  | .hbm, ⟨33, _⟩ => ⟨S17664x8x2x1, .f32⟩
  | .hbm, ⟨34, _⟩ => ⟨S17664x8x2x1, .f32⟩
  | .hbm, ⟨35, _⟩ => ⟨S17664x8x2x1, .f32⟩
  | .hbm, ⟨36, _⟩ => ⟨S17664x8x2x64, .f32⟩
  | .hbm, ⟨37, _⟩ => ⟨S17664x8x2x64, .f32⟩
  | .hbm, ⟨38, _⟩ => ⟨S1x1x1x64, .f32⟩
  | .hbm, ⟨39, _⟩ => ⟨S17664x8x2x64, .f32⟩
  | .hbm, ⟨40, _⟩ => ⟨S17664x8x2x64, .f32⟩
  | .hbm, ⟨41, _⟩ => ⟨S17664x1024, .f32⟩
  | .hbm, ⟨42, _⟩ => ⟨S17664x1024, .f32⟩
  | .hbm, ⟨43, _⟩ => ⟨S_, .f32⟩
  | .hbm, ⟨44, _⟩ => ⟨S17664x1024, .f32⟩
  | .hbm, ⟨45, _⟩ => ⟨S17664x1024, .f32⟩
  | .hbm, ⟨46, _⟩ => ⟨S17664x1024, .f32⟩
  | .hbm, ⟨47, _⟩ => ⟨S17664x1024, .bf16⟩
  | .hbm, ⟨48, _⟩ => ⟨S17664x1024, .bf16⟩
  | .hbm, ⟨49, _⟩ => ⟨S17664x1024, .bf16⟩
  | _, _ => ⟨S17664x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Kernel7.lean ====
abbrev S17664x2048 : Shape := ⟨2, ![17664, 2048]⟩
abbrev S128x17664x128 : Shape := ⟨3, ![128, 17664, 128]⟩
abbrev S1x16384x2048 : Shape := ⟨3, ![1, 16384, 2048]⟩
abbrev S16384x2048 : Shape := ⟨2, ![16384, 2048]⟩
abbrev S768x2048 : Shape := ⟨2, ![768, 2048]⟩
abbrev S512x2048 : Shape := ⟨2, ![512, 2048]⟩
abbrev S4x768x128 : Shape := ⟨3, ![4, 768, 128]⟩
abbrev S768x512 : Shape := ⟨2, ![768, 512]⟩
abbrev S768x128 : Shape := ⟨2, ![768, 128]⟩
abbrev S1x768x128 : Shape := ⟨3, ![1, 768, 128]⟩

abbrev nBuf : Space → Nat
  | .hbm => 10
  | .vmem => 12
  | .smem => 0
  | _ => 0

abbrev bufTy : (tb : Table) → Fin (tcTables nBuf tb) → BufTy
  | .hbm, ⟨0, _⟩ => ⟨S17664x2048, .bf16⟩
  | .hbm, ⟨1, _⟩ => ⟨S17664x2048, .f32⟩
  | .hbm, ⟨2, _⟩ => ⟨S128x17664x128, .bf16⟩
  | .hbm, ⟨3, _⟩ => ⟨S1x16384x2048, .f32⟩
  | .hbm, ⟨4, _⟩ => ⟨S1x16384x2048, .f32⟩
  | .hbm, ⟨5, _⟩ => ⟨S16384x2048, .f32⟩
  | .hbm, ⟨6, _⟩ => ⟨S16384x2048, .bf16⟩
  | .hbm, ⟨7, _⟩ => ⟨S16384x2048, .f32⟩
  | .hbm, ⟨8, _⟩ => ⟨S16384x2048, .bf16⟩
  | .hbm, ⟨9, _⟩ => ⟨S17664x2048, .f32⟩
  | .local _ .vmem, ⟨0, _⟩ => ⟨S768x2048, .bf16⟩
  | .local _ .vmem, ⟨1, _⟩ => ⟨S768x2048, .bf16⟩
  | .local _ .vmem, ⟨2, _⟩ => ⟨S768x2048, .f32⟩
  | .local _ .vmem, ⟨3, _⟩ => ⟨S768x2048, .f32⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S4x768x128, .bf16⟩
  | .local _ .vmem, ⟨9, _⟩ => ⟨S4x768x128, .bf16⟩
  | .local _ .vmem, ⟨10, _⟩ => ⟨S768x2048, .f32⟩
  | .local _ .vmem, ⟨11, _⟩ => ⟨S768x2048, .f32⟩
  | _, _ => ⟨S17664x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![23, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x768x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference7.lean ====
abbrev S17664x2048 : Shape := ⟨2, ![17664, 2048]⟩
abbrev S128x17664x128 : Shape := ⟨3, ![128, 17664, 128]⟩
abbrev S1x16384x2048 : Shape := ⟨3, ![1, 16384, 2048]⟩
abbrev S16384x2048 : Shape := ⟨2, ![16384, 2048]⟩
abbrev S17664x16384 : Shape := ⟨2, ![17664, 16384]⟩
abbrev S_ : Shape := ⟨0, ![]⟩
abbrev S17664x128x128 : Shape := ⟨3, ![17664, 128, 128]⟩

abbrev nBuf : Space → Nat
  | .hbm => 24
  | .vmem => 0
  | .smem => 0
  | _ => 0

abbrev bufTy : (tb : Table) → Fin (tcTables nBuf tb) → BufTy
  | .hbm, ⟨0, _⟩ => ⟨S17664x2048, .bf16⟩
  | .hbm, ⟨1, _⟩ => ⟨S17664x2048, .f32⟩
  | .hbm, ⟨2, _⟩ => ⟨S128x17664x128, .bf16⟩
  | .hbm, ⟨3, _⟩ => ⟨S1x16384x2048, .f32⟩
  | .hbm, ⟨4, _⟩ => ⟨S1x16384x2048, .f32⟩
  | .hbm, ⟨5, _⟩ => ⟨S17664x2048, .f32⟩
  | .hbm, ⟨6, _⟩ => ⟨S16384x2048, .f32⟩
  | .hbm, ⟨7, _⟩ => ⟨S17664x16384, .f32⟩
  | .hbm, ⟨8, _⟩ => ⟨S_, .f32⟩
  | .hbm, ⟨9, _⟩ => ⟨S17664x16384, .f32⟩
  | .hbm, ⟨10, _⟩ => ⟨S17664x16384, .f32⟩
  | .hbm, ⟨11, _⟩ => ⟨S17664x16384, .f32⟩
  | .hbm, ⟨12, _⟩ => ⟨S_, .f32⟩
  | .hbm, ⟨13, _⟩ => ⟨S17664x16384, .f32⟩
  | .hbm, ⟨14, _⟩ => ⟨S17664x16384, .f32⟩
  | .hbm, ⟨15, _⟩ => ⟨S17664x16384, .f32⟩
  | .hbm, ⟨16, _⟩ => ⟨S17664x16384, .f32⟩
  | .hbm, ⟨17, _⟩ => ⟨S17664x128x128, .bf16⟩
  | .hbm, ⟨18, _⟩ => ⟨S17664x16384, .bf16⟩
  | .hbm, ⟨19, _⟩ => ⟨S17664x16384, .f32⟩
  | .hbm, ⟨20, _⟩ => ⟨S17664x16384, .f32⟩
  | .hbm, ⟨21, _⟩ => ⟨S16384x2048, .f32⟩
  | .hbm, ⟨22, _⟩ => ⟨S17664x2048, .f32⟩
  | .hbm, ⟨23, _⟩ => ⟨S17664x2048, .f32⟩
  | _, _ => ⟨S17664x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel8.lean ====
abbrev S17664x11264 : Shape := ⟨2, ![17664, 11264]⟩
abbrev S2x1024 : Shape := ⟨2, ![2, 1024]⟩
abbrev S1x128 : Shape := ⟨2, ![1, 128]⟩
abbrev S1x32x8x128x128 : Shape := ⟨5, ![1, 32, 8, 128, 128]⟩
abbrev S128 : Shape := ⟨1, ![128]⟩
abbrev S32x8x128x128 : Shape := ⟨4, ![32, 8, 128, 128]⟩
abbrev S256x1024 : Shape := ⟨2, ![256, 1024]⟩
abbrev S2x128 : Shape := ⟨2, ![2, 128]⟩
abbrev S8x128 : Shape := ⟨2, ![8, 128]⟩
abbrev S1x1x128x128 : Shape := ⟨4, ![1, 1, 128, 128]⟩
abbrev S128x128 : Shape := ⟨2, ![128, 128]⟩
abbrev S64x128 : Shape := ⟨2, ![64, 128]⟩
abbrev S8 : Shape := ⟨1, ![8]⟩
abbrev S8x1 : Shape := ⟨2, ![8, 1]⟩

abbrev nBuf : Space → Nat
  | .hbm => 9
  | .vmem => 18
  | .smem => 0
  | _ => 0

abbrev bufTy : (tb : Table) → Fin (tcTables nBuf tb) → BufTy
  | .hbm, ⟨0, _⟩ => ⟨S17664x11264, .f32⟩
  | .hbm, ⟨1, _⟩ => ⟨S2x1024, .f32⟩
  | .hbm, ⟨2, _⟩ => ⟨S1x128, .f32⟩
  | .hbm, ⟨3, _⟩ => ⟨S1x32x8x128x128, .f32⟩
  | .hbm, ⟨4, _⟩ => ⟨S128, .f32⟩
  | .hbm, ⟨5, _⟩ => ⟨S32x8x128x128, .f32⟩
  | .hbm, ⟨6, _⟩ => ⟨S1x128, .f32⟩
  | .hbm, ⟨7, _⟩ => ⟨S256x1024, .f32⟩
  | .hbm, ⟨8, _⟩ => ⟨S32x8x128x128, .f32⟩
  | .local _ .vmem, ⟨0, _⟩ => ⟨S2x128, .f32⟩
  | .local _ .vmem, ⟨1, _⟩ => ⟨S2x128, .f32⟩
  | .local _ .vmem, ⟨2, _⟩ => ⟨S1x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S1x1x128x128, .f32⟩
  | .local _ .vmem, ⟨12, _⟩ => ⟨S1x1x128x128, .f32⟩
  | .local _ .vmem, ⟨13, _⟩ => ⟨S8x128, .f32⟩
  | .local _ .vmem, ⟨14, _⟩ => ⟨S8x128, .f32⟩
  | .local _ .vmem, ⟨15, _⟩ => ⟨S1x1x128x128, .f32⟩
  | .local _ .vmem, ⟨16, _⟩ => ⟨S1x1x128x128, .f32⟩
  | .local _ .vmem, ⟨17, _⟩ => ⟨S128x128, .f32⟩
  | _, _ => ⟨S17664x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 8], ![false, false]⟩

def k0_mult1 : BitVec 32 :=
  let c0_i32 : BitVec 32 := 0#32
  let c8_i32 : BitVec 32 := 8#32
  let v20 : BitVec 32 := Scalar.muli c0_i32 c8_i32
  v20
def k0_off1 : Fin 2 → Nat :=
  let c0_i32 : BitVec 32 := 0#32
  let c8_i32 : BitVec 32 := 8#32
  let v20 : BitVec 32 := Scalar.muli c0_i32 c8_i32
  let v21 : BitVec 32 := v20
  let v22 : Index := Scalar.indexCast v21
  let c0_11 : Index := 0#32
  ![v22.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2176_i32 : BitVec 32 := 2176#32
  let v0 : BitVec 32 := Scalar.addi c2176_i32 arg0
  let c0_i32 : BitVec 32 := 0#32
  let v1 : BitVec 32 := Scalar.addi c0_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c2176_i32 : BitVec 32 := 2176#32
  let v0 : BitVec 32 := Scalar.addi c2176_i32 arg0
  let c8_i32 : BitVec 32 := 8#32
  let v1 : BitVec 32 := Scalar.addi c8_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c2176_i32 : BitVec 32 := 2176#32
  let v0 : BitVec 32 := Scalar.addi c2176_i32 arg0
  let c16_i32 : BitVec 32 := 16#32
  let v1 : BitVec 32 := Scalar.addi c16_i32 arg1
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c2176_i32 : BitVec 32 := 2176#32
  let v0 : BitVec 32 := Scalar.addi c2176_i32 arg0
  let c24_i32 : BitVec 32 := 24#32
  let v1 : BitVec 32 := Scalar.addi c24_i32 arg1
  let c0_i32 : BitVec 32 := 0#32
  ![v0.toNat, v1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8.lean ====
abbrev S17664x11264 : Shape := ⟨2, ![17664, 11264]⟩
abbrev S2x1024 : Shape := ⟨2, ![2, 1024]⟩
abbrev S1x128 : Shape := ⟨2, ![1, 128]⟩
abbrev S1x32x8x128x128 : Shape := ⟨5, ![1, 32, 8, 128, 128]⟩
abbrev S_ : Shape := ⟨0, ![]⟩
abbrev S1024 : Shape := ⟨1, ![1024]⟩
abbrev S1x1024 : Shape := ⟨2, ![1, 1024]⟩
abbrev S256x11264 : Shape := ⟨2, ![256, 11264]⟩
abbrev S32x8x11264 : Shape := ⟨3, ![32, 8, 11264]⟩
abbrev S32x8x1024 : Shape := ⟨3, ![32, 8, 1024]⟩
abbrev S1x1x1024 : Shape := ⟨3, ![1, 1, 1024]⟩
abbrev S32x8x8x128 : Shape := ⟨4, ![32, 8, 8, 128]⟩
abbrev S32x8x128x128 : Shape := ⟨4, ![32, 8, 128, 128]⟩
abbrev S32x1x8x128 : Shape := ⟨4, ![32, 1, 8, 128]⟩
abbrev S32x8x128 : Shape := ⟨3, ![32, 8, 128]⟩
abbrev S32x8x128x1 : Shape := ⟨4, ![32, 8, 128, 1]⟩

abbrev nBuf : Space → Nat
  | .hbm => 67
  | .vmem => 0
  | .smem => 0
  | _ => 0

abbrev bufTy : (tb : Table) → Fin (tcTables nBuf tb) → BufTy
  | .hbm, ⟨0, _⟩ => ⟨S17664x11264, .f32⟩
  | .hbm, ⟨1, _⟩ => ⟨S2x1024, .f32⟩
  | .hbm, ⟨2, _⟩ => ⟨S1x128, .f32⟩
  | .hbm, ⟨3, _⟩ => ⟨S1x32x8x128x128, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S2x1024, .f32⟩
  | .hbm, ⟨17, _⟩ => ⟨S2x1024, .f32⟩
  | .hbm, ⟨18, _⟩ => ⟨S_, .f32⟩
  | .hbm, ⟨19, _⟩ => ⟨S_, .f32⟩
  | .hbm, ⟨20, _⟩ => ⟨S2x1024, .f32⟩
  | .hbm, ⟨21, _⟩ => ⟨S1x1024, .f32⟩
  | .hbm, ⟨22, _⟩ => ⟨S1024, .f32⟩
  | .hbm, ⟨23, _⟩ => ⟨S256x11264, .f32⟩
  | .hbm, ⟨24, _⟩ => ⟨S32x8x11264, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S32x8x1024, .f32⟩
  | .hbm, ⟨29, _⟩ => ⟨S32x8x1024, .f32⟩
  | .hbm, ⟨30, _⟩ => ⟨S32x8x1024, .f32⟩
  | .hbm, ⟨31, _⟩ => ⟨S_, .f32⟩
  | .hbm, ⟨32, _⟩ => ⟨S32x8x1024, .f32⟩
  | .hbm, ⟨33, _⟩ => ⟨S32x8x1024, .f32⟩
  | .hbm, ⟨34, _⟩ => ⟨S_, .f32⟩
  | .hbm, ⟨35, _⟩ => ⟨S32x8x1024, .f32⟩
  | .hbm, ⟨36, _⟩ => ⟨S32x8x1024, .f32⟩
  | .hbm, ⟨37, _⟩ => ⟨S1x1x1024, .f32⟩
  | .hbm, ⟨38, _⟩ => ⟨S32x8x1024, .f32⟩
  | .hbm, ⟨39, _⟩ => ⟨S32x8x1024, .f32⟩
  | .hbm, ⟨40, _⟩ => ⟨S1x1x1024, .f32⟩
  | .hbm, ⟨41, _⟩ => ⟨S32x8x1024, .f32⟩
  | .hbm, ⟨42, _⟩ => ⟨S32x8x1024, .f32⟩
  | .hbm, ⟨43, _⟩ => ⟨S32x8x8x128, .f32⟩
  | .hbm, ⟨44, _⟩ => ⟨S_, .f32⟩
  | .hbm, ⟨45, _⟩ => ⟨S32x8x8x128, .f32⟩
  | .hbm, ⟨46, _⟩ => ⟨S32x8x8x128, .f32⟩
  | .hbm, ⟨47, _⟩ => ⟨S32x8x1024, .f32⟩
  | .hbm, ⟨48, _⟩ => ⟨S32x8x8x128, .f32⟩
  | .hbm, ⟨49, _⟩ => ⟨S32x8x128x128, .f32⟩
  | .hbm, ⟨50, _⟩ => ⟨S32x8x8x128, .f32⟩
  | .hbm, ⟨51, _⟩ => ⟨S_, .f32⟩
  | .hbm, ⟨52, _⟩ => ⟨S_, .f32⟩
  | .hbm, ⟨53, _⟩ => ⟨S32x8x8x128, .f32⟩
  | .hbm, ⟨54, _⟩ => ⟨S32x1x8x128, .f32⟩
  | .hbm, ⟨55, _⟩ => ⟨S32x8x128, .f32⟩
  | .hbm, ⟨56, _⟩ => ⟨S32x8x128, .f32⟩
  | .hbm, ⟨57, _⟩ => ⟨S32x8x128x1, .f32⟩
  | .hbm, ⟨58, _⟩ => ⟨S32x8x128x128, .f32⟩
  | .hbm, ⟨59, _⟩ => ⟨S32x8x128x128, .f32⟩
  | .hbm, ⟨60, _⟩ => ⟨S32x1x8x128, .f32⟩
  | .hbm, ⟨61, _⟩ => ⟨S32x8x8x128, .f32⟩
  | .hbm, ⟨62, _⟩ => ⟨S32x8x8x128, .f32⟩
  | .hbm, ⟨63, _⟩ => ⟨S32x8x8x128, .f32⟩
  | .hbm, ⟨64, _⟩ => ⟨S32x8x8x128, .f32⟩
  | .hbm, ⟨65, _⟩ => ⟨S32x8x128x128, .f32⟩
  | .hbm, ⟨66, _⟩ => ⟨S32x8x128x128, .f32⟩
  | _, _ => ⟨S17664x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_call1_call0_cst : Ref sig .tc := ⟨.hbm, 51, rfl⟩
abbrev main_call1_call0_v0 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Kernel9.lean ====
abbrev S8x2064x11264 : Shape := ⟨3, ![8, 2064, 11264]⟩
abbrev S2x1024 : Shape := ⟨2, ![2, 1024]⟩
abbrev S1x128 : Shape := ⟨2, ![1, 128]⟩
abbrev S_ : Shape := ⟨0, ![]⟩
abbrev S8x2176x11264 : Shape := ⟨3, ![8, 2176, 11264]⟩
abbrev S17408x11264 : Shape := ⟨2, ![17408, 11264]⟩
abbrev S17664x11264 : Shape := ⟨2, ![17664, 11264]⟩
abbrev S128 : Shape := ⟨1, ![128]⟩
abbrev S8x8x128x128 : Shape := ⟨4, ![8, 8, 128, 128]⟩
abbrev S17408x1024 : Shape := ⟨2, ![17408, 1024]⟩
abbrev S2x128 : Shape := ⟨2, ![2, 128]⟩
abbrev S2176x128 : Shape := ⟨2, ![2176, 128]⟩
abbrev S1x1x128x128 : Shape := ⟨4, ![1, 1, 128, 128]⟩
abbrev S128x128 : Shape := ⟨2, ![128, 128]⟩
abbrev S16x128 : Shape := ⟨2, ![16, 128]⟩
abbrev S256x128 : Shape := ⟨2, ![256, 128]⟩
abbrev S16 : Shape := ⟨1, ![16]⟩
abbrev S16x1 : Shape := ⟨2, ![16, 1]⟩

abbrev nBuf : Space → Nat
  | .hbm => 16
  | .vmem => 18
  | .smem => 0
  | _ => 0

abbrev bufTy : (tb : Table) → Fin (tcTables nBuf tb) → BufTy
  | .hbm, ⟨0, _⟩ => ⟨S8x2064x11264, .f32⟩
  | .hbm, ⟨1, _⟩ => ⟨S2x1024, .f32⟩
  | .hbm, ⟨2, _⟩ => ⟨S1x128, .f32⟩
  | .hbm, ⟨3, _⟩ => ⟨S_, .i32⟩
  | .hbm, ⟨4, _⟩ => ⟨S_, .f32⟩
  | .hbm, ⟨5, _⟩ => ⟨S8x2176x11264, .f32⟩
  | .hbm, ⟨6, _⟩ => ⟨S17408x11264, .f32⟩
  | .hbm, ⟨7, _⟩ => ⟨S_, .i32⟩
  | .hbm, ⟨8, _⟩ => ⟨S_, .f32⟩
  | .hbm, ⟨9, _⟩ => ⟨S17664x11264, .f32⟩
  | .hbm, ⟨10, _⟩ => ⟨S128, .f32⟩
  | .hbm, ⟨11, _⟩ => ⟨S_, .f32⟩
  | .hbm, ⟨12, _⟩ => ⟨S8x8x128x128, .f32⟩
  | .hbm, ⟨13, _⟩ => ⟨S1x128, .f32⟩
  | .hbm, ⟨14, _⟩ => ⟨S17408x1024, .f32⟩
  | .hbm, ⟨15, _⟩ => ⟨S8x8x128x128, .f32⟩
  | .local _ .vmem, ⟨0, _⟩ => ⟨S2x128, .f32⟩
  | .local _ .vmem, ⟨1, _⟩ => ⟨S2x128, .f32⟩
  | .local _ .vmem, ⟨2, _⟩ => ⟨S1x128, .f32⟩
  | .local _ .vmem, ⟨3, _⟩ => ⟨S2176x128, .f32⟩
  | .local _ .vmem, ⟨4, _⟩ => ⟨S2176x128, .f32⟩
  | .local _ .vmem, ⟨5, _⟩ => ⟨S2176x128, .f32⟩
  | .local _ .vmem, ⟨6, _⟩ => ⟨S2176x128, .f32⟩
  | .local _ .vmem, ⟨7, _⟩ => ⟨S2176x128, .f32⟩
  | .local _ .vmem, ⟨8, _⟩ => ⟨S2176x128, .f32⟩
  | .local _ .vmem, ⟨9, _⟩ => ⟨S2176x128, .f32⟩
  | .local _ .vmem, ⟨10, _⟩ => ⟨S2176x128, .f32⟩
  | .local _ .vmem, ⟨11, _⟩ => ⟨S1x1x128x128, .f32⟩
  | .local _ .vmem, ⟨12, _⟩ => ⟨S1x1x128x128, .f32⟩
  | .local _ .vmem, ⟨13, _⟩ => ⟨S2176x128, .f32⟩
  | .local _ .vmem, ⟨14, _⟩ => ⟨S2176x128, .f32⟩
  | .local _ .vmem, ⟨15, _⟩ => ⟨S1x1x128x128, .f32⟩
  | .local _ .vmem, ⟨16, _⟩ => ⟨S1x1x128x128, .f32⟩
  | .local _ .vmem, ⟨17, _⟩ => ⟨S128x128, .f32⟩
  | _, _ => ⟨S8x2064x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c136_i32 : BitVec 32 := 136#32
  let v20 : BitVec 32 := Scalar.addi c0_i32 c136_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c16_i32 : BitVec 32 := 16#32
  let v26 : BitVec 32 := Scalar.muli arg12 c16_i32
  v26
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c16_i32 : BitVec 32 := 16#32
  let v26 : BitVec 32 := Scalar.muli arg12 c16_i32
  let v27 : BitVec 32 := v26
  let v28 : Index := Scalar.indexCast v27
  let c0_18 : Index := 0#32
  ![v28.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c16_i32 : BitVec 32 := 16#32
  let v1 : BitVec 32 := Scalar.addi c16_i32 arg1
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c24_i32 : BitVec 32 := 24#32
  let v1 : BitVec 32 := Scalar.addi c24_i32 arg1
  let c0_i32_0 : BitVec 32 := 0#32
  ![v0.toNat, v1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2176x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2176x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2176x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference9.lean ====
abbrev S8x2064x11264 : Shape := ⟨3, ![8, 2064, 11264]⟩
abbrev S2x1024 : Shape := ⟨2, ![2, 1024]⟩
abbrev S1x128 : Shape := ⟨2, ![1, 128]⟩
abbrev S_ : Shape := ⟨0, ![]⟩
abbrev S1024 : Shape := ⟨1, ![1024]⟩
abbrev S1x1024 : Shape := ⟨2, ![1, 1024]⟩
abbrev S8x2064x1024 : Shape := ⟨3, ![8, 2064, 1024]⟩
abbrev S1x1x1024 : Shape := ⟨3, ![1, 1, 1024]⟩
abbrev S8x2064x8x128 : Shape := ⟨4, ![8, 2064, 8, 128]⟩
abbrev S8x1x8x128 : Shape := ⟨4, ![8, 1, 8, 128]⟩
abbrev S8x8x128 : Shape := ⟨3, ![8, 8, 128]⟩
abbrev S8x8x128x128 : Shape := ⟨4, ![8, 8, 128, 128]⟩

abbrev nBuf : Space → Nat
  | .hbm => 58
  | .vmem => 0
  | .smem => 0
  | _ => 0

abbrev bufTy : (tb : Table) → Fin (tcTables nBuf tb) → BufTy
  | .hbm, ⟨0, _⟩ => ⟨S8x2064x11264, .f32⟩
  | .hbm, ⟨1, _⟩ => ⟨S2x1024, .f32⟩
  | .hbm, ⟨2, _⟩ => ⟨S1x128, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S2x1024, .f32⟩
  | .hbm, ⟨16, _⟩ => ⟨S2x1024, .f32⟩
  | .hbm, ⟨17, _⟩ => ⟨S_, .f32⟩
  | .hbm, ⟨18, _⟩ => ⟨S_, .f32⟩
  | .hbm, ⟨19, _⟩ => ⟨S2x1024, .f32⟩
  | .hbm, ⟨20, _⟩ => ⟨S1x1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S8x2064x1024, .f32⟩
  | .hbm, ⟨26, _⟩ => ⟨S8x2064x1024, .f32⟩
  | .hbm, ⟨27, _⟩ => ⟨S8x2064x1024, .f32⟩
  | .hbm, ⟨28, _⟩ => ⟨S_, .f32⟩
  | .hbm, ⟨29, _⟩ => ⟨S8x2064x1024, .f32⟩
  | .hbm, ⟨30, _⟩ => ⟨S8x2064x1024, .f32⟩
  | .hbm, ⟨31, _⟩ => ⟨S_, .f32⟩
  | .hbm, ⟨32, _⟩ => ⟨S8x2064x1024, .f32⟩
  | .hbm, ⟨33, _⟩ => ⟨S8x2064x1024, .f32⟩
  | .hbm, ⟨34, _⟩ => ⟨S1x1x1024, .f32⟩
  | .hbm, ⟨35, _⟩ => ⟨S8x2064x1024, .f32⟩
  | .hbm, ⟨36, _⟩ => ⟨S8x2064x1024, .f32⟩
  | .hbm, ⟨37, _⟩ => ⟨S1x1x1024, .f32⟩
  | .hbm, ⟨38, _⟩ => ⟨S8x2064x1024, .f32⟩
  | .hbm, ⟨39, _⟩ => ⟨S8x2064x1024, .f32⟩
  | .hbm, ⟨40, _⟩ => ⟨S8x2064x8x128, .f32⟩
  | .hbm, ⟨41, _⟩ => ⟨S_, .f32⟩
  | .hbm, ⟨42, _⟩ => ⟨S8x2064x8x128, .f32⟩
  | .hbm, ⟨43, _⟩ => ⟨S8x2064x8x128, .f32⟩
  | .hbm, ⟨44, _⟩ => ⟨S8x2064x1024, .f32⟩
  | .hbm, ⟨45, _⟩ => ⟨S8x2064x8x128, .f32⟩
  | .hbm, ⟨46, _⟩ => ⟨S8x2064x8x128, .f32⟩
  | .hbm, ⟨47, _⟩ => ⟨S_, .f32⟩
  | .hbm, ⟨48, _⟩ => ⟨S_, .f32⟩
  | .hbm, ⟨49, _⟩ => ⟨S8x2064x8x128, .f32⟩
  | .hbm, ⟨50, _⟩ => ⟨S8x1x8x128, .f32⟩
  | .hbm, ⟨51, _⟩ => ⟨S8x8x128, .f32⟩
  | .hbm, ⟨52, _⟩ => ⟨S8x1x8x128, .f32⟩
  | .hbm, ⟨53, _⟩ => ⟨S8x2064x8x128, .f32⟩
  | .hbm, ⟨54, _⟩ => ⟨S8x2064x8x128, .f32⟩
  | .hbm, ⟨55, _⟩ => ⟨S8x2064x8x128, .f32⟩
  | .hbm, ⟨56, _⟩ => ⟨S8x2064x8x128, .f32⟩
  | .hbm, ⟨57, _⟩ => ⟨S8x8x128x128, .f32⟩
  | _, _ => ⟨S8x2064x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call1_call0_cst : Ref sig .tc := ⟨.hbm, 47, rfl⟩
abbrev main_call1_call0_v0 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Proof.Attn.Conditions.lean ====
/- KernelIdeal: the conditions that the body of `attn_prompt` tests, at each of the 136 grid points. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

/-- The condition of the kernel's `pl.when`: both grid coordinates are zero. -/
abbrev first (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- The bias tables are written at the first point only. -/
theorem first_iff : ∀ t : Fin cfg0.N, first (grid0.coords t) ↔ t.val = 0 :=
  (by decide +kernel : ∀ t : Fin grid0.N, first (grid0.coords t) ↔ t.val = 0)

/-- The condition of the kernel's `lax.cond`: there is a tile before the diagonal one. -/
theorem near_iff : ∀ t : Fin cfg0.N, k0_cond2 (grid0.coords t) = 1#1 ↔ 1 ≤ t.val % 17 :=
  (by decide +kernel : ∀ t : Fin grid0.N, k0_cond2 (grid0.coords t) = 1#1 ↔ 1 ≤ t.val % 17)

end Cert.KernelIdeal.Body

end
-- ==== Proof.Attn.RunFirst.lean ====
/- KernelIdeal: the body of `attn_prompt` run at the first grid point, where it writes the bias tables. -/
module

public import proofs.«01_k».proof.Proof.Attn.Conditions

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (arg2 : Memref sig .tc .smem S32x8 .f32) (harg2 : arg2.IsWhole) (arg3 : Memref sig .tc .vmem S4x64 .f32) (harg3 : arg3.IsWhole)
  (arg4 : Memref sig .tc .vmem S1x128 .f32) (harg4 : arg4.IsWhole) (arg5 : Memref sig .tc .vmem S128x1024 .bf16) (harg5 : arg5.IsWhole)
  (arg6 : Memref sig .tc .vmem S2176x1024 .bf16) (harg6 : arg6.IsWhole) (arg7 : Memref sig .tc .vmem S2176x1024 .bf16) (harg7 : arg7.IsWhole)
  (arg8 : Memref sig .tc .vmem S128x1024 .f32) (harg8 : arg8.IsWhole) (arg9 : Memref sig .tc .vmem S2x8x256x128 .f32) (harg9 : arg9.IsWhole)
  (x0 : Vec F S32x8 .f32) (x1 : Vec F S4x64 .f32) (x2 : Vec F S1x128 .f32) (x3 : Vec F S128x1024 .bf16) (x4 x5 : Vec F S2176x1024 .bf16)

-- the proof term of the run is large: its definition walks it past the default budget
set_option maxHeartbeats 4800000 in
/-- The body at the first point: what its stores leave in the output's buffer and in the bias tables, as pieces (last first), with the proof that
    it runs from the inputs' buffers, and anything in the other two, to the inputs as they were and the other two with these pieces written. -/
noncomputable def runFirst (start : first i) (near : ¬k0_cond2 i = 1#1) :
    Σ' (out : List (View.Piece (Elt F) S128x1024 .f32)), { tab : List (View.Piece (Elt F) S2x8x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f out)
                ∗ (∃ f, arg9.view.loc (c : Thread nD τ) ↦[arg9.view.set]{fullShare} arg9.view.writes (Elt F) f tab)) -∗ K ⟨⟩))
          ⊢ wp frame (wpE (defs₀ (F := F)) Variants.none c none) E
              (cc0_attn_prompt i arg2 harg2 arg3 harg3 arg4 harg4 arg5 harg5 arg6 harg6 arg7 harg7 arg8 harg8 arg9 harg9) K } := by
  refine ⟨?_, ?_, fun E K => ?run⟩
  case run =>
    have c3 : ¬k0_cond3 i = 1#1 := near
    have c4 : ¬k0_cond4 i = 1#1 := near
    have c5 : ¬k0_cond5 i = 1#1 := near
    have c6 : ¬k0_cond6 i = 1#1 := near
    have c7 : ¬k0_cond7 i = 1#1 := near
    have c8 : ¬k0_cond8 i = 1#1 := near
    have c9 : ¬k0_cond9 i = 1#1 := near
    simp only [cc0_attn_prompt_eq_skeleton]; unfold cc0_attn_prompt_skel
    simp only [
      k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton, k0_part12_eq_skeleton,
      k0_part13_eq_skeleton, k0_part14_eq_skeleton, k0_part15_eq_skeleton, k0_part16_eq_skeleton, k0_part17_eq_skeleton, k0_part18_eq_skeleton,
      k0_part19_eq_skeleton, k0_part20_eq_skeleton, k0_part21_eq_skeleton, k0_part22_eq_skeleton, k0_part23_eq_skeleton, k0_part24_eq_skeleton,
      k0_part25_eq_skeleton, k0_part26_eq_skeleton, k0_part27_eq_skeleton, k0_part28_eq_skeleton, k0_part29_eq_skeleton, k0_part30_eq_skeleton,
      k0_part31_eq_skeleton, k0_part32_eq_skeleton, k0_part33_eq_skeleton, k0_part34_eq_skeleton, k0_part35_eq_skeleton, k0_part36_eq_skeleton,
      k0_part37_eq_skeleton, k0_part38_eq_skeleton, k0_part39_eq_skeleton, k0_part40_eq_skeleton, k0_part41_eq_skeleton, k0_part42_eq_skeleton,
      k0_part43_eq_skeleton, k0_part44_eq_skeleton, k0_part45_eq_skeleton, k0_part46_eq_skeleton, k0_part47_eq_skeleton, k0_part48_eq_skeleton,
      k0_part49_eq_skeleton, k0_part50_eq_skeleton, k0_part51_eq_skeleton, k0_part52_eq_skeleton, k0_part53_eq_skeleton, k0_part54_eq_skeleton,
      k0_part55_eq_skeleton, k0_part56_eq_skeleton, k0_part57_eq_skeleton, k0_part58_eq_skeleton, k0_part59_eq_skeleton, k0_part60_eq_skeleton,
      k0_part61_eq_skeleton, k0_part62_eq_skeleton, k0_part63_eq_skeleton, k0_part64_eq_skeleton, k0_part65_eq_skeleton, k0_part66_eq_skeleton,
      k0_part67_eq_skeleton, k0_part68_eq_skeleton, k0_part69_eq_skeleton, k0_part70_eq_skeleton, k0_part71_eq_skeleton, k0_part72_eq_skeleton,
      k0_part73_eq_skeleton, k0_part74_eq_skeleton, k0_part75_eq_skeleton, k0_part76_eq_skeleton, k0_part77_eq_skeleton, k0_part78_eq_skeleton,
      k0_part79_eq_skeleton, k0_part80_eq_skeleton, k0_part81_eq_skeleton, k0_part82_eq_skeleton, k0_part83_eq_skeleton, k0_part84_eq_skeleton,
      k0_part85_eq_skeleton, k0_part86_eq_skeleton, k0_part87_eq_skeleton, k0_part88_eq_skeleton, k0_part89_eq_skeleton, k0_part90_eq_skeleton,
      k0_part91_eq_skeleton, k0_part92_eq_skeleton, k0_part93_eq_skeleton, k0_part94_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | sl_exact start | sl_exact near | sl_exact c3 | sl_exact c4 | sl_exact c5 | sl_exact c6 | sl_exact c7 | sl_exact c8 | sl_exact c9)
    sl_step
    iapply Hk
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    isplitl [H5]; · iexists _; isplitr; · ipureintro; exact harg7.read_unread _
                    iexact H5
    isplitl [H6]; · iexists _; iexact H6
    iexists _; iexact HS

end Cert.KernelIdeal.Body

end
-- ==== Proof.Attn.RunNear.lean ====
/- KernelIdeal: the body of `attn_prompt` run at a grid point with a tile before the diagonal one: every `lax.cond` takes its step. -/
module

public import proofs.«01_k».proof.Proof.Attn.RunFirst

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (arg2 : Memref sig .tc .smem S32x8 .f32) (harg2 : arg2.IsWhole) (arg3 : Memref sig .tc .vmem S4x64 .f32) (harg3 : arg3.IsWhole)
  (arg4 : Memref sig .tc .vmem S1x128 .f32) (harg4 : arg4.IsWhole) (arg5 : Memref sig .tc .vmem S128x1024 .bf16) (harg5 : arg5.IsWhole)
  (arg6 : Memref sig .tc .vmem S2176x1024 .bf16) (harg6 : arg6.IsWhole) (arg7 : Memref sig .tc .vmem S2176x1024 .bf16) (harg7 : arg7.IsWhole)
  (arg8 : Memref sig .tc .vmem S128x1024 .f32) (harg8 : arg8.IsWhole) (arg9 : Memref sig .tc .vmem S2x8x256x128 .f32) (harg9 : arg9.IsWhole)
  (x0 : Vec F S32x8 .f32) (x1 : Vec F S4x64 .f32) (x2 : Vec F S1x128 .f32) (x3 : Vec F S128x1024 .bf16) (x4 x5 : Vec F S2176x1024 .bf16)

-- the proof term of the run is large: its definition walks it past the default budget
set_option maxHeartbeats 4800000 in
/-- The body at a point where every `lax.cond` takes its step, from the bias tables that an earlier point left: the pieces it writes into the
    output's buffer, with the proof that it runs and leaves everything else as it was. -/
noncomputable def runNear (start : ¬first i) (near : k0_cond2 i = 1#1)
    (c3 : k0_cond3 i = 1#1) (c4 : k0_cond4 i = 1#1) (c5 : k0_cond5 i = 1#1) (c6 : k0_cond6 i = 1#1) (c7 : k0_cond7 i = 1#1) (c8 : k0_cond8 i = 1#1) (c9 : k0_cond9 i = 1#1) (bias : Vec F S2x8x256x128 .f32) :
    { out : List (View.Piece (Elt F) S128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare bias
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f out)
                ∗ owns (c : Thread nD τ) arg9 fullShare bias) -∗ K ⟨⟩))
          ⊢ wp frame (wpE (defs₀ (F := F)) Variants.none c none) E
              (cc0_attn_prompt i arg2 harg2 arg3 harg3 arg4 harg4 arg5 harg5 arg6 harg6 arg7 harg7 arg8 harg8 arg9 harg9) K } := by
  refine ⟨?_, fun E K => ?run⟩
  case run =>
    simp only [cc0_attn_prompt_eq_skeleton]; unfold cc0_attn_prompt_skel
    simp only [
      k0_part77_eq_skeleton, k0_part78_eq_skeleton, k0_part79_eq_skeleton, k0_part80_eq_skeleton, k0_part81_eq_skeleton, k0_part82_eq_skeleton,
      k0_part83_eq_skeleton, k0_part84_eq_skeleton, k0_part85_eq_skeleton, k0_part86_eq_skeleton, k0_part87_eq_skeleton, k0_part88_eq_skeleton,
      k0_part89_eq_skeleton, k0_part90_eq_skeleton, k0_part91_eq_skeleton, k0_part92_eq_skeleton, k0_part93_eq_skeleton, k0_part94_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg9.eq_unread hfs
    sl_exec (disch := first | sl_exact start | sl_exact near | sl_exact c3 | sl_exact c4 | sl_exact c5 | sl_exact c6 | sl_exact c7 | sl_exact c8 | sl_exact c9)
    sl_step
    iapply Hk
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    isplitl [H5]; · iexists _; isplitr; · ipureintro; exact harg7.read_unread _
                    iexact H5
    isplitl [H6]; · iexists _; iexact H6
    iexists _; isplitr; · ipureintro; exact harg9.read_unread _
    iexact HS

end Cert.KernelIdeal.Body

end
-- ==== Proof.Attn.RunDiag.lean ====
/- KernelIdeal: the body of `attn_prompt` run at a grid point, not the first, whose only tile is the diagonal one: every `lax.cond` returns its carry. -/
module

public import proofs.«01_k».proof.Proof.Attn.RunNear

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (arg2 : Memref sig .tc .smem S32x8 .f32) (harg2 : arg2.IsWhole) (arg3 : Memref sig .tc .vmem S4x64 .f32) (harg3 : arg3.IsWhole)
  (arg4 : Memref sig .tc .vmem S1x128 .f32) (harg4 : arg4.IsWhole) (arg5 : Memref sig .tc .vmem S128x1024 .bf16) (harg5 : arg5.IsWhole)
  (arg6 : Memref sig .tc .vmem S2176x1024 .bf16) (harg6 : arg6.IsWhole) (arg7 : Memref sig .tc .vmem S2176x1024 .bf16) (harg7 : arg7.IsWhole)
  (arg8 : Memref sig .tc .vmem S128x1024 .f32) (harg8 : arg8.IsWhole) (arg9 : Memref sig .tc .vmem S2x8x256x128 .f32) (harg9 : arg9.IsWhole)
  (x0 : Vec F S32x8 .f32) (x1 : Vec F S4x64 .f32) (x2 : Vec F S1x128 .f32) (x3 : Vec F S128x1024 .bf16) (x4 x5 : Vec F S2176x1024 .bf16)

-- the proof term of the run is large: its definition walks it past the default budget
set_option maxHeartbeats 4800000 in
/-- The body at a point where every `lax.cond` returns its carry, from the bias tables that an earlier point left: the pieces it writes into the
    output's buffer, with the proof that it runs and leaves everything else as it was. -/
noncomputable def runDiag (start : ¬first i) (near : ¬k0_cond2 i = 1#1)
    (c3 : ¬k0_cond3 i = 1#1) (c4 : ¬k0_cond4 i = 1#1) (c5 : ¬k0_cond5 i = 1#1) (c6 : ¬k0_cond6 i = 1#1) (c7 : ¬k0_cond7 i = 1#1) (c8 : ¬k0_cond8 i = 1#1) (c9 : ¬k0_cond9 i = 1#1) (bias : Vec F S2x8x256x128 .f32) :
    { out : List (View.Piece (Elt F) S128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare bias
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f out)
                ∗ owns (c : Thread nD τ) arg9 fullShare bias) -∗ K ⟨⟩))
          ⊢ wp frame (wpE (defs₀ (F := F)) Variants.none c none) E
              (cc0_attn_prompt i arg2 harg2 arg3 harg3 arg4 harg4 arg5 harg5 arg6 harg6 arg7 harg7 arg8 harg8 arg9 harg9) K } := by
  refine ⟨?_, fun E K => ?run⟩
  case run =>
    simp only [cc0_attn_prompt_eq_skeleton]; unfold cc0_attn_prompt_skel
    simp only [
      k0_part77_eq_skeleton, k0_part78_eq_skeleton, k0_part79_eq_skeleton, k0_part80_eq_skeleton, k0_part81_eq_skeleton, k0_part82_eq_skeleton,
      k0_part83_eq_skeleton, k0_part84_eq_skeleton, k0_part85_eq_skeleton, k0_part86_eq_skeleton, k0_part87_eq_skeleton, k0_part88_eq_skeleton,
      k0_part89_eq_skeleton, k0_part90_eq_skeleton, k0_part91_eq_skeleton, k0_part92_eq_skeleton, k0_part93_eq_skeleton, k0_part94_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg9.eq_unread hfs
    sl_exec (disch := first | sl_exact start | sl_exact near | sl_exact c3 | sl_exact c4 | sl_exact c5 | sl_exact c6 | sl_exact c7 | sl_exact c8 | sl_exact c9)
    sl_step
    iapply Hk
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    isplitl [H5]; · iexists _; isplitr; · ipureintro; exact harg7.read_unread _
                    iexact H5
    isplitl [H6]; · iexists _; iexact H6
    iexists _; isplitr; · ipureintro; exact harg9.read_unread _
    iexact HS

end Cert.KernelIdeal.Body

end
-- ==== Proof.Attn.Launch.lean ====
/- KernelIdeal: the launch of `attn_prompt`. What each grid point leaves in the output's buffer and what the bias tables hold, the body's
   obligation at every point, the run of the program and its frame. -/
module

public import proofs.«01_k».proof.Proof.Attn.RunDiag

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Each window's staging buffer at a point, and that it is a whole buffer. -/
abbrev ms0_0 (t : Fin cfg0.N) : Memref sig .tc .smem S32x8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2176x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2176x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1024 .f32 := win0_6.stage (cfg0.slots t 6)
abbrev hs0_6 (t : Fin cfg0.N) : (ms0_6 t).IsWhole := hstage0_6 ((cfg0.slots t 6).cast nbuf0_6)
/-- The first grid point. -/
abbrev t0_0 : Fin cfg0.N := ⟨0, by rw [show cfg0.N = 136 from N_0]; decide⟩

/-- The buffer of the bias tables. -/
abbrev scratch : Memref sig .tc .vmem S2x8x256x128 .f32 := Memref.whole cc0_scratch0

/-- The body's run at the first point, on that point's blocks. -/
abbrev atFirst (c : Dev nD) (t : Fin cfg0.N) (start : first (grid0.coords t)) (near : ¬k0_cond2 (grid0.coords t) = 1#1) :=
  runFirst c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scratch (Memref.isWhole_whole _)
    (iblk m c 0 t) (iblk m c 1 t) (iblk m c 2 t) (iblk m c 3 t) (X0_4 m c t) (X0_5 m c t) start near

/-- The body's run at a point whose `lax.cond`s take their step, on that point's blocks and the bias tables `bias`. -/
abbrev atNear (c : Dev nD) (t : Fin cfg0.N) (start : ¬first (grid0.coords t)) (near : k0_cond2 (grid0.coords t) = 1#1)
    (bias : Vec F S2x8x256x128 .f32) :=
  runNear c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scratch (Memref.isWhole_whole _)
    (iblk m c 0 t) (iblk m c 1 t) (iblk m c 2 t) (iblk m c 3 t) (X0_4 m c t) (X0_5 m c t) start near near near near near near near near bias

/-- The body's run at a point whose only tile is the diagonal one, on that point's blocks and the bias tables `bias`. -/
abbrev atDiag (c : Dev nD) (t : Fin cfg0.N) (start : ¬first (grid0.coords t)) (near : ¬k0_cond2 (grid0.coords t) = 1#1)
    (bias : Vec F S2x8x256x128 .f32) :=
  runDiag c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scratch (Memref.isWhole_whole _)
    (iblk m c 0 t) (iblk m c 1 t) (iblk m c 2 t) (iblk m c 3 t) (X0_4 m c t) (X0_5 m c t) start near near near near near near near near bias

/-- Pieces of the output's block read back as the block. -/
abbrev asBlock (L : List (View.Piece (Elt F) S128x1024 .f32)) : Vec F S128x1024 .f32 :=
  (Memref.whole cc0_stg6_0 : Memref sig .tc .vmem S128x1024 .f32).view.read (Elt F)
    ((Memref.whole cc0_stg6_0 : Memref sig .tc .vmem S128x1024 .f32).view.writes (Elt F) (Memref.whole cc0_stg6_0 : Memref sig .tc .vmem S128x1024 .f32).view.junk L)

/-- The eight stores of a point, one per head, cover the output's block. -/
theorem atFirst_out (c : Dev nD) (t : Fin cfg0.N) (s n) (y : S128x1024.Idx) : ∃ p ∈ (atFirst m c t s n).1, y ∈ p.1.set :=
  View.cover_of_tiledL (atFirst m c t s n).1 S128x128.size (by sl_kernel_rfl) y
theorem atNear_out (c : Dev nD) (t : Fin cfg0.N) (s n b) (y : S128x1024.Idx) : ∃ p ∈ (atNear m c t s n b).1, y ∈ p.1.set :=
  View.cover_of_tiledL (atNear m c t s n b).1 S128x128.size (by sl_kernel_rfl) y
theorem atDiag_out (c : Dev nD) (t : Fin cfg0.N) (s n b) (y : S128x1024.Idx) : ∃ p ∈ (atDiag m c t s n b).1, y ∈ p.1.set :=
  View.cover_of_tiledL (atDiag m c t s n b).1 S128x128.size (by sl_kernel_rfl) y

/-- The first point's 32 stores into the bias tables cover them. -/
theorem atFirst_bias (c : Dev nD) (t : Fin cfg0.N) (s n) (y : S2x8x256x128.Idx) : ∃ p ∈ (atFirst m c t s n).2.1, y ∈ p.1.set :=
  View.cover_of_tiledL (atFirst m c t s n).2.1 S1x1x128x128.size (by sl_kernel_rfl) y

/-- At the first point the bias tables are written and there is no tile before the diagonal one. -/
theorem start₀ : first (grid0.coords t0_0) := (first_iff t0_0).mpr rfl
theorem near₀ : ¬k0_cond2 (grid0.coords t0_0) = 1#1 := fun h => absurd ((near_iff t0_0).mp h) (by decide)

/-- The bias tables as the first point leaves them, and every later point finds them. -/
def tables (c : Dev nD) : Vec F S2x8x256x128 .f32 :=
  scratch.view.read (Elt F) (scratch.view.writes (Elt F) scratch.view.junk (atFirst m c t0_0 start₀ near₀).2.1)

/-- What a point leaves in the output's buffer. -/
def left (c : Dev nD) (t : Fin cfg0.N) : Vec F S128x1024 .f32 :=
  if s : first (grid0.coords t) then
    if n : k0_cond2 (grid0.coords t) = 1#1 then asBlock []
    else asBlock (atFirst m c t s n).1
  else
    if n : k0_cond2 (grid0.coords t) = 1#1 then asBlock (atNear m c t s n (tables m c)).1
    else asBlock (atDiag m c t s n (tables m c)).1

/-- Before the first point the kernel's scratch holds anything; from then on it holds the bias tables. -/
def held (c : Dev nD) (n : ℕ) : sProp 𝕄 :=
  if n = 0 then Pipeline.ΦA spec0 c
  else iprop(iprop(owns (c : Thread nD τ) scratch fullShare (tables m c)) ∗ (∃ r, prngReg c r))

theorem held_zero (c : Dev nD) : held m c 0 = Pipeline.ΦA spec0 c := rfl
theorem held_pos (c : Dev nD) {n : ℕ} (h : n ≠ 0) :
    held m c n = iprop(iprop(owns (c : Thread nD τ) scratch fullShare (tables m c)) ∗ (∃ r, prngReg c r)) := if_neg h

/-- What the launch hands over, with the scratch as a memref at some contents. -/
theorem handed (c : Dev nD) :
    (Pipeline.ΦA spec0 c : sProp 𝕄) = iprop(iprop((∃ d, owns (c : Thread nD τ) scratch fullShare d)) ∗ (∃ r, prngReg c r)) := by
  unfold Pipeline.ΦA; rw [scopedRest0_eq]; simp only [scratch, owns_whole]; try rfl

/-- The pipeline's proof data: an input's buffer at its block after every point, the output's at `left`, the scratch at `held`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => X0_4 m c t
    | ⟨5, _⟩ => X0_5 m c t
    | ⟨6, _⟩ => left m c t
  Φ t := held m c t.val
  q _ := fullShare
  owed _ := 0

theorem A_eq (c : Dev nD) (w : Fin cfg0.W) : (dats m 0 c).A w = V m c (Pipeline.arrRef spec0 w) := by dsimp only [dats]
theorem after_out (c : Dev nD) (t : Fin cfg0.N) : (dats m 0 c).after 6 t = left m c t := by dsimp only [dats]

/-- An input's buffer holds its block whenever the body runs, and after it. -/
theorem inputs (c : Dev nD) (t : Fin cfg0.N) :
    ((∀ d, (dats m 0 c).before 0 t d = iblk m c 0 t) ∧ (∀ d, (dats m 0 c).before 1 t d = iblk m c 1 t) ∧ (∀ d, (dats m 0 c).before 2 t d = iblk m c 2 t)
      ∧ (∀ d, (dats m 0 c).before 3 t d = iblk m c 3 t) ∧ (∀ d, (dats m 0 c).before 4 t d = X0_4 m c t) ∧ (∀ d, (dats m 0 c).before 5 t d = X0_5 m c t))
    ∧ ((dats m 0 c).after 0 t = iblk m c 0 t ∧ (dats m 0 c).after 1 t = iblk m c 1 t ∧ (dats m 0 c).after 2 t = iblk m c 2 t
      ∧ (dats m 0 c).after 3 t = iblk m c 3 t ∧ (dats m 0 c).after 4 t = X0_4 m c t ∧ (dats m 0 c).after 5 t = X0_5 m c t) :=
  ⟨⟨before0_0_of m (dats m 0 c) (A_eq m c 0) (fun _ => by dsimp only [dats]) t,
    before0_1_of m (dats m 0 c) (A_eq m c 1) (fun _ => by dsimp only [dats]) t,
    before0_2_of m (dats m 0 c) (A_eq m c 2) (fun _ => by dsimp only [dats]) t,
    before0_3_of m (dats m 0 c) (A_eq m c 3) (fun _ => by dsimp only [dats]) t,
    before0_4_of m (dats m 0 c) (A_eq m c 4) (fun _ => by dsimp only [dats]) t,
    before0_5_of m (dats m 0 c) (A_eq m c 5) (fun _ => by dsimp only [dats]) t⟩,
   by dsimp only [dats]; exact ⟨rfl, rfl, rfl, rfl, rfl, rfl⟩⟩

/-- What the body is called with at a point, window by window, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 4800000 in
/-- The body at any point, by the run of its case. -/
theorem body_at (c : Dev nD) (t : Fin cfg0.N) :
    bodyPre m c t ⊢ wp frame (wpE (defs₀ (F := F)) Variants.none c none) Set.univ (bodyAt0 t) (fun _ => bodyPost m c t) := by
  obtain ⟨⟨b0, b1, b2, b3, b4, b5⟩, a0, a1, a2, a3, a4, a5⟩ := inputs m c t
  unfold bodyPre bodyPost bodyAt0
  simp only [b0, b1, b2, b3, b4, b5]
  rw [show (dats m 0 c).owesAt () t.succ = (dats m 0 c).owesAt () t.castSucc from rfl, a0, a1, a2, a3, a4, a5, after_out,
    show (dats m 0 c).Φ t.succ = held m c (t.val + 1) from rfl, held_pos m c (Nat.succ_ne_zero _),
    show (dats m 0 c).Φ t.castSucc = held m c t.val from rfl]
  by_cases s : first (grid0.coords t)
  · have ht : t = t0_0 := Fin.ext ((first_iff t).mp s)
    subst ht
    rw [show (t0_0 : Fin cfg0.N).val = 0 from rfl, held_zero, handed, left, dif_pos s, dif_neg near₀]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply ((atFirst m c t0_0 s near₀).2.2 _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%e6, H6⟩, ⟨%es, HS⟩⟩
    isplitl [HS Hg]
    · isplitl [HS]
      · unfold owns; iexists _; isplitr
        swap; · iexact HS
        ipureintro; exact View.read_writes_of_cover _ _ _ _ _ (atFirst_bias m c _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (atFirst_out m c _ _ _)
  · have hz : t.val ≠ 0 := fun h => s ((first_iff t).mpr h)
    by_cases n : k0_cond2 (grid0.coords t) = 1#1
    all_goals rw [held_pos m c hz, left, dif_neg s]
    · rw [dif_pos n]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((atNear m c t s n (tables m c)).2 _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (atNear_out m c _ _ _ _)
    · rw [dif_neg n]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((atDiag m c t s n (tables m c)).2 _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (atDiag_out m c _ _ _ _)

/-- The library's body obligation. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_at m c t) rfl .rfl fun _ => .rfl

/-- After the last point the tables' contents are forgotten. -/
theorem given_back (c : Dev nD) : (dats m 0 c).Φ (Fin.last cfg0.N) ⊢ Pipeline.ΦA spec0 c := by
  rw [show (dats m 0 c).Φ (Fin.last cfg0.N) = held m c cfg0.N from rfl, held_pos m c (by rw [show cfg0.N = 136 from N_0]; decide), handed]
  iintro ⟨HS, Hg⟩
  isplitl [HS]
  · iexists _; iexact HS
  iexact Hg

-- the launch theorem's implicit arguments are found by unifying its conclusion with this one
set_option backward.isDefEq.respectTransparency.types false in
/-- The program ends, with every array of the pipeline at what the proof data says, every other buffer as the region found it, and every
    semaphore's counter at zero. -/
theorem run_ends : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => by rw [show (dats m 0 c).Φ 0 = held m c 0 from rfl, held_zero])
    (hout := given_back m)

/-- The same without the counters. -/
theorem run_main : θ_run defs (onTc (τ := τ) (main (F := F))) (s₀ m ρ) (Pipeline.FramePost cfgs (dats m) 0 (V m)) :=
  (θ_run defs _ _).mono (fun _ h => h.1) (run_ends m ρ)

/-- The program's frame: its arguments end as they began, and every semaphore's counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 0).trans (((dats m 0 c).arrAt_in 0 rfl _).trans ((A_eq m c 0).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_ends m ρ)

end Cert.KernelIdeal.Body

end
-- ==== Proof.Attn.Head.lean ====
/- KernelIdeal: one head of `attn_prompt`'s body, stated once for all eight. The body's text is the same for every head, printed eight times;
   here each head's text is brought to one function of the head's number. -/
module

public import proofs.«01_k».proof.Proof.Attn.Launch
public import Idealize.ShloMosaic.Lib.Pointwise
public import Idealize.ShloMosaic.Lib.WholeRead

@[expose] public section

set_option maxRecDepth 16384

noncomputable section

namespace Cert.KernelIdeal.Body

open Idealize.ShloMosaic Idealize.ShloMosaic.TcCoe Idealize.ShloMosaic.Tactic
open Cert.KernelIdeal.Gen

variable {F : FTy → Type} [FloatOps F] [Named F]

/-- What the online softmax carries: for 256 rows the largest score so far, the sum of weights, and the weighted sum of values. -/
abbrev Carry (F : FTy → Type) : Type := FVec F S256x1 .f32 × FVec F S256x1 .f32 × FVec F S256x128 .f32

/-- Nothing seen yet. -/
def noTiles : Carry F :=
  (broadcast S256x1 (Named.named κ "mask" 0xF149F2CA#32), broadcast S256x1 (Scalar.ofBits .f32 0x00000000#32), broadcast S256x128 (Scalar.ofBits .f32 0x00000000#32))

/-- The 128 rows from `n` and the 128 lanes of head `h` of a block of keys or values. -/
def tile (X : Vec F S2176x1024 .bf16) (n h : ℕ) : Vec F S128x128 .bf16 := fun j =>
  X (ix2 (Fin.ofNat 2176 (n + (j 0).val)) (Fin.ofNat 1024 (128 * h + (j 1).val)))

/-- Head `h`'s lanes of a block of queries. -/
def queries (X : Vec F S128x1024 .bf16) (h : ℕ) : Vec F S128x128 .bf16 := fun j => X (ix2 (j 0) (Fin.ofNat 1024 (128 * h + (j 1).val)))

/-- Table `u` of head `h`: the biases on the tile before the diagonal one (1) or on the diagonal one (0). -/
def table (B : Vec F S2x8x256x128 .f32) (u h : ℕ) : Vec F S1x1x256x128 .f32 := fun j => B (ix4 (Fin.ofNat 2 u) (Fin.ofNat 8 h) (j 2) (j 3))

/-- The last bucket's bias of head `h`. -/
def farBias (B : Vec F S32x8 .f32) (h : ℕ) : Elt F .f32 := B (ix2 31 (Fin.ofNat 8 h))

/-- The queries of the two maps, one above the other: each has 64 of the lanes, and zeros in the others. -/
def splitMaps (q : Vec F S128x128 .bf16) : FVec F S256x128 .bf16 := k0_pay166 q

/-- The mask of a tile's keys that are padding, the tile beginning at row `w`. -/
def padMask (w : BitVec 32) : FVec F S1x128 .f32 :=
  select (cmpi .slt (addi (broadcast S1x128 w) (iota .tc S1x128 32 [1] iota_S1x128_d1_w32)) (broadcast S1x128 112#32))
    (broadcast S1x128 (Named.named κ "mask" 0xF149F2CA#32)) (broadcast S1x128 (Scalar.ofBits .f32 0x00000000#32))

/-- The products of the queries with a tile's keys. -/
def products (q2 : FVec F S256x128 .bf16) (kj : Vec F S128x128 .bf16) : FVec F S256x128 .f32 :=
  matmul dot_S256x128_S128x128_S256x128_1_1_0_0_n_n none q2 (shapeCast S128x128 kj shapeCasts_S128x128_S128x128) (constant S256x128 .f32 0x00000000#32)

/-- The scores on a tile far before the queries, all of whose biases are one number. -/
def farScores (q2 : FVec F S256x128 .bf16) (far : Elt F .f32) (w : BitVec 32) (kj : Vec F S128x128 .bf16) : FVec F S256x128 .f32 :=
  addf (products q2 kj) (broadcastTo S256x128 (addf (padMask w) (broadcast S1x128 far)) broadcasts_S1x128_S256x128)

/-- The scores on one of the last two tiles, whose biases are in a table. -/
def nearScores (q2 : FVec F S256x128 .bf16) (b : Vec F S1x1x256x128 .f32) (w : BitVec 32) (kj : Vec F S128x128 .bf16) : FVec F S256x128 .f32 :=
  addf (addf (products q2 kj) (shapeCast S256x128 b shapeCasts_S1x1x256x128_S256x128)) (broadcastTo S256x128 (padMask w) broadcasts_S1x128_S256x128)

/-- The largest score after a tile. -/
def nextMax (m : FVec F S256x1 .f32) (sc : FVec F S256x128 .f32) : FVec F S256x1 .f32 :=
  maximumf m (shapeCast S256x1 (multiReduction .maximumf [1] S256 sc 0xFF800000#32 reduces_S256x128_S256 (.inl rfl) rfl) shapeCasts_S256_S256x1)

/-- A tile's weights under the largest score. -/
def tileWeights (m : FVec F S256x1 .f32) (sc : FVec F S256x128 .f32) : FVec F S256x128 .f32 :=
  exp (subf sc (broadcastTo S256x128 m broadcasts_S256x1_S256x128))

/-- One tile taken into what is carried. -/
def update (s : Carry F) (sc : FVec F S256x128 .f32) (vj : Vec F S128x128 .bf16) : Carry F :=
  (nextMax s.1 sc,
   addf (mulf s.2.1 (exp (subf s.1 (nextMax s.1 sc))))
     (shapeCast S256x1 (multiReduction .add [1] S256 (tileWeights (nextMax s.1 sc) sc) 0x00000000#32 reduces_S256x128_S256 (.inl rfl) rfl) shapeCasts_S256_S256x1),
   addf (mulf s.2.2 (broadcastTo S256x128 (exp (subf s.1 (nextMax s.1 sc))) broadcasts_S256x1_S256x128))
     (matmul dot_S256x128_S128x128_S256x128_1_0_0_1_n_n none (truncf .bf16 (tileWeights (nextMax s.1 sc) sc) bitsLt_bf16_f32)
       (shapeCast S128x128 vj shapeCasts_S128x128_S128x128) (constant S256x128 .f32 0x00000000#32)))

/-- One map's attended values: rows `o` to `o + 127` of what is carried, over their sums of weights. -/
def mapOut (o : ℕ) (h : S256x128.Slices ![o, 0] S128x128) (h' : S256x1.Slices ![o, 0] S128x1) (s : Carry F) : FVec F S128x128 .f32 :=
  divf (extractStridedSlice S128x128 ![o, 0] s.2.2 h)
    (broadcastTo S128x128 (extractStridedSlice S128x1 ![o, 0] s.2.1 h') broadcasts_S128x1_S128x128)

/-- The second map's values taken from the first's. -/
def difference (lam : FVec F S1x1 .f32) (s : Carry F) : FVec F S128x128 .f32 :=
  subf (mapOut 0 slices_S256x128_o0_0_S128x128 slices_S256x1_o0_0_S128x1 s)
    (mulf (broadcastTo S128x128 lam broadcasts_S1x1_S128x128) (mapOut 128 slices_S256x128_o128_0_S128x128 slices_S256x1_o128_0_S128x1 s))

/-- The root mean square normalisation of a head's 128 lanes, its gain, and the last factor. -/
def normalise (og : FVec F S1x128 .f32) (o : FVec F S128x128 .f32) : FVec F S128x128 .f32 :=
  mulf (mulf (mulf o (broadcastTo S128x128 (rsqrt (addf (divf (shapeCast S128x1
      (multiReduction .add [1] S128 (mulf o o) 0x00000000#32 reduces_S128x128_S128 (.inl rfl) rfl) shapeCasts_S128_S128x1)
      (broadcast S128x1 (Scalar.ofBits .f32 0x43000000#32))) (broadcast S128x1 (Scalar.ofBits .f32 0x358637BD#32)))) broadcasts_S128x1_S128x128))
    (broadcastTo S128x128 og broadcasts_S1x128_S128x128)) (broadcast S128x128 (Scalar.ofBits .f32 0x3F4CCCCD#32))

/-- A head's result from what is carried after the last tile. -/
def finish (lam : FVec F S1x1 .f32) (og : FVec F S1x128 .f32) (s : Carry F) : FVec F S128x128 .f32 := normalise og (difference lam s)

/-- Where the far tile `k`, the tile before the diagonal one, and the diagonal one begin. -/
abbrev farWord (k : ℕ) : BitVec 32 := Scalar.muli (Scf.iv 0#32 1#32 k) 128#32
abbrev nearWord (i : grid0.Coords) : BitVec 32 := Scalar.muli (Scalar.subi (BitVec.ofNat 32 (i 1).val) 1#32) 128#32
abbrev diagWord (i : grid0.Coords) : BitVec 32 := Scalar.muli (BitVec.ofNat 32 (i 1).val) 128#32

section
variable (X4 X5 : Vec F S2176x1024 .bf16) (q2 : FVec F S256x128 .bf16) (h : ℕ)

/-- A far tile taken into what is carried. -/
def farStep (far : Elt F .f32) (k : ℕ) (s : Carry F) : Carry F :=
  update s (farScores q2 far (farWord k) (tile X4 (farWord k).toNat h)) (tile X5 (farWord k).toNat h)

/-- What is carried after the first `n` far tiles. -/
def farRun (far : Elt F .f32) : ℕ → Carry F
  | 0 => noTiles
  | n + 1 => farStep X4 X5 q2 h far n (farRun far n)

/-- A tile with a table of biases taken into what is carried. -/
def nearStep (b : Vec F S1x1x256x128 .f32) (w : BitVec 32) (s : Carry F) : Carry F :=
  update s (nearScores q2 b w (tile X4 w.toNat h)) (tile X5 w.toNat h)
end

/-- What is carried after `n` far tiles, the tile before the diagonal one if there is one, and the diagonal one. -/
def carried (X3 : Vec F S128x1024 .bf16) (X4 X5 : Vec F S2176x1024 .bf16) (X0 : Vec F S32x8 .f32) (B : Vec F S2x8x256x128 .f32) (i : grid0.Coords)
    (near : Bool) (n h : ℕ) : Carry F :=
  nearStep X4 X5 (splitMaps (queries X3 h)) h (table B 0 h) (diagWord i)
    (bif near then nearStep X4 X5 (splitMaps (queries X3 h)) h (table B 1 h) (nearWord i) (farRun X4 X5 (splitMaps (queries X3 h)) h (farBias X0 h) n)
     else farRun X4 X5 (splitMaps (queries X3 h)) h (farBias X0 h) n)

/-- A loop whose steps are the far tiles' leaves what is carried after them. -/
theorem run_of {N : ℕ} {st : ℕ → Carry F} {X4 X5 : Vec F S2176x1024 .bf16} {q2 : FVec F S256x128 .bf16} {h : ℕ} {far : Elt F .f32}
    (h0 : st 0 = noTiles) (hs : ∀ k : Fin N, st (k.val + 1) = farStep X4 X5 q2 h far k.val (st k.val)) (n : ℕ) (hn : n ≤ N) :
    st n = farRun X4 X5 q2 h far n := by
  induction n with
  | zero => exact h0
  | succ n ih => rw [farRun, ← ih (by omega)]; exact hs ⟨n, hn⟩

/-- A loop without steps leaves what it was given. -/
theorem run_none {st : ℕ → Carry F} {s : Carry F} {n : ℕ} (h0 : st 0 = s) (hn : n = 0) : st n = s := by rw [hn, h0]

section loads
variable {mg : Memref sig .tc .vmem S2176x1024 .bf16} (hmg : mg.IsWhole) {mq : Memref sig .tc .vmem S128x1024 .bf16} (hmq : mq.IsWhole)
  {mb : Memref sig .tc .vmem S2x8x256x128 .f32} (hmb : mb.IsWhole) {mr : Memref sig .tc .smem S32x8 .f32} (hmr : mr.IsWhole)

theorem load_tile {X : Vec F S2176x1024 .bf16} {off : Fin 2 → ℕ} {hb : ∀ a, off a + S128x128.size a ≤ S2176x1024.size a}
    (n h : ℕ) (e : off = ![n, 128 * h]) :
    View.readAt (Elt F) mg.view (Rect.unit (s := S2176x1024) off S128x128.size hb).toLoadRect (hmg.unread X) = tile X n h := by
  subst e
  have h0 : n + 128 ≤ 2176 := hb 0
  have h1 : 128 * h + 128 ≤ 1024 := hb 1
  funext j
  rw [hmg.readAt_unread]
  refine congrArg X (funext fun a => Fin.ext ?_)
  have l0 : (j 0).val < 128 := (j 0).isLt
  have l1 : (j 1).val < 128 := (j 1).isLt
  match a with
  | 0 => show n + 1 * (j 0).val = (n + (j 0).val) % 2176; rw [Nat.mod_eq_of_lt (by omega)]; omega
  | 1 => show 128 * h + 1 * (j 1).val = (128 * h + (j 1).val) % 1024; rw [Nat.mod_eq_of_lt (by omega)]; omega

theorem load_queries {X : Vec F S128x1024 .bf16} {off : Fin 2 → ℕ} {hb : ∀ a, off a + S128x128.size a ≤ S128x1024.size a}
    (h : ℕ) (e : off = ![0, 128 * h]) :
    View.readAt (Elt F) mq.view (Rect.unit (s := S128x1024) off S128x128.size hb).toLoadRect (hmq.unread X) = queries X h := by
  subst e
  have h1 : 128 * h + 128 ≤ 1024 := hb 1
  funext j
  rw [hmq.readAt_unread]
  refine congrArg X (funext fun a => Fin.ext ?_)
  have l1 : (j 1).val < 128 := (j 1).isLt
  match a with
  | 0 => show 0 + 1 * (j 0).val = (j 0).val; omega
  | 1 => show 128 * h + 1 * (j 1).val = (128 * h + (j 1).val) % 1024; rw [Nat.mod_eq_of_lt (by omega)]; omega

theorem load_table {X : Vec F S2x8x256x128 .f32} {off : Fin 4 → ℕ} {hb : ∀ a, off a + S1x1x256x128.size a ≤ S2x8x256x128.size a}
    (u h : ℕ) (e : off = ![u, h, 0, 0]) :
    View.readAt (Elt F) mb.view (Rect.unit (s := S2x8x256x128) off S1x1x256x128.size hb).toLoadRect (hmb.unread X) = table X u h := by
  subst e
  have h0 : u + 1 ≤ 2 := hb 0
  have h1 : h + 1 ≤ 8 := hb 1
  funext j
  rw [hmb.readAt_unread]
  refine congrArg X (funext fun a => Fin.ext ?_)
  have l0 : (j 0).val < 1 := (j 0).isLt
  have l1 : (j 1).val < 1 := (j 1).isLt
  match a with
  | 0 => show u + 1 * (j 0).val = u % 2; rw [Nat.mod_eq_of_lt (by omega)]; omega
  | 1 => show h + 1 * (j 1).val = h % 8; rw [Nat.mod_eq_of_lt (by omega)]; omega
  | 2 => show 0 + 1 * (j 2).val = (j 2).val; omega
  | 3 => show 0 + 1 * (j 3).val = (j 3).val; omega

theorem load_far {X : Vec F S32x8 .f32} {off : Fin 2 → ℕ} {hb : ∀ a, off a + S1x1.size a ≤ S32x8.size a} {p} (h : ℕ) (e : off = ![31, h]) :
    View.readAt (Elt F) mr.view (Rect.unit (s := S32x8) off S1x1.size hb).toLoadRect (hmr.unread X) (Shape.Idx.first p) = farBias X h := by
  subst e
  have h1 : h + 1 ≤ 8 := hb 1
  rw [hmr.readAt_unread]
  refine congrArg X (funext fun a => Fin.ext ?_)
  match a with
  | 0 => rfl
  | 1 => show h + 1 * 0 = h % 8; rw [Nat.mod_eq_of_lt (by omega)]; omega
end loads

/-- The loops of all heads run alike: the first over the far tiles, the second not at all. -/
theorem second_none (i : grid0.Coords) : Scf.trips (k0_t2_loop i).lb (k0_t2_loop i).ub (k0_t2_loop i).st = 0 := by
  have : ∀ n : Fin 17, ∀ i : grid0.Coords, i 1 = n → Scf.trips (k0_t2_loop i).lb (k0_t2_loop i).ub (k0_t2_loop i).st = 0 := by
    intro n i e
    simp only [k0_t2_loop, e]
    clear e; revert n; decide +kernel
  exact this (i 1) i rfl

theorem first_trips (i : grid0.Coords) : Scf.trips (k0_t1_loop i).lb (k0_t1_loop i).ub (k0_t1_loop i).st = (i 1).val - 1 := by
  have : ∀ n : Fin 17, ∀ i : grid0.Coords, i 1 = n → Scf.trips (k0_t1_loop i).lb (k0_t1_loop i).ub (k0_t1_loop i).st = n.val - 1 := by
    intro n i e
    simp only [k0_t1_loop, e]
    clear e; revert n; decide +kernel
  exact this (i 1) i rfl

end Cert.KernelIdeal.Body

end
-- ==== Proof.Attn.Pieces.lean ====
/- KernelIdeal: each store of `attn_prompt`'s body, as one function of the head's number. -/
module

public import proofs.«01_k».proof.Proof.Attn.Head

@[expose] public section

set_option maxRecDepth 16384

noncomputable section

namespace Cert.KernelIdeal.Body

open Idealize.ShloMosaic Idealize.ShloMosaic.TcCoe Idealize.ShloMosaic.Tactic
open Cert.KernelIdeal.Gen

variable {F : FTy → Type} [FloatOps F] [Named F]

theorem step_of {X4 X5 : Vec F S2176x1024 .bf16} {q2 : FVec F S256x128 .bf16} {far : Elt F .f32} {h k : ℕ} {acc s : Carry F} {kj vj : Vec F S128x128 .bf16}
    (e : s = update acc (farScores q2 far (farWord k) kj) vj) (hk : kj = tile X4 (farWord k).toNat h) (hv : vj = tile X5 (farWord k).toNat h) :
    s = farStep X4 X5 q2 h far k acc := by subst hk hv e; rfl

theorem run_trips {N n : ℕ} (hN : N = n) {st : ℕ → Carry F} {X4 X5 : Vec F S2176x1024 .bf16} {q2 : FVec F S256x128 .bf16} {h : ℕ} {far : Elt F .f32}
    (h0 : st 0 = noTiles) (hs : ∀ k : Fin N, st (k.val + 1) = farStep X4 X5 q2 h far k.val (st k.val)) : st N = farRun X4 X5 q2 h far n := by
  rw [hN]; exact run_of h0 hs n hN.ge

/-- The eight stores into the output's block, last first: head `h`'s 128 lanes hold what `f` gives. -/
abbrev headPieces (f : ℕ → FVec F S128x128 .f32) : List (View.Piece (Elt F) S128x1024 .f32) :=
  [⟨Rect.unit (s := S128x1024) ![0, 896] ![128, 128] inb_S128x1024_S128x128_0_896, f 7⟩,
   ⟨Rect.unit (s := S128x1024) ![0, 768] S128x128.size inb_S128x1024_S128x128_0_768, f 6⟩,
   ⟨Rect.unit (s := S128x1024) ![0, 640] S128x128.size inb_S128x1024_S128x128_0_640, f 5⟩,
   ⟨Rect.unit (s := S128x1024) ![0, 512] S128x128.size inb_S128x1024_S128x128_0_512, f 4⟩,
   ⟨Rect.unit (s := S128x1024) ![0, 384] S128x128.size inb_S128x1024_S128x128_0_384, f 3⟩,
   ⟨Rect.unit (s := S128x1024) ![0, 256] S128x128.size inb_S128x1024_S128x128_0_256, f 2⟩,
   ⟨Rect.unit (s := S128x1024) ![0, 128] S128x128.size inb_S128x1024_S128x128_0_128, f 1⟩,
   ⟨Rect.unit (s := S128x1024) ![0, 0] S128x128.size inb_S128x1024_S128x128_0_0, f 0⟩]

theorem pieces_of {L : List (View.Piece (Elt F) S128x1024 .f32)} {f g : ℕ → FVec F S128x128 .f32} (e : L = headPieces g)
    (h0 : g 0 = f 0) (h1 : g 1 = f 1) (h2 : g 2 = f 2) (h3 : g 3 = f 3) (h4 : g 4 = f 4) (h5 : g 5 = f 5) (h6 : g 6 = f 6) (h7 : g 7 = f 7) :
    L = headPieces f := by rw [e, headPieces, h0, h1, h2, h3, h4, h5, h6, h7]

/-- A head's result at a point with a tile before the diagonal one, once its loads and its loops are read. -/
theorem near_of {X3 : Vec F S128x1024 .bf16} {X4 X5 : Vec F S2176x1024 .bf16} {X0 : Vec F S32x8 .f32} {B : Vec F S2x8x256x128 .f32} {i : grid0.Coords}
    {n h : ℕ} {X1 l : Vec F S4x64 .f32} {X2 o : Vec F S1x128 .f32} {S : Carry F} {q k1 v1 k0 v0 : Vec F S128x128 .bf16} {b1 b0 : Vec F S1x1x256x128 .f32}
    {far : Elt F .f32} {v : FVec F S128x128 .f32}
    (e1 : S = farRun X4 X5 (splitMaps q) h far n)
    (hl : l = X1) (ho : o = X2) (hq : q = queries X3 h) (hf : far = farBias X0 h) (hb1 : b1 = table B 1 h) (hb0 : b0 = table B 0 h)
    (hk1 : k1 = tile X4 (nearWord i).toNat h) (hv1 : v1 = tile X5 (nearWord i).toNat h)
    (hk0 : k0 = tile X4 (diagWord i).toNat h) (hv0 : v0 = tile X5 (diagWord i).toNat h)
    (e : v = finish (k0_pay164 l) (k0_pay165 o) (update (update S (nearScores (splitMaps q) b1 (nearWord i) k1) v1) (nearScores (splitMaps q) b0 (diagWord i) k0) v0)) :
    v = finish (k0_pay164 X1) (k0_pay165 X2) (carried X3 X4 X5 X0 B i true n h) := by
  subst hl ho hq hf hb1 hb0 hk1 hv1 hk0 hv0 e1; exact e

/-- A head's result at a point whose only tile is the diagonal one, once its loads and its loops are read. -/
theorem diag_of {X3 : Vec F S128x1024 .bf16} {X4 X5 : Vec F S2176x1024 .bf16} {X0 : Vec F S32x8 .f32} {B : Vec F S2x8x256x128 .f32} {i : grid0.Coords}
    {n h : ℕ} {X1 l : Vec F S4x64 .f32} {X2 o : Vec F S1x128 .f32} {S : Carry F} {q k0 v0 : Vec F S128x128 .bf16} {b0 : Vec F S1x1x256x128 .f32}
    {far : Elt F .f32} {v : FVec F S128x128 .f32}
    (e1 : S = farRun X4 X5 (splitMaps q) h far n)
    (hl : l = X1) (ho : o = X2) (hq : q = queries X3 h) (hf : far = farBias X0 h) (hb0 : b0 = table B 0 h)
    (hk0 : k0 = tile X4 (diagWord i).toNat h) (hv0 : v0 = tile X5 (diagWord i).toNat h)
    (e : v = finish (k0_pay164 l) (k0_pay165 o) (update S (nearScores (splitMaps q) b0 (diagWord i) k0) v0)) :
    v = finish (k0_pay164 X1) (k0_pay165 X2) (carried X3 X4 X5 X0 B i false n h) := by
  subst hl ho hq hf hb0 hk0 hv0 e1; exact e

section
variable (c : Dev nD) (i : grid0.Coords)
  (arg2 : Memref sig .tc .smem S32x8 .f32) (harg2 : arg2.IsWhole) (arg3 : Memref sig .tc .vmem S4x64 .f32) (harg3 : arg3.IsWhole) (arg4 : Memref sig .tc .vmem S1x128 .f32) (harg4 : arg4.IsWhole) (arg5 : Memref sig .tc .vmem S128x1024 .bf16) (harg5 : arg5.IsWhole) (arg6 : Memref sig .tc .vmem S2176x1024 .bf16) (harg6 : arg6.IsWhole) (arg7 : Memref sig .tc .vmem S2176x1024 .bf16) (harg7 : arg7.IsWhole) (arg8 : Memref sig .tc .vmem S128x1024 .f32) (harg8 : arg8.IsWhole) (arg9 : Memref sig .tc .vmem S2x8x256x128 .f32) (harg9 : arg9.IsWhole)
  (x0 : Vec F S32x8 .f32) (x1 : Vec F S4x64 .f32) (x2 : Vec F S1x128 .f32) (x3 : Vec F S128x1024 .bf16) (x4 x5 : Vec F S2176x1024 .bf16)
  (a1 : BitVec 32) (q : Vec F S128x128 .bf16) (far : Elt F .f32)

theorem far1 (v37 cst) :
    st_k0_t1 Variants.none c none i arg2 harg2 arg3 harg3 arg4 harg4 arg5 harg5 arg6 harg6 arg7 harg7 arg8 harg8 arg9 harg9
      a1 (iota .tc S1x128 32 [1] iota_S1x128_d1_w32) (splitMaps q) far v37 cst (harg6.unread x4) (harg7.unread x5) noTiles (Scf.trips (k0_t1_loop i).lb (k0_t1_loop i).ub (k0_t1_loop i).st)
      = farRun x4 x5 (splitMaps q) 0 far ((i 1).val - 1) := by
  refine run_trips (first_trips i) rfl fun k => ?_
  rw [st_k0_t1_succ]; unfold tripR_k0_t1 trip_k0_t1
  exact step_of rfl (load_tile harg6 _ 0 rfl) (load_tile harg7 _ 0 rfl)
theorem none2 (v37 cst) (S : Carry F) :
    st_k0_t2 Variants.none c none i arg2 harg2 arg3 harg3 arg4 harg4 arg5 harg5 arg6 harg6 arg7 harg7 arg8 harg8 arg9 harg9
      a1 (iota .tc S1x128 32 [1] iota_S1x128_d1_w32) (splitMaps q) far v37 cst (harg6.unread x4) (harg7.unread x5) (S.1, S.2.1, S.2.2) (Scf.trips (k0_t2_loop i).lb (k0_t2_loop i).ub (k0_t2_loop i).st) = S :=
  run_none rfl (second_none i)
theorem far3 :
    st_k0_t3 Variants.none c none i arg2 harg2 arg3 harg3 arg4 harg4 arg5 harg5 arg6 harg6 arg7 harg7 arg8 harg8 arg9 harg9
      a1 (iota .tc S1x128 32 [1] iota_S1x128_d1_w32) (k0_pay192 q) (iota .tc S128x128 32 [1] iota_S128x128_d1_w32) k0_pay193 (k0_pay194 q) far (harg6.unread x4) (harg7.unread x5) noTiles (Scf.trips (k0_t3_loop i).lb (k0_t3_loop i).ub (k0_t3_loop i).st)
      = farRun x4 x5 (splitMaps q) 1 far ((i 1).val - 1) := by
  refine run_trips (first_trips i) rfl fun k => ?_
  rw [st_k0_t3_succ]; unfold tripR_k0_t3 trip_k0_t3
  exact step_of rfl (load_tile harg6 _ 1 rfl) (load_tile harg7 _ 1 rfl)
theorem none4 (S : Carry F) :
    st_k0_t4 Variants.none c none i arg2 harg2 arg3 harg3 arg4 harg4 arg5 harg5 arg6 harg6 arg7 harg7 arg8 harg8 arg9 harg9
      a1 (iota .tc S1x128 32 [1] iota_S1x128_d1_w32) (k0_pay192 q) (iota .tc S128x128 32 [1] iota_S128x128_d1_w32) k0_pay193 (k0_pay194 q) far (harg6.unread x4) (harg7.unread x5) (S.1, S.2.1, S.2.2) (Scf.trips (k0_t4_loop i).lb (k0_t4_loop i).ub (k0_t4_loop i).st) = S :=
  run_none rfl (second_none i)
theorem far5 :
    st_k0_t5 Variants.none c none i arg2 harg2 arg3 harg3 arg4 harg4 arg5 harg5 arg6 harg6 arg7 harg7 arg8 harg8 arg9 harg9
      a1 (iota .tc S1x128 32 [1] iota_S1x128_d1_w32) q far (harg6.unread x4) (harg7.unread x5) noTiles (Scf.trips (k0_t5_loop i).lb (k0_t5_loop i).ub (k0_t5_loop i).st)
      = farRun x4 x5 (splitMaps q) 2 far ((i 1).val - 1) := by
  refine run_trips (first_trips i) rfl fun k => ?_
  rw [st_k0_t5_succ]; unfold tripR_k0_t5 trip_k0_t5
  exact step_of rfl (load_tile harg6 _ 2 rfl) (load_tile harg7 _ 2 rfl)
theorem none6 (S : Carry F) :
    st_k0_t6 Variants.none c none i arg2 harg2 arg3 harg3 arg4 harg4 arg5 harg5 arg6 harg6 arg7 harg7 arg8 harg8 arg9 harg9
      a1 (iota .tc S1x128 32 [1] iota_S1x128_d1_w32) q far (harg6.unread x4) (harg7.unread x5) (S.1, S.2.1, S.2.2) (Scf.trips (k0_t6_loop i).lb (k0_t6_loop i).ub (k0_t6_loop i).st) = S :=
  run_none rfl (second_none i)
theorem far7 (v23 v285 v293) :
    st_k0_t7 Variants.none c none i arg2 harg2 arg3 harg3 arg4 harg4 arg5 harg5 arg6 harg6 arg7 harg7 arg8 harg8 arg9 harg9
      a1 v23 (iota .tc S1x128 32 [1] iota_S1x128_d1_w32) v285 v293 q far (harg6.unread x4) (harg7.unread x5) noTiles (Scf.trips (k0_t7_loop i).lb (k0_t7_loop i).ub (k0_t7_loop i).st)
      = farRun x4 x5 (splitMaps q) 3 far ((i 1).val - 1) := by
  refine run_trips (first_trips i) rfl fun k => ?_
  rw [st_k0_t7_succ]; unfold tripR_k0_t7 trip_k0_t7
  exact step_of rfl (load_tile harg6 _ 3 rfl) (load_tile harg7 _ 3 rfl)
theorem none8 (v23 v285 v293) (S : Carry F) :
    st_k0_t8 Variants.none c none i arg2 harg2 arg3 harg3 arg4 harg4 arg5 harg5 arg6 harg6 arg7 harg7 arg8 harg8 arg9 harg9
      a1 v23 (iota .tc S1x128 32 [1] iota_S1x128_d1_w32) v285 v293 q far (harg6.unread x4) (harg7.unread x5) (S.1, S.2.1, S.2.2) (Scf.trips (k0_t8_loop i).lb (k0_t8_loop i).ub (k0_t8_loop i).st) = S :=
  run_none rfl (second_none i)
theorem far9 (v23 v377) :
    st_k0_t9 Variants.none c none i arg2 harg2 arg3 harg3 arg4 harg4 arg5 harg5 arg6 harg6 arg7 harg7 arg8 harg8 arg9 harg9
      a1 v23 (iota .tc S1x128 32 [1] iota_S1x128_d1_w32) v377 q far (harg6.unread x4) (harg7.unread x5) noTiles (Scf.trips (k0_t9_loop i).lb (k0_t9_loop i).ub (k0_t9_loop i).st)
      = farRun x4 x5 (splitMaps q) 4 far ((i 1).val - 1) := by
  refine run_trips (first_trips i) rfl fun k => ?_
  rw [st_k0_t9_succ]; unfold tripR_k0_t9 trip_k0_t9
  exact step_of rfl (load_tile harg6 _ 4 rfl) (load_tile harg7 _ 4 rfl)
theorem none10 (v414 v0 v1 v2) (S : Carry F) :
    st_k0_t10 Variants.none c none i arg2 harg2 arg3 harg3 arg4 harg4 arg5 harg5 arg6 harg6 arg7 harg7 arg8 harg8 arg9 harg9
      a1 (iota .tc S1x128 32 [1] iota_S1x128_d1_w32) (k0_pay272 q) far v414 v0 v1 v2 (harg6.unread x4) (harg7.unread x5) (S.1, S.2.1, S.2.2) (Scf.trips (k0_t10_loop i).lb (k0_t10_loop i).ub (k0_t10_loop i).st) = S :=
  run_none rfl (second_none i)
theorem far11 (v497 v498 v499 v500) :
    st_k0_t11 Variants.none c none i arg2 harg2 arg3 harg3 arg4 harg4 arg5 harg5 arg6 harg6 arg7 harg7 arg8 harg8 arg9 harg9
      a1 (iota .tc S1x128 32 [1] iota_S1x128_d1_w32) (k0_pay301 q) far v497 v498 v499 v500 (harg6.unread x4) (harg7.unread x5) noTiles (Scf.trips (k0_t11_loop i).lb (k0_t11_loop i).ub (k0_t11_loop i).st)
      = farRun x4 x5 (splitMaps q) 5 far ((i 1).val - 1) := by
  refine run_trips (first_trips i) rfl fun k => ?_
  rw [st_k0_t11_succ]; unfold tripR_k0_t11 trip_k0_t11
  exact step_of rfl (load_tile harg6 _ 5 rfl) (load_tile harg7 _ 5 rfl)
theorem none12 (v497 v498 v499 v500) (S : Carry F) :
    st_k0_t12 Variants.none c none i arg2 harg2 arg3 harg3 arg4 harg4 arg5 harg5 arg6 harg6 arg7 harg7 arg8 harg8 arg9 harg9
      a1 (iota .tc S1x128 32 [1] iota_S1x128_d1_w32) (k0_pay301 q) far v497 v498 v499 v500 (harg6.unread x4) (harg7.unread x5) (S.1, S.2.1, S.2.2) (Scf.trips (k0_t12_loop i).lb (k0_t12_loop i).ub (k0_t12_loop i).st) = S :=
  run_none rfl (second_none i)
theorem far13 :
    st_k0_t13 Variants.none c none i arg2 harg2 arg3 harg3 arg4 harg4 arg5 harg5 arg6 harg6 arg7 harg7 arg8 harg8 arg9 harg9
      a1 (iota .tc S1x128 32 [1] iota_S1x128_d1_w32) (k0_pay329 q) far (harg6.unread x4) (harg7.unread x5) noTiles (Scf.trips (k0_t13_loop i).lb (k0_t13_loop i).ub (k0_t13_loop i).st)
      = farRun x4 x5 (splitMaps q) 6 far ((i 1).val - 1) := by
  refine run_trips (first_trips i) rfl fun k => ?_
  rw [st_k0_t13_succ]; unfold tripR_k0_t13 trip_k0_t13
  exact step_of rfl (load_tile harg6 _ 6 rfl) (load_tile harg7 _ 6 rfl)
theorem none14 (S : Carry F) :
    st_k0_t14 Variants.none c none i arg2 harg2 arg3 harg3 arg4 harg4 arg5 harg5 arg6 harg6 arg7 harg7 arg8 harg8 arg9 harg9
      a1 (iota .tc S1x128 32 [1] iota_S1x128_d1_w32) (k0_pay329 q) far (harg6.unread x4) (harg7.unread x5) (S.1, S.2.1, S.2.2) (Scf.trips (k0_t14_loop i).lb (k0_t14_loop i).ub (k0_t14_loop i).st) = S :=
  run_none rfl (second_none i)
theorem far15 :
    st_k0_t15 Variants.none c none i arg2 harg2 arg3 harg3 arg4 harg4 arg5 harg5 arg6 harg6 arg7 harg7 arg8 harg8 arg9 harg9
      a1 (iota .tc S1x128 32 [1] iota_S1x128_d1_w32) (k0_pay355 q) (iota .tc S128x128 32 [1] iota_S128x128_d1_w32) far (harg6.unread x4) (harg7.unread x5) noTiles (Scf.trips (k0_t15_loop i).lb (k0_t15_loop i).ub (k0_t15_loop i).st)
      = farRun x4 x5 (splitMaps q) 7 far ((i 1).val - 1) := by
  refine run_trips (first_trips i) rfl fun k => ?_
  rw [st_k0_t15_succ]; unfold tripR_k0_t15 trip_k0_t15
  exact step_of rfl (load_tile harg6 _ 7 rfl) (load_tile harg7 _ 7 rfl)
theorem none16 (S : Carry F) :
    st_k0_t16 Variants.none c none i arg2 harg2 arg3 harg3 arg4 harg4 arg5 harg5 arg6 harg6 arg7 harg7 arg8 harg8 arg9 harg9
      a1 (iota .tc S1x128 32 [1] iota_S1x128_d1_w32) (k0_pay355 q) (iota .tc S128x128 32 [1] iota_S128x128_d1_w32) far (harg6.unread x4) (harg7.unread x5) (S.1, S.2.1, S.2.2) (Scf.trips (k0_t16_loop i).lb (k0_t16_loop i).ub (k0_t16_loop i).st) = S :=
  run_none rfl (second_none i)

theorem scan0 (v37 cst) {S : Carry F} (hS : st_k0_t1 Variants.none c none i arg2 harg2 arg3 harg3 arg4 harg4 arg5 harg5 arg6 harg6 arg7 harg7 arg8 harg8 arg9 harg9
      a1 (iota .tc S1x128 32 [1] iota_S1x128_d1_w32) (splitMaps q) far v37 cst (harg6.unread x4) (harg7.unread x5) noTiles (Scf.trips (k0_t1_loop i).lb (k0_t1_loop i).ub (k0_t1_loop i).st) = S) :
    st_k0_t2 Variants.none c none i arg2 harg2 arg3 harg3 arg4 harg4 arg5 harg5 arg6 harg6 arg7 harg7 arg8 harg8 arg9 harg9
      a1 (iota .tc S1x128 32 [1] iota_S1x128_d1_w32) (splitMaps q) far v37 cst (harg6.unread x4) (harg7.unread x5) (S.1, S.2.1, S.2.2) (Scf.trips (k0_t2_loop i).lb (k0_t2_loop i).ub (k0_t2_loop i).st)
      = farRun x4 x5 (splitMaps q) 0 far ((i 1).val - 1) :=
  (none2 (F := F) c i arg2 harg2 arg3 harg3 arg4 harg4 arg5 harg5 arg6 harg6 arg7 harg7 arg8 harg8 arg9 harg9 x4 x5 a1 q far v37 cst S).trans (hS.symm.trans (far1 (F := F) c i arg2 harg2 arg3 harg3 arg4 harg4 arg5 harg5 arg6 harg6 arg7 harg7 arg8 harg8 arg9 harg9 x4 x5 a1 q far v37 cst))
theorem scan1 {S : Carry F} (hS : st_k0_t3 Variants.none c none i arg2 harg2 arg3 harg3 arg4 harg4 arg5 harg5 arg6 harg6 arg7 harg7 arg8 harg8 arg9 harg9
      a1 (iota .tc S1x128 32 [1] iota_S1x128_d1_w32) (k0_pay192 q) (iota .tc S128x128 32 [1] iota_S128x128_d1_w32) k0_pay193 (k0_pay194 q) far (harg6.unread x4) (harg7.unread x5) noTiles (Scf.trips (k0_t3_loop i).lb (k0_t3_loop i).ub (k0_t3_loop i).st) = S) :
    st_k0_t4 Variants.none c none i arg2 harg2 arg3 harg3 arg4 harg4 arg5 harg5 arg6 harg6 arg7 harg7 arg8 harg8 arg9 harg9
      a1 (iota .tc S1x128 32 [1] iota_S1x128_d1_w32) (k0_pay192 q) (iota .tc S128x128 32 [1] iota_S128x128_d1_w32) k0_pay193 (k0_pay194 q) far (harg6.unread x4) (harg7.unread x5) (S.1, S.2.1, S.2.2) (Scf.trips (k0_t4_loop i).lb (k0_t4_loop i).ub (k0_t4_loop i).st)
      = farRun x4 x5 (splitMaps q) 1 far ((i 1).val - 1) :=
  (none4 (F := F) c i arg2 harg2 arg3 harg3 arg4 harg4 arg5 harg5 arg6 harg6 arg7 harg7 arg8 harg8 arg9 harg9 x4 x5 a1 q far  S).trans (hS.symm.trans (far3 (F := F) c i arg2 harg2 arg3 harg3 arg4 harg4 arg5 harg5 arg6 harg6 arg7 harg7 arg8 harg8 arg9 harg9 x4 x5 a1 q far ))
theorem scan2 {S : Carry F} (hS : st_k0_t5 Variants.none c none i arg2 harg2 arg3 harg3 arg4 harg4 arg5 harg5 arg6 harg6 arg7 harg7 arg8 harg8 arg9 harg9
      a1 (iota .tc S1x128 32 [1] iota_S1x128_d1_w32) q far (harg6.unread x4) (harg7.unread x5) noTiles (Scf.trips (k0_t5_loop i).lb (k0_t5_loop i).ub (k0_t5_loop i).st) = S) :
    st_k0_t6 Variants.none c none i arg2 harg2 arg3 harg3 arg4 harg4 arg5 harg5 arg6 harg6 arg7 harg7 arg8 harg8 arg9 harg9
      a1 (iota .tc S1x128 32 [1] iota_S1x128_d1_w32) q far (harg6.unread x4) (harg7.unread x5) (S.1, S.2.1, S.2.2) (Scf.trips (k0_t6_loop i).lb (k0_t6_loop i).ub (k0_t6_loop i).st)
      = farRun x4 x5 (splitMaps q) 2 far ((i 1).val - 1) :=
  (none6 (F := F) c i arg2 harg2 arg3 harg3 arg4 harg4 arg5 harg5 arg6 harg6 arg7 harg7 arg8 harg8 arg9 harg9 x4 x5 a1 q far  S).trans (hS.symm.trans (far5 (F := F) c i arg2 harg2 arg3 harg3 arg4 harg4 arg5 harg5 arg6 harg6 arg7 harg7 arg8 harg8 arg9 harg9 x4 x5 a1 q far ))
theorem scan3 (v23 v285 v293) {S : Carry F} (hS : st_k0_t7 Variants.none c none i arg2 harg2 arg3 harg3 arg4 harg4 arg5 harg5 arg6 harg6 arg7 harg7 arg8 harg8 arg9 harg9
      a1 v23 (iota .tc S1x128 32 [1] iota_S1x128_d1_w32) v285 v293 q far (harg6.unread x4) (harg7.unread x5) noTiles (Scf.trips (k0_t7_loop i).lb (k0_t7_loop i).ub (k0_t7_loop i).st) = S) :
    st_k0_t8 Variants.none c none i arg2 harg2 arg3 harg3 arg4 harg4 arg5 harg5 arg6 harg6 arg7 harg7 arg8 harg8 arg9 harg9
      a1 v23 (iota .tc S1x128 32 [1] iota_S1x128_d1_w32) v285 v293 q far (harg6.unread x4) (harg7.unread x5) (S.1, S.2.1, S.2.2) (Scf.trips (k0_t8_loop i).lb (k0_t8_loop i).ub (k0_t8_loop i).st)
      = farRun x4 x5 (splitMaps q) 3 far ((i 1).val - 1) :=
  (none8 (F := F) c i arg2 harg2 arg3 harg3 arg4 harg4 arg5 harg5 arg6 harg6 arg7 harg7 arg8 harg8 arg9 harg9 x4 x5 a1 q far v23 v285 v293 S).trans (hS.symm.trans (far7 (F := F) c i arg2 harg2 arg3 harg3 arg4 harg4 arg5 harg5 arg6 harg6 arg7 harg7 arg8 harg8 arg9 harg9 x4 x5 a1 q far v23 v285 v293))
theorem scan4 (v23 v377 v414 v0 v1 v2) {S : Carry F} (hS : st_k0_t9 Variants.none c none i arg2 harg2 arg3 harg3 arg4 harg4 arg5 harg5 arg6 harg6 arg7 harg7 arg8 harg8 arg9 harg9
      a1 v23 (iota .tc S1x128 32 [1] iota_S1x128_d1_w32) v377 q far (harg6.unread x4) (harg7.unread x5) noTiles (Scf.trips (k0_t9_loop i).lb (k0_t9_loop i).ub (k0_t9_loop i).st) = S) :
    st_k0_t10 Variants.none c none i arg2 harg2 arg3 harg3 arg4 harg4 arg5 harg5 arg6 harg6 arg7 harg7 arg8 harg8 arg9 harg9
      a1 (iota .tc S1x128 32 [1] iota_S1x128_d1_w32) (k0_pay272 q) far v414 v0 v1 v2 (harg6.unread x4) (harg7.unread x5) (S.1, S.2.1, S.2.2) (Scf.trips (k0_t10_loop i).lb (k0_t10_loop i).ub (k0_t10_loop i).st)
      = farRun x4 x5 (splitMaps q) 4 far ((i 1).val - 1) :=
  (none10 (F := F) c i arg2 harg2 arg3 harg3 arg4 harg4 arg5 harg5 arg6 harg6 arg7 harg7 arg8 harg8 arg9 harg9 x4 x5 a1 q far v414 v0 v1 v2 S).trans (hS.symm.trans (far9 (F := F) c i arg2 harg2 arg3 harg3 arg4 harg4 arg5 harg5 arg6 harg6 arg7 harg7 arg8 harg8 arg9 harg9 x4 x5 a1 q far v23 v377))
theorem scan5 (v497 v498 v499 v500) {S : Carry F} (hS : st_k0_t11 Variants.none c none i arg2 harg2 arg3 harg3 arg4 harg4 arg5 harg5 arg6 harg6 arg7 harg7 arg8 harg8 arg9 harg9
      a1 (iota .tc S1x128 32 [1] iota_S1x128_d1_w32) (k0_pay301 q) far v497 v498 v499 v500 (harg6.unread x4) (harg7.unread x5) noTiles (Scf.trips (k0_t11_loop i).lb (k0_t11_loop i).ub (k0_t11_loop i).st) = S) :
    st_k0_t12 Variants.none c none i arg2 harg2 arg3 harg3 arg4 harg4 arg5 harg5 arg6 harg6 arg7 harg7 arg8 harg8 arg9 harg9
      a1 (iota .tc S1x128 32 [1] iota_S1x128_d1_w32) (k0_pay301 q) far v497 v498 v499 v500 (harg6.unread x4) (harg7.unread x5) (S.1, S.2.1, S.2.2) (Scf.trips (k0_t12_loop i).lb (k0_t12_loop i).ub (k0_t12_loop i).st)
      = farRun x4 x5 (splitMaps q) 5 far ((i 1).val - 1) :=
  (none12 (F := F) c i arg2 harg2 arg3 harg3 arg4 harg4 arg5 harg5 arg6 harg6 arg7 harg7 arg8 harg8 arg9 harg9 x4 x5 a1 q far v497 v498 v499 v500 S).trans (hS.symm.trans (far11 (F := F) c i arg2 harg2 arg3 harg3 arg4 harg4 arg5 harg5 arg6 harg6 arg7 harg7 arg8 harg8 arg9 harg9 x4 x5 a1 q far v497 v498 v499 v500))
theorem scan6 {S : Carry F} (hS : st_k0_t13 Variants.none c none i arg2 harg2 arg3 harg3 arg4 harg4 arg5 harg5 arg6 harg6 arg7 harg7 arg8 harg8 arg9 harg9
      a1 (iota .tc S1x128 32 [1] iota_S1x128_d1_w32) (k0_pay329 q) far (harg6.unread x4) (harg7.unread x5) noTiles (Scf.trips (k0_t13_loop i).lb (k0_t13_loop i).ub (k0_t13_loop i).st) = S) :
    st_k0_t14 Variants.none c none i arg2 harg2 arg3 harg3 arg4 harg4 arg5 harg5 arg6 harg6 arg7 harg7 arg8 harg8 arg9 harg9
      a1 (iota .tc S1x128 32 [1] iota_S1x128_d1_w32) (k0_pay329 q) far (harg6.unread x4) (harg7.unread x5) (S.1, S.2.1, S.2.2) (Scf.trips (k0_t14_loop i).lb (k0_t14_loop i).ub (k0_t14_loop i).st)
      = farRun x4 x5 (splitMaps q) 6 far ((i 1).val - 1) :=
  (none14 (F := F) c i arg2 harg2 arg3 harg3 arg4 harg4 arg5 harg5 arg6 harg6 arg7 harg7 arg8 harg8 arg9 harg9 x4 x5 a1 q far  S).trans (hS.symm.trans (far13 (F := F) c i arg2 harg2 arg3 harg3 arg4 harg4 arg5 harg5 arg6 harg6 arg7 harg7 arg8 harg8 arg9 harg9 x4 x5 a1 q far ))
theorem scan7 {S : Carry F} (hS : st_k0_t15 Variants.none c none i arg2 harg2 arg3 harg3 arg4 harg4 arg5 harg5 arg6 harg6 arg7 harg7 arg8 harg8 arg9 harg9
      a1 (iota .tc S1x128 32 [1] iota_S1x128_d1_w32) (k0_pay355 q) (iota .tc S128x128 32 [1] iota_S128x128_d1_w32) far (harg6.unread x4) (harg7.unread x5) noTiles (Scf.trips (k0_t15_loop i).lb (k0_t15_loop i).ub (k0_t15_loop i).st) = S) :
    st_k0_t16 Variants.none c none i arg2 harg2 arg3 harg3 arg4 harg4 arg5 harg5 arg6 harg6 arg7 harg7 arg8 harg8 arg9 harg9
      a1 (iota .tc S1x128 32 [1] iota_S1x128_d1_w32) (k0_pay355 q) (iota .tc S128x128 32 [1] iota_S128x128_d1_w32) far (harg6.unread x4) (harg7.unread x5) (S.1, S.2.1, S.2.2) (Scf.trips (k0_t16_loop i).lb (k0_t16_loop i).ub (k0_t16_loop i).st)
      = farRun x4 x5 (splitMaps q) 7 far ((i 1).val - 1) :=
  (none16 (F := F) c i arg2 harg2 arg3 harg3 arg4 harg4 arg5 harg5 arg6 harg6 arg7 harg7 arg8 harg8 arg9 harg9 x4 x5 a1 q far  S).trans (hS.symm.trans (far15 (F := F) c i arg2 harg2 arg3 harg3 arg4 harg4 arg5 harg5 arg6 harg6 arg7 harg7 arg8 harg8 arg9 harg9 x4 x5 a1 q far ))

theorem load_all4 (hb) : View.readAt (Elt F) arg3.view (Rect.unit (s := S4x64) ![0, 0] S4x64.size hb).toLoadRect (harg3.unread x1) = x1 := by
  funext j; rw [harg3.readAt_unread]
  refine congrArg x1 (funext fun a => Fin.ext ?_)
  match a with
  | 0 => show 0 + 1 * (j 0).val = (j 0).val; omega
  | 1 => show 0 + 1 * (j 1).val = (j 1).val; omega

theorem load_all1 (hb) : View.readAt (Elt F) arg4.view (Rect.unit (s := S1x128) ![0, 0] S1x128.size hb).toLoadRect (harg4.unread x2) = x2 := by
  funext j; rw [harg4.readAt_unread]
  refine congrArg x2 (funext fun a => Fin.ext ?_)
  match a with
  | 0 => show 0 + 1 * (j 0).val = (j 0).val; omega
  | 1 => show 0 + 1 * (j 1).val = (j 1).val; omega

end

theorem cons_congr {R : Rect S128x1024} {v v' : R.shape.Idx → Elt F .f32} {L L' : List (View.Piece (Elt F) S128x1024 .f32)}
    (h : v = v') (e : L = L') : (⟨R, v⟩ :: L : List (View.Piece (Elt F) S128x1024 .f32)) = ⟨R, v'⟩ :: L' := by rw [h, e]

end Cert.KernelIdeal.Body

end
-- ==== Proof.Attn.Tables.lean ====
/- KernelIdeal: the bias tables that `attn_prompt`'s first grid point writes. For each head there are two, the biases on the diagonal tile
   and on the one before it; each is a chain of 32 selections by the bucket of the distance, and is written twice, once for each map. -/
module

public import proofs.«01_k».proof.Proof.Attn.Head
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic
open Cert.KernelIdeal.Gen

variable {F : FTy → Type} [FloatOps F] [Named F]

/-- How far a tile's key lies before a query, for table `u`. -/
def distances (u : Fin 2) : IVec S128x128 32 :=
  addi (subi (iota .tc S128x128 32 [0] iota_S128x128_d0_w32) (iota .tc S128x128 32 [1] iota_S128x128_d1_w32)) (broadcast S128x128 (BitVec.ofNat 32 (128 * u.val)))

/-- The bucket of each distance. -/
def buckets (F : FTy → Type) [FloatOps F] (d : IVec S128x128 32) : IVec S128x128 32 :=
  select (cmpi .slt (maxsi d (broadcast S128x128 0#32)) (broadcast S128x128 16#32)) (maxsi d (broadcast S128x128 0#32))
    (minsi (addi (broadcast S128x128 16#32) (fptosi 32 (mulf (divf (log (divf (sitofp (F := F) .f32 (maxsi (maxsi d (broadcast S128x128 0#32)) (broadcast S128x128 1#32)))
        (broadcast S128x128 (Scalar.ofBits .f32 0x41800000#32)))) (broadcast S128x128 (Scalar.ofBits .f32 0x40051592#32))) (broadcast S128x128 (Scalar.ofBits .f32 0x41800000#32)))))
      (broadcast S128x128 31#32))

/-- The first `n` of the selections: where the bucket is one of them, its bias. -/
def chain (b : Fin 32 → Elt F .f32) (k : IVec S128x128 32) : ℕ → FVec F S128x128 .f32
  | 0 => broadcast S128x128 (Scalar.ofBits .f32 0x00000000#32)
  | n + 1 => select (cmpi .eq k (broadcast S128x128 (BitVec.ofNat 32 n))) (broadcast S128x128 (b (Fin.ofNat 32 n))) (chain b k n)

/-- Table `u` for a head whose biases are `b`; on the diagonal tile the keys after a query are masked. -/
def biasTable (b : Fin 32 → Elt F .f32) (u : Fin 2) : FVec F S128x128 .f32 :=
  if u.val = 0 then select (cmpi .sge (distances u) (broadcast S128x128 0#32)) (chain b (buckets F (distances u)) 32) (broadcast S128x128 (Named.named κ "mask" 0xF149F2CA#32))
  else chain b (buckets F (distances u)) 32

/-- All the tables. -/
def biasArray (X0 : Vec F S32x8 .f32) : Vec F S2x8x256x128 .f32 := fun j =>
  biasTable (fun n => X0 (ix2 n (j 1))) (j 0) (ix2 (Fin.ofNat 128 (j 2).val) (j 3))

theorem one_cell (n : Fin 32) (h : Fin 8) : ∀ a, (![n.val, h.val] : Fin 2 → ℕ) a + S1x1.size a ≤ S32x8.size a := by
  intro a; match a with
  | 0 => exact n.isLt
  | 1 => exact h.isLt

section
variable (c : Dev nD) (arg2 : Memref sig .tc .smem S32x8 .f32) (harg2 : arg2.IsWhole) (x0 : Vec F S32x8 .f32)

/-- The bias of bucket `n` and head `h`, as the body loads it. -/
def cell (h : Fin 8) (n : Fin 32) : Elt F .f32 :=
  View.readAt (Elt F) arg2.view (Rect.unit (s := S32x8) ![n.val, h.val] S1x1.size (one_cell n h)).toLoadRect (harg2.unread x0) (Shape.Idx.first (show 0 < S1x1.numel by decide))

theorem cell_eq (h : Fin 8) (n : Fin 32) : cell arg2 harg2 x0 h n = x0 (ix2 n h) := by
  unfold cell; rw [harg2.readAt_unread]
  refine congrArg x0 (funext fun a => Fin.ext ?_)
  match a with
  | 0 => show n.val + 1 * 0 = n.val; omega
  | 1 => show h.val + 1 * 0 = h.val; omega

/-- What one store into the tables holds. -/
abbrev stored (u : Fin 2) (h : Fin 8) : FVec F S1x1x128x128 .f32 := shapeCast S1x1x128x128 (biasTable (cell arg2 harg2 x0 h) u) shapeCasts_S128x128_S1x1x128x128

/-- The 32 stores, last first. -/
theorem stores : runFirst.sl.HS_32 c arg2 harg2 x0 =
  [⟨Rect.unit (s := S2x8x256x128) ![1, 7, 128, 0] S1x1x128x128.size inb_S2x8x256x128_S1x1x128x128_1_7_128_0, stored arg2 harg2 x0 1 7⟩,
   ⟨Rect.unit (s := S2x8x256x128) ![1, 7, 0, 0] S1x1x128x128.size inb_S2x8x256x128_S1x1x128x128_1_7_0_0, stored arg2 harg2 x0 1 7⟩,
   ⟨Rect.unit (s := S2x8x256x128) ![1, 6, 128, 0] S1x1x128x128.size inb_S2x8x256x128_S1x1x128x128_1_6_128_0, stored arg2 harg2 x0 1 6⟩,
   ⟨Rect.unit (s := S2x8x256x128) ![1, 6, 0, 0] S1x1x128x128.size inb_S2x8x256x128_S1x1x128x128_1_6_0_0, stored arg2 harg2 x0 1 6⟩,
   ⟨Rect.unit (s := S2x8x256x128) ![1, 5, 128, 0] S1x1x128x128.size inb_S2x8x256x128_S1x1x128x128_1_5_128_0, stored arg2 harg2 x0 1 5⟩,
   ⟨Rect.unit (s := S2x8x256x128) ![1, 5, 0, 0] S1x1x128x128.size inb_S2x8x256x128_S1x1x128x128_1_5_0_0, stored arg2 harg2 x0 1 5⟩,
   ⟨Rect.unit (s := S2x8x256x128) ![1, 4, 128, 0] S1x1x128x128.size inb_S2x8x256x128_S1x1x128x128_1_4_128_0, stored arg2 harg2 x0 1 4⟩,
   ⟨Rect.unit (s := S2x8x256x128) ![1, 4, 0, 0] S1x1x128x128.size inb_S2x8x256x128_S1x1x128x128_1_4_0_0, stored arg2 harg2 x0 1 4⟩,
   ⟨Rect.unit (s := S2x8x256x128) ![1, 3, 128, 0] S1x1x128x128.size inb_S2x8x256x128_S1x1x128x128_1_3_128_0, stored arg2 harg2 x0 1 3⟩,
   ⟨Rect.unit (s := S2x8x256x128) ![1, 3, 0, 0] S1x1x128x128.size inb_S2x8x256x128_S1x1x128x128_1_3_0_0, stored arg2 harg2 x0 1 3⟩,
   ⟨Rect.unit (s := S2x8x256x128) ![1, 2, 128, 0] S1x1x128x128.size inb_S2x8x256x128_S1x1x128x128_1_2_128_0, stored arg2 harg2 x0 1 2⟩,
   ⟨Rect.unit (s := S2x8x256x128) ![1, 2, 0, 0] S1x1x128x128.size inb_S2x8x256x128_S1x1x128x128_1_2_0_0, stored arg2 harg2 x0 1 2⟩,
   ⟨Rect.unit (s := S2x8x256x128) ![1, 1, 128, 0] S1x1x128x128.size inb_S2x8x256x128_S1x1x128x128_1_1_128_0, stored arg2 harg2 x0 1 1⟩,
   ⟨Rect.unit (s := S2x8x256x128) ![1, 1, 0, 0] S1x1x128x128.size inb_S2x8x256x128_S1x1x128x128_1_1_0_0, stored arg2 harg2 x0 1 1⟩,
   ⟨Rect.unit (s := S2x8x256x128) ![1, 0, 128, 0] S1x1x128x128.size inb_S2x8x256x128_S1x1x128x128_1_0_128_0, stored arg2 harg2 x0 1 0⟩,
   ⟨Rect.unit (s := S2x8x256x128) ![1, 0, 0, 0] S1x1x128x128.size inb_S2x8x256x128_S1x1x128x128_1_0_0_0, stored arg2 harg2 x0 1 0⟩,
   ⟨Rect.unit (s := S2x8x256x128) ![0, 7, 128, 0] S1x1x128x128.size inb_S2x8x256x128_S1x1x128x128_0_7_128_0, stored arg2 harg2 x0 0 7⟩,
   ⟨Rect.unit (s := S2x8x256x128) ![0, 7, 0, 0] S1x1x128x128.size inb_S2x8x256x128_S1x1x128x128_0_7_0_0, stored arg2 harg2 x0 0 7⟩,
   ⟨Rect.unit (s := S2x8x256x128) ![0, 6, 128, 0] S1x1x128x128.size inb_S2x8x256x128_S1x1x128x128_0_6_128_0, stored arg2 harg2 x0 0 6⟩,
   ⟨Rect.unit (s := S2x8x256x128) ![0, 6, 0, 0] S1x1x128x128.size inb_S2x8x256x128_S1x1x128x128_0_6_0_0, stored arg2 harg2 x0 0 6⟩,
   ⟨Rect.unit (s := S2x8x256x128) ![0, 5, 128, 0] S1x1x128x128.size inb_S2x8x256x128_S1x1x128x128_0_5_128_0, stored arg2 harg2 x0 0 5⟩,
   ⟨Rect.unit (s := S2x8x256x128) ![0, 5, 0, 0] S1x1x128x128.size inb_S2x8x256x128_S1x1x128x128_0_5_0_0, stored arg2 harg2 x0 0 5⟩,
   ⟨Rect.unit (s := S2x8x256x128) ![0, 4, 128, 0] S1x1x128x128.size inb_S2x8x256x128_S1x1x128x128_0_4_128_0, stored arg2 harg2 x0 0 4⟩,
   ⟨Rect.unit (s := S2x8x256x128) ![0, 4, 0, 0] S1x1x128x128.size inb_S2x8x256x128_S1x1x128x128_0_4_0_0, stored arg2 harg2 x0 0 4⟩,
   ⟨Rect.unit (s := S2x8x256x128) ![0, 3, 128, 0] S1x1x128x128.size inb_S2x8x256x128_S1x1x128x128_0_3_128_0, stored arg2 harg2 x0 0 3⟩,
   ⟨Rect.unit (s := S2x8x256x128) ![0, 3, 0, 0] S1x1x128x128.size inb_S2x8x256x128_S1x1x128x128_0_3_0_0, stored arg2 harg2 x0 0 3⟩,
   ⟨Rect.unit (s := S2x8x256x128) ![0, 2, 128, 0] S1x1x128x128.size inb_S2x8x256x128_S1x1x128x128_0_2_128_0, stored arg2 harg2 x0 0 2⟩,
   ⟨Rect.unit (s := S2x8x256x128) ![0, 2, 0, 0] S1x1x128x128.size inb_S2x8x256x128_S1x1x128x128_0_2_0_0, stored arg2 harg2 x0 0 2⟩,
   ⟨Rect.unit (s := S2x8x256x128) ![0, 1, 128, 0] S1x1x128x128.size inb_S2x8x256x128_S1x1x128x128_0_1_128_0, stored arg2 harg2 x0 0 1⟩,
   ⟨Rect.unit (s := S2x8x256x128) ![0, 1, 0, 0] S1x1x128x128.size inb_S2x8x256x128_S1x1x128x128_0_1_0_0, stored arg2 harg2 x0 0 1⟩,
   ⟨Rect.unit (s := S2x8x256x128) ![0, 0, 128, 0] S1x1x128x128.size inb_S2x8x256x128_S1x1x128x128_0_0_128_0, stored arg2 harg2 x0 0 0⟩,
   ⟨Rect.unit (s := S2x8x256x128) ![0, 0, 0, 0] S1x1x128x128.size inb_S2x8x256x128_S1x1x128x128_0_0_0_0, stored arg2 harg2 x0 0 0⟩] := by
  sl_kernel_rfl

theorem stored_ok (u : Fin 2) (h : Fin 8) (o : ℕ) (ho : o = 0 ∨ o = 128) (off : Fin 4 → ℕ) (e : off = ![u.val, h.val, o, 0])
    (hb : ∀ a, off a + S1x1x128x128.size a ≤ S2x8x256x128.size a) (x : S1x1x128x128.Idx) :
    stored arg2 harg2 x0 u h x = biasArray x0 ((Rect.unit (s := S2x8x256x128) off S1x1x128x128.size hb).emb x) := by
  subst e
  have h2 : (x 2).val < 128 := (x 2).isLt
  have h0 : (x 0).val < 1 := (x 0).isLt
  have h1 : (x 1).val < 1 := (x 1).isLt
  have eb : (fun n => x0 (ix2 n h)) = cell arg2 harg2 x0 h := funext fun n => (cell_eq arg2 harg2 x0 h n).symm
  have e0 : (Rect.unit (s := S2x8x256x128) ![u.val, h.val, o, 0] S1x1x128x128.size hb).emb x = ix4 u h ⟨o + (x 2).val, by omega⟩ (x 3) := by
    funext a
    match a with
    | 0 => exact Fin.ext (show u.val + 1 * (x 0).val = u.val by omega)
    | 1 => exact Fin.ext (show h.val + 1 * (x 1).val = h.val by omega)
    | 2 => exact Fin.ext (show o + 1 * (x 2).val = o + (x 2).val by omega)
    | 3 => exact Fin.ext (show 0 + 1 * (x 3).val = (x 3).val by omega)
  rw [e0]
  have e2 : Fin.ofNat 128 (o + (x 2).val) = x 2 := Fin.ext (show (o + (x 2).val) % 128 = (x 2).val by omega)
  show _ = biasTable (fun n => x0 (ix2 n h)) u (ix2 (Fin.ofNat 128 (o + (x 2).val)) (x 3))
  rw [e2, eb]
  pointwise [stored]

theorem ok_cons (u : Fin 2) (h : Fin 8) (o : ℕ) (ho : o = 0 ∨ o = 128) (off : Fin 4 → ℕ) (e : off = ![u.val, h.val, o, 0])
    (hb : ∀ a, off a + S1x1x128x128.size a ≤ S2x8x256x128.size a) (L : List (View.Piece (Elt F) S2x8x256x128 .f32))
    (hL : ∀ p ∈ L, ∀ x, p.2 x = biasArray x0 (p.1.emb x)) :
    ∀ p ∈ (⟨Rect.unit (s := S2x8x256x128) off S1x1x128x128.size hb, stored arg2 harg2 x0 u h⟩ : View.Piece (Elt F) S2x8x256x128 .f32) :: L, ∀ x, p.2 x = biasArray x0 (p.1.emb x) :=
  List.forall_mem_cons.mpr ⟨fun x => stored_ok arg2 harg2 x0 u h o ho off e hb x, hL⟩

/-- Together the stores hold all the tables. -/
theorem stores_ok : ∀ p ∈ runFirst.sl.HS_32 c arg2 harg2 x0, ∀ x, p.2 x = biasArray x0 (p.1.emb x) := by
  rw [stores]
  repeat first
    | (refine ok_cons arg2 harg2 x0 _ _ 128 (Or.inr rfl) _ ?_ _ _ ?_; · rfl)
    | (refine ok_cons arg2 harg2 x0 _ _ 0 (Or.inl rfl) _ ?_ _ _ ?_; · rfl)
  exact fun p hp => absurd hp List.not_mem_nil

theorem stores_cover (y : S2x8x256x128.Idx) : ∃ p ∈ runFirst.sl.HS_32 c arg2 harg2 x0, y ∈ p.1.set :=
  View.cover_of_tiledL (runFirst.sl.HS_32 c arg2 harg2 x0) S1x1x128x128.size (by sl_kernel_rfl) y

theorem stores_canon : View.canon (runFirst.sl.HS_32 c arg2 harg2 x0) = biasArray x0 :=
  funext fun y => View.canon_apply_of_pieces (biasArray x0) _ (stores_ok c arg2 harg2 x0) y (stores_cover c arg2 harg2 x0 y)

/-- A head's table, as the body loads it at the first point. -/
theorem load_stored {mb : Memref sig .tc .vmem S2x8x256x128 .f32} {off : Fin 4 → ℕ} {hb : ∀ a, off a + S1x1x256x128.size a ≤ S2x8x256x128.size a}
    (u h : ℕ) (e : off = ![u, h, 0, 0]) :
    mb.view.readCov (runFirst.sl.HS_32 c arg2 harg2 x0) (Rect.unit (s := S2x8x256x128) off S1x1x256x128.size hb).toLoadRect = table (biasArray x0) u h := by
  subst e
  have h0 : u + 1 ≤ 2 := hb 0
  have h1 : h + 1 ≤ 8 := hb 1
  rw [View.readCov_eq_canon', stores_canon]
  funext j
  refine congrArg (biasArray x0) (funext fun a => Fin.ext ?_)
  have l0 : (j 0).val < 1 := (j 0).isLt
  have l1 : (j 1).val < 1 := (j 1).isLt
  match a with
  | 0 => show u + 1 * (j 0).val = u % 2; rw [Nat.mod_eq_of_lt (by omega)]; omega
  | 1 => show h + 1 * (j 1).val = h % 8; rw [Nat.mod_eq_of_lt (by omega)]; omega
  | 2 => show 0 + 1 * (j 2).val = (j 2).val; omega
  | 3 => show 0 + 1 * (j 3).val = (j 3).val; omega
end

end Cert.KernelIdeal.Body

end
-- ==== Proof.Attn.First.lean ====
/- KernelIdeal: the stores of `attn_prompt`'s body at the first point, which also writes the bias tables. -/
module

public import proofs.«01_k».proof.Proof.Attn.Pieces
public import proofs.«01_k».proof.Proof.Attn.Tables

@[expose] public section

set_option maxRecDepth 16384

noncomputable section

namespace Cert.KernelIdeal.Body

open Idealize.ShloMosaic Idealize.ShloMosaic.TcCoe Idealize.ShloMosaic.Tactic
open Cert.KernelIdeal.Gen

variable {F : FTy → Type} [FloatOps F] [Named F]
variable (c : Dev nD) (i : grid0.Coords)
  (arg2 : Memref sig .tc .smem S32x8 .f32) (harg2 : arg2.IsWhole) (arg3 : Memref sig .tc .vmem S4x64 .f32) (harg3 : arg3.IsWhole) (arg4 : Memref sig .tc .vmem S1x128 .f32) (harg4 : arg4.IsWhole) (arg5 : Memref sig .tc .vmem S128x1024 .bf16) (harg5 : arg5.IsWhole) (arg6 : Memref sig .tc .vmem S2176x1024 .bf16) (harg6 : arg6.IsWhole) (arg7 : Memref sig .tc .vmem S2176x1024 .bf16) (harg7 : arg7.IsWhole) (arg8 : Memref sig .tc .vmem S128x1024 .f32) (harg8 : arg8.IsWhole) (arg9 : Memref sig .tc .vmem S2x8x256x128 .f32) (harg9 : arg9.IsWhole)
  (x0 : Vec F S32x8 .f32) (x1 : Vec F S4x64 .f32) (x2 : Vec F S1x128 .f32) (x3 : Vec F S128x1024 .bf16) (x4 x5 : Vec F S2176x1024 .bf16)

set_option maxHeartbeats 4000000 in
theorem first_pieces (s n) :
    (runFirst c i arg2 harg2 arg3 harg3 arg4 harg4 arg5 harg5 arg6 harg6 arg7 harg7 arg8 harg8 arg9 harg9 x0 x1 x2 x3 x4 x5 s n).1
      = headPieces fun h => finish (k0_pay164 x1) (k0_pay165 x2) (carried x3 x4 x5 x0 (biasArray x0) i false ((i 1).val - 1) h) :=
  cons_congr (diag_of (h := 7) (scan7 (F := F) c i arg2 harg2 arg3 harg3 arg4 harg4 arg5 harg5 arg6 harg6 arg7 harg7 arg8 harg8 arg9 harg9 x4 x5 (BitVec.ofNat 32 (i 1).val) _ _ rfl) (load_all4 arg3 harg3 x1 _) (load_all1 arg4 harg4 x2 _) (load_queries harg5 7 rfl)
    (load_far harg2 7 rfl) (load_stored c arg2 harg2 x0 0 7 rfl) (load_tile harg6 _ 7 rfl)
    (load_tile harg7 _ 7 rfl) rfl) <|
  cons_congr (diag_of (h := 6) (scan6 (F := F) c i arg2 harg2 arg3 harg3 arg4 harg4 arg5 harg5 arg6 harg6 arg7 harg7 arg8 harg8 arg9 harg9 x4 x5 (BitVec.ofNat 32 (i 1).val) _ _ rfl) (load_all4 arg3 harg3 x1 _) (load_all1 arg4 harg4 x2 _) (load_queries harg5 6 rfl)
    (load_far harg2 6 rfl) (load_stored c arg2 harg2 x0 0 6 rfl) (load_tile harg6 _ 6 rfl)
    (load_tile harg7 _ 6 rfl) rfl) <|
  cons_congr (diag_of (h := 5) (scan5 (F := F) c i arg2 harg2 arg3 harg3 arg4 harg4 arg5 harg5 arg6 harg6 arg7 harg7 arg8 harg8 arg9 harg9 x4 x5 (BitVec.ofNat 32 (i 1).val) _ _ _ _ _ _ rfl) (load_all4 arg3 harg3 x1 _) (load_all1 arg4 harg4 x2 _) (load_queries harg5 5 rfl)
    (load_far harg2 5 rfl) (load_stored c arg2 harg2 x0 0 5 rfl) (load_tile harg6 _ 5 rfl)
    (load_tile harg7 _ 5 rfl) rfl) <|
  cons_congr (diag_of (h := 4) (scan4 (F := F) c i arg2 harg2 arg3 harg3 arg4 harg4 arg5 harg5 arg6 harg6 arg7 harg7 arg8 harg8 arg9 harg9 x4 x5 (BitVec.ofNat 32 (i 1).val) _ _ _ _ _ _ _ _ rfl) (load_all4 arg3 harg3 x1 _) (load_all1 arg4 harg4 x2 _) (load_queries harg5 4 rfl)
    (load_far harg2 4 rfl) (load_stored c arg2 harg2 x0 0 4 rfl) (load_tile harg6 _ 4 rfl)
    (load_tile harg7 _ 4 rfl) rfl) <|
  cons_congr (diag_of (h := 3) (scan3 (F := F) c i arg2 harg2 arg3 harg3 arg4 harg4 arg5 harg5 arg6 harg6 arg7 harg7 arg8 harg8 arg9 harg9 x4 x5 (BitVec.ofNat 32 (i 1).val) _ _ _ _ _ rfl) (load_all4 arg3 harg3 x1 _) (load_all1 arg4 harg4 x2 _) (load_queries harg5 3 rfl)
    (load_far harg2 3 rfl) (load_stored c arg2 harg2 x0 0 3 rfl) (load_tile harg6 _ 3 rfl)
    (load_tile harg7 _ 3 rfl) rfl) <|
  cons_congr (diag_of (h := 2) (scan2 (F := F) c i arg2 harg2 arg3 harg3 arg4 harg4 arg5 harg5 arg6 harg6 arg7 harg7 arg8 harg8 arg9 harg9 x4 x5 (BitVec.ofNat 32 (i 1).val) _ _ rfl) (load_all4 arg3 harg3 x1 _) (load_all1 arg4 harg4 x2 _) (load_queries harg5 2 rfl)
    (load_far harg2 2 rfl) (load_stored c arg2 harg2 x0 0 2 rfl) (load_tile harg6 _ 2 rfl)
    (load_tile harg7 _ 2 rfl) rfl) <|
  cons_congr (diag_of (h := 1) (scan1 (F := F) c i arg2 harg2 arg3 harg3 arg4 harg4 arg5 harg5 arg6 harg6 arg7 harg7 arg8 harg8 arg9 harg9 x4 x5 (BitVec.ofNat 32 (i 1).val) _ _ rfl) (load_all4 arg3 harg3 x1 _) (load_all1 arg4 harg4 x2 _) (load_queries harg5 1 rfl)
    (load_far harg2 1 rfl) (load_stored c arg2 harg2 x0 0 1 rfl) (load_tile harg6 _ 1 rfl)
    (load_tile harg7 _ 1 rfl) rfl) <|
  cons_congr (diag_of (h := 0) (scan0 (F := F) c i arg2 harg2 arg3 harg3 arg4 harg4 arg5 harg5 arg6 harg6 arg7 harg7 arg8 harg8 arg9 harg9 x4 x5 (BitVec.ofNat 32 (i 1).val) _ _ _ _ rfl) (load_all4 arg3 harg3 x1 _) (load_all1 arg4 harg4 x2 _) (load_queries harg5 0 rfl)
    (load_far harg2 0 rfl) (load_stored c arg2 harg2 x0 0 0 rfl) (load_tile harg6 _ 0 rfl)
    (load_tile harg7 _ 0 rfl) rfl) <|
  rfl

end Cert.KernelIdeal.Body

end
-- ==== Proof.Attn.Near.lean ====
/- KernelIdeal: the stores of `attn_prompt`'s body at a point with a tile before the diagonal one. -/
module

public import proofs.«01_k».proof.Proof.Attn.Pieces

@[expose] public section

set_option maxRecDepth 16384

noncomputable section

namespace Cert.KernelIdeal.Body

open Idealize.ShloMosaic Idealize.ShloMosaic.TcCoe Idealize.ShloMosaic.Tactic
open Cert.KernelIdeal.Gen

variable {F : FTy → Type} [FloatOps F] [Named F]
variable (c : Dev nD) (i : grid0.Coords)
  (arg2 : Memref sig .tc .smem S32x8 .f32) (harg2 : arg2.IsWhole) (arg3 : Memref sig .tc .vmem S4x64 .f32) (harg3 : arg3.IsWhole) (arg4 : Memref sig .tc .vmem S1x128 .f32) (harg4 : arg4.IsWhole) (arg5 : Memref sig .tc .vmem S128x1024 .bf16) (harg5 : arg5.IsWhole) (arg6 : Memref sig .tc .vmem S2176x1024 .bf16) (harg6 : arg6.IsWhole) (arg7 : Memref sig .tc .vmem S2176x1024 .bf16) (harg7 : arg7.IsWhole) (arg8 : Memref sig .tc .vmem S128x1024 .f32) (harg8 : arg8.IsWhole) (arg9 : Memref sig .tc .vmem S2x8x256x128 .f32) (harg9 : arg9.IsWhole)
  (x0 : Vec F S32x8 .f32) (x1 : Vec F S4x64 .f32) (x2 : Vec F S1x128 .f32) (x3 : Vec F S128x1024 .bf16) (x4 x5 : Vec F S2176x1024 .bf16)

set_option maxHeartbeats 4000000 in
theorem near_pieces (s) (n2 n3 n4 n5 n6 n7 n8 n9) (B : Vec F S2x8x256x128 .f32) :
    (runNear c i arg2 harg2 arg3 harg3 arg4 harg4 arg5 harg5 arg6 harg6 arg7 harg7 arg8 harg8 arg9 harg9 x0 x1 x2 x3 x4 x5 s n2 n3 n4 n5 n6 n7 n8 n9 B).1
      = headPieces fun h => finish (k0_pay164 x1) (k0_pay165 x2) (carried x3 x4 x5 x0 B i true ((i 1).val - 1) h) :=
  cons_congr (near_of (h := 7) (scan7 (F := F) c i arg2 harg2 arg3 harg3 arg4 harg4 arg5 harg5 arg6 harg6 arg7 harg7 arg8 harg8 arg9 harg9 x4 x5 (BitVec.ofNat 32 (i 1).val) _ _ rfl) (load_all4 arg3 harg3 x1 _) (load_all1 arg4 harg4 x2 _) (load_queries harg5 7 rfl)
    (load_far harg2 7 rfl) (load_table harg9 1 7 rfl) (load_table harg9 0 7 rfl) (load_tile harg6 _ 7 rfl) (load_tile harg7 _ 7 rfl) (load_tile harg6 _ 7 rfl)
    (load_tile harg7 _ 7 rfl) rfl) <|
  cons_congr (near_of (h := 6) (scan6 (F := F) c i arg2 harg2 arg3 harg3 arg4 harg4 arg5 harg5 arg6 harg6 arg7 harg7 arg8 harg8 arg9 harg9 x4 x5 (BitVec.ofNat 32 (i 1).val) _ _ rfl) (load_all4 arg3 harg3 x1 _) (load_all1 arg4 harg4 x2 _) (load_queries harg5 6 rfl)
    (load_far harg2 6 rfl) (load_table harg9 1 6 rfl) (load_table harg9 0 6 rfl) (load_tile harg6 _ 6 rfl) (load_tile harg7 _ 6 rfl) (load_tile harg6 _ 6 rfl)
    (load_tile harg7 _ 6 rfl) rfl) <|
  cons_congr (near_of (h := 5) (scan5 (F := F) c i arg2 harg2 arg3 harg3 arg4 harg4 arg5 harg5 arg6 harg6 arg7 harg7 arg8 harg8 arg9 harg9 x4 x5 (BitVec.ofNat 32 (i 1).val) _ _ _ _ _ _ rfl) (load_all4 arg3 harg3 x1 _) (load_all1 arg4 harg4 x2 _) (load_queries harg5 5 rfl)
    (load_far harg2 5 rfl) (load_table harg9 1 5 rfl) (load_table harg9 0 5 rfl) (load_tile harg6 _ 5 rfl) (load_tile harg7 _ 5 rfl) (load_tile harg6 _ 5 rfl)
    (load_tile harg7 _ 5 rfl) rfl) <|
  cons_congr (near_of (h := 4) (scan4 (F := F) c i arg2 harg2 arg3 harg3 arg4 harg4 arg5 harg5 arg6 harg6 arg7 harg7 arg8 harg8 arg9 harg9 x4 x5 (BitVec.ofNat 32 (i 1).val) _ _ _ _ _ _ _ _ rfl) (load_all4 arg3 harg3 x1 _) (load_all1 arg4 harg4 x2 _) (load_queries harg5 4 rfl)
    (load_far harg2 4 rfl) (load_table harg9 1 4 rfl) (load_table harg9 0 4 rfl) (load_tile harg6 _ 4 rfl) (load_tile harg7 _ 4 rfl) (load_tile harg6 _ 4 rfl)
    (load_tile harg7 _ 4 rfl) rfl) <|
  cons_congr (near_of (h := 3) (scan3 (F := F) c i arg2 harg2 arg3 harg3 arg4 harg4 arg5 harg5 arg6 harg6 arg7 harg7 arg8 harg8 arg9 harg9 x4 x5 (BitVec.ofNat 32 (i 1).val) _ _ _ _ _ rfl) (load_all4 arg3 harg3 x1 _) (load_all1 arg4 harg4 x2 _) (load_queries harg5 3 rfl)
    (load_far harg2 3 rfl) (load_table harg9 1 3 rfl) (load_table harg9 0 3 rfl) (load_tile harg6 _ 3 rfl) (load_tile harg7 _ 3 rfl) (load_tile harg6 _ 3 rfl)
    (load_tile harg7 _ 3 rfl) rfl) <|
  cons_congr (near_of (h := 2) (scan2 (F := F) c i arg2 harg2 arg3 harg3 arg4 harg4 arg5 harg5 arg6 harg6 arg7 harg7 arg8 harg8 arg9 harg9 x4 x5 (BitVec.ofNat 32 (i 1).val) _ _ rfl) (load_all4 arg3 harg3 x1 _) (load_all1 arg4 harg4 x2 _) (load_queries harg5 2 rfl)
    (load_far harg2 2 rfl) (load_table harg9 1 2 rfl) (load_table harg9 0 2 rfl) (load_tile harg6 _ 2 rfl) (load_tile harg7 _ 2 rfl) (load_tile harg6 _ 2 rfl)
    (load_tile harg7 _ 2 rfl) rfl) <|
  cons_congr (near_of (h := 1) (scan1 (F := F) c i arg2 harg2 arg3 harg3 arg4 harg4 arg5 harg5 arg6 harg6 arg7 harg7 arg8 harg8 arg9 harg9 x4 x5 (BitVec.ofNat 32 (i 1).val) _ _ rfl) (load_all4 arg3 harg3 x1 _) (load_all1 arg4 harg4 x2 _) (load_queries harg5 1 rfl)
    (load_far harg2 1 rfl) (load_table harg9 1 1 rfl) (load_table harg9 0 1 rfl) (load_tile harg6 _ 1 rfl) (load_tile harg7 _ 1 rfl) (load_tile harg6 _ 1 rfl)
    (load_tile harg7 _ 1 rfl) rfl) <|
  cons_congr (near_of (h := 0) (scan0 (F := F) c i arg2 harg2 arg3 harg3 arg4 harg4 arg5 harg5 arg6 harg6 arg7 harg7 arg8 harg8 arg9 harg9 x4 x5 (BitVec.ofNat 32 (i 1).val) _ _ _ _ rfl) (load_all4 arg3 harg3 x1 _) (load_all1 arg4 harg4 x2 _) (load_queries harg5 0 rfl)
    (load_far harg2 0 rfl) (load_table harg9 1 0 rfl) (load_table harg9 0 0 rfl) (load_tile harg6 _ 0 rfl) (load_tile harg7 _ 0 rfl) (load_tile harg6 _ 0 rfl)
    (load_tile harg7 _ 0 rfl) rfl) <|
  rfl

end Cert.KernelIdeal.Body

end
-- ==== Proof.Attn.Diag.lean ====
/- KernelIdeal: the stores of `attn_prompt`'s body at a point whose only tile is the diagonal one, the bias tables written before. -/
module

public import proofs.«01_k».proof.Proof.Attn.Pieces

@[expose] public section

set_option maxRecDepth 16384

noncomputable section

namespace Cert.KernelIdeal.Body

open Idealize.ShloMosaic Idealize.ShloMosaic.TcCoe Idealize.ShloMosaic.Tactic
open Cert.KernelIdeal.Gen

variable {F : FTy → Type} [FloatOps F] [Named F]
variable (c : Dev nD) (i : grid0.Coords)
  (arg2 : Memref sig .tc .smem S32x8 .f32) (harg2 : arg2.IsWhole) (arg3 : Memref sig .tc .vmem S4x64 .f32) (harg3 : arg3.IsWhole) (arg4 : Memref sig .tc .vmem S1x128 .f32) (harg4 : arg4.IsWhole) (arg5 : Memref sig .tc .vmem S128x1024 .bf16) (harg5 : arg5.IsWhole) (arg6 : Memref sig .tc .vmem S2176x1024 .bf16) (harg6 : arg6.IsWhole) (arg7 : Memref sig .tc .vmem S2176x1024 .bf16) (harg7 : arg7.IsWhole) (arg8 : Memref sig .tc .vmem S128x1024 .f32) (harg8 : arg8.IsWhole) (arg9 : Memref sig .tc .vmem S2x8x256x128 .f32) (harg9 : arg9.IsWhole)
  (x0 : Vec F S32x8 .f32) (x1 : Vec F S4x64 .f32) (x2 : Vec F S1x128 .f32) (x3 : Vec F S128x1024 .bf16) (x4 x5 : Vec F S2176x1024 .bf16)

set_option maxHeartbeats 4000000 in
theorem diag_pieces (s) (n2 n3 n4 n5 n6 n7 n8 n9) (B : Vec F S2x8x256x128 .f32) :
    (runDiag c i arg2 harg2 arg3 harg3 arg4 harg4 arg5 harg5 arg6 harg6 arg7 harg7 arg8 harg8 arg9 harg9 x0 x1 x2 x3 x4 x5 s n2 n3 n4 n5 n6 n7 n8 n9 B).1
      = headPieces fun h => finish (k0_pay164 x1) (k0_pay165 x2) (carried x3 x4 x5 x0 B i false ((i 1).val - 1) h) :=
  cons_congr (diag_of (h := 7) (scan7 (F := F) c i arg2 harg2 arg3 harg3 arg4 harg4 arg5 harg5 arg6 harg6 arg7 harg7 arg8 harg8 arg9 harg9 x4 x5 (BitVec.ofNat 32 (i 1).val) _ _ rfl) (load_all4 arg3 harg3 x1 _) (load_all1 arg4 harg4 x2 _) (load_queries harg5 7 rfl)
    (load_far harg2 7 rfl) (load_table harg9 0 7 rfl) (load_tile harg6 _ 7 rfl)
    (load_tile harg7 _ 7 rfl) rfl) <|
  cons_congr (diag_of (h := 6) (scan6 (F := F) c i arg2 harg2 arg3 harg3 arg4 harg4 arg5 harg5 arg6 harg6 arg7 harg7 arg8 harg8 arg9 harg9 x4 x5 (BitVec.ofNat 32 (i 1).val) _ _ rfl) (load_all4 arg3 harg3 x1 _) (load_all1 arg4 harg4 x2 _) (load_queries harg5 6 rfl)
    (load_far harg2 6 rfl) (load_table harg9 0 6 rfl) (load_tile harg6 _ 6 rfl)
    (load_tile harg7 _ 6 rfl) rfl) <|
  cons_congr (diag_of (h := 5) (scan5 (F := F) c i arg2 harg2 arg3 harg3 arg4 harg4 arg5 harg5 arg6 harg6 arg7 harg7 arg8 harg8 arg9 harg9 x4 x5 (BitVec.ofNat 32 (i 1).val) _ _ _ _ _ _ rfl) (load_all4 arg3 harg3 x1 _) (load_all1 arg4 harg4 x2 _) (load_queries harg5 5 rfl)
    (load_far harg2 5 rfl) (load_table harg9 0 5 rfl) (load_tile harg6 _ 5 rfl)
    (load_tile harg7 _ 5 rfl) rfl) <|
  cons_congr (diag_of (h := 4) (scan4 (F := F) c i arg2 harg2 arg3 harg3 arg4 harg4 arg5 harg5 arg6 harg6 arg7 harg7 arg8 harg8 arg9 harg9 x4 x5 (BitVec.ofNat 32 (i 1).val) _ _ _ _ _ _ _ _ rfl) (load_all4 arg3 harg3 x1 _) (load_all1 arg4 harg4 x2 _) (load_queries harg5 4 rfl)
    (load_far harg2 4 rfl) (load_table harg9 0 4 rfl) (load_tile harg6 _ 4 rfl)
    (load_tile harg7 _ 4 rfl) rfl) <|
  cons_congr (diag_of (h := 3) (scan3 (F := F) c i arg2 harg2 arg3 harg3 arg4 harg4 arg5 harg5 arg6 harg6 arg7 harg7 arg8 harg8 arg9 harg9 x4 x5 (BitVec.ofNat 32 (i 1).val) _ _ _ _ _ rfl) (load_all4 arg3 harg3 x1 _) (load_all1 arg4 harg4 x2 _) (load_queries harg5 3 rfl)
    (load_far harg2 3 rfl) (load_table harg9 0 3 rfl) (load_tile harg6 _ 3 rfl)
    (load_tile harg7 _ 3 rfl) rfl) <|
  cons_congr (diag_of (h := 2) (scan2 (F := F) c i arg2 harg2 arg3 harg3 arg4 harg4 arg5 harg5 arg6 harg6 arg7 harg7 arg8 harg8 arg9 harg9 x4 x5 (BitVec.ofNat 32 (i 1).val) _ _ rfl) (load_all4 arg3 harg3 x1 _) (load_all1 arg4 harg4 x2 _) (load_queries harg5 2 rfl)
    (load_far harg2 2 rfl) (load_table harg9 0 2 rfl) (load_tile harg6 _ 2 rfl)
    (load_tile harg7 _ 2 rfl) rfl) <|
  cons_congr (diag_of (h := 1) (scan1 (F := F) c i arg2 harg2 arg3 harg3 arg4 harg4 arg5 harg5 arg6 harg6 arg7 harg7 arg8 harg8 arg9 harg9 x4 x5 (BitVec.ofNat 32 (i 1).val) _ _ rfl) (load_all4 arg3 harg3 x1 _) (load_all1 arg4 harg4 x2 _) (load_queries harg5 1 rfl)
    (load_far harg2 1 rfl) (load_table harg9 0 1 rfl) (load_tile harg6 _ 1 rfl)
    (load_tile harg7 _ 1 rfl) rfl) <|
  cons_congr (diag_of (h := 0) (scan0 (F := F) c i arg2 harg2 arg3 harg3 arg4 harg4 arg5 harg5 arg6 harg6 arg7 harg7 arg8 harg8 arg9 harg9 x4 x5 (BitVec.ofNat 32 (i 1).val) _ _ _ _ rfl) (load_all4 arg3 harg3 x1 _) (load_all1 arg4 harg4 x2 _) (load_queries harg5 0 rfl)
    (load_far harg2 0 rfl) (load_table harg9 0 0 rfl) (load_tile harg6 _ 0 rfl)
    (load_tile harg7 _ 0 rfl) rfl) <|
  rfl

end Cert.KernelIdeal.Body

end
-- ==== Proof.Attn.Left.lean ====
/- KernelIdeal: what a grid point of `attn_prompt` leaves in the output's block, head by head. The bias tables that later points find are
   the ones of `biasArray`, so every point leaves the same function of its blocks. -/
module

public import proofs.«01_k».proof.Proof.Attn.Launch
public import proofs.«01_k».proof.Proof.Attn.First
public import proofs.«01_k».proof.Proof.Attn.Near
public import proofs.«01_k».proof.Proof.Attn.Diag
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic
open Cert.KernelIdeal.Gen

variable {F : FTy → Type} [FloatOps F] [Named F]

/-- What the eight stores of the heads hold, at an index. -/
def ofHeads (f : ℕ → FVec F S128x128 .f32) : Vec F S128x1024 .f32 := fun y => f ((y 1).val / 128) (ix2 (y 0) (Fin.ofNat 128 (y 1).val))

theorem head_ok (f : ℕ → FVec F S128x128 .f32) (h : ℕ) (hh : h < 8) (off : Fin 2 → ℕ) (e : off = ![0, 128 * h])
    (hb : ∀ a, off a + S128x128.size a ≤ S128x1024.size a) (x : S128x128.Idx) :
    f h x = ofHeads f ((Rect.unit (s := S128x1024) off S128x128.size hb).emb x) := by
  subst e
  have h0 : (x 0).val < 128 := (x 0).isLt
  have h1 : (x 1).val < 128 := (x 1).isLt
  have e0 : (Rect.unit (s := S128x1024) ![0, 128 * h] S128x128.size hb).emb x = ix2 (x 0) (⟨128 * h + (x 1).val, by omega⟩ : Fin 1024) := by
    funext a
    match a with
    | 0 => exact Fin.ext (show 0 + 1 * (x 0).val = (x 0).val by omega)
    | 1 => exact Fin.ext (show 128 * h + 1 * (x 1).val = 128 * h + (x 1).val by omega)
  rw [e0]
  have eh : (128 * h + (x 1).val) / 128 = h := by omega
  have el : Fin.ofNat 128 (128 * h + (x 1).val) = x 1 := Fin.ext (show (128 * h + (x 1).val) % 128 = (x 1).val by omega)
  show _ = f ((128 * h + (x 1).val) / 128) (ix2 (x 0) (Fin.ofNat 128 (128 * h + (x 1).val)))
  rw [eh, el]
  exact congrArg (f h) (funext fun a => by match a with | 0 => rfl | 1 => rfl)

theorem heads_cons (f : ℕ → FVec F S128x128 .f32) (h : ℕ) (hh : h < 8) (off : Fin 2 → ℕ) (e : off = ![0, 128 * h])
    (hb : ∀ a, off a + S128x128.size a ≤ S128x1024.size a) (L : List (View.Piece (Elt F) S128x1024 .f32))
    (hL : ∀ p ∈ L, ∀ x, p.2 x = ofHeads f (p.1.emb x)) :
    ∀ p ∈ (⟨Rect.unit (s := S128x1024) off S128x128.size hb, f h⟩ : View.Piece (Elt F) S128x1024 .f32) :: L, ∀ x, p.2 x = ofHeads f (p.1.emb x) :=
  List.forall_mem_cons.mpr ⟨fun x => head_ok f h hh off e hb x, hL⟩

theorem heads_ok (f : ℕ → FVec F S128x128 .f32) : ∀ p ∈ headPieces f, ∀ x, p.2 x = ofHeads f (p.1.emb x) :=
  heads_cons f 7 (by decide) _ rfl _ _ <| heads_cons f 6 (by decide) _ rfl _ _ <| heads_cons f 5 (by decide) _ rfl _ _ <|
  heads_cons f 4 (by decide) _ rfl _ _ <| heads_cons f 3 (by decide) _ rfl _ _ <| heads_cons f 2 (by decide) _ rfl _ _ <|
  heads_cons f 1 (by decide) _ rfl _ _ <| heads_cons f 0 (by decide) _ rfl _ _ fun p hp => absurd hp List.not_mem_nil

theorem heads_cover (f : ℕ → FVec F S128x128 .f32) (y : S128x1024.Idx) : ∃ p ∈ headPieces f, y ∈ p.1.set :=
  View.cover_of_tiledL (headPieces f) S128x128.size (by sl_kernel_rfl) y

theorem asBlock_heads (f : ℕ → FVec F S128x128 .f32) : asBlock (headPieces f) = ofHeads f := by
  unfold asBlock
  rw [View.read_writes_junk_eq_canon]
  exact funext fun y => View.canon_apply_of_pieces (ofHeads f) _ (heads_ok f) y (heads_cover f y)

variable (m : (ℓ : Loc nD τ sig) → Buf (Elt F) ℓ) (c : Dev nD)

/-- The bias window is the whole array at every point. -/
theorem bias_block : ∀ t : Fin cfg0.N, iblk m c 0 t = V m c main_arg3 := fun t => by
  have e : ∀ t : Fin cfg0.N, win0_0.index t = ![0, 0] := (by decide +kernel : ∀ t : Fin grid0.N, _)
  funext x
  blk_simp [iblk]
  refine congrArg (V m c main_arg3) ?_
  blk_ext [e]

theorem tables_eq : tables m c = biasArray (V m c main_arg3) := by
  unfold tables
  rw [View.read_writes_junk_eq_canon, ← bias_block m c t0_0]
  exact stores_canon c (ms0_0 t0_0) (hs0_0 t0_0) (iblk m c 0 t0_0)

/-- What every point leaves in its block. -/
theorem left_eq (t : Fin cfg0.N) : left m c t = ofHeads fun h => finish (k0_pay164 (iblk m c 1 t)) (k0_pay165 (iblk m c 2 t))
    (carried (iblk m c 3 t) (X0_4 m c t) (X0_5 m c t) (V m c main_arg3) (biasArray (V m c main_arg3)) (grid0.coords t) (decide (1 ≤ t.val % 17)) ((grid0.coords t 1).val - 1) h) := by
  unfold left
  split
  · rename_i s
    have h0 : t.val = 0 := (first_iff t).mp s
    split
    · rename_i n
      exact absurd ((near_iff t).mp n) (by rw [h0]; decide)
    · rename_i n
      have : decide (1 ≤ t.val % 17) = false := decide_eq_false fun h => n ((near_iff t).mpr h)
      rw [this, ← bias_block m c t, ← asBlock_heads]
      exact congrArg asBlock (first_pieces ..)
  · rename_i s
    split
    · rename_i n
      have : decide (1 ≤ t.val % 17) = true := decide_eq_true ((near_iff t).mp n)
      rw [this, tables_eq, ← bias_block m c t, ← asBlock_heads]
      exact congrArg asBlock (near_pieces ..)
    · rename_i n
      have : decide (1 ≤ t.val % 17) = false := decide_eq_false fun h => n ((near_iff t).mpr h)
      rw [this, tables_eq, ← bias_block m c t, ← asBlock_heads]
      exact congrArg asBlock (diag_pieces ..)

end Cert.KernelIdeal.Body

end
-- ==== Proof.Attn.Host.lean ====
/- KernelIdeal: the arrays that `attn_prompt`'s launch is given, at an index. The queries (scaled by 1/8), the keys and the values are laid
   out by rows, each sequence with 112 zero rows before it; the lambda vectors and the norm's gains are only reshaped. -/
module

public import proofs.«01_k».proof.Proof.Gen.KernelIdeal.Frame
public import Idealize.ShloMosaic.Lib.StableHlo.Run
public import Idealize.ShloMosaic.Lib.Claim
public import Idealize.ShloMosaic.Lib.KernelVsHost
public import Idealize.ShloMosaic.Lib.Pointwise

@[expose] public section

set_option maxRecDepth 16384

noncomputable section

namespace Cert.KernelIdeal.Body

open Idealize.ShloMosaic Idealize.ShloMosaic.TcCoe Idealize.SL.Sem
open Cert.KernelIdeal.Gen

/-- The rows of all sequences, each sequence after 112 zero rows, 256 zero rows after the last. -/
def rowsOf (y : FVec Ideal S8x2064x1024 .f32) : FVec Ideal S17664x1024 .f32 :=
  pad S17664x1024 ![0, 0] ![256, 0] ![0, 0]
    (shapeCast S17408x1024 (pad S8x2176x1024 ![0, 112, 0] ![0, 0, 0] ![0, 0, 0] y (sitofp (F := Ideal) .f32 (constantI S_ 32 0#32)) pads_S8x2064x1024_S8x2176x1024_000_11200_000 h_S_)
      shapeCasts_S8x2176x1024_S17408x1024)
    (sitofp (F := Ideal) .f32 (constantI S_ 32 0#32)) pads_S17408x1024_S17664x1024_02560_000 h_S_

/-- They as the kernel is given them. -/
def paddedRows (y : FVec Ideal S8x2064x1024 .f32) : FVec Ideal S17664x1024 .bf16 := truncf .bf16 (rowsOf y) bitsLt_bf16_f32

/-- Row `112 + k` of sequence `b` is the sequence's row `k`. -/
theorem paddedRows_apply (y : FVec Ideal S8x2064x1024 .f32) (b : Fin 8) (k : Fin 2064) (l : Fin 1024) (n : Fin 17664)
    (hn : n.val = 2176 * b.val + (112 + k.val)) : paddedRows y (ix2 n l) = y (ix3 b k l) := by
  show rowsOf y (ix2 n l) = _
  unfold rowsOf
  refine (pad_apply_of_inside _ _ _ _ _ _ _ _ (ix2 (⟨n.val, by omega⟩ : Fin 17408) l) (fun a => ?_)).trans ?_
  · match a with
    | 0 => show n.val = 0 + n.val * 1; omega
    | 1 => show l.val = 0 + l.val * 1; omega
  refine (shapeCast_apply _ _ _ (ix3 b (⟨112 + k.val, by omega⟩ : Fin 2176) l) ?_).trans ?_
  · rw [Shape.rowMajor_val_two, Shape.rowMajor_val_three]
    show (b.val * 2176 + (112 + k.val)) * 1024 + l.val = n.val * 1024 + l.val
    omega
  refine pad_apply_of_inside _ _ _ _ _ _ _ _ _ fun a => ?_
  match a with
  | 0 => show b.val = 0 + b.val * 1; omega
  | 1 => show 112 + k.val = 112 + k.val * 1; omega
  | 2 => show l.val = 0 + l.val * 1; omega

variable (m : (ℓ : Loc nD τ sig) → Buf (Elt Ideal) ℓ) (c : Dev nD)

/-- The queries as launched. -/
abbrev argQ : FVec Ideal S8x2064x8x2x64 .f32 := m ((c : Thread nD τ).loc main_arg0)

theorem V_main_v6 : V m c main_v6 = paddedRows (shapeCast S8x2064x1024 (mulf (argQ m c)
    (broadcastInDim S8x2064x8x2x64 ![] bcast_S_S8x2064x8x2x64 (constant (F := Ideal) S_ .f32 0x3E000000#32))) shapeCasts_S8x2064x8x2x64_S8x2064x1024) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  rfl

theorem V_main_v11 : V m c main_v11 = paddedRows (shapeCast S8x2064x1024 (m ((c : Thread nD τ).loc main_arg1) : FVec Ideal S8x2064x8x2x64 .f32) shapeCasts_S8x2064x8x2x64_S8x2064x1024) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  rfl

theorem V_main_v16 : V m c main_v16 = paddedRows (shapeCast S8x2064x1024 (m ((c : Thread nD τ).loc main_arg2) : FVec Ideal S8x2064x8x128 .f32) shapeCasts_S8x2064x8x128_S8x2064x1024) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  rfl

theorem V_main_v17 : V m c main_v17 = shapeCast S4x64 (m ((c : Thread nD τ).loc main_arg4) : FVec Ideal S1x4x64 .f32) shapeCasts_S1x4x64_S4x64 := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  rfl

theorem V_main_v19 : V m c main_v19 = shapeCast S1x128 (shapeCast S128 (m ((c : Thread nD τ).loc main_arg5) : FVec Ideal S1x128 .f32) shapeCasts_S1x128_S128) shapeCasts_S128_S1x128 := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  rfl

/-- A query's lane. -/
theorem queries_apply (b : Fin 8) (k : Fin 2064) (h : Fin 8) (l : Fin 128) (n : Fin 17664) (hn : n.val = 2176 * b.val + (112 + k.val)) (j : Fin 1024)
    (hj : j.val = 128 * h.val + l.val) :
    V m c main_v6 (ix2 n j) = argQ m c (ix5 b k h (⟨l.val / 64, by omega⟩ : Fin 2) (⟨l.val % 64, by omega⟩ : Fin 64)) * Ideal.ofBits .f32 0x3E000000#32 := by
  rw [V_main_v6, paddedRows_apply _ b k j n hn]
  refine (shapeCast_apply _ _ _ (ix5 b k h (⟨l.val / 64, by omega⟩ : Fin 2) (⟨l.val % 64, by omega⟩ : Fin 64)) ?_).trans rfl
  rw [Shape.rowMajor_val_three, Shape.rowMajor_val_five]
  show (((b.val * 2064 + k.val) * 8 + h.val) * 2 + l.val / 64) * 64 + l.val % 64 = (b.val * 2064 + k.val) * 1024 + j.val
  omega

/-- A key's lane. -/
theorem keys_apply (b : Fin 8) (k : Fin 2064) (h : Fin 8) (l : Fin 128) (n : Fin 17664) (hn : n.val = 2176 * b.val + (112 + k.val)) (j : Fin 1024)
    (hj : j.val = 128 * h.val + l.val) :
    V m c main_v11 (ix2 n j) = m ((c : Thread nD τ).loc main_arg1) (ix5 b k h (⟨l.val / 64, by omega⟩ : Fin 2) (⟨l.val % 64, by omega⟩ : Fin 64)) := by
  rw [V_main_v11, paddedRows_apply _ b k j n hn]
  refine shapeCast_apply _ _ _ (ix5 b k h (⟨l.val / 64, by omega⟩ : Fin 2) (⟨l.val % 64, by omega⟩ : Fin 64)) ?_
  rw [Shape.rowMajor_val_three, Shape.rowMajor_val_five]
  show (((b.val * 2064 + k.val) * 8 + h.val) * 2 + l.val / 64) * 64 + l.val % 64 = (b.val * 2064 + k.val) * 1024 + j.val
  omega

/-- A value's lane. -/
theorem values_apply (b : Fin 8) (k : Fin 2064) (h : Fin 8) (e : Fin 128) (n : Fin 17664) (hn : n.val = 2176 * b.val + (112 + k.val)) (j : Fin 1024)
    (hj : j.val = 128 * h.val + e.val) :
    V m c main_v16 (ix2 n j) = m ((c : Thread nD τ).loc main_arg2) (ix4 b k h e) := by
  rw [V_main_v16, paddedRows_apply _ b k j n hn]
  refine shapeCast_apply _ _ _ (ix4 b k h e) ?_
  rw [Shape.rowMajor_val_three, Shape.rowMajor_val_four]
  show ((b.val * 2064 + k.val) * 8 + h.val) * 128 + e.val = (b.val * 2064 + k.val) * 1024 + j.val
  omega

theorem lambdas_apply (a : Fin 4) (x : Fin 64) : V m c main_v17 (ix2 a x) = m ((c : Thread nD τ).loc main_arg4) (ix3 (0 : Fin 1) a x) := by
  rw [V_main_v17]
  refine shapeCast_apply _ _ _ (ix3 (0 : Fin 1) a x) ?_
  rw [Shape.rowMajor_val_three, Shape.rowMajor_val_two]
  show (0 * 4 + a.val) * 64 + x.val = a.val * 64 + x.val
  omega

theorem gains_apply (e : Fin 128) : V m c main_v19 (ix2 (0 : Fin 1) e) = m ((c : Thread nD τ).loc main_arg5) (ix2 (0 : Fin 1) e) := by
  rw [V_main_v19, shapeCast_shapeCast]
end Cert.KernelIdeal.Body

end
-- ==== Proof.Attn.Online.lean ====
/- The mathematics of the online softmax over the extended reals: the running maximum, the running sum of weights and the running weighted sum,
   tile by tile; that they end at the softmax's own; and the differential combination of two softmaxes. Nothing here is about a program. -/
module

public import Idealize.ShloMosaic.PureOps.Ideal

@[expose] public section

noncomputable section

namespace Cert.Attn

open Idealize.ShloMosaic

/-- Subtracting `⊤` gives `⊥`, also from `⊤`. -/
theorem sub_top' (x : EReal) : x - ⊤ = ⊥ := by
  rw [sub_eq_add_neg, EReal.neg_top, EReal.add_bot]

theorem bot_sub' (x : EReal) : (⊥ : EReal) - x = ⊥ := by
  rw [sub_eq_add_neg, EReal.bot_add]

theorem exp_nonneg (x : EReal) : 0 ≤ Ideal.exp x := by
  induction x with
  | bot => simp
  | top => simp
  | coe r => rw [Ideal.exp_coe]; exact_mod_cast (Real.exp_pos r).le

/-- A weight of something not above the maximum is a real between 0 and 1. -/
theorem exp_sub_of_le {t m : EReal} (h : t ≤ m) : ∃ r : ℝ, 0 ≤ r ∧ r ≤ 1 ∧ Ideal.exp (t - m) = (r : EReal) := by
  induction m with
  | bot => rw [le_bot_iff.mp h, bot_sub']; exact ⟨0, le_rfl, zero_le_one, by simp⟩
  | top => rw [sub_top']; exact ⟨0, le_rfl, zero_le_one, by simp⟩
  | coe m =>
    induction t with
    | bot => rw [bot_sub']; exact ⟨0, le_rfl, zero_le_one, by simp⟩
    | top => exact absurd h (by simp)
    | coe t =>
      refine ⟨Real.exp (t - m), (Real.exp_pos _).le, ?_, by rw [← EReal.coe_sub, Ideal.exp_coe]⟩
      rw [Real.exp_le_one_iff]; have := EReal.coe_le_coe_iff.mp h; linarith

/-- Rescaling a weight from one maximum to a larger one. -/
theorem exp_rescale {t m m' : EReal} (h : t ≤ m) (h' : m ≤ m') :
    Ideal.exp (t - m) * Ideal.exp (m - m') = Ideal.exp (t - m') := by
  induction m with
  | bot => rw [le_bot_iff.mp h, bot_sub', bot_sub']; simp
  | top => rw [top_le_iff.mp h', sub_top', sub_top']; simp
  | coe m =>
    induction m' with
    | bot => exact absurd h' (by simp)
    | top => rw [sub_top', sub_top']; simp
    | coe m' =>
      induction t with
      | bot => rw [bot_sub', bot_sub']; simp
      | top => exact absurd h (by simp)
      | coe t =>
        rw [← EReal.coe_sub, ← EReal.coe_sub, ← EReal.coe_sub, Ideal.exp_coe, Ideal.exp_coe, Ideal.exp_coe, ← EReal.coe_mul, ← Real.exp_add]
        congr 2; ring

theorem sum_mul_real {ι : Type} (s : Finset ι) (f : ι → EReal) {r : ℝ} (hr : 0 ≤ r) : (∑ k ∈ s, f k) * (r : EReal) = ∑ k ∈ s, f k * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- The largest of the first `n` scores. -/
def top (T : ℕ → EReal) (n : ℕ) : EReal := (Finset.range n).sup T

/-- The sum of `w` over the first `n` keys, each weighted by the exponential of its score less the largest. -/
def wsum (T w : ℕ → EReal) (n : ℕ) : EReal := ∑ k ∈ Finset.range n, Ideal.exp (T k - top T n) * w k

theorem top_zero (T : ℕ → EReal) : top T 0 = ⊥ := by simp [top]
theorem wsum_zero (T w : ℕ → EReal) : wsum T w 0 = 0 := by simp [wsum]

theorem top_add (T : ℕ → EReal) (n k : ℕ) : top T (n + k) = max (top T n) (Finset.univ.sup fun r : Fin k => T (n + r.val)) := by
  refine eq_of_forall_ge_iff fun c => ?_
  simp only [top, Finset.sup_le_iff, max_le_iff, Finset.mem_range, Finset.mem_univ, true_implies]
  constructor
  · exact fun h => ⟨fun j hj => h j (by omega), fun r => h _ (by omega)⟩
  · rintro ⟨h, h'⟩ j hj
    by_cases hn : j < n
    · exact h j hn
    · have := h' ⟨j - n, by omega⟩
      rwa [show n + (⟨j - n, by omega⟩ : Fin k).val = j by simp; omega] at this

/-- One step of the online softmax: the weighted sum so far rescaled to the new maximum, plus the new tile's. -/
theorem wsum_add (T w : ℕ → EReal) (n k : ℕ) :
    wsum T w (n + k) = wsum T w n * Ideal.exp (top T n - top T (n + k))
      + ∑ r : Fin k, Ideal.exp (T (n + r.val) - top T (n + k)) * w (n + r.val) := by
  have hle : top T n ≤ top T (n + k) := by rw [top_add]; exact le_max_left _ _
  obtain ⟨a, ha, -, he⟩ := exp_sub_of_le hle
  rw [wsum, Finset.sum_range_add, ← Fin.sum_univ_eq_sum_range (fun x => Ideal.exp (T (n + x) - top T (n + k)) * w (n + x)), wsum, he, sum_mul_real _ _ ha]
  congr 1
  refine Finset.sum_congr rfl fun j hj => ?_
  have hj' : T j ≤ top T n := Finset.le_sup hj
  rw [← exp_rescale hj' hle, he, mul_assoc, mul_comm (a : EReal), ← mul_assoc]

/-- Keys scored `⊥` carry no weight: only the window `[a, a + p)` of the first `n` keys counts when every other key's score is `⊥`. -/
theorem top_window {T : ℕ → EReal} {n a p : ℕ} (h : a + p ≤ n ∨ ∀ k, n ≤ k → T k = ⊥) (hlo : ∀ k, k < a → T k = ⊥) (hhi : ∀ k, a + p ≤ k → T k = ⊥) :
    top T n = Finset.univ.sup fun k : Fin p => T (a + k.val) := by
  refine eq_of_forall_ge_iff fun c => ?_
  simp only [top, Finset.sup_le_iff, Finset.mem_range, Finset.mem_univ, true_implies]
  constructor
  · intro g r
    by_cases hr : a + r.val < n
    · exact g _ hr
    · rcases h with h | h
      · omega
      · rw [h _ (by omega)]; exact bot_le
  · intro g j _
    by_cases h1 : j < a
    · rw [hlo j h1]; exact bot_le
    by_cases h2 : a + p ≤ j
    · rw [hhi j h2]; exact bot_le
    have := g ⟨j - a, by omega⟩
    rwa [show a + (⟨j - a, by omega⟩ : Fin p).val = j by simp; omega] at this

theorem wsum_window {T : ℕ → EReal} {n a p : ℕ} (w : ℕ → EReal) (h : a + p ≤ n ∨ ∀ k, n ≤ k → T k = ⊥) (hlo : ∀ k, k < a → T k = ⊥)
    (hhi : ∀ k, a + p ≤ k → T k = ⊥) :
    wsum T w n = ∑ k : Fin p, Ideal.exp (T (a + k.val) - Finset.univ.sup fun k : Fin p => T (a + k.val)) * w (a + k.val) := by
  rw [wsum, top_window h hlo hhi]
  set M := Finset.univ.sup fun k : Fin p => T (a + k.val)
  have z : ∀ k, T k = ⊥ → Ideal.exp (T k - M) * w k = 0 := fun k hk => by rw [hk, bot_sub']; simp
  rw [Fin.sum_univ_eq_sum_range (fun k => Ideal.exp (T (a + k) - M) * w (a + k)) p]
  have e1 : ∑ k ∈ Finset.range n, Ideal.exp (T k - M) * w k = ∑ k ∈ Finset.range (max n (a + p)), Ideal.exp (T k - M) * w k := by
    refine Finset.sum_subset (by intro k; simp only [Finset.mem_range]; omega) fun k _ hk => ?_
    rcases h with h | h
    · exact z k (hhi k (by simp only [Finset.mem_range] at *; omega))
    · exact z k (h k (by simp only [Finset.mem_range] at *; omega))
  have e2 : ∑ k ∈ Finset.range (a + p), Ideal.exp (T k - M) * w k = ∑ k ∈ Finset.range (max n (a + p)), Ideal.exp (T k - M) * w k := by
    refine Finset.sum_subset (by intro k; simp only [Finset.mem_range]; omega) fun k _ hk => ?_
    exact z k (hhi k (by simp only [Finset.mem_range] at *; omega))
  rw [e1, ← e2, Finset.sum_range_add, Finset.sum_eq_zero (fun k hk => z k (hlo k (Finset.mem_range.mp hk))), zero_add]

/-! ## The two softmaxes and their difference -/

section Diff
variable {κ ε : Type} [Fintype κ] [Fintype ε]

/-- The weights of a softmax before their division by the sum. -/
def weight (S : κ → EReal) (k : κ) : EReal := Ideal.exp (S k - Finset.univ.sup S)

/-- Either every weight is 0, or the weights are reals whose sum is at least 1. -/
theorem weights (S : κ → EReal) :
    (∀ k, weight S k = 0) ∨ ∃ e : κ → ℝ, (∀ k, weight S k = (e k : EReal)) ∧ 1 ≤ ∑ k, e k := by
  have hle : ∀ k, S k ≤ Finset.univ.sup S := fun k => Finset.le_sup (Finset.mem_univ k)
  generalize hM : Finset.univ.sup S = M at hle
  unfold weight; rw [hM]
  induction M with
  | bot => left; intro k; rw [le_bot_iff.mp (hle k), bot_sub']; simp
  | top => left; intro k; rw [sub_top']; simp
  | coe M =>
    right
    choose e he0 he1 he using fun k => exp_sub_of_le (hle k)
    refine ⟨e, he, ?_⟩
    rcases isEmpty_or_nonempty κ with hk | hk
    · simp [Finset.univ_eq_empty] at hM
    obtain ⟨k, -, hk⟩ := Finset.exists_mem_eq_sup Finset.univ Finset.univ_nonempty S
    have h1 : e k = 1 := by
      have := he k
      rw [← hk, hM, ← EReal.coe_sub, sub_self, Ideal.exp_coe, Real.exp_zero] at this
      exact_mod_cast this.symm
    calc (1 : ℝ) = e k := h1.symm
      _ ≤ ∑ k, e k := Finset.single_le_sum (fun k _ => he0 k) (Finset.mem_univ k)

theorem coe_sum' (f : κ → ℝ) : ((∑ k, f k : ℝ) : EReal) = ∑ k, (f k : EReal) := by
  classical
  induction (Finset.univ : Finset κ) using Finset.induction_on with
  | empty => simp
  | insert a s ha ih => rw [Finset.sum_insert ha, Finset.sum_insert ha, EReal.coe_add, ih]

/-- Neither a real other than 0, so that its square is infinite or 0. -/
def Flat (x : EReal) : Prop := x = ⊤ ∨ x = ⊥ ∨ x = 0

theorem Flat.mul_self {x : EReal} (h : Flat x) : x * x = ⊤ ∨ x = 0 := by
  rcases h with h | h | h
  · left; rw [h]; simp
  · left; rw [h]; simp
  · right; exact h

theorem Flat.add {x y : EReal} (hx : Flat x) (hy : Flat y) : Flat (x + y) := by
  rcases hx with rfl | rfl | rfl <;> rcases hy with rfl | rfl | rfl <;> simp [Flat]

theorem Flat.sum (f : κ → EReal) (h : ∀ k, Flat (f k)) : Flat (∑ k, f k) := by
  classical
  induction (Finset.univ : Finset κ) using Finset.induction_on with
  | empty => simp [Flat]
  | insert a s ha ih => rw [Finset.sum_insert ha]; exact (h a).add ih

/-- Normalising by the root mean square makes a row of infinities and zeros 0. -/
theorem normalised_flat (r : EReal → EReal) (hr : r ⊤ = 0) (o : ε → EReal) (h : ∀ e, Flat (o e)) (e : ε) :
    o e * r (∑ e', o e' * o e') = 0 := by
  classical
  by_cases hz : ∀ e', o e' = 0
  · rw [hz e, zero_mul]
  push Not at hz
  obtain ⟨e', he'⟩ := hz
  have : ∑ e', o e' * o e' = ⊤ := by
    refine top_le_iff.mp ?_
    calc (⊤ : EReal) = o e' * o e' := (((h e').mul_self).resolve_right he').symm
      _ ≤ ∑ e', o e' * o e' := Finset.single_le_sum (f := fun e => o e * o e) (fun x _ => ?_) (Finset.mem_univ e')
    rcases (h x).mul_self with hx | hx
    · rw [hx]; exact le_top
    · rw [hx]; simp
  rw [this, hr, mul_zero]

/-- The kernel's form: the two weighted sums, each divided by its sum of weights, combined. -/
def combined (S₀ S₁ : κ → EReal) (v : κ → ε → EReal) (lam : EReal) (e : ε) : EReal :=
  Ideal.div (∑ k, weight S₀ k * v k e) (∑ k, weight S₀ k) - lam * Ideal.div (∑ k, weight S₁ k * v k e) (∑ k, weight S₁ k)

/-- The reference's form: the difference of the two softmaxes, weighing the values. -/
def attended (S₀ S₁ : κ → EReal) (v : κ → ε → EReal) (lam : EReal) (e : ε) : EReal :=
  ∑ k, v k e * (Ideal.div (weight S₀ k) (∑ k, weight S₀ k) - lam * Ideal.div (weight S₁ k) (∑ k, weight S₁ k))

theorem div_zero_zero : Ideal.div 0 0 = ⊥ := by simp [Ideal.div]

theorem div_real (x : ℝ) {y : ℝ} (hy : y ≠ 0) : Ideal.div (x : EReal) (y : EReal) = ((x / y : ℝ) : EReal) := by
  rw [Ideal.div, if_neg (by exact_mod_cast hy), ← EReal.coe_inv, ← EReal.coe_mul, div_eq_mul_inv]

theorem flat_mul_infinite {x : EReal} (hx : x = ⊤ ∨ x = ⊥) (v : ℝ) : Flat ((v : EReal) * x) := by
  rcases lt_trichotomy v 0 with h | h | h <;> rcases hx with rfl | rfl
  · exact .inr (.inl (EReal.coe_mul_top_of_neg h))
  · exact .inl (EReal.coe_mul_bot_of_neg h)
  · subst h; simp [Flat]
  · subst h; simp [Flat]
  · exact .inl (EReal.coe_mul_top_of_pos h)
  · exact .inr (.inl (EReal.coe_mul_bot_of_pos h))

/-- Over finite values and a finite factor the two forms agree, or both are rows of infinities and zeros; which of the two does not matter once
    each is normalised. -/
theorem normalised_eq (r : EReal → EReal) (hr : r ⊤ = 0) (S₀ S₁ : κ → EReal) (v : κ → ε → ℝ) (lam : ℝ) (e : ε) :
    combined S₀ S₁ (fun k e => (v k e : EReal)) lam e * r (∑ e', combined S₀ S₁ (fun k e => (v k e : EReal)) lam e' * combined S₀ S₁ (fun k e => (v k e : EReal)) lam e')
      = attended S₀ S₁ (fun k e => (v k e : EReal)) lam e
          * r (∑ e', attended S₀ S₁ (fun k e => (v k e : EReal)) lam e' * attended S₀ S₁ (fun k e => (v k e : EReal)) lam e') := by
  have key : (∀ e, combined S₀ S₁ (fun k e => (v k e : EReal)) lam e = attended S₀ S₁ (fun k e => (v k e : EReal)) lam e)
      ∨ ((∀ e, Flat (combined S₀ S₁ (fun k e => (v k e : EReal)) lam e)) ∧ ∀ e, Flat (attended S₀ S₁ (fun k e => (v k e : EReal)) lam e)) := by
    rcases weights S₀ with h0 | ⟨e0, h0, l0⟩
    · right
      have hb : ∀ x : EReal, (⊥ : EReal) - x = ⊥ := bot_sub'
      constructor <;> intro e
      · unfold combined; simp only [h0, zero_mul, Finset.sum_const_zero, div_zero_zero, hb]; exact .inr (.inl rfl)
      · unfold attended; simp only [h0, Finset.sum_const_zero, div_zero_zero, hb]
        exact Flat.sum _ fun k => flat_mul_infinite (.inr rfl) _
    · have s0 : ∑ k, weight S₀ k = ((∑ k, e0 k : ℝ) : EReal) := by rw [coe_sum']; exact Finset.sum_congr rfl fun k _ => h0 k
      have n0 : (∑ k, e0 k) ≠ 0 := by linarith
      have a0 : ∀ e, ∑ k, weight S₀ k * (v k e : EReal) = ((∑ k, e0 k * v k e : ℝ) : EReal) := fun e => by
        rw [coe_sum']; exact Finset.sum_congr rfl fun k _ => by rw [h0, EReal.coe_mul]
      rcases weights S₁ with h1 | ⟨e1, h1, l1⟩
      · by_cases hl : lam = 0
        · left; intro e
          unfold combined attended
          simp only [hl, EReal.coe_zero, zero_mul, sub_zero, a0, s0, h0, div_real _ n0, ← EReal.coe_mul, ← coe_sum']
          congr 1; rw [Finset.sum_div]; exact Finset.sum_congr rfl fun k _ => by ring
        · right
          have inf : ∀ x : ℝ, ((x : EReal) - (lam : EReal) * ⊥ = ⊤ ∨ (x : EReal) - (lam : EReal) * ⊥ = ⊥) := fun x => by
            rcases lt_or_gt_of_ne hl with h | h
            · right; rw [EReal.coe_mul_bot_of_neg h, sub_top']
            · left; rw [EReal.coe_mul_bot_of_pos h, sub_eq_add_neg, EReal.neg_bot]; exact EReal.coe_add_top x
          constructor <;> intro e
          · unfold combined
            simp only [h1, zero_mul, Finset.sum_const_zero, div_zero_zero, a0, s0, div_real _ n0]
            exact (inf _).elim .inl fun h => .inr (.inl h)
          · unfold attended
            refine Flat.sum _ fun k => ?_
            rw [s0, h0, div_real _ n0]; simp only [h1, Finset.sum_const_zero, div_zero_zero]
            exact flat_mul_infinite (inf _) _
      · left; intro e
        have s1 : ∑ k, weight S₁ k = ((∑ k, e1 k : ℝ) : EReal) := by rw [coe_sum']; exact Finset.sum_congr rfl fun k _ => h1 k
        have n1 : (∑ k, e1 k) ≠ 0 := by linarith
        have a1 : ∀ e, ∑ k, weight S₁ k * (v k e : EReal) = ((∑ k, e1 k * v k e : ℝ) : EReal) := fun e => by
          rw [coe_sum']; exact Finset.sum_congr rfl fun k _ => by rw [h1, EReal.coe_mul]
        unfold combined attended
        simp only [a0, s0, h0, a1, s1, h1, div_real _ n0, div_real _ n1, ← EReal.coe_mul, ← EReal.coe_sub, ← coe_sum']
        congr 1
        rw [Finset.sum_div, Finset.sum_div, Finset.mul_sum, ← Finset.sum_sub_distrib]
        exact Finset.sum_congr rfl fun k _ => by ring
  rcases key with h | ⟨hc, ha⟩
  · simp only [h]
  · rw [normalised_flat r hr _ hc, normalised_flat r hr _ ha]

end Diff

end Cert.Attn

end
-- ==== Proof.Attn.Value.lean ====
/- KernelIdeal: what one head of `attn_prompt`'s body computes at the ideal values, element by element. -/
module

public import proofs.«01_k».proof.Proof.Attn.Head
public import proofs.«01_k».proof.Proof.Attn.Online
public import Idealize.ShloMosaic.Lib.WordCmp

@[expose] public section

set_option maxRecDepth 16384

noncomputable section

namespace Cert.KernelIdeal.Body

open Idealize.ShloMosaic Idealize.ShloMosaic.TcCoe Idealize.ShloMosaic.Tactic
open Cert.KernelIdeal.Gen Cert.Attn

/-- What is carried after `n` keys, when `T` holds each row's scores and `v` the values. -/
def Holds (s : Carry Ideal) (n : ℕ) (T : Fin 256 → ℕ → EReal) (v : ℕ → Fin 128 → EReal) : Prop :=
  (∀ ρ, s.1 (ix2 ρ 0) = top (T ρ) n) ∧ (∀ ρ, s.2.1 (ix2 ρ 0) = wsum (T ρ) (fun _ => 1) n) ∧ ∀ ρ e, s.2.2 (ix2 ρ e) = wsum (T ρ) (fun k => v k e) n

theorem mask_eq : Named.named (F := Ideal) (φ := .f32) κ "mask" 0xF149F2CA#32 = (⊥ : EReal) := by simp [Named.named, κ]
theorem neg_infinity : Ideal.ofBits .f32 0xFF800000#32 = (⊥ : EReal) := by simp [Ideal.ofBits, Ideal.ieee]

theorem nextMax_apply (m : FVec Ideal S256x1 .f32) (sc : FVec Ideal S256x128 .f32) (ρ : Fin 256) :
    nextMax m sc (ix2 ρ 0) = max (m (ix2 ρ 0)) (Finset.univ.sup fun r : Fin 128 => sc (ix2 ρ r)) := by
  pointwise [nextMax]
  rw [neg_infinity]; rfl

theorem tileWeights_apply (m : FVec Ideal S256x1 .f32) (sc : FVec Ideal S256x128 .f32) (ρ : Fin 256) (r : Fin 128) :
    tileWeights m sc (ix2 ρ r) = Ideal.exp (sc (ix2 ρ r) - m (ix2 ρ 0)) := by
  pointwise [tileWeights]

theorem noTiles_holds (T v) : Holds noTiles 0 T v := by
  refine ⟨fun ρ => ?_, fun ρ => ?_, fun ρ e => ?_⟩
  · rw [top_zero]; pointwise [noTiles]; exact mask_eq
  · rw [wsum_zero]; pointwise [noTiles]
  · rw [wsum_zero]; pointwise [noTiles]

theorem update_holds {s : Carry Ideal} {n : ℕ} {T v} {sc : FVec Ideal S256x128 .f32} {vj : Vec Ideal S128x128 .bf16} (hs : Holds s n T v)
    (hsc : ∀ ρ (r : Fin 128), sc (ix2 ρ r) = T ρ (n + r.val)) (hv : ∀ (r e : Fin 128), vj (ix2 r e) = v (n + r.val) e) :
    Holds (update s sc vj) (n + 128) T v := by
  obtain ⟨h1, h2, h3⟩ := hs
  have m : ∀ ρ, nextMax s.1 sc (ix2 ρ 0) = top (T ρ) (n + 128) := fun ρ => by
    rw [nextMax_apply, top_add, h1]; simp only [hsc]
  refine ⟨m, fun ρ => ?_, fun ρ e => ?_⟩
  · rw [wsum_add, ← h2, ← h1, ← m]
    pointwise [update]
    exact congrArg (_ + ·) (Finset.sum_congr rfl fun r _ => by rw [tileWeights_apply, hsc])
  · rw [wsum_add, ← h3, ← h1, ← m]
    pointwise [update]
    exact congrArg (_ + ·) (Finset.sum_congr rfl fun r _ => by rw [tileWeights_apply, hsc, hv])

/-- The queries of one map: rows below 128 have the first 64 lanes, the others the last 64. -/
theorem splitMaps_apply (q : Vec Ideal S128x128 .bf16) (ρ : Fin 256) (l : Fin 128) :
    splitMaps q (ix2 ρ l) = if (ρ.val < 128 ↔ l.val < 64) then q (ix2 (Fin.ofNat 128 ρ.val) l) else 0 := by
  have hl : l.val < 128 := l.isLt
  have hρ : ρ.val < 256 := ρ.isLt
  pointwise [splitMaps, k0_pay166]
  rw [WordCmp.cmpi_slt_ofNat (by omega) (by omega), WordCmp.cmpi_sge_ofNat (by omega) (by omega)]
  split
  · rename_i h
    have e : (⟨ρ.val, h⟩ : Fin 128) = Fin.ofNat 128 ρ.val := Fin.ext (Nat.mod_eq_of_lt h).symm
    rw [WordCmp.select_ofBool]; simp only [h, true_iff, decide_eq_true_eq, e]
  · rename_i h
    have e : (⟨ρ.val - 128, by omega⟩ : Fin 128) = Fin.ofNat 128 ρ.val := Fin.ext (show ρ.val - 128 = ρ.val % 128 by omega)
    rw [WordCmp.select_ofBool]; simp only [h, false_iff, decide_eq_true_eq, e, not_lt]

theorem products_apply (q2 : FVec Ideal S256x128 .bf16) (kj : Vec Ideal S128x128 .bf16) (ρ : Fin 256) (r : Fin 128) :
    products q2 kj (ix2 ρ r) = ∑ l : Fin 128, q2 (ix2 ρ l) * kj (ix2 r l) := by
  pointwise [products]

theorem padMask_apply (w : BitVec 32) (r : Fin 128) (hw : w.toNat + 128 ≤ 2176) :
    padMask (F := Ideal) w (ix2 0 r) = if w.toNat + r.val < 112 then ⊥ else 0 := by
  have hr : r.val < 128 := r.isLt
  have e : IntOp.addi w (BitVec.ofNat 32 r.val) = BitVec.ofNat 32 (w.toNat + r.val) := by
    refine BitVec.eq_of_toNat_eq ?_
    simp [IntOp.addi]
  pointwise [padMask]
  rw [e, WordCmp.cmpi_slt_ofNat (by omega) (by omega), WordCmp.select_ofBool, mask_eq]
  simp only [decide_eq_true_eq]

theorem farScores_apply (q2 : FVec Ideal S256x128 .bf16) (far : EReal) (w : BitVec 32) (kj : Vec Ideal S128x128 .bf16) (ρ : Fin 256) (r : Fin 128) :
    farScores q2 far w kj (ix2 ρ r) = products q2 kj (ix2 ρ r) + (padMask w (ix2 0 r) + far) := by
  pointwise [farScores]

theorem nearScores_apply (q2 : FVec Ideal S256x128 .bf16) (b : Vec Ideal S1x1x256x128 .f32) (w : BitVec 32) (kj : Vec Ideal S128x128 .bf16) (ρ : Fin 256) (r : Fin 128) :
    nearScores q2 b w kj (ix2 ρ r) = products q2 kj (ix2 ρ r) + b (ix4 0 0 ρ r) + padMask w (ix2 0 r) := by
  pointwise [nearScores]

theorem difference_apply (lam : FVec Ideal S1x1 .f32) (s : Carry Ideal) (r e : Fin 128) :
    difference lam s (ix2 r e) = Ideal.div (s.2.2 (ix2 ⟨r.val, by omega⟩ e)) (s.2.1 (ix2 ⟨r.val, by omega⟩ 0))
      - lam (ix2 0 0) * Ideal.div (s.2.2 (ix2 ⟨128 + r.val, by omega⟩ e)) (s.2.1 (ix2 ⟨128 + r.val, by omega⟩ 0)) := by
  pointwise [difference, mapOut]

theorem normalise_apply (og : FVec Ideal S1x128 .f32) (o : FVec Ideal S128x128 .f32) (r e : Fin 128) :
    normalise og o (ix2 r e) = o (ix2 r e) * Ideal.rsqrt (Ideal.div (∑ e', o (ix2 r e') * o (ix2 r e')) (Ideal.ofBits .f32 0x43000000#32) + Ideal.ofBits .f32 0x358637BD#32)
      * og (ix2 0 e) * Ideal.ofBits .f32 0x3F4CCCCD#32 := by
  pointwise [normalise]

theorem lambda_apply (l : Vec Ideal S4x64 .f32) : k0_pay164 l (ix2 0 0)
    = Ideal.exp (∑ x, l (ix2 0 x) * l (ix2 1 x)) - Ideal.exp (∑ x, l (ix2 2 x) * l (ix2 3 x)) + Ideal.ofBits .f32 0x3E4CCCCD#32 := by
  pointwise [k0_pay164]

end Cert.KernelIdeal.Body

end
-- ==== Proof.Attn.Bucket.lean ====
/- The bucket of a distance, as the kernel's tables and the reference both compute it: the distance itself below 16, and beyond that a logarithmic
   scale which ends at bucket 31. -/
module

public import Idealize.ShloMosaic.PureOps.Ideal.Laws
public import Idealize.ShloMosaic.Lib.WordCmp

@[expose] public section

noncomputable section

namespace Cert.Attn

open Idealize.ShloMosaic

/-- The logarithmic scale. -/
def scaled (x : EReal) : EReal := Ideal.div (Ideal.log (Ideal.div x (Ideal.ofBits .f32 0x41800000#32))) (Ideal.ofBits .f32 0x40051592#32) * Ideal.ofBits .f32 0x41800000#32

/-- The bucket of a distance, a negative one counting as 0. -/
def bucketOf (d : BitVec 32) : BitVec 32 :=
  Scalar.select (IntOp.cmpi .slt (IntOp.maxsi d 0#32) 16#32) (IntOp.maxsi d 0#32)
    (IntOp.minsi (IntOp.addi 16#32 (Ideal.fptosi 32 (scaled (((IntOp.maxsi (IntOp.maxsi d 0#32) 1#32).toInt : ℝ) : EReal)))) 31#32)

theorem maxsi_nat {a b : ℕ} (ha : a < 2 ^ 31) (hb : b < 2 ^ 31) : IntOp.maxsi (BitVec.ofNat 32 a) (BitVec.ofNat 32 b) = BitVec.ofNat 32 (max a b) := by
  have h : (BitVec.ofNat 32 b).slt (BitVec.ofNat 32 a) = decide (b < a) := by
    rw [BitVec.slt, BitVec.toInt_eq_toNat_of_lt (by simp; omega), BitVec.toInt_eq_toNat_of_lt (by simp; omega)]; simp; omega
  rw [IntOp.maxsi, h]
  by_cases hh : b < a
  · simp [hh, Nat.max_eq_left (Nat.le_of_lt hh)]
  · simp [hh, Nat.max_eq_right (Nat.le_of_not_lt hh)]

theorem minsi_nat {a b : ℕ} (ha : a < 2 ^ 31) (hb : b < 2 ^ 31) : IntOp.minsi (BitVec.ofNat 32 a) (BitVec.ofNat 32 b) = BitVec.ofNat 32 (min a b) := by
  have h : (BitVec.ofNat 32 a).slt (BitVec.ofNat 32 b) = decide (a < b) := by
    rw [BitVec.slt, BitVec.toInt_eq_toNat_of_lt (by simp; omega), BitVec.toInt_eq_toNat_of_lt (by simp; omega)]; simp; omega
  rw [IntOp.minsi, h]
  by_cases hh : a < b
  · simp [hh, Nat.min_eq_left (Nat.le_of_lt hh)]
  · simp [hh, Nat.min_eq_right (Nat.le_of_not_lt hh)]

theorem sixteen : Ideal.ofBits .f32 0x41800000#32 = ((16 : ℝ) : EReal) := by
  simp [Ideal.ofBits, Ideal.ieee]; rw [← EReal.coe_mul]; norm_num

theorem log_eight : Ideal.ofBits .f32 0x40051592#32 = ((8721810 / 4194304 : ℝ) : EReal) := by
  simp [Ideal.ofBits, Ideal.ieee]; rw [← EReal.coe_mul]; norm_num

theorem scaled_real {x : ℝ} (hx : 0 < x) : scaled (x : EReal) = ((Real.log (x / 16) / (8721810 / 4194304) * 16 : ℝ) : EReal) := by
  have d : ∀ (x y : ℝ), y ≠ 0 → Ideal.div (x : EReal) (y : EReal) = ((x / y : ℝ) : EReal) := fun x y hy => by
    rw [Ideal.div, if_neg (by exact_mod_cast hy), ← EReal.coe_inv, ← EReal.coe_mul, div_eq_mul_inv]
  have l : Ideal.log ((x / 16 : ℝ) : EReal) = ((Real.log (x / 16) : ℝ) : EReal) := by
    show (if x / 16 ≤ 0 then (⊥ : EReal) else _) = _
    rw [if_neg (by rw [not_le]; positivity)]
  rw [scaled, sixteen, log_eight, d _ _ (by norm_num), l, d _ _ (by norm_num), ← EReal.coe_mul]

/-- A lower bound for the logarithm of 2, from 1 - 1/x ≤ log x on the ratios 7/6, 8/7, …, 12/11, whose product is 2. -/
theorem log_two : (653 / 1000 : ℝ) ≤ Real.log 2 := by
  have b : ∀ n : ℕ, 0 < n → 1 / ((n : ℝ) + 1) + Real.log n ≤ Real.log (n + 1) := fun n hn => by
    have hn' : (0 : ℝ) < n := by exact_mod_cast hn
    have h := Real.one_sub_inv_le_log_of_pos (show (0 : ℝ) < (n + 1) / n by positivity)
    rw [Real.log_div (by positivity) (by positivity), inv_div] at h
    have : 1 - (n : ℝ) / (n + 1) = 1 / (n + 1) := by field_simp; ring
    linarith
  have e : Real.log 12 = Real.log 2 + Real.log 6 := by rw [← Real.log_mul (by norm_num) (by norm_num)]; norm_num
  have h6 := b 6 (by norm_num); have h7 := b 7 (by norm_num); have h8 := b 8 (by norm_num)
  have h9 := b 9 (by norm_num); have h10 := b 10 (by norm_num); have h11 := b 11 (by norm_num)
  norm_num at h6 h7 h8 h9 h10 h11
  linarith

/-- Past 16, the bucket is 16 and the scale's integer part, but at most 31. -/
theorem bucketOf_far {d : ℕ} (h : 16 ≤ d) (h' : d < 4096) : ∃ y : ℕ, bucketOf (BitVec.ofNat 32 d) = BitVec.ofNat 32 (min (16 + y) 31) ∧ (128 ≤ d → 15 ≤ y) := by
  have m1 : IntOp.maxsi (BitVec.ofNat 32 d) 0#32 = BitVec.ofNat 32 d := by
    rw [show (0#32) = BitVec.ofNat 32 0 from rfl, maxsi_nat (by omega) (by omega)]; simp
  have m2 : IntOp.maxsi (BitVec.ofNat 32 d) 1#32 = BitVec.ofNat 32 d := by
    rw [show (1#32) = BitVec.ofNat 32 1 from rfl, maxsi_nat (by omega) (by omega), Nat.max_eq_left (by omega)]
  have ti : (BitVec.ofNat 32 d).toInt = d := by rw [BitVec.toInt_eq_toNat_of_lt (by simp; omega)]; simp; omega
  have hd : (16 : ℝ) ≤ d := by exact_mod_cast h
  have hd' : (d : ℝ) < 4096 := by exact_mod_cast h'
  have l0 : 0 ≤ Real.log (d / 16) := Real.log_nonneg (by rw [le_div_iff₀ (by norm_num)]; linarith)
  have l1 : Real.log (d / 16) < 256 := by
    have := Real.log_le_sub_one_of_pos (show (0 : ℝ) < d / 16 by positivity)
    have : (d : ℝ) / 16 < 256 := by rw [div_lt_iff₀ (by norm_num)]; linarith
    linarith
  set s : ℝ := Real.log (d / 16) / (8721810 / 4194304) * 16 with hs
  have s0 : 0 ≤ s := by positivity
  have s1 : s < 4096 := by
    rw [hs, div_mul_eq_mul_div, div_lt_iff₀ (by norm_num)]; linarith
  have f0 : 0 ≤ ⌊s⌋ := Int.floor_nonneg.mpr s0
  have f1 : ⌊s⌋ < 4096 := by rw [Int.floor_lt]; exact_mod_cast s1
  have fp : Ideal.fptosi 32 ((s : ℝ) : EReal) = BitVec.ofNat 32 ⌊s⌋.toNat := by
    have : Ideal.toIntClamped (-(2 ^ (32 - 1) : ℕ)) ((2 ^ (32 - 1) : ℕ) - 1) ((s : ℝ) : EReal) = ((⌊s⌋.toNat : ℕ) : ℤ) := by
      show max _ (min _ (if 0 ≤ s then ⌊s⌋ else ⌈s⌉)) = _
      rw [if_pos s0]; simp; omega
    rw [Ideal.fptosi, this, BitVec.ofInt_natCast]
  refine ⟨⌊s⌋.toNat, ?_, fun h8 => ?_⟩
  · rw [bucketOf, m1, m2, ti, show (16#32) = BitVec.ofNat 32 16 from rfl, WordCmp.cmpi_slt_ofNat (by omega) (by omega), WordCmp.select_ofBool, if_neg (by simp; omega)]
    rw [show (((d : ℤ) : ℝ) : EReal) = ((d : ℝ) : EReal) by norm_cast, scaled_real (by linarith), fp]
    rw [show IntOp.addi (BitVec.ofNat 32 16) (BitVec.ofNat 32 ⌊s⌋.toNat) = BitVec.ofNat 32 (16 + ⌊s⌋.toNat) from (BitVec.ofNat_add ..).symm,
      show (31#32) = BitVec.ofNat 32 31 from rfl, minsi_nat (by omega) (by omega)]
  · have h8' : (128 : ℝ) ≤ d := by exact_mod_cast h8
    have : Real.log 8 ≤ Real.log (d / 16) := Real.log_le_log (by norm_num) (by rw [le_div_iff₀ (by norm_num)]; linarith)
    have e8 : Real.log 8 = 3 * Real.log 2 := by rw [show (8 : ℝ) = 2 ^ 3 by norm_num, Real.log_pow]; norm_num
    have l2 := log_two
    have : (15 : ℤ) ≤ ⌊s⌋ := by
      rw [Int.le_floor, hs, div_mul_eq_mul_div, le_div_iff₀ (by norm_num)]; push_cast; linarith
    omega

theorem bucketOf_near {d : ℕ} (h : d < 16) : bucketOf (BitVec.ofNat 32 d) = BitVec.ofNat 32 d := by
  have m1 : IntOp.maxsi (BitVec.ofNat 32 d) 0#32 = BitVec.ofNat 32 d := by
    rw [show (0#32) = BitVec.ofNat 32 0 from rfl, maxsi_nat (by omega) (by omega)]; simp
  rw [bucketOf, m1, show (16#32) = BitVec.ofNat 32 16 from rfl, WordCmp.cmpi_slt_ofNat (by omega) (by omega), WordCmp.select_ofBool, if_pos (by simpa using h)]

/-- The buckets are the numbers below 32. -/
theorem bucketOf_lt {d : ℕ} (h : d < 4096) : ∃ b : ℕ, b < 32 ∧ bucketOf (BitVec.ofNat 32 d) = BitVec.ofNat 32 b := by
  by_cases hd : d < 16
  · exact ⟨d, by omega, bucketOf_near hd⟩
  · obtain ⟨y, hy, -⟩ := bucketOf_far (by omega : 16 ≤ d) h
    exact ⟨min (16 + y) 31, by omega, hy⟩

/-- From 128 on there is one bucket, the last. -/
theorem bucketOf_last {d : ℕ} (h : 128 ≤ d) (h' : d < 4096) : bucketOf (BitVec.ofNat 32 d) = BitVec.ofNat 32 31 := by
  obtain ⟨y, hy, h15⟩ := bucketOf_far (by omega : 16 ≤ d) h'
  rw [hy, Nat.min_eq_right (by have := h15 h; omega)]

end Cert.Attn

end
-- ==== Proof.Attn.Score.lean ====
/- KernelIdeal: the scores of one block of queries, at the ideal instance, and that what `attn_prompt` carries after its last tile is the maximum
   and the weighted sums of those scores. -/
module

public import proofs.«01_k».proof.Proof.Attn.Value
public import proofs.«01_k».proof.Proof.Attn.Tables
public import proofs.«01_k».proof.Proof.Attn.Bucket

@[expose] public section

set_option maxRecDepth 16384

noncomputable section

namespace Cert.KernelIdeal.Body

open Idealize.ShloMosaic Idealize.ShloMosaic.TcCoe Idealize.ShloMosaic.Tactic
open Cert.KernelIdeal.Gen Cert.Attn

/-- The bias of head `h` at distance `d`. -/
def biasAt (X0 : Vec Ideal S32x8 .f32) (h : Fin 8) (d : ℕ) : EReal := X0 (ix2 (Fin.ofNat 32 (bucketOf (BitVec.ofNat 32 d)).toNat) h)

theorem chain_apply (b : Fin 32 → Elt Ideal .f32) (k : IVec S128x128 32) (r c : Fin 128) {y : ℕ} (hy : k (ix2 r c) = BitVec.ofNat 32 y) (n : ℕ) (hn : n ≤ 32) (hyn : y < n) :
    chain b k n (ix2 r c) = b (Fin.ofNat 32 y) := by
  induction n with
  | zero => omega
  | succ n ih =>
    show Scalar.select (IntOp.cmpi .eq (k (ix2 r c)) (BitVec.ofNat 32 n)) (b (Fin.ofNat 32 n)) (chain b k n (ix2 r c)) = _
    rw [hy, WordCmp.cmpi_eq_ofNat (by omega) (by omega), WordCmp.select_ofBool]
    by_cases h : y = n
    · subst h; simp
    · rw [if_neg (by simpa using h), ih (by omega) (by omega)]

theorem distances_apply (u : Fin 2) (r c : Fin 128) :
    distances u (ix2 r c) = BitVec.ofNat 32 r.val - BitVec.ofNat 32 c.val + BitVec.ofNat 32 (128 * u.val) := by
  unfold distances; pointwise; rfl

theorem buckets_apply (d : IVec S128x128 32) (r c : Fin 128) : buckets Ideal d (ix2 r c) = bucketOf (d (ix2 r c)) := rfl

theorem distance_nat (u : Fin 2) (r c : Fin 128) (h : c.val ≤ r.val + 128 * u.val) : distances u (ix2 r c) = BitVec.ofNat 32 (128 * u.val + r.val - c.val) := by
  rw [distances_apply]
  have := r.isLt; have := c.isLt; have := u.isLt
  apply BitVec.eq_of_toNat_eq
  simp only [BitVec.toNat_add, BitVec.toNat_sub, BitVec.toNat_ofNat]
  omega

/-- A table's bias at a key which is not after its query. -/
theorem biasTable_apply (b : Fin 32 → Elt Ideal .f32) (u : Fin 2) (r c : Fin 128) (h : c.val ≤ r.val + 128 * u.val) :
    biasTable b u (ix2 r c) = b (Fin.ofNat 32 (bucketOf (BitVec.ofNat 32 (128 * u.val + r.val - c.val))).toNat) := by
  have := r.isLt; have := c.isLt; have := u.isLt
  obtain ⟨y, hy, e⟩ := bucketOf_lt (show 128 * u.val + r.val - c.val < 4096 by omega)
  have hc : chain b (buckets Ideal (distances u)) 32 (ix2 r c) = b (Fin.ofNat 32 (bucketOf (BitVec.ofNat 32 (128 * u.val + r.val - c.val))).toNat) := by
    rw [chain_apply b _ r c (y := y) (by rw [buckets_apply, distance_nat u r c h, e]) 32 le_rfl hy, e, BitVec.toNat_ofNat, Nat.mod_eq_of_lt (by omega)]
  unfold biasTable
  split
  · show Scalar.select (IntOp.cmpi .sge (distances u (ix2 r c)) (BitVec.ofNat 32 0)) (chain b (buckets Ideal (distances u)) 32 (ix2 r c)) _ = _
    rw [distance_nat u r c h, WordCmp.cmpi_sge_ofNat (by omega) (by omega), WordCmp.select_ofBool, if_pos (by simp), hc]
  · exact hc

/-- On the diagonal tile a key after its query is masked. -/
theorem biasTable_masked (b : Fin 32 → Elt Ideal .f32) (r c : Fin 128) (h : r.val < c.val) : biasTable b 0 (ix2 r c) = (⊥ : EReal) := by
  have hr := r.isLt; have hc := c.isLt
  unfold biasTable
  rw [if_pos (show (0 : Fin 2).val = 0 from rfl)]
  show Scalar.select (IntOp.cmpi .sge (distances 0 (ix2 r c)) (BitVec.ofNat 32 0)) (chain b (buckets Ideal (distances 0)) 32 (ix2 r c)) _ = _
  have e : distances 0 (ix2 r c) = BitVec.ofNat 32 (2 ^ 32 - (c.val - r.val)) := by
    rw [distances_apply]
    apply BitVec.eq_of_toNat_eq
    simp only [BitVec.toNat_add, BitVec.toNat_sub, BitVec.toNat_ofNat]
    simp; omega
  have s : IntOp.cmpi .sge (distances 0 (ix2 r c)) (BitVec.ofNat 32 0) = 0#1 := by
    rw [e]
    have t : (BitVec.ofNat 32 (2 ^ 32 - (c.val - r.val))).toInt < 0 := by
      rw [BitVec.toInt_eq_toNat_cond]; simp; omega
    simp only [IntOp.cmpi]
    rw [show (BitVec.ofNat 32 0).sle (BitVec.ofNat 32 (2 ^ 32 - (c.val - r.val))) = false from decide_eq_false (by rw [not_le]; simpa using t)]; rfl
  rw [s]
  exact mask_eq

section
variable (X3 : Vec Ideal S128x1024 .bf16) (X4 X5 : Vec Ideal S2176x1024 .bf16) (X0 : Vec Ideal S32x8 .f32) (i : grid0.Coords) (h : Fin 8)

/-- The product of a row's query with key `k`. -/
def product (ρ : Fin 256) (k : ℕ) : EReal :=
  ∑ l : Fin 128, splitMaps (queries X3 h.val) (ix2 ρ l) * X4 (ix2 (Fin.ofNat 2176 k) (Fin.ofNat 1024 (128 * h.val + l.val)))

/-- The query a row belongs to. -/
def queryOf (ρ : Fin 256) : ℕ := 128 * (i 1).val + ρ.val % 128

/-- The score of key `k` for a row: `⊥` on the padding and after the query. -/
def score (ρ : Fin 256) (k : ℕ) : EReal :=
  if k < 112 ∨ queryOf i ρ < k then ⊥ else product X3 X4 h ρ k + biasAt X0 h (queryOf i ρ - k)

/-- The values of head `h`. -/
def valueAt (k : ℕ) (e : Fin 128) : EReal := X5 (ix2 (Fin.ofNat 2176 k) (Fin.ofNat 1024 (128 * h.val + e.val)))

theorem farWord_toNat {k : ℕ} (hk : k < 17) : (farWord k).toNat = 128 * k := by
  interval_cases k <;> rfl

theorem diagWord_toNat : (diagWord i).toNat = 128 * (i 1).val := by
  have : (i 1).val < 17 := (i 1).isLt
  show (BitVec.ofNat 32 (i 1).val * 128#32).toNat = _
  rw [BitVec.toNat_mul, BitVec.toNat_ofNat]; simp; omega

theorem nearWord_toNat (h1 : 1 ≤ (i 1).val) : (nearWord i).toNat = 128 * ((i 1).val - 1) := by
  have : (i 1).val < 17 := (i 1).isLt
  show ((BitVec.ofNat 32 (i 1).val - 1#32) * 128#32).toNat = _
  rw [BitVec.toNat_mul, BitVec.toNat_sub, BitVec.toNat_ofNat]; simp; omega

theorem products_tile (ρ : Fin 256) (n : ℕ) (r : Fin 128) : products (splitMaps (queries X3 h.val)) (tile X4 n h.val) (ix2 ρ r) = product X3 X4 h ρ (n + r.val) := by
  rw [products_apply]; rfl

theorem farRun_holds (n : ℕ) (hn : n ≤ (i 1).val - 1) :
    Holds (farRun X4 X5 (splitMaps (queries X3 h.val)) h.val (farBias X0 h.val) n) (128 * n) (score X3 X4 X0 i h) (valueAt X5 h) := by
  have hi : (i 1).val < 17 := (i 1).isLt
  induction n with
  | zero => exact noTiles_holds _ _
  | succ n ih =>
    have w := farWord_toNat (show n < 17 by omega)
    refine update_holds (n := 128 * n) (ih (by omega)) (fun ρ r => ?_) (fun r e => ?_)
    · rw [farScores_apply, products_tile, padMask_apply _ _ (by omega), w]
      have hr := r.isLt
      unfold score queryOf
      by_cases hp : 128 * n + r.val < 112
      · rw [if_pos hp, if_pos (.inl hp)]; simp
      · rw [if_neg hp, if_neg (by omega), zero_add]
        congr 1
        unfold farBias biasAt
        rw [bucketOf_last (by omega) (by omega)]
        congr 2
        exact Fin.ext (Nat.mod_eq_of_lt h.isLt)
    · rw [w]; rfl

theorem table_biasArray (u : Fin 2) {w : ℕ} (hw : w = u.val) (ρ : Fin 256) (r : Fin 128) :
    table (biasArray X0) w h.val (ix4 0 0 ρ r) = biasTable (fun n => X0 (ix2 n h)) u (ix2 (Fin.ofNat 128 ρ.val) r) := by
  subst hw
  unfold table biasArray
  have e1 : Fin.ofNat 2 u.val = u := Fin.ext (Nat.mod_eq_of_lt u.isLt)
  have e2 : Fin.ofNat 8 h.val = h := Fin.ext (Nat.mod_eq_of_lt h.isLt)
  show biasTable (fun n => X0 (ix2 n (Fin.ofNat 8 h.val))) (Fin.ofNat 2 u.val) (ix2 (Fin.ofNat 128 ρ.val) r) = _
  rw [e1, e2]

theorem near_holds {s : Carry Ideal} (h1 : 1 ≤ (i 1).val) (hs : Holds s (128 * ((i 1).val - 1)) (score X3 X4 X0 i h) (valueAt X5 h)) :
    Holds (nearStep X4 X5 (splitMaps (queries X3 h.val)) h.val (table (biasArray X0) 1 h.val) (nearWord i) s) (128 * (i 1).val) (score X3 X4 X0 i h) (valueAt X5 h) := by
  have hi : (i 1).val < 17 := (i 1).isLt
  have w := nearWord_toNat i h1
  rw [show 128 * (i 1).val = 128 * ((i 1).val - 1) + 128 by omega]
  refine update_holds hs (fun ρ r => ?_) (fun r e => ?_)
  · have hr := r.isLt
    rw [nearScores_apply, products_tile, padMask_apply _ _ (by omega), w, table_biasArray X0 h 1 (w := 1) rfl, biasTable_apply _ _ _ _ (by simp; omega)]
    unfold score queryOf
    by_cases hp : 128 * ((i 1).val - 1) + r.val < 112
    · rw [if_pos hp, if_pos (.inl hp)]; simp
    · rw [if_neg hp, if_neg (by omega), add_zero]
      congr 1
      unfold biasAt
      rw [show 128 * (1 : Fin 2).val + (Fin.ofNat 128 ρ.val).val - r.val = 128 * (i 1).val + ρ.val % 128 - (128 * ((i 1).val - 1) + r.val) by simp; omega]
  · rw [w]; rfl

theorem diag_holds {s : Carry Ideal} (hs : Holds s (128 * (i 1).val) (score X3 X4 X0 i h) (valueAt X5 h)) :
    Holds (nearStep X4 X5 (splitMaps (queries X3 h.val)) h.val (table (biasArray X0) 0 h.val) (diagWord i) s) (128 * (i 1).val + 128) (score X3 X4 X0 i h) (valueAt X5 h) := by
  have hi : (i 1).val < 17 := (i 1).isLt
  have w := diagWord_toNat i
  refine update_holds hs (fun ρ r => ?_) (fun r e => ?_)
  · have hr := r.isLt
    rw [nearScores_apply, products_tile, padMask_apply _ _ (by omega), w, table_biasArray X0 h 0 (w := 0) rfl]
    unfold score queryOf
    by_cases hc : ρ.val % 128 < r.val
    · rw [biasTable_masked _ _ _ (by simpa using hc),
        if_pos (show 128 * (i 1).val + r.val < 112 ∨ 128 * (i 1).val + ρ.val % 128 < 128 * (i 1).val + r.val from .inr (by omega))]
      simp
    · rw [biasTable_apply _ _ _ _ (by simp; omega)]
      by_cases hp : 128 * (i 1).val + r.val < 112
      · rw [if_pos hp, if_pos (.inl hp)]; simp
      · rw [if_neg hp, if_neg (by omega), add_zero]
        congr 1
        unfold biasAt
        rw [show 128 * (0 : Fin 2).val + (Fin.ofNat 128 ρ.val).val - r.val = 128 * (i 1).val + ρ.val % 128 - (128 * (i 1).val + r.val) by simp; omega]
  · rw [w]; rfl

/-- After the last tile the maximum and the weighted sums are those of all the scores up to the block's end. -/
theorem carried_holds (near : Bool) (hnear : near = true ↔ 1 ≤ (i 1).val) :
    Holds (carried X3 X4 X5 X0 (biasArray X0) i near ((i 1).val - 1) h.val) (128 * (i 1).val + 128) (score X3 X4 X0 i h) (valueAt X5 h) := by
  unfold carried
  refine diag_holds X3 X4 X5 X0 i h ?_
  have f := farRun_holds X3 X4 X5 X0 i h ((i 1).val - 1) le_rfl
  cases near with
  | true => exact near_holds X3 X4 X5 X0 i h (hnear.mp rfl) f
  | false =>
    have h0 : (i 1).val = 0 := by by_contra hh; exact absurd (hnear.mpr (by omega)) (by simp)
    rw [h0] at f ⊢
    exact f
end

end Cert.KernelIdeal.Body

end
-- ==== Proof.Attn.Reference.lean ====
/- ReferenceIdeal: the reference's result read at an index, at the ideal instance: the two softmaxes of a head, their difference over the values,
   and its normalisation. -/
module

public import proofs.«01_k».proof.Proof.Gen.ReferenceIdeal.Read
public import proofs.«01_k».proof.Proof.Attn.Online
public import proofs.«01_k».proof.Proof.Attn.Bucket
public import Idealize.ShloMosaic.Lib.Pointwise
public import Idealize.ShloMosaic.Lib.KernelVsHost

@[expose] public section

set_option maxRecDepth 16384

noncomputable section

namespace Cert.ReferenceIdeal.Value

open Idealize.ShloMosaic Idealize.ShloMosaic.TcCoe Idealize.ShloMosaic.Tactic
open Cert.ReferenceIdeal Cert.ReferenceIdeal.Gen Cert.ReferenceIdeal.Read Cert.Attn

/-- The bias of head `h` at distance `d`. -/
def biasAt (x3 : FVec Ideal S32x8 .f32) (h : Fin 8) (d : ℕ) : EReal := x3 (ix2 (Fin.ofNat 32 (bucketOf (BitVec.ofNat 32 d)).toNat) h)

theorem distance_apply (q k : Fin 2064) : val_main_v22 (F := Ideal) (ix2 q k) = BitVec.ofNat 32 q.val - BitVec.ofNat 32 k.val := by
  pointwise [val_main_v22, val_main_v21, val_main_v20, val_main_v19, val_main_v18, val_main_v17]
  rfl

theorem bucket_apply (q k : Fin 2064) : val_main_v42 (F := Ideal) (ix2 q k) = bucketOf (val_main_v22 (F := Ideal) (ix2 q k)) := by
  generalize hd : val_main_v22 (F := Ideal) (ix2 q k) = d
  have h24 : val_main_v24 (F := Ideal) (ix2 q k) = IntOp.maxsi d 0#32 := by
    rw [val_main_v24_apply, hd, val_main_v23_apply]; rfl
  have h27 : val_main_v27 (F := Ideal) (ix2 q k) = (((IntOp.maxsi (IntOp.maxsi d 0#32) 1#32).toInt : ℝ) : EReal) := by
    rw [val_main_v27_apply, val_main_v26_apply, h24, val_main_v25_apply]; rfl
  have h34 : val_main_v34 (F := Ideal) (ix2 q k) = scaled (((IntOp.maxsi (IntOp.maxsi d 0#32) 1#32).toInt : ℝ) : EReal) := by
    rw [val_main_v34_apply, val_main_v32_apply, val_main_v30_apply, val_main_v29_apply, h27, val_main_v28_apply, val_main_v31_apply, val_main_v33_apply]; rfl
  rw [val_main_v42_apply, val_main_v39_apply, h24, val_main_v41_apply, val_main_v37_apply, val_main_v35_apply, h34, val_main_v38_apply, val_main_v40_apply, val_main_v36_apply]
  rfl

theorem index_apply (q k : Fin 2064) (h : k.val ≤ q.val) : val_main_v48 (F := Ideal) (ix3 q k 0) = bucketOf (BitVec.ofNat 32 (q.val - k.val)) := by
  have hd : val_main_v22 (F := Ideal) (ix2 q k) = BitVec.ofNat 32 (q.val - k.val) := by
    rw [distance_apply]
    have := q.isLt; have := k.isLt
    apply BitVec.eq_of_toNat_eq
    simp only [BitVec.toNat_sub, BitVec.toNat_ofNat]; omega
  obtain ⟨y, hy, e⟩ := bucketOf_lt (show q.val - k.val < 4096 by omega)
  have h42 : val_main_v42 (F := Ideal) (ix2 q k) = BitVec.ofNat 32 y := by rw [bucket_apply, hd, e]
  have h48 : val_main_v48 (F := Ideal) (ix3 q k 0) = val_main_v47 (F := Ideal) (ix2 q k) := by
    rw [val_main_v48_apply]; congr 1; funext a; match a with
    | 0 => rfl
    | 1 => rfl
  rw [h48, val_main_v47_apply, val_main_v44_apply, h42, val_main_v43_apply, e]
  show Scalar.select (IntOp.cmpi .slt (BitVec.ofNat 32 y) (BitVec.ofNat 32 0)) _ _ = _
  rw [WordCmp.cmpi_slt_ofNat (by omega) (by omega), WordCmp.select_ofBool, if_neg (by simp)]

/-- A row of the table of biases, at a row number below 32. -/
theorem gather_apply (x : FVec Ideal S32x8 .f32) (idx : IVec S2064x2064x1 32) (q k : Fin 2064) (h : Fin 8) {y : ℕ} (hy : y < 32) (e : idx (ix3 q k 0) = BitVec.ofNat 32 y) :
    Host.gather gather_S32x8_S2064x2064x1_S2064x2064x8_2_0_n_n_0_2_18 x idx (ix3 q k h) = x (ix2 ⟨y, hy⟩ h) := by
  unfold Host.gather
  congr 1
  funext a
  refine Fin.ext ?_
  show gather_S32x8_S2064x2064x1_S2064x2064x8_2_0_n_n_0_2_18.start (ix3 q k h) idx a + gather_S32x8_S2064x2064x1_S2064x2064x8_2_0_n_n_0_2_18.batchCoord (ix3 q k h) a
    + gather_S32x8_S2064x2064x1_S2064x2064x8_2_0_n_n_0_2_18.offCoord (ix3 q k h) a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x8_S2064x2064x1_S2064x2064x8_2_0_n_n_0_2_18.startIndexMap from List.mem_singleton.mpr rfl)]
    have hsi : gather_S32x8_S2064x2064x1_S2064x2064x8_2_0_n_n_0_2_18.siIdx (ix3 q k h) ⟨List.idxOf (0 : Fin 2) gather_S32x8_S2064x2064x1_S2064x2064x8_2_0_n_n_0_2_18.startIndexMap,
        List.idxOf_lt_length_iff.2 (List.mem_singleton.mpr rfl)⟩ = ix3 q k 0 := by
      funext b; refine Fin.ext ?_
      match b with
      | 0 => rfl
      | 1 => rfl
      | 2 => rfl
    rw [hsi, e]
    show min (BitVec.ofNat 32 y).toInt.toNat 31 = y
    rw [BitVec.toInt_eq_toNat_of_lt (by simp; omega)]; simp; omega
  | 1 =>
    have : gather_S32x8_S2064x2064x1_S2064x2064x8_2_0_n_n_0_2_18.start (ix3 q k h) idx 1 = 0 := by
      unfold GatherDims.start; rw [dif_neg (show ¬(1 : Fin 2) ∈ gather_S32x8_S2064x2064x1_S2064x2064x8_2_0_n_n_0_2_18.startIndexMap by decide)]
    rw [this]
    show 0 + 0 + _ = h.val
    rw [Nat.zero_add]
    rfl

theorem bias_apply (x3 : FVec Ideal S32x8 .f32) (q k : Fin 2064) (h : Fin 8) (hk : k.val ≤ q.val) :
    val_main_v49 (F := Ideal) x3 (ix3 q k h) = biasAt x3 h (q.val - k.val) := by
  obtain ⟨y, hy, e⟩ := bucketOf_lt (show q.val - k.val < 4096 by omega)
  unfold val_main_v49 biasAt
  rw [gather_apply _ _ q k h hy (by rw [index_apply q k hk, e]), e]
  congr 2
  refine Fin.ext ?_
  show y = (BitVec.ofNat 32 y).toNat % 32
  simp; omega

section
variable (x0 x1 : FVec Ideal S8x2064x8x2x64 .f32) (x2 : FVec Ideal S8x2064x8x128 .f32) (x3 : FVec Ideal S32x8 .f32) (x4 : FVec Ideal S1x4x64 .f32) (x5 : FVec Ideal S1x128 .f32)

/-- The score of key `k` for query `q`, of map `m` of head `h`: `⊥` after the query. -/
def score (b : Fin 8) (m : Fin 2) (h : Fin 8) (q k : Fin 2064) : EReal :=
  if k.val ≤ q.val then (∑ d : Fin 64, x0 (ix5 b q h m d) * x1 (ix5 b k h m d)) * Ideal.ofBits .f32 0x3E000000#32 + biasAt x3 h (q.val - k.val) else ⊥

theorem infinity : Ideal.ofBits .f32 0xFF800000#32 = (⊥ : EReal) := by simp [Ideal.ofBits, Ideal.ieee]
theorem zero : Ideal.ofBits .f32 0x00000000#32 = (0 : EReal) := by simp [Ideal.ofBits, Ideal.ieee]

theorem causal_apply (b : Fin 8) (m : Fin 2) (h : Fin 8) (q k : Fin 2064) :
    val_main_call1_v1 (F := Ideal) (ix5 b m h q k) = BitVec.ofBool (decide (k.val ≤ q.val)) := by
  have := q.isLt; have := k.isLt
  pointwise [val_main_call1_v1, val_main_call1_v0, val_main_v61, val_main_v60, val_main_v59, val_main_v58, val_main_v57, val_main_v17]
  exact WordCmp.cmpi_sge_ofNat (by omega) (by omega)

theorem score_apply (b : Fin 8) (m : Fin 2) (h : Fin 8) (q k : Fin 2064) :
    val_main_v62 (F := Ideal) x0 x1 x3 (ix5 b m h q k) = score x0 x1 x3 b m h q k := by
  have hm : val_main_call1_v2 (F := Ideal) (ix5 b m h q k) = (⊥ : EReal) := infinity
  have hs : val_main_v51 (F := Ideal) x0 x1 (ix5 b m h q k) = ∑ d : Fin 64, x0 (ix5 b q h m d) * x1 (ix5 b k h m d) := by
    pointwise [val_main_v51]
  rw [val_main_v62_apply, causal_apply, WordCmp.select_ofBool, hm]
  unfold score
  by_cases hk : k.val ≤ q.val
  · rw [if_pos (by simpa using hk), if_pos hk, val_main_v56_apply, val_main_v53_apply, hs]
    have hb : val_main_v55 (F := Ideal) x3 (ix5 b m h q k) = val_main_v49 (F := Ideal) x3 (ix3 q k h) := by
      pointwise [val_main_v55, val_main_v54, val_main_v50]
    rw [hb, bias_apply x3 q k h hk]
    rfl
  · rw [if_neg (by simpa using hk), if_neg hk]

theorem largest_apply (b : Fin 8) (m : Fin 2) (h : Fin 8) (q : Fin 2064) :
    val_main_v65 (F := Ideal) x0 x1 x3 (ix4 b m h q) = Finset.univ.sup (score x0 x1 x3 b m h q) := by
  have e : val_main_v63 (F := Ideal) x0 x1 x3 (ix4 b m h q) = Finset.univ.fold max (⊥ : EReal) (score x0 x1 x3 b m h q) := by
    pointwise [val_main_v63]
    rw [show val_main_cst_13 (F := Ideal) (Shape.Idx.first h_S_) = (⊥ : EReal) from infinity]
    simp only [score_apply]
  rw [val_main_v65_apply, e, show val_main_v64 (F := Ideal) (ix4 b m h q) = (⊥ : EReal) from infinity]
  exact max_eq_right bot_le

theorem weight_apply (b : Fin 8) (m : Fin 2) (h : Fin 8) (q k : Fin 2064) :
    val_main_v69 (F := Ideal) x0 x1 x3 (ix5 b m h q k) = weight (score x0 x1 x3 b m h q) k := by
  have e : val_main_v67 (F := Ideal) x0 x1 x3 (ix5 b m h q k) = val_main_v65 (F := Ideal) x0 x1 x3 (ix4 b m h q) := by
    pointwise [val_main_v67, val_main_v66]
  rw [val_main_v69_apply, val_main_v68_apply, e, score_apply, largest_apply]
  rfl

theorem share_apply (b : Fin 8) (m : Fin 2) (h : Fin 8) (q k : Fin 2064) :
    val_main_v73 (F := Ideal) x0 x1 x3 (ix5 b m h q k)
      = Ideal.div (weight (score x0 x1 x3 b m h q) k) (∑ k, weight (score x0 x1 x3 b m h q) k) := by
  have e : val_main_v72 (F := Ideal) x0 x1 x3 (ix5 b m h q k) = ∑ k, weight (score x0 x1 x3 b m h q) k := by
    pointwise [val_main_v72, val_main_v71, val_main_v70]
    rw [show val_main_cst_15 (F := Ideal) (Shape.Idx.first h_S_) = (0 : EReal) from zero, zero_add]
    exact Finset.sum_congr rfl fun k _ => weight_apply ..
  rw [val_main_v73_apply, weight_apply, e]
  rfl

/-- The factor of the second map. -/
def lambda : EReal :=
  Ideal.exp (∑ x : Fin 64, x4 (ix3 0 0 x) * x4 (ix3 0 1 x)) - Ideal.exp (∑ x : Fin 64, x4 (ix3 0 2 x) * x4 (ix3 0 3 x)) + Ideal.ofBits .f32 0x3E4CCCCD#32

theorem lambda_apply (j : S_.Idx) : val_main_v16 (F := Ideal) x4 j = lambda x4 := by
  pointwise [val_main_v16, val_main_v15, val_main_v14, val_main_v13, val_main_v12, val_main_v11, val_main_v10, val_main_v9, val_main_v8,
    val_main_v7, val_main_v6, val_main_v5, val_main_v4, val_main_v3, val_main_v2, val_main_v1, val_main_v0]
  rw [show val_main_cst (F := Ideal) (Shape.Idx.first h_S_) = (0 : EReal) from zero, show val_main_cst_0 (F := Ideal) (Shape.Idx.first h_S_) = (0 : EReal) from zero, zero_add, zero_add]
  rfl

theorem difference_apply (b h : Fin 8) (q k : Fin 2064) :
    val_main_v80 (F := Ideal) x0 x1 x3 x4 (ix4 b h q k)
      = Ideal.div (weight (score x0 x1 x3 b 0 h q) k) (∑ k, weight (score x0 x1 x3 b 0 h q) k)
        - lambda x4 * Ideal.div (weight (score x0 x1 x3 b 1 h q) k) (∑ k, weight (score x0 x1 x3 b 1 h q) k) := by
  have e75 : val_main_v75 (F := Ideal) x0 x1 x3 (ix4 b h q k) = val_main_v73 (F := Ideal) x0 x1 x3 (ix5 b 0 h q k) := by
    pointwise [val_main_v75, val_main_v74]
  have e77 : val_main_v77 (F := Ideal) x0 x1 x3 (ix4 b h q k) = val_main_v73 (F := Ideal) x0 x1 x3 (ix5 b 1 h q k) := by
    pointwise [val_main_v77, val_main_v76]
  have e78 : val_main_v78 (F := Ideal) x4 (ix4 b h q k) = lambda x4 := by
    rw [val_main_v78_apply, lambda_apply]
  rw [val_main_v80_apply, val_main_v79_apply, e75, e77, e78, share_apply, share_apply]
  rfl

theorem attended_apply (b h : Fin 8) (q : Fin 2064) (e : Fin 128) :
    val_main_v82 (F := Ideal) x0 x1 x2 x3 x4 (ix4 b q h e)
      = attended (score x0 x1 x3 b 0 h q) (score x0 x1 x3 b 1 h q) (fun k e => x2 (ix4 b k h e)) (lambda x4) e := by
  have h82 : val_main_v82 (F := Ideal) x0 x1 x2 x3 x4 (ix4 b q h e) = val_main_v81 (F := Ideal) x0 x1 x2 x3 x4 (ix4 b h e q) := by
    pointwise [val_main_v82]
  have h81 : val_main_v81 (F := Ideal) x0 x1 x2 x3 x4 (ix4 b h e q) = ∑ k : Fin 2064, x2 (ix4 b k h e) * val_main_v80 (F := Ideal) x0 x1 x3 x4 (ix4 b h q k) := by
    pointwise [val_main_v81]
  rw [h82, h81]
  exact Finset.sum_congr rfl fun k _ => by rw [difference_apply]

/-- A row's entry normalised by the root mean square, with its gain and the last factor. -/
def normal (o : Fin 128 → EReal) (g : EReal) (e : Fin 128) : EReal :=
  o e * Ideal.rsqrt (Ideal.div (∑ e, o e * o e) (Ideal.ofBits .f32 0x43000000#32) + Ideal.ofBits .f32 0x358637BD#32) * g * Ideal.ofBits .f32 0x3F4CCCCD#32

theorem normal_apply (b h : Fin 8) (q : Fin 2064) (e : Fin 128) :
    val_main_v98 (F := Ideal) x0 x1 x2 x3 x4 x5 (ix4 b q h e)
      = normal (fun e => val_main_v82 (F := Ideal) x0 x1 x2 x3 x4 (ix4 b q h e)) (x5 (ix2 0 e)) e := by
  pointwise [val_main_v98, val_main_v97, val_main_v96, val_main_v95, val_main_v94, val_main_v93, val_main_v92, val_main_v91, val_main_v90, val_main_v89, val_main_v88, val_main_v87, val_main_v86,
    val_main_v85, val_main_v84, val_main_v83]
  rw [show val_main_cst_16 (F := Ideal) (Shape.Idx.first h_S_) = (0 : EReal) from zero, zero_add]
  rfl

/-- The result at row `128 * i + r` of batch `b`: zeros on the 112 rows in front. -/
theorem result_apply (b : Fin 8) (Q : Fin 2176) (h : Fin 8) (e : Fin 128) :
    val_main_v101 (F := Ideal) x0 x1 x2 x3 x4 x5 (ix2 ⟨2176 * b.val + Q.val, by omega⟩ ⟨128 * h.val + e.val, by omega⟩)
      = if hQ : Q.val < 112 then 0 else val_main_v98 (F := Ideal) x0 x1 x2 x3 x4 x5 (ix4 b ⟨Q.val - 112, by omega⟩ h e) := by
  have h101 : val_main_v101 (F := Ideal) x0 x1 x2 x3 x4 x5 (ix2 ⟨2176 * b.val + Q.val, by omega⟩ ⟨128 * h.val + e.val, by omega⟩)
      = val_main_v100 (F := Ideal) x0 x1 x2 x3 x4 x5 (ix3 b Q ⟨128 * h.val + e.val, by omega⟩) := by
    unfold val_main_v101
    refine shapeCast_apply _ _ _ _ ?_
    rw [Shape.rowMajor_val_two, Shape.rowMajor_val_three]
    show (b.val * 2176 + Q.val) * 1024 + (128 * h.val + e.val) = (2176 * b.val + Q.val) * 1024 + (128 * h.val + e.val)
    omega
  rw [h101]
  split
  · rename_i hQ
    unfold val_main_v100
    refine (pad_apply_of_not_inside _ _ _ _ _ _ _ _ (1 : Fin 3) (fun g => ?_)).trans ?_
    · have : 112 ≤ Q.val := g.1
      omega
    · show (((0#32 : BitVec 32).toInt : ℝ) : EReal) = 0
      simp
  · rename_i hQ
    unfold val_main_v100
    refine (pad_apply_of_inside _ _ _ _ _ _ _ _ (ix3 b ⟨Q.val - 112, by omega⟩ ⟨128 * h.val + e.val, by omega⟩) (fun a => ?_)).trans ?_
    · match a with
      | 0 => show b.val = 0 + b.val * 1; omega
      | 1 => show Q.val = 112 + (Q.val - 112) * 1; omega
      | 2 => show 128 * h.val + e.val = 0 + (128 * h.val + e.val) * 1; omega
    · unfold val_main_v99
      refine shapeCast_apply _ _ _ _ ?_
      rw [Shape.rowMajor_val_three, Shape.rowMajor_val_four]
      show ((b.val * 2064 + (Q.val - 112)) * 8 + h.val) * 128 + e.val = (b.val * 2064 + (Q.val - 112)) * 1024 + (128 * h.val + e.val)
      omega
end

end Cert.ReferenceIdeal.Value

end
-- ==== Proof.Attn.Block.lean ====
/- One head of one block of queries, at the ideal instance: what `attn_prompt` computes from what it carries is the reference's result. -/
module

public import proofs.«01_k».proof.Proof.Attn.Score
public import proofs.«01_k».proof.Proof.Attn.Reference

@[expose] public section

set_option maxRecDepth 16384

noncomputable section

namespace Cert.KernelIdeal.Body

open Idealize.ShloMosaic Idealize.ShloMosaic.TcCoe Idealize.ShloMosaic.Tactic
open Cert.KernelIdeal.Gen Cert.Attn
open Cert.ReferenceIdeal.Value (normal)

section
variable (X3 : Vec Ideal S128x1024 .bf16) (X4 X5 : Vec Ideal S2176x1024 .bf16) (X0 : Vec Ideal S32x8 .f32) (i : grid0.Coords) (h : Fin 8)

/-- A map's scores for row `r` of the block, over the 2064 keys after the padding. -/
def scores (m : Fin 2) (r : Fin 128) (k : Fin 2064) : EReal := score X3 X4 X0 i h ⟨128 * m.val + r.val, by omega⟩ (112 + k.val)

theorem queryOf_eq (m : Fin 2) (r : Fin 128) : queryOf i ⟨128 * m.val + r.val, by omega⟩ = 128 * (i 1).val + r.val := by
  unfold queryOf; show 128 * (i 1).val + (128 * m.val + r.val) % 128 = _; omega

theorem window (m : Fin 2) (r : Fin 128) (w : ℕ → EReal) :
    wsum (score X3 X4 X0 i h ⟨128 * m.val + r.val, by omega⟩) w (128 * (i 1).val + 128)
      = ∑ k : Fin 2064, weight (scores X3 X4 X0 i h m r) k * w (112 + k.val) := by
  have hi : (i 1).val < 17 := (i 1).isLt
  have hQ := queryOf_eq i m r
  have hr := r.isLt
  rw [wsum_window (a := 112) (p := 2064) w]
  · rfl
  · right; intro k hk; unfold score; rw [if_pos]; right; omega
  · intro k hk; unfold score; rw [if_pos]; left; omega
  · intro k hk; unfold score; rw [if_pos]; right; omega

/-- A head's result from what is carried: the two softmaxes combined, and normalised. -/
theorem finish_apply (lam : FVec Ideal S1x1 .f32) (og : FVec Ideal S1x128 .f32) {s : Carry Ideal}
    (hs : Holds s (128 * (i 1).val + 128) (score X3 X4 X0 i h) (valueAt X5 h)) (r e : Fin 128) :
    finish lam og s (ix2 r e)
      = normal (fun e => combined (scores X3 X4 X0 i h 0 r) (scores X3 X4 X0 i h 1 r) (fun k e => valueAt X5 h (112 + k.val) e) (lam (ix2 0 0)) e) (og (ix2 0 e)) e := by
  have d : ∀ e, difference lam s (ix2 r e)
      = combined (scores X3 X4 X0 i h 0 r) (scores X3 X4 X0 i h 1 r) (fun k e => valueAt X5 h (112 + k.val) e) (lam (ix2 0 0)) e := fun e => by
    obtain ⟨-, h2, h3⟩ := hs
    rw [difference_apply, h2, h2, h3, h3]
    have w0 := window X3 X4 X0 i h 0 r
    have w1 := window X3 X4 X0 i h 1 r
    have i0 : (⟨128 * (0 : Fin 2).val + r.val, by simp; omega⟩ : Fin 256) = ⟨r.val, by omega⟩ := Fin.ext (show 128 * 0 + r.val = r.val by omega)
    have i1 : (⟨128 * (1 : Fin 2).val + r.val, by simp; omega⟩ : Fin 256) = ⟨128 + r.val, by omega⟩ := Fin.ext (show 128 * 1 + r.val = 128 + r.val by omega)
    rw [i0] at w0
    rw [i1] at w1
    rw [w0, w0, w1, w1]
    simp only [mul_one]
    rfl
  rw [finish, normalise_apply]
  simp only [d]
  rfl

/-- The normalisation's factor of a row whose squares are infinite. -/
theorem factor_top : Ideal.rsqrt (Ideal.div ⊤ (Ideal.ofBits .f32 0x43000000#32) + Ideal.ofBits .f32 0x358637BD#32) = 0 := by
  have ec : Ideal.ofBits .f32 0x43000000#32 = ((128 : ℝ) : EReal) := by
    simp [Ideal.ofBits, Ideal.ieee]; rw [← EReal.coe_mul]; norm_num
  have e : ∃ c : ℝ, Ideal.ofBits .f32 0x358637BD#32 = (c : EReal) := ⟨8796093 * (2 ^ 43)⁻¹, by
    simp [Ideal.ofBits, Ideal.ieee]⟩
  obtain ⟨c, hc⟩ := e
  rw [ec, Ideal.div, if_neg (by norm_num), ← EReal.coe_inv, EReal.top_mul_coe_of_pos (by norm_num), hc, EReal.top_add_coe]
  rfl

/-- Rows of the padding have no keys, and the result there is 0. -/
theorem normal_flat {o : Fin 128 → EReal} (hf : ∀ e, Flat (o e)) (g : EReal) (e : Fin 128) : normal o g e = 0 := by
  rw [normal, normalised_flat (fun x => Ideal.rsqrt (Ideal.div x (Ideal.ofBits .f32 0x43000000#32) + Ideal.ofBits .f32 0x358637BD#32)) factor_top o hf e]
  simp

theorem padding_row (lam : FVec Ideal S1x1 .f32) (og : FVec Ideal S1x128 .f32) {s : Carry Ideal}
    (hs : Holds s (128 * (i 1).val + 128) (score X3 X4 X0 i h) (valueAt X5 h)) (r e : Fin 128) (hQ : 128 * (i 1).val + r.val < 112) :
    finish lam og s (ix2 r e) = 0 := by
  rw [finish_apply X3 X4 X5 X0 i h lam og hs]
  refine normal_flat (fun e => ?_) _ _
  have z : ∀ m k, weight (scores X3 X4 X0 i h m r) k = 0 := fun m k => by
    have : scores X3 X4 X0 i h m r k = ⊥ := by
      unfold scores score
      rw [queryOf_eq, if_pos]; right; omega
    rw [weight, this, bot_sub']; rfl
  unfold combined
  simp only [z, zero_mul, Finset.sum_const_zero, div_zero_zero, bot_sub']
  exact .inr (.inl rfl)
end

/-- A sum over the 128 lanes of which one map has 64. -/
theorem sum_lanes (f : Fin 128 → EReal) (m : Fin 2) :
    (∑ l : Fin 128, if (m.val = 0 ↔ l.val < 64) then f l else 0) = ∑ d : Fin 64, f ⟨64 * m.val + d.val, by omega⟩ := by
  rw [show (∑ l : Fin 128, if (m.val = 0 ↔ l.val < 64) then f l else 0) = _ from Fin.sum_univ_add (a := 64) (b := 64) _]
  match m with
  | 0 =>
    rw [Finset.sum_eq_zero (s := Finset.univ) (f := fun l : Fin 64 => if ((0 : Fin 2).val = 0 ↔ (Fin.natAdd 64 l).val < 64) then f (Fin.natAdd 64 l) else 0)
      (fun l _ => if_neg (by simp)), add_zero]
    exact Finset.sum_congr rfl fun d _ => by rw [if_pos (by simp)]; exact congrArg f (Fin.ext (by simp))
  | 1 =>
    rw [Finset.sum_eq_zero (s := Finset.univ) (f := fun l : Fin 64 => if ((1 : Fin 2).val = 0 ↔ (Fin.castAdd 64 l).val < 64) then f (Fin.castAdd 64 l) else 0)
      (fun l _ => if_neg (by simp)), zero_add]
    exact Finset.sum_congr rfl fun d _ => by rw [if_pos (by simp)]; exact congrArg f (Fin.ext (show 64 + d.val = 64 * 1 + d.val by omega))

/-- The scale 1/8 as a real. -/
theorem scale_real : Ideal.ofBits .f32 0x3E000000#32 = ((1 / 8 : ℝ) : EReal) := by
  simp [Ideal.ofBits, Ideal.ieee]; rw [← EReal.coe_mul]; norm_num

section
variable (x0 x1 : FVec Ideal Cert.ReferenceIdeal.S8x2064x8x2x64 .f32) (x2 : FVec Ideal Cert.ReferenceIdeal.S8x2064x8x128 .f32) (x3 : FVec Ideal Cert.ReferenceIdeal.S32x8 .f32)
  (x4 : FVec Ideal Cert.ReferenceIdeal.S1x4x64 .f32) (x5 : FVec Ideal Cert.ReferenceIdeal.S1x128 .f32)
  (X3 : Vec Ideal S128x1024 .bf16) (X4 X5 : Vec Ideal S2176x1024 .bf16) (i : grid0.Coords) (b h : Fin 8)

/-- The map and the lane within it of a head's lane. -/
abbrev mapLane (x : FVec Ideal Cert.ReferenceIdeal.S8x2064x8x2x64 .f32) (b : Fin 8) (q : Fin 2064) (h : Fin 8) (l : Fin 128) : EReal :=
  x (ix5 b q h ⟨l.val / 64, by omega⟩ ⟨l.val % 64, by omega⟩)

/-- The block's queries are the reference's, scaled. -/
def QueriesOf : Prop := ∀ (r l : Fin 128) (hQ : 112 ≤ 128 * (i 1).val + r.val),
  X3 (ix2 r (Fin.ofNat 1024 (128 * h.val + l.val)))
    = mapLane x0 b ⟨128 * (i 1).val + r.val - 112, by have : (i 1).val < 17 := (i 1).isLt; omega⟩ h l * Ideal.ofBits .f32 0x3E000000#32

/-- The keys are the reference's. -/
def KeysOf : Prop := ∀ (k : Fin 2064) (l : Fin 128), X4 (ix2 (Fin.ofNat 2176 (112 + k.val)) (Fin.ofNat 1024 (128 * h.val + l.val))) = mapLane x1 b k h l

/-- The values are the reference's. -/
def ValuesOf : Prop := ∀ (k : Fin 2064) (e : Fin 128), X5 (ix2 (Fin.ofNat 2176 (112 + k.val)) (Fin.ofNat 1024 (128 * h.val + e.val))) = x2 (ix4 b k h e)

variable {x0 x1 x2 X3 X4 X5 i b h}

theorem scores_eq (hq : QueriesOf x0 X3 i b h) (hk : KeysOf x1 X4 b h) (m : Fin 2) (r : Fin 128) (hQ : 112 ≤ 128 * (i 1).val + r.val) :
    scores X3 X4 x3 i h m r
      = Cert.ReferenceIdeal.Value.score x0 x1 x3 b m h ⟨128 * (i 1).val + r.val - 112, by have : (i 1).val < 17 := (i 1).isLt; omega⟩ := by
  have hi : (i 1).val < 17 := (i 1).isLt
  funext k
  have hr := r.isLt
  have hm := m.isLt
  unfold scores score Cert.ReferenceIdeal.Value.score
  rw [queryOf_eq]
  by_cases hc : k.val ≤ 128 * (i 1).val + r.val - 112
  · rw [if_neg (by omega), if_pos hc]
    have hb : 128 * (i 1).val + r.val - (112 + k.val) = 128 * (i 1).val + r.val - 112 - k.val := by omega
    rw [hb]
    refine congrArg (· + _) ?_
    unfold product
    rw [scale_real, sum_mul_real _ _ (by norm_num), ← scale_real]
    refine Eq.trans (Finset.sum_congr rfl fun l _ => ?_) ((sum_lanes (fun l : Fin 128 => (mapLane x0 b ⟨128 * (i 1).val + r.val - 112, by omega⟩ h l * Ideal.ofBits .f32 0x3E000000#32) * mapLane x1 b k h l) m).trans
      (Finset.sum_congr rfl fun d _ => ?_))
    · rw [splitMaps_apply, hk]
      have c : ((128 * m.val + r.val < 128) ↔ m.val = 0) := by omega
      have e : (Fin.ofNat 128 (128 * m.val + r.val)) = r := Fin.ext (show (128 * m.val + r.val) % 128 = r.val by omega)
      simp only [c, e]
      split
      · exact congrArg (· * _) (hq r l hQ)
      · exact zero_mul _
    · have e1 : (⟨(64 * m.val + d.val) / 64, by omega⟩ : Fin 2) = m := Fin.ext (show (64 * m.val + d.val) / 64 = m.val by omega)
      have e2 : (⟨(64 * m.val + d.val) % 64, by omega⟩ : Fin 64) = d := Fin.ext (show (64 * m.val + d.val) % 64 = d.val by omega)
      unfold mapLane
      simp only [e1, e2]
      exact mul_right_comm _ _ _
  · rw [if_pos (by omega), if_neg hc]

/-- A row of a head is the reference's, over finite values and a finite factor. -/
theorem row_eq (hq : QueriesOf x0 X3 i b h) (hk : KeysOf x1 X4 b h) (hv : ValuesOf x2 X5 b h)
    (fv : ∀ j, ∃ r : ℝ, x2 j = (r : EReal)) (fl : ∃ r : ℝ, Cert.ReferenceIdeal.Value.lambda x4 = (r : EReal))
    (lam : FVec Ideal S1x1 .f32) (og : FVec Ideal S1x128 .f32) (hlam : lam (ix2 0 0) = Cert.ReferenceIdeal.Value.lambda x4) (hog : ∀ e, og (ix2 0 e) = x5 (ix2 0 e))
    {s : Carry Ideal} (hs : Holds s (128 * (i 1).val + 128) (score X3 X4 x3 i h) (valueAt X5 h)) (r e : Fin 128) :
    finish lam og s (ix2 r e)
      = if hQ : 128 * (i 1).val + r.val < 112 then 0
        else Cert.ReferenceIdeal.Read.val_main_v98 (F := Ideal) x0 x1 x2 x3 x4 x5 (ix4 b ⟨128 * (i 1).val + r.val - 112, by have : (i 1).val < 17 := (i 1).isLt; omega⟩ h e) := by
  split
  · rename_i hQ; exact padding_row X3 X4 X5 x3 i h lam og hs r e hQ
  · rename_i hQ
    have hi : (i 1).val < 17 := (i 1).isLt
    rw [finish_apply X3 X4 X5 x3 i h lam og hs, Cert.ReferenceIdeal.Value.normal_apply, hog, hlam, scores_eq x3 hq hk 0 r (by omega), scores_eq x3 hq hk 1 r (by omega)]
    simp only [Cert.ReferenceIdeal.Value.attended_apply]
    obtain ⟨l, el⟩ := fl
    choose w ew using fv
    have v1 : (fun (k : Fin 2064) (e : Fin 128) => valueAt X5 h (112 + k.val) e) = fun k e => ((w (ix4 b k h e) : ℝ) : EReal) := by
      funext k e; rw [← ew]; exact hv k e
    have v2 : (fun (k : Fin 2064) (e : Fin 128) => x2 (ix4 b k h e)) = fun k e => ((w (ix4 b k h e) : ℝ) : EReal) := by
      funext k e; rw [← ew]
    rw [v1, v2, el, normal, normal]
    refine congrArg (· * _ * _) ?_
    exact normalised_eq (fun x => Ideal.rsqrt (Ideal.div x (Ideal.ofBits .f32 0x43000000#32) + Ideal.ofBits .f32 0x358637BD#32)) factor_top _ _ (fun k e => w (ix4 b k h e)) l e
end

end Cert.KernelIdeal.Body

end
-- ==== Proof.Attn.Result.lean ====
/- The array `attn_prompt` writes, at the ideal instance: where the values and the lambda vectors are finite it is the reference's result,
   index by index. -/
module

public import proofs.«01_k».proof.Proof.Attn.Left
public import proofs.«01_k».proof.Proof.Attn.Host
public import proofs.«01_k».proof.Proof.Attn.Block

@[expose] public section

set_option maxRecDepth 16384

noncomputable section

namespace Cert.KernelIdeal.Body

open Idealize.ShloMosaic Idealize.ShloMosaic.TcCoe Idealize.SL.Sem Idealize.ShloMosaic.Tactic
open Cert.KernelIdeal.Gen Cert.Attn

variable (m : (ℓ : Loc nD τ sig) → Buf (Elt Ideal) ℓ) (c : Dev nD) (t : Fin cfg0.N)

/-- Which block of its array each window holds at a point. -/
theorem index_rows : ∀ t : Fin cfg0.N, win0_3.index t = ![17 * (grid0.coords t 0).val + (grid0.coords t 1).val, 0] := (by decide +kernel : ∀ t : Fin grid0.N, _)
theorem index_out : ∀ t : Fin cfg0.N, win0_6.index t = ![17 * (grid0.coords t 0).val + (grid0.coords t 1).val, 0] := (by decide +kernel : ∀ t : Fin grid0.N, _)
theorem index_keys : ∀ t : Fin cfg0.N, win0_4.index t = ![(grid0.coords t 0).val, 0] := (by decide +kernel : ∀ t : Fin grid0.N, _)
theorem index_values : ∀ t : Fin cfg0.N, win0_5.index t = ![(grid0.coords t 0).val, 0] := (by decide +kernel : ∀ t : Fin grid0.N, _)
theorem index_lambda : ∀ t : Fin cfg0.N, win0_1.index t = ![0, 0] := (by decide +kernel : ∀ t : Fin grid0.N, _)
theorem index_gain : ∀ t : Fin cfg0.N, win0_2.index t = ![0, 0] := (by decide +kernel : ∀ t : Fin grid0.N, _)
theorem tile_of_point : ∀ t : Fin cfg0.N, (grid0.coords t 1).val = t.val % 17 := (by decide +kernel : ∀ t : Fin grid0.N, _)

theorem lambda_block : iblk m c 1 t = V m c main_v17 := by
  funext x
  blk_simp [iblk]
  refine congrArg (V m c main_v17) ?_
  blk_ext [index_lambda]

theorem gain_block : iblk m c 2 t = V m c main_v19 := by
  funext x
  blk_simp [iblk]
  refine congrArg (V m c main_v19) ?_
  blk_ext [index_gain]

/-- A point's sequence. -/
abbrev seqOf : Fin 8 := ⟨(grid0.coords t 0).val, (grid0.coords t 0).isLt⟩

theorem block_queries (h : Fin 8) : QueriesOf (m ((c : Thread nD τ).loc main_arg0)) (iblk m c 3 t) (grid0.coords t) (seqOf t) h := fun r l hQ => by
  have h0 : (grid0.coords t 0).val < 8 := (grid0.coords t 0).isLt
  have h1 : (grid0.coords t 1).val < 17 := (grid0.coords t 1).isLt
  have hr := r.isLt
  have hl := l.isLt
  have hh := h.isLt
  refine Eq.trans ?_ (queries_apply m c (seqOf t) ⟨128 * (grid0.coords t 1).val + r.val - 112, by omega⟩ h l
    ⟨2176 * (grid0.coords t 0).val + (128 * (grid0.coords t 1).val + r.val), by omega⟩ (by show 2176 * (grid0.coords t 0).val + _ = 2176 * (grid0.coords t 0).val + (112 + (128 * (grid0.coords t 1).val + r.val - 112)); omega)
    (Fin.ofNat 1024 (128 * h.val + l.val)) (show (128 * h.val + l.val) % 1024 = _ by omega))
  blk_simp [iblk]
  refine congrArg (V m c main_v6) ?_
  blk_ext [index_rows]

theorem block_keys (h : Fin 8) : KeysOf (m ((c : Thread nD τ).loc main_arg1)) (X0_4 m c t) (seqOf t) h := fun k l => by
  have h0 : (grid0.coords t 0).val < 8 := (grid0.coords t 0).isLt
  have hl := l.isLt
  have hh := h.isLt
  have hk := k.isLt
  refine Eq.trans ?_ (keys_apply m c (seqOf t) k h l
    ⟨2176 * (grid0.coords t 0).val + (112 + k.val), by omega⟩ rfl
    (Fin.ofNat 1024 (128 * h.val + l.val)) (show (128 * h.val + l.val) % 1024 = _ by omega))
  unfold X0_4 Pipeline.Window.fill
  rw [dif_pos (moved0_4 t _)]
  blk_simp [iblk]
  refine congrArg (V m c main_v11) ?_
  have ek : (Fin.ofNat 2176 (112 + k.val)).val = 112 + k.val := Nat.mod_eq_of_lt (by omega)
  blk_ext [index_keys, ek]

theorem block_values (h : Fin 8) : ValuesOf (m ((c : Thread nD τ).loc main_arg2)) (X0_5 m c t) (seqOf t) h := fun k e => by
  have h0 : (grid0.coords t 0).val < 8 := (grid0.coords t 0).isLt
  have hl := e.isLt
  have hh := h.isLt
  have hk := k.isLt
  refine Eq.trans ?_ (values_apply m c (seqOf t) k h e
    ⟨2176 * (grid0.coords t 0).val + (112 + k.val), by omega⟩ rfl
    (Fin.ofNat 1024 (128 * h.val + e.val)) (show (128 * h.val + e.val) % 1024 = _ by omega))
  unfold X0_5 Pipeline.Window.fill
  rw [dif_pos (moved0_5 t _)]
  blk_simp [iblk]
  refine congrArg (V m c main_v16) ?_
  have ek : (Fin.ofNat 2176 (112 + k.val)).val = 112 + k.val := Nat.mod_eq_of_lt (by omega)
  blk_ext [index_values, ek]

theorem block_lambda : k0_pay164 (iblk m c 1 t) (ix2 0 0) = Cert.ReferenceIdeal.Value.lambda (m ((c : Thread nD τ).loc main_arg4)) := by
  rw [lambda_block, lambda_apply]
  unfold Cert.ReferenceIdeal.Value.lambda
  have e : ∀ a x, V m c main_v17 (ix2 a x) = m ((c : Thread nD τ).loc main_arg4) (ix3 (0 : Fin 1) a x) := lambdas_apply m c
  exact congrArg₂ (fun a b : EReal => Ideal.exp a - Ideal.exp b + Ideal.ofBits .f32 0x3E4CCCCD#32)
    (Finset.sum_congr rfl fun x _ => congrArg₂ (fun a b : EReal => a * b) (e 0 x) (e 1 x))
    (Finset.sum_congr rfl fun x _ => congrArg₂ (fun a b : EReal => a * b) (e 2 x) (e 3 x))

theorem block_gain (e : Fin 128) : k0_pay165 (iblk m c 2 t) (ix2 0 e) = m ((c : Thread nD τ).loc main_arg5) (ix2 (0 : Fin 1) e) := by
  rw [gain_block]
  unfold k0_pay165
  rw [shapeCast_self]
  exact gains_apply m c e

/-- The reference's result of the arguments as launched. -/
abbrev wanted : FVec Ideal S17408x1024 .f32 := Cert.ReferenceIdeal.Read.val_main_v101 (F := Ideal) (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

theorem final (fv : ∀ j, ∃ r : ℝ, (m ((c : Thread nD τ).loc main_arg2) : FVec Ideal S8x2064x8x128 .f32) j = (r : EReal))
    (fl : ∃ r : ℝ, Cert.ReferenceIdeal.Value.lambda (m ((c : Thread nD τ).loc main_arg4)) = (r : EReal)) :
    (dats m 0 c).arrAt 6 cfg0.N = wanted m c := by
  refine (dats m 0 c).arrAt_eq_of_covers 6 _ (by decide +kernel) fun t _ y => ?_
  blk_simp
  rw [after_out, left_eq]
  have h0 : (grid0.coords t 0).val < 8 := (grid0.coords t 0).isLt
  have h1 : (grid0.coords t 1).val < 17 := (grid0.coords t 1).isLt
  have hr : (y 0).val < 128 := (y 0).isLt
  have hj : (y 1).val < 1024 := (y 1).isLt
  have e : (win0_6.blk t).view.emb y
      = ix2 (⟨2176 * (seqOf t).val + (⟨128 * (grid0.coords t 1).val + (y 0).val, by omega⟩ : Fin 2176).val, by show 2176 * (grid0.coords t 0).val + (128 * (grid0.coords t 1).val + (y 0).val) < 17408; omega⟩ : Fin 17408)
        (⟨128 * (⟨(y 1).val / 128, by omega⟩ : Fin 8).val + (⟨(y 1).val % 128, by omega⟩ : Fin 128).val, by show 128 * ((y 1).val / 128) + (y 1).val % 128 < 1024; omega⟩ : Fin 1024) := by
    blk_ext [index_out]
  rw [e]
  refine Eq.trans ?_ (Cert.ReferenceIdeal.Value.result_apply _ _ _ _ _ _ (seqOf t) _ _ _).symm
  refine row_eq (x0 := m ((c : Thread nD τ).loc main_arg0)) (x1 := m ((c : Thread nD τ).loc main_arg1)) _ _ _ (block_queries m c t ⟨(y 1).val / 128, by omega⟩) (block_keys m c t _) (block_values m c t _) fv fl _ _ (block_lambda m c t) (block_gain m c t) ?_ (y 0) ⟨(y 1).val % 128, by omega⟩
  rw [V_main_arg3]
  exact carried_holds _ _ _ _ (grid0.coords t) ⟨(y 1).val / 128, by omega⟩ _ (by rw [tile_of_point]; exact decide_eq_true_iff)

end Cert.KernelIdeal.Body

end
-- ==== Proof.Attn.Algebraic.lean ====
/- The value claim of `attn_prompt`: from memories that agree on the arguments, where the values and the lambda vectors are finite, the
   kernel's array and the reference's are equal as extended reals. -/
module

public import proofs.«01_k».proof.Defs
public import proofs.«01_k».proof.Proof.Attn.Result
public import proofs.«01_k».proof.Proof.Gen.ReferenceIdeal.Run
public import proofs.«01_k».proof.Proof.Gen.ReferenceIdeal.Read
public import proofs.«01_k».proof.Proof.Gen.Pre_finite_values

@[expose] public section

set_option maxRecDepth 16384

noncomputable section

namespace Cert.Attn

open Idealize.ShloMosaic Idealize.ShloMosaic.TcCoe Idealize.SL.Sem

/-- A number whose absolute value lies below infinity is real. -/
theorem real_of_below {x : EReal} (h : FloatOps.cmpf (F := Ideal) (φ := .f32) .olt (max x (-x)) (Ideal.ofBits .f32 0x7F800000#32) = 1#1) : ∃ r : ℝ, x = (r : EReal) := by
  have et : Ideal.ofBits .f32 0x7F800000#32 = ⊤ := by simp [Ideal.ofBits, Ideal.ieee]
  rw [et] at h
  have hl : max x (-x) < ⊤ := by
    by_contra hn
    have : FloatOps.cmpf (F := Ideal) (φ := .f32) .olt (max x (-x)) (⊤ : EReal) = 0#1 := by
      show BitVec.ofBool (decide (max x (-x) < ⊤)) = 0#1
      rw [decide_eq_false hn]; rfl
    rw [this] at h
    exact absurd h (by decide)
  refine ⟨x.toReal, (EReal.coe_toReal ?_ ?_).symm⟩
  · rintro rfl; simp at hl
  · rintro rfl; simp at hl

/-- Where the lambda vectors are real, so is lambda. -/
theorem lambda_real {x4 : FVec Ideal Cert.ReferenceIdeal.S1x4x64 .f32} (h : ∀ j, ∃ r : ℝ, x4 j = (r : EReal)) :
    ∃ r : ℝ, Cert.ReferenceIdeal.Value.lambda x4 = (r : EReal) := by
  choose f hf using h
  have s : ∀ a b : Fin 4, (∑ x : Fin 64, x4 (ix3 0 a x) * x4 (ix3 0 b x)) = ((∑ x : Fin 64, f (ix3 0 a x) * f (ix3 0 b x) : ℝ) : EReal) := fun a b => by
    have p : ∀ x, x4 (ix3 0 a x) * x4 (ix3 0 b x) = ((f (ix3 0 a x) * f (ix3 0 b x) : ℝ) : EReal) := fun x => by rw [hf, hf, EReal.coe_mul]
    simp only [p]
    exact (coe_sum' _).symm
  have e : ∀ r : ℝ, Ideal.exp (r : EReal) = ((Real.exp r : ℝ) : EReal) := fun r => rfl
  have c : ∃ c : ℝ, Ideal.ofBits .f32 0x3E4CCCCD#32 = (c : EReal) := by
    simp [Ideal.ofBits, Ideal.ieee]
    exact ⟨_, (EReal.coe_mul _ _).symm⟩
  obtain ⟨c, hc⟩ := c
  unfold Cert.ReferenceIdeal.Value.lambda
  rw [s, s, e, e, hc]
  exact ⟨_, by rw [← EReal.coe_sub, ← EReal.coe_add]⟩

/-- The two programs' results agree. -/
theorem algebraic : Cert.algebraic_KernelIdeal_ReferenceIdeal_pre_finite_values (hKernelIdeal := Cert.KernelIdeal.Gen.facts)
    (hReferenceIdeal := Cert.ReferenceIdeal.Gen.facts) (hPre_finite_values := Cert.Pre_finite_values.Gen.facts) := fun m g m' g' pre agree => by
  have fin (c : Dev Cert.KernelIdeal.nD) : (Cert.KernelIdeal.Body.dats m 0 c).arrAt 6 Cert.KernelIdeal.cfg0.N = Cert.KernelIdeal.Body.wanted m c := by
    refine Cert.KernelIdeal.Body.final m c (fun j => ?_) (lambda_real fun j => ?_)
    · exact real_of_below (congrFun (pre c).1 j)
    · exact real_of_below (congrFun (pre c).2 j)
  refine ⟨fun c => Cert.KernelIdeal.Body.wanted m c, ?_, ?_⟩
  · refine (θ_run _ _ _).mono (fun r h c => ?_) (θ_run_and (Cert.KernelIdeal.Body.run_main m g) (Cert.KernelIdeal.Body.frame m g))
    exact ⟨((h.1 c).1 6).trans (fin c), h.2.1 c⟩
  · refine (θ_run _ _ _).mono (fun r h c => ⟨(h c).1.trans ?_, (h c).2⟩) (Cert.ReferenceIdeal.Value.run m' g')
    refine (Cert.ReferenceIdeal.Read.val_main_v101_eq (StableHlo.launchContents m' c)).trans ?_
    obtain ⟨a0, a1, a2, a3, a4, a5⟩ := agree c
    rw [StableHlo.launchContents_devRef, StableHlo.launchContents_devRef, StableHlo.launchContents_devRef, StableHlo.launchContents_devRef,
      StableHlo.launchContents_devRef, StableHlo.launchContents_devRef, a0, a1, a2, a3, a4, a5]

end Cert.Attn

end
-- ==== Proof.Proj.Value.lean ====
/- `rms_in_proj`, at the ideal instance: the array it writes, index by index. At the first column block of a row block the rows are normalised
   into the scratch, which the other ten column blocks read again. -/
module

public import proofs.«01_k».proof.Proof.Gen.Kernel2Ideal.Value
public import Idealize.ShloMosaic.Lib.Pipeline.ValueKit
public import Idealize.ShloMosaic.Lib.StableHlo.Run
public import Idealize.ShloMosaic.Lib.Claim
public import Idealize.ShloMosaic.Lib.KernelVsHost
public import Idealize.ShloMosaic.Lib.Pointwise

@[expose] public section

set_option maxRecDepth 16384

noncomputable section

namespace Cert.Kernel2Ideal.Body

open Idealize.ShloMosaic Idealize.ShloMosaic.TcCoe Idealize.SL.Sem Idealize.ShloMosaic.Tactic
open Cert.Kernel2Ideal.Gen

theorem hz : (![0, 0] : Fin 2 → ℕ) = fun _ => 0 := by funext a; fin_cases a <;> rfl

section Cases

variable (c : Dev nD) (i : grid0.Coords) (arg2 : Memref sig .tc .vmem S768x2048 .f32) (harg2 : arg2.IsWhole)
  (arg3 : Memref sig .tc .vmem S1x2048 .f32) (harg3 : arg3.IsWhole) (arg4 : Memref sig .tc .vmem S2048x1024 .bf16) (harg4 : arg4.IsWhole)
  (arg5 : Memref sig .tc .vmem S768x1024 .f32) (harg5 : arg5.IsWhole) (arg6 : Memref sig .tc .vmem S768x2048 .bf16) (harg6 : arg6.IsWhole)
  (x0 : Vec Ideal S768x2048 .f32) (x1 : Vec Ideal S1x2048 .f32) (x2 : Vec Ideal S2048x1024 .bf16)

/-- A first column block leaves the normalised rows in the scratch. -/
theorem scratch_first (hc : cond0_0 i) :
    sout0_A_0 (F := Ideal) c i arg2 harg2 arg3 harg3 arg4 harg4 arg5 harg5 arg6 harg6 hc x0 x1 x2 = k0_pay1 x0 x1 := by
  unfold sout0_A_0
  rw [View.read_writes_junk_eq_canon]
  unfold kernelRun0_A
  dsimp only
  sl_unfold_words
  rw [View.canon_unit_zero hz]
  simp only [View.readAt_eq_ld, harg2.read_unread, harg3.read_unread, View.ld_unit_zero (S := S768x2048) hz, View.ld_unit_zero (S := S1x2048) hz]

/-- Its own block of the result is the product of these rows and the weight's block. -/
theorem out_first (hc : cond0_0 i) :
    out0_A_3 (F := Ideal) c i arg2 harg2 arg3 harg3 arg4 harg4 arg5 harg5 arg6 harg6 hc x0 x1 x2 = k0_pay2 (k0_pay1 x0 x1) x2 := by
  unfold out0_A_3
  rw [View.read_writes_junk_eq_canon]
  unfold kernelRun0_A
  dsimp only
  sl_unfold_words
  rw [View.canon_unit_zero hz, View.readCov_unit_zero (S := S768x2048) _ hz]
  simp only [View.readAt_eq_ld, harg2.read_unread, harg3.read_unread, harg4.read_unread, View.ld_unit_zero (S := S768x2048) hz,
    View.ld_unit_zero (S := S1x2048) hz, View.ld_unit_zero (S := S2048x1024) hz]

/-- A later column block multiplies what the scratch holds. -/
theorem out_later (hc : ¬cond0_0 i) (xs : Vec Ideal S768x2048 .bf16) :
    out0_B_3 (F := Ideal) c i arg2 harg2 arg3 harg3 arg4 harg4 arg5 harg5 arg6 harg6 hc x0 x1 x2 xs = k0_pay2 xs x2 := by
  unfold out0_B_3
  rw [View.read_writes_junk_eq_canon]
  unfold kernelRun0_B
  dsimp only
  sl_unfold_words
  rw [View.canon_unit_zero hz]
  simp only [View.readAt_eq_ld, harg6.read_unread, harg4.read_unread, View.ld_unit_zero (S := S768x2048) hz, View.ld_unit_zero (S := S2048x1024) hz]

end Cases

variable (m : (ℓ : Loc nD τ sig) → Buf (Elt Ideal) ℓ) (c : Dev nD)

theorem index_rows : ∀ t : Fin cfg0.N, win0_0.index t = ![t.val / 11, 0] := (by decide +kernel : ∀ t : Fin grid0.N, _)
theorem index_gains : ∀ t : Fin cfg0.N, win0_1.index t = ![0, 0] := (by decide +kernel : ∀ t : Fin grid0.N, _)
theorem index_weight : ∀ t : Fin cfg0.N, win0_2.index t = ![0, t.val % 11] := (by decide +kernel : ∀ t : Fin grid0.N, _)
theorem index_out : ∀ t : Fin cfg0.N, win0_3.index t = ![t.val / 11, t.val % 11] := (by decide +kernel : ∀ t : Fin grid0.N, _)

/-- The row blocks are of rows `768 (t / 11) …`. -/
theorem rows_block (t : Fin cfg0.N) (r : Fin 768) (l : Fin 2048) (n : Fin 17664) (hn : n.val = 768 * (t.val / 11) + r.val) :
    iblk m c 0 t (ix2 r l) = V m c main_v7 (ix2 n l) := by
  blk_simp [iblk]
  refine congrArg (V m c main_v7) ?_
  blk_ext [index_rows, hn]

theorem gains_block (t : Fin cfg0.N) (l : Fin 2048) : iblk m c 1 t (ix2 0 l) = V m c main_v11 (ix2 0 l) := by
  blk_simp [iblk]
  refine congrArg (V m c main_v11) ?_
  blk_ext [index_gains]

theorem weight_block (t : Fin cfg0.N) (k : Fin 2048) (j : Fin 1024) (q : Fin 11264) (hq : q.val = 1024 * (t.val % 11) + j.val) :
    iblk m c 2 t (ix2 k j) = V m c main_v10 (ix2 k q) := by
  blk_simp [iblk]
  refine congrArg (V m c main_v10) ?_
  blk_ext [index_weight, hq]

/-- One number of a normalised row. -/
def normed (x g : Fin 2048 → EReal) (l : Fin 2048) : EReal :=
  x l * Ideal.rsqrt (Ideal.div (∑ k, x k * x k) (Ideal.ofBits .f32 0x45000000#32) + Ideal.ofBits .f32 0x358637BD#32) * g l

theorem normed_apply (x0 : Vec Ideal S768x2048 .f32) (x1 : Vec Ideal S1x2048 .f32) (r : Fin 768) (l : Fin 2048) :
    k0_pay1 (F := Ideal) x0 x1 (ix2 r l) = normed (fun l => x0 (ix2 r l)) (fun l => x1 (ix2 0 l)) l := by
  unfold normed
  pointwise [k0_pay1]

theorem product_apply (x3 : Vec Ideal S768x2048 .bf16) (x2 : Vec Ideal S2048x1024 .bf16) (r : Fin 768) (j : Fin 1024) :
    k0_pay2 (F := Ideal) x3 x2 (ix2 r j) = ∑ l, x3 (ix2 r l) * x2 (ix2 l j) := by
  pointwise [k0_pay2]

/-- The rows of the array that the first window reads, normalised. -/
def rowsNormed (n : Fin 17664) (l : Fin 2048) : EReal := normed (fun l => V m c main_v7 (ix2 n l)) (fun l => V m c main_v11 (ix2 0 l)) l

/-- After every point the scratch holds its row block, normalised. -/
theorem scratch_after : ∀ (k : ℕ) (hk : k < cfg0.N) (r : Fin 768) (l : Fin 2048) (n : Fin 17664), n.val = 768 * (k / 11) + r.val →
    (outsAt0 m c k hk).2 (ix2 r l) = rowsNormed m c n l := by
  intro k
  induction k with
  | zero =>
    intro hk r l n hn
    rw [outsAt0_A m c ⟨0, hk⟩ (Nat.zero_mod _)]
    dsimp only
    rw [scratch_first, normed_apply]
    simp only [rows_block m c ⟨0, hk⟩ r _ n hn, gains_block]
    rfl
  | succ k ih =>
    intro hk r l n hn
    by_cases h : (k + 1) % 11 = 0
    · rw [outsAt0_A m c ⟨k + 1, hk⟩ h]
      dsimp only
      rw [scratch_first, normed_apply]
      simp only [rows_block m c ⟨k + 1, hk⟩ r _ n hn, gains_block]
      rfl
    · rw [outsAt0_B m c ⟨k + 1, hk⟩ h]
      dsimp only
      unfold sout0_B_0
      exact ih _ r l n (by omega)

/-- Every point leaves in its block of the result the product of its normalised rows and its columns of the weight. -/
theorem out_after (t : Fin cfg0.N) (r : Fin 768) (j : Fin 1024) (n : Fin 17664) (hn : n.val = 768 * (t.val / 11) + r.val) (q : Fin 11264)
    (hq : q.val = 1024 * (t.val % 11) + j.val) :
    (outsAt0 m c t.val t.isLt).1 (ix2 r j) = ∑ l, rowsNormed m c n l * V m c main_v10 (ix2 l q) := by
  by_cases h : t.val % 11 = 0
  · rw [outsAt0_A m c t h]
    dsimp only
    rw [out_first, product_apply]
    refine Finset.sum_congr rfl fun l _ => ?_
    rw [normed_apply, weight_block m c t l j q hq]
    simp only [rows_block m c t r _ n hn, gains_block]
    rfl
  · rw [outsAt0_B m c t h]
    dsimp only
    rw [out_later, product_apply]
    refine Finset.sum_congr rfl fun l _ => ?_
    rw [weight_block m c t l j q hq, scratch_after m c _ _ r l n (by omega)]

/-- The array after the run. -/
theorem final : (dats m 0 c).arrAt 3 cfg0.N = fun i : S17664x11264.Idx => ∑ l, rowsNormed m c (i 0) l * V m c main_v10 (ix2 l (i 1)) := by
  refine (dats m 0 c).arrAt_eq_of_covers 3 _ (by decide +kernel) fun t _ y => ?_
  blk_simp
  have ht : t.val < 253 := t.isLt
  have hr : (y 0).val < 768 := (y 0).isLt
  have hj : (y 1).val < 1024 := (y 1).isLt
  rw [after0_3]
  have ey : y = ix2 (⟨(y 0).val, hr⟩ : Fin 768) (⟨(y 1).val, hj⟩ : Fin 1024) := by funext a; match a with | 0 => rfl | 1 => rfl
  have e : (win0_3.blk t).view.emb y = ix2 (⟨768 * (t.val / 11) + (y 0).val, by omega⟩ : Fin 17664) (⟨1024 * (t.val % 11) + (y 1).val, by omega⟩ : Fin 11264) := by
    blk_ext [index_out]
  rw [e]
  exact (congrArg _ ey).trans (out_after m c t _ _ _ rfl _ rfl)

end Cert.Kernel2Ideal.Body

end
-- ==== Proof.Proj.Algebraic.lean ====
/- `rms_in_proj` against its reference: both give, for every row of tokens and every column of the weight, the same sum. The kernel pads the
   rows of tokens with zero rows, the reference its product; a zero row, normalised, is zero. -/
module

public import proofs.«01_k».proof.Defs
public import proofs.«01_k».proof.Proof.Proj.Value
public import proofs.«01_k».proof.Proof.Gen.Reference2Ideal.Run
public import proofs.«01_k».proof.Proof.Gen.Reference2Ideal.Read

@[expose] public section

set_option maxRecDepth 16384

noncomputable section

namespace Cert.Kernel2Ideal.Body

open Idealize.ShloMosaic Idealize.ShloMosaic.TcCoe Idealize.SL.Sem Idealize.ShloMosaic.Tactic
open Cert.Kernel2Ideal.Gen

/-- The prompts' tokens, each prompt after the meta tokens and those after 112 zero rows, by rows; then the samples' tokens. -/
def tokens (x0 : FVec Ideal S8x2048x2048 .f32) (x1 : FVec Ideal S32x8x2048 .f32) (x2 : FVec Ideal S16x2048 .f32) : FVec Ideal S17664x2048 .f32 :=
  concatenate S17664x2048 0
    [⟨S17408x2048, shapeCast S17408x2048
        (concatenate S8x2176x2048 1
          [⟨S8x128x2048, broadcastInDim S8x128x2048 ![0, 1, 2] bcast_S1x128x2048_S8x128x2048_0_1_2
              (broadcastInDim S1x128x2048 ![1, 2] bcast_S128x2048_S1x128x2048_1_2
                (concatenate S128x2048 0 [⟨S112x2048, broadcastInDim S112x2048 ![] bcast_S_S112x2048 (constant (F := Ideal) S_ .f32 0x00000000#32)⟩, ⟨S16x2048, x2⟩]
                  concatenates_S112x2048_S16x2048_S128x2048_d0))⟩,
            ⟨S8x2048x2048, x0⟩] concatenates_S8x128x2048_S8x2048x2048_S8x2176x2048_d1) shapeCasts_S8x2176x2048_S17408x2048⟩,
      ⟨S256x2048, shapeCast S256x2048 x1 shapeCasts_S32x8x2048_S256x2048⟩] concatenates_S17408x2048_S256x2048_S17664x2048_d0

section Host

variable (m : (ℓ : Loc nD τ sig) → Buf (Elt Ideal) ℓ) (c : Dev nD)

abbrev argX : FVec Ideal S8x2048x2048 .f32 := m ((c : Thread nD τ).loc main_arg0)
abbrev argS : FVec Ideal S32x8x2048 .f32 := m ((c : Thread nD τ).loc main_arg1)
abbrev argM : FVec Ideal S16x2048 .f32 := m ((c : Thread nD τ).loc main_arg2)
abbrev argG : FVec Ideal S1x2048 .f32 := m ((c : Thread nD τ).loc main_arg3)
abbrev argW : FVec Ideal S1x2048x11264 .f32 := m ((c : Thread nD τ).loc main_arg4)

theorem V_main_v7 : V m c main_v7 = tokens (argX m c) (argS m c) (argM m c) := by
  unfold V
  simp only [hostOps0, List.flatten_cons, List.flatten_nil, List.append_nil, List.cons_append, List.nil_append]
  after_results
  rfl

theorem V_main_v10 : V m c main_v10 = truncf .bf16 (shapeCast S2048x11264 (argW m c) shapeCasts_S1x2048x11264_S2048x11264) bitsLt_bf16_f32 := by
  unfold V
  simp only [hostOps0, List.flatten_cons, List.flatten_nil, List.append_nil, List.cons_append, List.nil_append]
  after_results
  rfl

theorem V_main_v11 : V m c main_v11 = shapeCast S1x2048 (shapeCast S2048 (argG m c) shapeCasts_S1x2048_S2048) shapeCasts_S2048_S1x2048 := by
  unfold V
  simp only [hostOps0, List.flatten_cons, List.flatten_nil, List.append_nil, List.cons_append, List.nil_append]
  after_results
  rfl

theorem weight_apply (k : Fin 2048) (j : Fin 11264) : V m c main_v10 (ix2 k j) = argW m c (ix3 0 k j) := by
  rw [V_main_v10]
  exact shapeCast_apply _ _ _ _ (by rw [Shape.rowMajor_val_two, Shape.rowMajor_val_three]; simp)

theorem gains_apply (l : Fin 2048) : V m c main_v11 (ix2 0 l) = argG m c (ix2 0 l) := by
  rw [V_main_v11]
  refine (shapeCast_apply _ _ _ (ix1 l) (by rw [Shape.rowMajor_val_two, Shape.rowMajor_val_one]; simp)).trans ?_
  exact shapeCast_apply _ _ _ _ (by rw [Shape.rowMajor_val_two, Shape.rowMajor_val_one]; simp)

end Host

variable (x0 : FVec Ideal S8x2048x2048 .f32) (x1 : FVec Ideal S32x8x2048 .f32) (x2 : FVec Ideal S16x2048 .f32) (x3 : FVec Ideal S1x2048 .f32)
  (x4 : FVec Ideal S1x2048x11264 .f32)

open Cert.Reference2Ideal.Read in
theorem reference_prompt (b : Fin 8) (k : Fin 2064) (j : Fin 11264) :
    val_main_v18 (F := Ideal) x0 x2 x3 x4 (ix3 b k j)
      = ∑ l, normed (fun l => val_main_v2 (F := Ideal) x0 x2 (ix3 b k l)) (fun l => x3 (ix2 0 l)) l * x4 (ix3 0 l j) := by
  unfold normed
  pointwise [val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1]

open Cert.Reference2Ideal.Read in
theorem reference_sample (b : Fin 32) (k : Fin 8) (j : Fin 11264) :
    val_main_v34 (F := Ideal) x1 x3 x4 (ix3 b k j)
      = ∑ l, normed (fun l => x1 (ix3 b k l)) (fun l => x3 (ix2 0 l)) l * x4 (ix3 0 l j) := by
  unfold normed
  pointwise [val_main_v34, val_main_v33, val_main_v32, val_main_v31, val_main_v30, val_main_v29, val_main_v28, val_main_v27, val_main_v26, val_main_v25, val_main_v24, val_main_v23, val_main_v22, val_main_v21, val_main_v20, val_main_v19, val_main_cst_2, val_main_cst_3, val_main_cst_4]

open Cert.Reference2Ideal.Read in
theorem reference_row (b : Fin 8) (k : Fin 2064) (l : Fin 2048) :
    val_main_v2 (F := Ideal) x0 x2 (ix3 b k l)
      = if h : k.val < 16 then x2 (ix2 (⟨k.val, h⟩ : Fin 16) l) else x0 (ix3 b (⟨k.val - 16, by omega⟩ : Fin 2048) l) := by
  pointwise [val_main_v2, val_main_v1, val_main_v0]

/-- A zero row is zero when normalised. -/
theorem normed_zero (g : Fin 2048 → EReal) (l : Fin 2048) : normed (fun _ => 0) g l = 0 := by
  unfold normed
  rw [zero_mul, zero_mul]

/-- The padding's number, converted from the integer 0. -/
theorem zero_of_int : (FloatOps.sitofp FTy.f32 (0#32 : BitVec 32) : Ideal .f32) = (0 : EReal) := by
  simp [FloatOps.sitofp]

section Rows

variable (n : Fin 17664) (l : Fin 2048)

/-- The rows before a prompt's meta tokens. -/
theorem tokens_zero (h : n.val < 17408) (h1 : n.val % 2176 < 112) : tokens x0 x1 x2 (ix2 n l) = 0 := by
  unfold tokens
  pointwise
  rw [dif_pos h, dif_pos (show n.val % 2176 < 128 by omega), dif_pos h1]

/-- A prompt's rows. -/
theorem tokens_prompt (h : n.val < 17408) (h1 : ¬ n.val % 2176 < 112) :
    tokens x0 x1 x2 (ix2 n l)
      = Cert.Reference2Ideal.Read.val_main_v2 (F := Ideal) x0 x2 (ix3 (⟨n.val / 2176, by omega⟩ : Fin 8) (⟨n.val % 2176 - 112, by omega⟩ : Fin 2064) l) := by
  rw [reference_row]
  unfold tokens
  pointwise
  rw [dif_pos h]
  by_cases h2 : n.val % 2176 < 128
  · rw [dif_pos h2, dif_neg h1, dif_pos (show n.val % 2176 - 112 < 16 by omega)]
  · rw [dif_neg h2, dif_neg (show ¬ n.val % 2176 - 112 < 16 by omega)]
    exact congrArg x0 (congrArg (fun q => ix3 (⟨n.val / 2176, by omega⟩ : Fin 8) q l) (Fin.ext (show n.val % 2176 - 128 = n.val % 2176 - 112 - 16 by omega)))

/-- A sample's rows. -/
theorem tokens_sample (h : ¬ n.val < 17408) :
    tokens x0 x1 x2 (ix2 n l) = x1 (ix3 (⟨(n.val - 17408) / 8, by omega⟩ : Fin 32) (⟨(n.val - 17408) % 8, by omega⟩ : Fin 8) l) := by
  unfold tokens
  pointwise
  rw [dif_neg h]

end Rows

open Cert.Reference2Ideal.Read in
theorem reference_apply (n : Fin 17664) (j : Fin 11264) :
    val_main_v38 (F := Ideal) x0 x1 x2 x3 x4 (ix2 n j)
      = ∑ l, normed (fun l => tokens x0 x1 x2 (ix2 n l)) (fun l => x3 (ix2 0 l)) l * x4 (ix3 0 l j) := by
  pointwise [val_main_v38, val_main_v37, val_main_v36, val_main_v35, val_main_call0_v0, val_main_c]
  have hn := n.isLt
  by_cases h : n.val < 17408
  · by_cases h1 : n.val % 2176 < 112
    · rw [dif_pos h, dif_neg (by omega)]
      simp only [tokens_zero x0 x1 x2 n _ h h1, normed_zero, zero_mul, Finset.sum_const_zero]
      exact zero_of_int
    · rw [dif_pos h, dif_pos ⟨by omega, by omega, by omega⟩, reference_prompt]
      simp only [tokens_prompt x0 x1 x2 n _ h h1]
  · rw [dif_neg h, reference_sample]
    simp only [tokens_sample x0 x1 x2 n _ h]

/-- The array that both programs give. -/
def wanted : FVec Ideal S17664x11264 .f32 := fun i =>
  ∑ l, normed (fun l => tokens x0 x1 x2 (ix2 (i 0) l)) (fun l => x3 (ix2 0 l)) l * x4 (ix3 0 l (i 1))

theorem reference_wanted : Cert.Reference2Ideal.Read.val_main_v38 (F := Ideal) x0 x1 x2 x3 x4 = wanted x0 x1 x2 x3 x4 := by
  funext i
  have ei : i = ix2 (i 0) (i 1) := by funext a; match a with | 0 => rfl | 1 => rfl
  exact (congrArg _ ei).trans (reference_apply x0 x1 x2 x3 x4 _ _)

theorem final_wanted (m : (ℓ : Loc nD τ sig) → Buf (Elt Ideal) ℓ) (c : Dev nD) :
    (dats m 0 c).arrAt 3 cfg0.N = wanted (argX m c) (argS m c) (argM m c) (argG m c) (argW m c) := by
  rw [final]
  funext i
  refine Finset.sum_congr rfl fun l _ => ?_
  refine (congrArg (rowsNormed m c (i 0) l * ·) (weight_apply m c l (i 1))).trans (congrArg (· * argW m c (ix3 0 l (i 1))) ?_)
  exact congrFun (congrArg₂ normed (funext fun l => congrFun (V_main_v7 m c) _) (funext fun l => gains_apply m c l)) l

end Cert.Kernel2Ideal.Body

namespace Cert.Proj

open Idealize.ShloMosaic Idealize.ShloMosaic.TcCoe Idealize.SL.Sem Cert.Kernel2Ideal.Body

/-- The two programs' results agree, for all arguments. -/
theorem algebraic : Cert.algebraic_Kernel2Ideal_Reference2Ideal (hKernel2Ideal := Cert.Kernel2Ideal.Gen.facts)
    (hReference2Ideal := Cert.Reference2Ideal.Gen.facts) := fun m g m' g' _ agree => by
  refine ⟨fun c => wanted (argX m c) (argS m c) (argM m c) (argG m c) (argW m c), ?_, ?_⟩
  · exact (θ_run _ _ _).mono (fun r h c => ⟨(h c).1.trans (final_wanted m c), (h c).2⟩) (Cert.Kernel2Ideal.Value.run_blocks m g)
  · refine (θ_run _ _ _).mono (fun r h c => ⟨(h c).1.trans ?_, (h c).2⟩) (Cert.Reference2Ideal.Value.run m' g')
    obtain ⟨a0, a1, a2, a3, a4⟩ := agree c
    rw [Cert.Reference2Ideal.Read.val_main_v38_eq, a0, a1, a2, a3, a4]
    exact reference_wanted _ _ _ _ _

end Cert.Proj

end
-- ==== Proof.Merge.Value.lean ====
/- `gated_merge`, at the ideal instance: the array it writes is the reference's, index by index. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.StableHlo.Run
public import Idealize.ShloMosaic.Lib.Claim
public import Idealize.ShloMosaic.Lib.KernelVsHost
public import Idealize.ShloMosaic.Lib.Pointwise

@[expose] public section

set_option maxRecDepth 16384

noncomputable section

namespace Cert.Kernel3Ideal.Body

open Idealize.ShloMosaic Idealize.ShloMosaic.TcCoe Idealize.SL.Sem Idealize.ShloMosaic.Tactic
open Cert.Kernel3Ideal.Gen

variable (m : (ℓ : Loc nD τ sig) → Buf (Elt Ideal) ℓ) (c : Dev nD)

abbrev argA : FVec Ideal S17664x1024 .f32 := m ((c : Thread nD τ).loc main_arg0)
abbrev argB : FVec Ideal S17664x1024 .f32 := m ((c : Thread nD τ).loc main_arg1)
abbrev argZ : FVec Ideal S17664x11264 .f32 := m ((c : Thread nD τ).loc main_arg2)
abbrev argWa : FVec Ideal S1x1024x2048 .f32 := m ((c : Thread nD τ).loc main_arg3)
abbrev argWb : FVec Ideal S1x1024x2048 .f32 := m ((c : Thread nD τ).loc main_arg4)

theorem V_main_v1 : V m c main_v1 = truncf .bf16 (shapeCast S1024x2048 (argWa m c) shapeCasts_S1x1024x2048_S1024x2048) bitsLt_bf16_f32 := by
  unfold V
  simp only [hostOps0, List.flatten_cons, List.flatten_nil, List.append_nil, List.cons_append, List.nil_append]
  after_results
  rfl

theorem V_main_v3 : V m c main_v3 = truncf .bf16 (shapeCast S1024x2048 (argWb m c) shapeCasts_S1x1024x2048_S1024x2048) bitsLt_bf16_f32 := by
  unfold V
  simp only [hostOps0, List.flatten_cons, List.flatten_nil, List.append_nil, List.cons_append, List.nil_append]
  after_results
  rfl

theorem weightA_apply (k : Fin 1024) (j : Fin 2048) : V m c main_v1 (ix2 k j) = argWa m c (ix3 0 k j) := by
  rw [V_main_v1]
  exact shapeCast_apply _ _ _ _ (by rw [Shape.rowMajor_val_two, Shape.rowMajor_val_three]; simp)

theorem weightB_apply (k : Fin 1024) (j : Fin 2048) : V m c main_v3 (ix2 k j) = argWb m c (ix3 0 k j) := by
  rw [V_main_v3]
  exact shapeCast_apply _ _ _ _ (by rw [Shape.rowMajor_val_two, Shape.rowMajor_val_three]; simp)

/-- One number of the result: the two projections, each under the logistic function of its gate. -/
def merged (a b : Fin 1024 → EReal) (za zb : EReal) (wa wb : Fin 1024 → EReal) : EReal :=
  Ideal.logistic za * (∑ k, a k * wa k) + Ideal.logistic zb * (∑ k, b k * wb k)

theorem pay_apply (x0 : Vec Ideal S768x1024 .f32) (x4 : Vec Ideal S1024x1024 .bf16) (x1 : Vec Ideal S768x1024 .f32) (x5 : Vec Ideal S1024x1024 .bf16)
    (x2 x3 : Vec Ideal S768x1024 .f32) (r : Fin 768) (j : Fin 1024) :
    k0_pay1 (F := Ideal) x0 x4 x1 x5 x2 x3 (ix2 r j)
      = merged (fun k => x0 (ix2 r k)) (fun k => x1 (ix2 r k)) (x2 (ix2 r j)) (x3 (ix2 r j)) (fun k => x4 (ix2 k j)) (fun k => x5 (ix2 k j)) := by
  unfold merged
  pointwise [k0_pay1]

/-- The array of all these numbers. -/
def wanted (x0 x1 : FVec Ideal S17664x1024 .f32) (x2 : FVec Ideal S17664x11264 .f32) (x3 x4 : FVec Ideal S1x1024x2048 .f32) : FVec Ideal S17664x2048 .bf16 := fun i =>
  merged (fun k => x0 (ix2 (i 0) k)) (fun k => x1 (ix2 (i 0) k)) (x2 (ix2 (i 0) (⟨7168 + (i 1).val, by have := (i 1).isLt; simp at this; omega⟩ : Fin 11264)))
    (x2 (ix2 (i 0) (⟨9216 + (i 1).val, by have := (i 1).isLt; simp at this; omega⟩ : Fin 11264))) (fun k => x3 (ix3 0 k (i 1))) (fun k => x4 (ix3 0 k (i 1)))

theorem index_rows : ∀ t : Fin cfg0.N, win0_0.index t = ![(grid0.coords t 0).val, 0] := (by decide +kernel : ∀ t : Fin grid0.N, _)
theorem index_rows' : ∀ t : Fin cfg0.N, win0_1.index t = ![(grid0.coords t 0).val, 0] := (by decide +kernel : ∀ t : Fin grid0.N, _)
theorem index_gate : ∀ t : Fin cfg0.N, win0_2.index t = ![(grid0.coords t 0).val, 7 + (grid0.coords t 1).val] := (by decide +kernel : ∀ t : Fin grid0.N, _)
theorem index_gate' : ∀ t : Fin cfg0.N, win0_3.index t = ![(grid0.coords t 0).val, 9 + (grid0.coords t 1).val] := (by decide +kernel : ∀ t : Fin grid0.N, _)
theorem index_weight : ∀ t : Fin cfg0.N, win0_4.index t = ![0, (grid0.coords t 1).val] := (by decide +kernel : ∀ t : Fin grid0.N, _)
theorem index_weight' : ∀ t : Fin cfg0.N, win0_5.index t = ![0, (grid0.coords t 1).val] := (by decide +kernel : ∀ t : Fin grid0.N, _)
theorem index_out : ∀ t : Fin cfg0.N, win0_6.index t = ![(grid0.coords t 0).val, (grid0.coords t 1).val] := (by decide +kernel : ∀ t : Fin grid0.N, _)

theorem final : (dats m 0 c).arrAt 6 cfg0.N = wanted (argA m c) (argB m c) (argZ m c) (argWa m c) (argWb m c) := by
  refine (dats m 0 c).arrAt_eq_of_covers 6 _ (by decide +kernel) fun t _ y => ?_
  blk_simp
  have h0 : (grid0.coords t 0).val < 23 := (grid0.coords t 0).isLt
  have h1 : (grid0.coords t 1).val < 2 := (grid0.coords t 1).isLt
  have hr : (y 0).val < 768 := (y 0).isLt
  have hj : (y 1).val < 1024 := (y 1).isLt
  have hz : (![0, 0] : Fin 2 → ℕ) = fun _ => 0 := by funext a; fin_cases a <;> rfl
  rw [after0_6]
  unfold out0_6
  rw [View.canon_unit_zero hz, View.ld_unit_zero hz, View.ld_unit_zero hz, View.ld_unit_zero hz, View.ld_unit_zero hz, View.ld_unit_zero hz, View.ld_unit_zero hz]
  have ey : y = ix2 (⟨(y 0).val, hr⟩ : Fin 768) (⟨(y 1).val, hj⟩ : Fin 1024) := by funext a; match a with | 0 => rfl | 1 => rfl
  have e : (win0_6.blk t).view.emb y = ix2 (⟨768 * (grid0.coords t 0).val + (y 0).val, by omega⟩ : Fin 17664) (⟨1024 * (grid0.coords t 1).val + (y 1).val, by omega⟩ : Fin 2048) := by
    blk_ext [index_out]
  rw [e]
  refine (congrArg _ ey).trans ((pay_apply _ _ _ _ _ _ _ _).trans ?_)
  have ea : ∀ k, iblk m c 0 t (ix2 (⟨(y 0).val, hr⟩ : Fin 768) k) = argA m c (ix2 (⟨768 * (grid0.coords t 0).val + (y 0).val, by omega⟩ : Fin 17664) k) := fun k => by
    blk_simp [iblk]
    refine (congrFun (V_main_arg0 m c) _).trans (congrArg (argA m c) ?_)
    blk_ext [index_rows]
  have eb : ∀ k, iblk m c 1 t (ix2 (⟨(y 0).val, hr⟩ : Fin 768) k) = argB m c (ix2 (⟨768 * (grid0.coords t 0).val + (y 0).val, by omega⟩ : Fin 17664) k) := fun k => by
    blk_simp [iblk]
    refine (congrFun (V_main_arg1 m c) _).trans (congrArg (argB m c) ?_)
    blk_ext [index_rows']
  have eza : iblk m c 2 t (ix2 (⟨(y 0).val, hr⟩ : Fin 768) (⟨(y 1).val, hj⟩ : Fin 1024))
      = argZ m c (ix2 (⟨768 * (grid0.coords t 0).val + (y 0).val, by omega⟩ : Fin 17664) (⟨7168 + (1024 * (grid0.coords t 1).val + (y 1).val), by omega⟩ : Fin 11264)) := by
    blk_simp [iblk]
    refine (congrFun (V_main_arg2 m c) _).trans (congrArg (argZ m c) ?_)
    blk_ext [index_gate]
  have ezb : iblk m c 3 t (ix2 (⟨(y 0).val, hr⟩ : Fin 768) (⟨(y 1).val, hj⟩ : Fin 1024))
      = argZ m c (ix2 (⟨768 * (grid0.coords t 0).val + (y 0).val, by omega⟩ : Fin 17664) (⟨9216 + (1024 * (grid0.coords t 1).val + (y 1).val), by omega⟩ : Fin 11264)) := by
    blk_simp [iblk]
    refine (congrFun (V_main_arg2 m c) _).trans (congrArg (argZ m c) ?_)
    blk_ext [index_gate']
  have ewa : ∀ k, iblk m c 4 t (ix2 k (⟨(y 1).val, hj⟩ : Fin 1024)) = argWa m c (ix3 0 k (⟨1024 * (grid0.coords t 1).val + (y 1).val, by omega⟩ : Fin 2048)) := fun k => by
    refine Eq.trans ?_ (weightA_apply m c k _)
    blk_simp [iblk]
    refine congrArg (V m c main_v1) ?_
    blk_ext [index_weight]
  have ewb : ∀ k, iblk m c 5 t (ix2 k (⟨(y 1).val, hj⟩ : Fin 1024)) = argWb m c (ix3 0 k (⟨1024 * (grid0.coords t 1).val + (y 1).val, by omega⟩ : Fin 2048)) := fun k => by
    refine Eq.trans ?_ (weightB_apply m c k _)
    blk_simp [iblk]
    refine congrArg (V m c main_v3) ?_
    blk_ext [index_weight']
  simp only [ea, eb, eza, ezb, ewa, ewb]
  rfl

theorem reference_apply (x0 x1 : FVec Ideal S17664x1024 .f32) (x2 : FVec Ideal S17664x11264 .f32) (x3 x4 : FVec Ideal S1x1024x2048 .f32) :
    Cert.Reference3Ideal.Read.val_main_v21 (F := Ideal) x0 x1 x2 x3 x4 = wanted x0 x1 x2 x3 x4 := by
  funext i
  unfold wanted merged
  pointwise [Cert.Reference3Ideal.Read.val_main_v21, Cert.Reference3Ideal.Read.val_main_v20, Cert.Reference3Ideal.Read.val_main_v19, Cert.Reference3Ideal.Read.val_main_v18, Cert.Reference3Ideal.Read.val_main_v17, Cert.Reference3Ideal.Read.val_main_v16, Cert.Reference3Ideal.Read.val_main_v15, Cert.Reference3Ideal.Read.val_main_v14, Cert.Reference3Ideal.Read.val_main_v13, Cert.Reference3Ideal.Read.val_main_v12, Cert.Reference3Ideal.Read.val_main_v11, Cert.Reference3Ideal.Read.val_main_v10, Cert.Reference3Ideal.Read.val_main_v9, Cert.Reference3Ideal.Read.val_main_v8, Cert.Reference3Ideal.Read.val_main_v7, Cert.Reference3Ideal.Read.val_main_v6, Cert.Reference3Ideal.Read.val_main_v5, Cert.Reference3Ideal.Read.val_main_v4, Cert.Reference3Ideal.Read.val_main_v3, Cert.Reference3Ideal.Read.val_main_v2, Cert.Reference3Ideal.Read.val_main_v1, Cert.Reference3Ideal.Read.val_main_v0, Cert.Reference3Ideal.Read.val_main_cst, Cert.Reference3Ideal.Read.val_main_cst_0, Cert.Reference3Ideal.Read.val_main_cst_1, Cert.Reference3Ideal.Read.val_main_cst_2]
  rfl

end Cert.Kernel3Ideal.Body

namespace Cert.Merge

open Idealize.ShloMosaic Idealize.ShloMosaic.TcCoe Idealize.SL.Sem

/-- The two programs' results agree, for all arguments. -/
theorem algebraic : Cert.algebraic_Kernel3Ideal_Reference3Ideal (hKernel3Ideal := Cert.Kernel3Ideal.Gen.facts)
    (hReference3Ideal := Cert.Reference3Ideal.Gen.facts) := fun m g m' g' _ agree => by
  refine ⟨fun c => Cert.Kernel3Ideal.Body.wanted (Cert.Kernel3Ideal.Body.argA m c) (Cert.Kernel3Ideal.Body.argB m c) (Cert.Kernel3Ideal.Body.argZ m c)
    (Cert.Kernel3Ideal.Body.argWa m c) (Cert.Kernel3Ideal.Body.argWb m c), ?_, ?_⟩
  · exact (θ_run _ _ _).mono (fun r h c => ⟨(h c).1.trans (Cert.Kernel3Ideal.Body.final m c), (h c).2⟩) (Cert.Kernel3Ideal.Value.run_blocks m g)
  · refine (θ_run _ _ _).mono (fun r h c => ⟨(h c).1.trans ?_, (h c).2⟩) (Cert.Reference3Ideal.Value.run m' g')
    obtain ⟨a0, a1, a2, a3, a4⟩ := agree c
    rw [Cert.Reference3Ideal.Read.val_main_v21_eq, a0, a1, a2, a3, a4]
    exact Cert.Kernel3Ideal.Body.reference_apply _ _ _ _ _

end Cert.Merge

end
-- ==== Proof.Out.Value.lean ====
/- `out_proj_norm2`, at the ideal instance: the two arrays it writes are the reference's, index by index. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.StableHlo.Run
public import Idealize.ShloMosaic.Lib.Claim
public import Idealize.ShloMosaic.Lib.KernelVsHost
public import Idealize.ShloMosaic.Lib.Pointwise

@[expose] public section

set_option maxRecDepth 16384

noncomputable section

namespace Cert.Kernel4Ideal.Body

open Idealize.ShloMosaic Idealize.ShloMosaic.TcCoe Idealize.SL.Sem Idealize.ShloMosaic.Tactic
open Cert.Kernel4Ideal.Gen

variable (m : (ℓ : Loc nD τ sig) → Buf (Elt Ideal) ℓ) (c : Dev nD)

abbrev argX : FVec Ideal S17664x2048 .f32 := m ((c : Thread nD τ).loc main_arg0)
abbrev argM : FVec Ideal S17664x2048 .bf16 := m ((c : Thread nD τ).loc main_arg1)
abbrev argW : FVec Ideal S1x2048x2048 .f32 := m ((c : Thread nD τ).loc main_arg2)
abbrev argG : FVec Ideal S1x2048 .f32 := m ((c : Thread nD τ).loc main_arg3)

theorem V_main_v1 : V m c main_v1 = truncf .bf16 (shapeCast S2048x2048 (argW m c) shapeCasts_S1x2048x2048_S2048x2048) bitsLt_bf16_f32 := by
  unfold V
  simp only [hostOps0, List.flatten_cons, List.flatten_nil, List.append_nil, List.cons_append, List.nil_append]
  after_results
  rfl

theorem V_main_v3 : V m c main_v3 = shapeCast S1x2048 (shapeCast S2048 (argG m c) shapeCasts_S1x2048_S2048) shapeCasts_S2048_S1x2048 := by
  unfold V
  simp only [hostOps0, List.flatten_cons, List.flatten_nil, List.append_nil, List.cons_append, List.nil_append]
  after_results
  rfl

theorem weight_apply (k : Fin 2048) (j : Fin 2048) : V m c main_v1 (ix2 k j) = argW m c (ix3 0 k j) := by
  rw [V_main_v1]
  exact shapeCast_apply _ _ _ _ (by rw [Shape.rowMajor_val_two, Shape.rowMajor_val_three]; simp)

theorem gains_apply (l : Fin 2048) : V m c main_v3 (ix2 0 l) = argG m c (ix2 0 l) := by
  rw [V_main_v3]
  refine (shapeCast_apply _ _ _ (ix1 l) (by rw [Shape.rowMajor_val_two, Shape.rowMajor_val_one]; simp)).trans ?_
  exact shapeCast_apply _ _ _ _ (by rw [Shape.rowMajor_val_two, Shape.rowMajor_val_one]; simp)

/-- One number of the residual stream after the projection. -/
def added (x : Fin 2048 → EReal) (g : Fin 2048 → EReal) (w : Fin 2048 → Fin 2048 → EReal) (j : Fin 2048) : EReal :=
  x j + ∑ k, g k * w k j

/-- One number of a normalised row. -/
def normed (x g : Fin 2048 → EReal) (l : Fin 2048) : EReal :=
  x l * Ideal.rsqrt (Ideal.div (∑ k, x k * x k) (Ideal.ofBits .f32 0x45000000#32) + Ideal.ofBits .f32 0x358637BD#32) * g l

theorem added_apply (x0 : Vec Ideal S256x2048 .f32) (x1 : Vec Ideal S256x2048 .bf16) (x2 : Vec Ideal S2048x2048 .bf16) (r : Fin 256) (j : Fin 2048) :
    k0_pay1 (F := Ideal) x0 x1 x2 (ix2 r j) = added (fun l => x0 (ix2 r l)) (fun k => x1 (ix2 r k)) (fun k j => x2 (ix2 k j)) j := by
  unfold added
  pointwise [k0_pay1]

theorem normed_apply (x0 : Vec Ideal S256x2048 .f32) (x1 : Vec Ideal S256x2048 .bf16) (x2 : Vec Ideal S2048x2048 .bf16) (x3 : Vec Ideal S1x2048 .f32)
    (r : Fin 256) (j : Fin 2048) :
    k0_pay2 (F := Ideal) x0 x1 x2 x3 (ix2 r j) = normed (fun l => k0_pay1 (F := Ideal) x0 x1 x2 (ix2 r l)) (fun l => x3 (ix2 0 l)) j := by
  unfold normed
  pointwise [k0_pay2]

/-- The first result: the array of all the sums. -/
def wantedX (x0 : FVec Ideal S17664x2048 .f32) (x1 : FVec Ideal S17664x2048 .bf16) (x2 : FVec Ideal S1x2048x2048 .f32) : FVec Ideal S17664x2048 .f32 := fun i =>
  added (fun l => x0 (ix2 (i 0) l)) (fun k => x1 (ix2 (i 0) k)) (fun k j => x2 (ix3 0 k j)) (i 1)

/-- The second: its rows, normalised. -/
def wantedH (x0 : FVec Ideal S17664x2048 .f32) (x1 : FVec Ideal S17664x2048 .bf16) (x2 : FVec Ideal S1x2048x2048 .f32) (x3 : FVec Ideal S1x2048 .f32) : FVec Ideal S17664x2048 .bf16 := fun i =>
  normed (fun l => wantedX x0 x1 x2 (ix2 (i 0) l)) (fun l => x3 (ix2 0 l)) (i 1)

theorem index_rows : ∀ t : Fin cfg0.N, win0_0.index t = ![t.val, 0] := (by decide +kernel : ∀ t : Fin grid0.N, _)
theorem index_rows' : ∀ t : Fin cfg0.N, win0_1.index t = ![t.val, 0] := (by decide +kernel : ∀ t : Fin grid0.N, _)
theorem index_weight : ∀ t : Fin cfg0.N, win0_2.index t = ![0, 0] := (by decide +kernel : ∀ t : Fin grid0.N, _)
theorem index_gains : ∀ t : Fin cfg0.N, win0_3.index t = ![0, 0] := (by decide +kernel : ∀ t : Fin grid0.N, _)
theorem index_outX : ∀ t : Fin cfg0.N, win0_4.index t = ![t.val, 0] := (by decide +kernel : ∀ t : Fin grid0.N, _)
theorem index_outH : ∀ t : Fin cfg0.N, win0_5.index t = ![t.val, 0] := (by decide +kernel : ∀ t : Fin grid0.N, _)

theorem hz : (![0, 0] : Fin 2 → ℕ) = fun _ => 0 := by funext a; fin_cases a <;> rfl

/-- A point's sums, from its blocks. -/
theorem sums_block (t : Fin cfg0.N) (r : Fin 256) (j : Fin 2048) (n : Fin 17664) (hn : n.val = 256 * t.val + r.val) :
    k0_pay1 (F := Ideal) (iblk m c 0 t) (iblk m c 1 t) (iblk m c 2 t) (ix2 r j) = wantedX (argX m c) (argM m c) (argW m c) (ix2 n j) := by
  refine (added_apply _ _ _ _ _).trans ?_
  have ex : ∀ l, iblk m c 0 t (ix2 r l) = argX m c (ix2 n l) := fun l => by
    blk_simp [iblk]
    refine (congrFun (V_main_arg0 m c) _).trans (congrArg (argX m c) ?_)
    blk_ext [index_rows, hn]
  have em : ∀ l, iblk m c 1 t (ix2 r l) = argM m c (ix2 n l) := fun l => by
    blk_simp [iblk]
    refine (congrFun (V_main_arg1 m c) _).trans (congrArg (argM m c) ?_)
    blk_ext [index_rows', hn]
  have ew : ∀ k j, iblk m c 2 t (ix2 k j) = argW m c (ix3 0 k j) := fun k j => by
    refine Eq.trans ?_ (weight_apply m c k j)
    blk_simp [iblk]
    refine congrArg (V m c main_v1) ?_
    blk_ext [index_weight]
  simp only [ex, em, ew]
  rfl

theorem finalX : (dats m 0 c).arrAt 4 cfg0.N = wantedX (argX m c) (argM m c) (argW m c) := by
  refine (dats m 0 c).arrAt_eq_of_covers 4 _ (by decide +kernel) fun t _ y => ?_
  blk_simp
  have ht : t.val < 69 := t.isLt
  have hr : (y 0).val < 256 := (y 0).isLt
  have hj : (y 1).val < 2048 := (y 1).isLt
  rw [after0_4]
  unfold out0_4
  rw [View.canon_unit_zero hz, View.ld_unit_zero hz, View.ld_unit_zero hz, View.ld_unit_zero hz]
  have ey : y = ix2 (⟨(y 0).val, hr⟩ : Fin 256) (⟨(y 1).val, hj⟩ : Fin 2048) := by funext a; match a with | 0 => rfl | 1 => rfl
  have e : (win0_4.blk t).view.emb y = ix2 (⟨256 * t.val + (y 0).val, by omega⟩ : Fin 17664) (⟨(y 1).val, hj⟩ : Fin 2048) := by
    blk_ext [index_outX]
  rw [e]
  exact (congrArg _ ey).trans (sums_block m c t _ _ _ rfl)

theorem finalH : (dats m 0 c).arrAt 5 cfg0.N = wantedH (argX m c) (argM m c) (argW m c) (argG m c) := by
  refine (dats m 0 c).arrAt_eq_of_covers 5 _ (by decide +kernel) fun t _ y => ?_
  blk_simp
  have ht : t.val < 69 := t.isLt
  have hr : (y 0).val < 256 := (y 0).isLt
  have hj : (y 1).val < 2048 := (y 1).isLt
  rw [after0_5]
  unfold out0_5
  rw [View.canon_unit_zero hz, View.ld_unit_zero hz, View.ld_unit_zero hz, View.ld_unit_zero hz, View.ld_unit_zero hz]
  have ey : y = ix2 (⟨(y 0).val, hr⟩ : Fin 256) (⟨(y 1).val, hj⟩ : Fin 2048) := by funext a; match a with | 0 => rfl | 1 => rfl
  have e : (win0_5.blk t).view.emb y = ix2 (⟨256 * t.val + (y 0).val, by omega⟩ : Fin 17664) (⟨(y 1).val, hj⟩ : Fin 2048) := by
    blk_ext [index_outH]
  rw [e]
  refine (congrArg _ ey).trans ((normed_apply _ _ _ _ _ _).trans ?_)
  have eg : ∀ l, iblk m c 3 t (ix2 0 l) = argG m c (ix2 0 l) := fun l => by
    refine Eq.trans ?_ (gains_apply m c l)
    blk_simp [iblk]
    refine congrArg (V m c main_v3) ?_
    blk_ext [index_gains]
  simp only [eg]
  exact congrArg (fun f => normed f _ _) (funext fun l => sums_block m c t _ l _ rfl)

variable (x0 : FVec Ideal S17664x2048 .f32) (x1 : FVec Ideal S17664x2048 .bf16) (x2 : FVec Ideal S1x2048x2048 .f32) (x3 : FVec Ideal S1x2048 .f32)

open Cert.Reference4Ideal.Read in
theorem reference_added : val_main_v3 (F := Ideal) x0 x1 x2 = wantedX x0 x1 x2 := by
  funext i
  unfold wantedX added
  pointwise [val_main_v3, val_main_v2, val_main_v1, val_main_v0]

open Cert.Reference4Ideal.Read in
theorem reference_normed : val_main_v18 (F := Ideal) x0 x1 x2 x3 = wantedH x0 x1 x2 x3 := by
  funext i
  unfold wantedH normed
  rw [← reference_added]
  pointwise [val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1]

end Cert.Kernel4Ideal.Body

namespace Cert.Out

open Idealize.ShloMosaic Idealize.ShloMosaic.TcCoe Idealize.SL.Sem Cert.Kernel4Ideal.Body

/-- The two programs' results agree, for all arguments. -/
theorem algebraic : Cert.algebraic_Kernel4Ideal_Reference4Ideal (hKernel4Ideal := Cert.Kernel4Ideal.Gen.facts)
    (hReference4Ideal := Cert.Reference4Ideal.Gen.facts) := fun m g m' g' _ agree => by
  refine ⟨fun c => wantedX (argX m c) (argM m c) (argW m c), fun c => wantedH (argX m c) (argM m c) (argW m c) (argG m c), ?_, ?_⟩
  · exact (θ_run _ _ _).mono (fun r h c => ⟨(h c).1.trans (finalX m c), (h c).2.1.trans (finalH m c), (h c).2.2⟩) (Cert.Kernel4Ideal.Value.run_blocks m g)
  · refine (θ_run _ _ _).mono (fun r h c => ⟨(h c).1.trans ?_, (h c).2.1.trans ?_, (h c).2.2⟩) (Cert.Reference4Ideal.Value.run m' g')
    · obtain ⟨a0, a1, a2, a3⟩ := agree c
      rw [Cert.Reference4Ideal.Read.val_main_v3_eq, a0, a1, a2]
      exact reference_added _ _ _
    · obtain ⟨a0, a1, a2, a3⟩ := agree c
      rw [Cert.Reference4Ideal.Read.val_main_v18_eq, a0, a1, a2, a3]
      exact reference_normed _ _ _ _

end Cert.Out

end
-- ==== Proof.Scores.Value.lean ====
/- `peer_scores`, at the ideal instance: the array it writes is the reference's, index by index. A point multiplies its 256 rows by the query
   weight and then, for each of the eight heads and each of a head's two key tables, 128 of the product's columns by the table. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.StableHlo.Run
public import Idealize.ShloMosaic.Lib.Claim
public import Idealize.ShloMosaic.Lib.KernelVsHost
public import Idealize.ShloMosaic.Lib.Pointwise

@[expose] public section

set_option maxRecDepth 16384

noncomputable section

namespace Cert.Kernel5Ideal.Body

open Idealize.ShloMosaic Idealize.ShloMosaic.TcCoe Idealize.SL.Sem Idealize.ShloMosaic.Tactic
open Cert.Kernel5Ideal.Gen

section Block

variable (x0 : Vec Ideal S256x2048 .bf16) (x1 : Vec Ideal S2048x2048 .bf16) (x2 x3 : Vec Ideal S8x128x128 .bf16) (q : FVec Ideal S256x2048 .bf16)

theorem hz : (![0, 0] : Fin 2 → ℕ) = fun _ => 0 := by funext a; fin_cases a <;> rfl

theorem query_apply (r : Fin 256) (j : Fin 2048) : k0_pay2 (F := Ideal) x0 x1 (ix2 r j) = ∑ d, x0 (ix2 r d) * x1 (ix2 d j) := by
  pointwise [k0_pay2]

theorem table_apply (v : Vec Ideal S1x128x128 .bf16) (u : FVec Ideal S256x128 .bf16) (k : Fin 128) (r : Fin 256) :
    k0_pay1 (F := Ideal) u v (ix3 0 k r) = ∑ l, v (ix3 0 k l) * u (ix2 r l) := by
  pointwise [k0_pay1]

/-- One of the block's numbers: part `s` is of head `s / 2`, its first table if `s` is even and its second if not. -/
def scoreAt (s : ℕ) (k : Fin 128) (r : Fin 256) : EReal :=
  ∑ l : Fin 128, (if s % 2 = 0 then x2 else x3) (ix3 (Fin.ofNat 8 (s / 2)) k l) * q (ix2 r (Fin.ofNat 2048 (128 * s + l.val)))

/-- The block of these numbers. -/
def block : Vec Ideal S16x128x256 .f32 := fun y => scoreAt x2 x3 q (y 0).val (y 1) (y 2)

/-- What a store holds. -/
theorem stored (x : Vec Ideal S8x128x128 .bf16) (o g : ℕ) (hg : g < 8) (ho : o + 128 ≤ 2048) (hs : S256x2048.Slices ![0, o] S256x128) (off : Fin 3 → ℕ)
    (e : off = ![g, 0, 0]) (hb : ∀ a, off a + S1x128x128.size a ≤ S8x128x128.size a) (k : Fin 128) (r : Fin 256) :
    k0_pay1 (F := Ideal) (extractStridedSlice S256x128 ![0, o] q hs) (View.ld x (Rect.unit (s := S8x128x128) off S1x128x128.size hb)) (ix3 0 k r)
      = ∑ l : Fin 128, x (ix3 (Fin.ofNat 8 g) k l) * q (ix2 r (Fin.ofNat 2048 (o + l.val))) := by
  subst e
  rw [table_apply]
  refine Finset.sum_congr rfl fun l _ => ?_
  have e1 : View.ld x (Rect.unit (s := S8x128x128) ![g, 0, 0] S1x128x128.size hb) (ix3 0 k l) = x (ix3 (Fin.ofNat 8 g) k l) := by
    refine congrArg x (funext fun a => ?_)
    match a with
    | 0 => exact Fin.ext (show g + 1 * 0 = g % 8 by omega)
    | 1 => exact Fin.ext (show 0 + 1 * k.val = k.val by omega)
    | 2 => exact Fin.ext (show 0 + 1 * l.val = l.val by omega)
  have e2 : extractStridedSlice S256x128 ![0, o] q hs (ix2 r l) = q (ix2 r (Fin.ofNat 2048 (o + l.val))) := by
    refine congrArg q (funext fun a => ?_)
    match a with
    | 0 => exact Fin.ext (show 0 + r.val = r.val by omega)
    | 1 => exact Fin.ext (show o + l.val = (o + l.val) % 2048 by omega)
  rw [e1, e2]

theorem cons_ok (s : ℕ) (hs : s < 16) (off : Fin 3 → ℕ) (e : off = ![s, 0, 0]) (hb : ∀ a, off a + S1x128x256.size a ≤ S16x128x256.size a)
    (v : Vec Ideal S1x128x256 .f32) (hv : ∀ k r, v (ix3 0 k r) = scoreAt x2 x3 q s k r) (L : List (View.Piece (Elt Ideal) S16x128x256 .f32))
    (hL : ∀ p ∈ L, ∀ x, p.2 x = block x2 x3 q (p.1.emb x)) :
    ∀ p ∈ (⟨Rect.unit (s := S16x128x256) off S1x128x256.size hb, v⟩ : View.Piece (Elt Ideal) S16x128x256 .f32) :: L,
      ∀ x, p.2 x = block x2 x3 q (p.1.emb x) :=
  List.forall_mem_cons.mpr ⟨fun x => by
    subst e
    have h0 : (x 0).val < 1 := (show (x 0).val < S1x128x256.size 0 from (x 0).isLt)
    have ex : x = ix3 0 (x 1) (x 2) := by funext a; match a with | 0 => exact Fin.ext (show (x 0).val = 0 by omega) | 1 => rfl | 2 => rfl
    have e0 : ((Rect.unit (s := S16x128x256) ![s, 0, 0] S1x128x256.size hb).emb x 0).val = s := show s + 1 * (x 0).val = s by omega
    have e1 : (Rect.unit (s := S16x128x256) ![s, 0, 0] S1x128x256.size hb).emb x 1 = x 1 := Fin.ext (show 0 + 1 * (x 1).val = (x 1).val by omega)
    have e2 : (Rect.unit (s := S16x128x256) ![s, 0, 0] S1x128x256.size hb).emb x 2 = x 2 := Fin.ext (show 0 + 1 * (x 2).val = (x 2).val by omega)
    dsimp only [block]
    rw [e0, e1, e2]
    exact (congrArg v ex).trans (hv _ _), hL⟩

/-- The block that a point leaves. -/
theorem out_eq : out0_4 (F := Ideal) x0 x1 x2 x3 = block x2 x3 (k0_pay2 x0 x1) := by
  have eq : k0_pay22 (F := Ideal) x0 x1 x2 x3 = k0_pay2 x0 x1 := by
    unfold k0_pay22
    rw [View.ld_unit_zero hz, View.ld_unit_zero hz]
  funext y
  unfold out0_4
  rw [eq, View.ld_unit_zero hz, View.ld_unit_zero hz]
  generalize hq : k0_pay2 (F := Ideal) x0 x1 = q
  refine View.canon_apply_of_pieces (block x2 x3 q) _ ?_ y (cover0_4 _ _ _ _ _ _ _ _ _ _ _ _ _ _ _ _ y)
  subst hq
  repeat
    refine cons_ok x2 x3 _ _ ?_ _ rfl _ _ ?_ _ ?_
    · decide
    · intro k r; exact stored _ _ _ _ (by decide) (by decide) (by decide) _ rfl _ k r
  exact fun p hp => absurd hp List.not_mem_nil

end Block

variable (m : (ℓ : Loc nD τ sig) → Buf (Elt Ideal) ℓ) (c : Dev nD)

abbrev argRows : FVec Ideal S17664x2048 .bf16 := m ((c : Thread nD τ).loc main_arg0)
abbrev argW : FVec Ideal S1x2048x2048 .f32 := m ((c : Thread nD τ).loc main_arg1)
abbrev argK : FVec Ideal S1x8x128x128 .f32 := m ((c : Thread nD τ).loc main_arg2)
abbrev argK' : FVec Ideal S1x8x128x128 .f32 := m ((c : Thread nD τ).loc main_arg3)

theorem V_main_v1 : V m c main_v1 = truncf .bf16 (shapeCast S2048x2048 (argW m c) shapeCasts_S1x2048x2048_S2048x2048) bitsLt_bf16_f32 := by
  unfold V
  simp only [hostOps0, List.flatten_cons, List.flatten_nil, List.append_nil, List.cons_append, List.nil_append]
  after_results
  rfl

theorem V_main_v3 : V m c main_v3 = truncf .bf16 (shapeCast S8x128x128 (argK m c) shapeCasts_S1x8x128x128_S8x128x128) bitsLt_bf16_f32 := by
  unfold V
  simp only [hostOps0, List.flatten_cons, List.flatten_nil, List.append_nil, List.cons_append, List.nil_append]
  after_results
  rfl

theorem V_main_v5 : V m c main_v5 = truncf .bf16 (shapeCast S8x128x128 (argK' m c) shapeCasts_S1x8x128x128_S8x128x128) bitsLt_bf16_f32 := by
  unfold V
  simp only [hostOps0, List.flatten_cons, List.flatten_nil, List.append_nil, List.cons_append, List.nil_append]
  after_results
  rfl

theorem weight_apply (d j : Fin 2048) : V m c main_v1 (ix2 d j) = argW m c (ix3 0 d j) := by
  rw [V_main_v1]
  pointwise []

theorem table1_apply (h : Fin 8) (k l : Fin 128) : V m c main_v3 (ix3 h k l) = argK m c (ix4 0 h k l) := by
  rw [V_main_v3]
  pointwise []

theorem table2_apply (h : Fin 8) (k l : Fin 128) : V m c main_v5 (ix3 h k l) = argK' m c (ix4 0 h k l) := by
  rw [V_main_v5]
  pointwise []

/-- The scores: for part `s` of the row's query, head `s / 2`'s first table if `s` is even and its second if not. -/
def wanted (h : FVec Ideal S17664x2048 .bf16) (w : FVec Ideal S1x2048x2048 .f32) (k1 k2 : FVec Ideal S1x8x128x128 .f32) : FVec Ideal S16x128x17664 .f32 := fun i =>
  ∑ l : Fin 128, (if (i 0).val % 2 = 0 then k1 else k2) (ix4 0 (Fin.ofNat 8 ((i 0).val / 2)) (i 1) l)
    * ∑ d : Fin 2048, h (ix2 (i 2) d) * w (ix3 0 d (Fin.ofNat 2048 (128 * (i 0).val + l.val)))

/-- A block's number, where the block's arrays are read from the arguments. -/
theorem scoreAt_of_blocks (x0 : Vec Ideal S256x2048 .bf16) (x1 : Vec Ideal S2048x2048 .bf16) (x2 x3 : Vec Ideal S8x128x128 .bf16)
    (h : FVec Ideal S17664x2048 .bf16) (w : FVec Ideal S1x2048x2048 .f32) (k1 k2 : FVec Ideal S1x8x128x128 .f32) {r : Fin 256} (n : Fin 17664)
    (er : ∀ d, x0 (ix2 r d) = h (ix2 n d)) (ew : ∀ d j, x1 (ix2 d j) = w (ix3 0 d j)) (ea : ∀ g k l, x2 (ix3 g k l) = k1 (ix4 0 g k l))
    (eb : ∀ g k l, x3 (ix3 g k l) = k2 (ix4 0 g k l)) (s : ℕ) (k : Fin 128) :
    scoreAt x2 x3 (k0_pay2 x0 x1) s k r = ∑ l : Fin 128, (if s % 2 = 0 then k1 else k2) (ix4 0 (Fin.ofNat 8 (s / 2)) k l)
      * ∑ d : Fin 2048, h (ix2 n d) * w (ix3 0 d (Fin.ofNat 2048 (128 * s + l.val))) := by
  unfold scoreAt
  refine Finset.sum_congr rfl fun l _ => ?_
  rw [query_apply]
  simp only [er, ew]
  split
  · rw [ea]
  · rw [eb]

theorem index_rows : ∀ t : Fin cfg0.N, win0_0.index t = ![t.val, 0] := (by decide +kernel : ∀ t : Fin grid0.N, _)
theorem index_weight : ∀ t : Fin cfg0.N, win0_1.index t = ![0, 0] := (by decide +kernel : ∀ t : Fin grid0.N, _)
theorem index_table1 : ∀ t : Fin cfg0.N, win0_2.index t = ![0, 0, 0] := (by decide +kernel : ∀ t : Fin grid0.N, _)
theorem index_table2 : ∀ t : Fin cfg0.N, win0_3.index t = ![0, 0, 0] := (by decide +kernel : ∀ t : Fin grid0.N, _)
theorem index_out : ∀ t : Fin cfg0.N, win0_4.index t = ![0, 0, t.val] := (by decide +kernel : ∀ t : Fin grid0.N, _)

theorem final : (dats m 0 c).arrAt 4 cfg0.N = wanted (argRows m c) (argW m c) (argK m c) (argK' m c) := by
  refine (dats m 0 c).arrAt_eq_of_covers 4 _ (by decide +kernel) fun t _ y => ?_
  blk_simp
  have ht : t.val < 69 := t.isLt
  have h0 : (y 0).val < 16 := (y 0).isLt
  have h1 : (y 1).val < 128 := (y 1).isLt
  have h2 : (y 2).val < 256 := (y 2).isLt
  rw [after0_4, out_eq]
  have e : (win0_4.blk t).view.emb y = ix3 (⟨(y 0).val, h0⟩ : Fin 16) (⟨(y 1).val, h1⟩ : Fin 128) (⟨256 * t.val + (y 2).val, by omega⟩ : Fin 17664) := by
    blk_ext [index_out]
  rw [e]
  have er : ∀ d, iblk m c 0 t (ix2 (⟨(y 2).val, h2⟩ : Fin 256) d) = argRows m c (ix2 (⟨256 * t.val + (y 2).val, by omega⟩ : Fin 17664) d) := fun d => by
    blk_simp [iblk]
    refine (congrFun (V_main_arg0 m c) _).trans (congrArg (argRows m c) ?_)
    blk_ext [index_rows]
  have ew : ∀ d j, iblk m c 1 t (ix2 d j) = argW m c (ix3 0 d j) := fun d j => by
    refine Eq.trans ?_ (weight_apply m c d j)
    blk_simp [iblk]
    refine congrArg (V m c main_v1) ?_
    blk_ext [index_weight]
  have ea : ∀ h k l, iblk m c 2 t (ix3 h k l) = argK m c (ix4 0 h k l) := fun h k l => by
    refine Eq.trans ?_ (table1_apply m c h k l)
    blk_simp [iblk]
    refine congrArg (V m c main_v3) ?_
    blk_ext [index_table1]
  have eb : ∀ h k l, iblk m c 3 t (ix3 h k l) = argK' m c (ix4 0 h k l) := fun h k l => by
    refine Eq.trans ?_ (table2_apply m c h k l)
    blk_simp [iblk]
    refine congrArg (V m c main_v5) ?_
    blk_ext [index_table2]
  exact scoreAt_of_blocks _ _ _ _ _ _ _ _ _ er ew ea eb (y 0).val (⟨(y 1).val, h1⟩ : Fin 128)

theorem reference_apply (h : FVec Ideal S17664x2048 .bf16) (w : FVec Ideal S1x2048x2048 .f32) (k1 k2 : FVec Ideal S1x8x128x128 .f32) :
    Cert.Reference5Ideal.Read.val_main_v18 (F := Ideal) h w k1 k2 = wanted h w k1 k2 := by
  funext i
  unfold wanted
  pointwise [Cert.Reference5Ideal.Read.val_main_v18, Cert.Reference5Ideal.Read.val_main_v17, Cert.Reference5Ideal.Read.val_main_v16, Cert.Reference5Ideal.Read.val_main_v15, Cert.Reference5Ideal.Read.val_main_v14, Cert.Reference5Ideal.Read.val_main_v13, Cert.Reference5Ideal.Read.val_main_v12, Cert.Reference5Ideal.Read.val_main_v11, Cert.Reference5Ideal.Read.val_main_v10, Cert.Reference5Ideal.Read.val_main_v9, Cert.Reference5Ideal.Read.val_main_v8, Cert.Reference5Ideal.Read.val_main_v7, Cert.Reference5Ideal.Read.val_main_v6, Cert.Reference5Ideal.Read.val_main_v5, Cert.Reference5Ideal.Read.val_main_v4, Cert.Reference5Ideal.Read.val_main_v3, Cert.Reference5Ideal.Read.val_main_v2, Cert.Reference5Ideal.Read.val_main_v1, Cert.Reference5Ideal.Read.val_main_v0]
  have h0 : (i 0).val < 16 := (i 0).isLt
  split
  next hs =>
    simp only [if_pos (show (i 0).val % 2 = 0 from by omega)]
    refine Finset.sum_congr rfl fun l _ => congrArg₂ (fun a b : EReal => a * b) (congrArg k1 ?_) (Finset.sum_congr rfl fun d _ => congrArg (fun j => h (ix2 (i 2) d) * w (ix3 0 d j)) ?_)
    · exact congrArg (fun g => ix4 0 g (i 1) l) (Fin.ext (show (i 0).val / 2 = (i 0).val / 2 % 8 by omega))
    · exact Fin.ext (show (i 0).val / 2 * 256 + l.val = (128 * (i 0).val + l.val) % 2048 by omega)
  next hs =>
    simp only [if_neg (show ¬(i 0).val % 2 = 0 from by omega)]
    refine Finset.sum_congr rfl fun l _ => congrArg₂ (fun a b : EReal => a * b) (congrArg k2 ?_) (Finset.sum_congr rfl fun d _ => congrArg (fun j => h (ix2 (i 2) d) * w (ix3 0 d j)) ?_)
    · exact congrArg (fun g => ix4 0 g (i 1) l) (Fin.ext (show (i 0).val / 2 = (i 0).val / 2 % 8 by omega))
    · exact Fin.ext (show (i 0).val / 2 * 256 + 128 + l.val = (128 * (i 0).val + l.val) % 2048 by omega)

end Cert.Kernel5Ideal.Body

namespace Cert.Scores

open Idealize.ShloMosaic Idealize.ShloMosaic.TcCoe Idealize.SL.Sem

/-- The two programs' results agree, for all arguments. -/
theorem algebraic : Cert.algebraic_Kernel5Ideal_Reference5Ideal (hKernel5Ideal := Cert.Kernel5Ideal.Gen.facts)
    (hReference5Ideal := Cert.Reference5Ideal.Gen.facts) := fun m g m' g' _ agree => by
  refine ⟨fun c => Cert.Kernel5Ideal.Body.wanted (Cert.Kernel5Ideal.Body.argRows m c) (Cert.Kernel5Ideal.Body.argW m c) (Cert.Kernel5Ideal.Body.argK m c)
    (Cert.Kernel5Ideal.Body.argK' m c), ?_, ?_⟩
  · exact (θ_run _ _ _).mono (fun r h c => ⟨(h c).1.trans (Cert.Kernel5Ideal.Body.final m c), (h c).2⟩) (Cert.Kernel5Ideal.Value.run_blocks m g)
  · refine (θ_run _ _ _).mono (fun r h c => ⟨(h c).1.trans ?_, (h c).2⟩) (Cert.Reference5Ideal.Value.run m' g')
    obtain ⟨a0, a1, a2, a3⟩ := agree c
    rw [Cert.Reference5Ideal.Read.val_main_v18_eq, a0, a1, a2, a3]
    exact Cert.Kernel5Ideal.Body.reference_apply _ _ _ _

end Cert.Scores

end
-- ==== Proof.Norm.Value.lean ====
/- `qk_norm`, at the ideal instance: the arrays it writes, index by index. A point has 768 rows; of the queries' and the keys' 1024 columns it takes
   128 at a time, which hold two groups of 64, and sums each group's squares by a product with a matrix of ones and zeros. -/
module

public import proofs.«01_k».proof.Defs
public import proofs.«01_k».proof.Proof.Gen.Kernel6Ideal.Value
public import Idealize.ShloMosaic.Lib.Pipeline.ValueKit
public import Idealize.ShloMosaic.Lib.Claim
public import Idealize.ShloMosaic.Lib.Pointwise

@[expose] public section

set_option maxRecDepth 16384

noncomputable section

namespace Cert.Kernel6Ideal.Body

open Idealize.ShloMosaic Idealize.ShloMosaic.TcCoe Idealize.SL.Sem Idealize.ShloMosaic.Tactic
open Cert.Kernel6Ideal.Gen

theorem hz : (![0, 0] : Fin 2 → ℕ) = fun _ => 0 := by funext a; fin_cases a <;> rfl

/-- The group of a row of the matrix. -/
theorem row_group (k l : Fin 128) : k0_pay1 (ix2 k l) = BitVec.ofNat 32 (k.val / 64) := by
  pointwise [k0_pay1]
  revert k
  decide +kernel

theorem column_group (k l : Fin 128) :
    Scalar.select (IntOp.andi (k0_pay3 (ix2 k l)) (k0_pay4 (ix2 k l))) (IntOp.subi (k0_pay2 (ix2 k l)) 1#32) (k0_pay2 (ix2 k l))
      = BitVec.ofNat 32 (l.val / 64) := by
  pointwise [k0_pay2, k0_pay3, k0_pay4]
  revert l
  decide +kernel

/-- The matrix of ones and zeros. -/
abbrev ones : FVec Ideal S128x128 .bf16 := k0_pay5 k0_pay1 k0_pay2 k0_pay3 k0_pay4

theorem ones_apply (k l : Fin 128) : ones (ix2 k l) = if k.val / 64 = l.val / 64 then (1 : EReal) else 0 := by
  unfold ones
  pointwise [k0_pay5]
  rw [column_group, row_group]
  have hk : k.val / 64 < 2 := by omega
  have hl : l.val / 64 < 2 := by omega
  generalize k.val / 64 = a at hk
  generalize l.val / 64 = b at hl
  interval_cases a <;> interval_cases b <;> rfl

/-- A sum over a group of squares. -/
theorem sum_group (f : Fin 128 → EReal) (l : Fin 128) :
    ∑ k, f k * ones (ix2 k l) = ∑ k : Fin 64, f (⟨64 * (l.val / 64) + k.val, by omega⟩ : Fin 128) := by
  simp only [ones_apply, mul_ite, mul_one, mul_zero]
  rw [show (∑ k : Fin 128, if k.val / 64 = l.val / 64 then f k else 0) = ∑ k : Fin (64 + 64), if k.val / 64 = l.val / 64 then f k else 0 from rfl, Fin.sum_univ_add]
  by_cases hl : l.val < 64
  · have h0 : l.val / 64 = 0 := by omega
    rw [Finset.sum_eq_zero (s := Finset.univ) (f := fun k : Fin 64 => if (Fin.natAdd 64 k).val / 64 = l.val / 64 then f (Fin.natAdd 64 k) else 0)
      fun k _ => if_neg (by rw [h0]; simp only [Fin.val_natAdd]; omega), add_zero]
    refine Finset.sum_congr rfl fun k _ => ?_
    rw [if_pos (by rw [h0]; simp only [Fin.val_castAdd]; omega)]
    exact congrArg f (Fin.ext (by simp only [Fin.val_castAdd, h0]; omega))
  · have h0 : l.val / 64 = 1 := by omega
    rw [Finset.sum_eq_zero (s := Finset.univ) (f := fun k : Fin 64 => if (Fin.castAdd 64 k).val / 64 = l.val / 64 then f (Fin.castAdd 64 k) else 0)
      fun k _ => if_neg (by rw [h0]; simp only [Fin.val_castAdd]; omega), zero_add]
    refine Finset.sum_congr rfl fun k _ => ?_
    rw [if_pos (by rw [h0]; simp only [Fin.val_natAdd]; omega)]
    exact congrArg f (Fin.ext (by simp only [Fin.val_natAdd, h0]))

/-- One number of a normalised group. -/
def rms (x : Fin 64 → EReal) (l : Fin 64) : EReal :=
  x l * Ideal.rsqrt (Ideal.div (∑ k, x k * x k) (Ideal.ofBits .f32 0x42800000#32) + Ideal.ofBits .f32 0x358637BD#32)

theorem by_64 (s : EReal) : Ideal.div s (Ideal.ofBits .f32 0x42800000#32) = s * Ideal.ofBits .f32 0x3C800000#32 := by
  have e : Ideal.ofBits .f32 0x42800000#32 = ((64 : ℝ) : EReal) := by simp [Ideal.ofBits, Ideal.ieee]; rw [← EReal.coe_mul]; norm_num
  have e' : Ideal.ofBits .f32 0x3C800000#32 = ((1 / 64 : ℝ) : EReal) := by simp [Ideal.ofBits, Ideal.ieee]; rw [← EReal.coe_mul]; norm_num
  rw [e, e', Ideal.div_coe (by norm_num)]

/-- A head of real numbers is normalised group by group. -/
theorem head_apply (g : FVec Ideal S1x128 .f32) (x : Vec Ideal S768x128 .f32) (hx : ∀ r k, ∃ a : ℝ, x (ix2 r k) = (a : EReal)) (r : Fin 768) (l : Fin 128) :
    k0_pay21 (F := Ideal) ones g x (ix2 r l)
      = rms (fun k => x (ix2 r (⟨64 * (l.val / 64) + k.val, by omega⟩ : Fin 128))) (⟨l.val % 64, by omega⟩ : Fin 64) * g (ix2 0 l) := by
  have hs : ∀ k, x (ix2 r k) * x (ix2 r k) - x (ix2 r k) * x (ix2 r k) = 0 := fun k => by
    obtain ⟨a, ha⟩ := hx r k
    rw [ha, ← EReal.coe_mul, ← EReal.coe_sub, sub_self, EReal.coe_zero]
  unfold rms
  generalize ho : ones = o
  pointwise [k0_pay21]
  subst ho
  simp only [hs, zero_mul, Finset.sum_const_zero, add_zero, sum_group, by_64]
  rw [show (⟨64 * (l.val / 64) + l.val % 64, by omega⟩ : Fin 128) = l from Fin.ext (by dsimp only; omega)]

section Block

variable (x : Vec Ideal S768x1024 .f32) (g : FVec Ideal S1x128 .f32)

/-- A number of a block of normalised heads. -/
def headNum (r : Fin 768) (j : ℕ) : EReal :=
  rms (fun k => x (ix2 r (Fin.ofNat 1024 (64 * (j / 64) + k.val)))) (Fin.ofNat 64 (j % 64)) * g (ix2 0 (Fin.ofNat 128 (j % 128)))

/-- What a store of keys holds. -/
theorem stored (hx : ∀ r j, ∃ a : ℝ, x (ix2 r j) = (a : EReal)) (o : ℕ) (ho : o % 128 = 0) (ho' : o + 128 ≤ 1024) (off : Fin 2 → ℕ) (e : off = ![0, o])
    (hb : ∀ a, off a + S768x128.size a ≤ S768x1024.size a) (r : Fin 768) (l : Fin 128) :
    k0_pay21 (F := Ideal) ones g (View.ld x (Rect.unit (s := S768x1024) off S768x128.size hb)) (ix2 r l) = headNum x g r (o + l.val) := by
  subst e
  have el : ∀ (r : Fin 768) (k : Fin 128), View.ld x (Rect.unit (s := S768x1024) ![0, o] S768x128.size hb) (ix2 r k) = x (ix2 r (Fin.ofNat 1024 (o + k.val))) := fun r k => by
    refine congrArg x (funext fun a => ?_)
    match a with
    | 0 => exact Fin.ext (show 0 + 1 * r.val = r.val by omega)
    | 1 => exact Fin.ext (show o + 1 * k.val = (o + k.val) % 1024 by omega)
  rw [head_apply _ _ (fun r k => by rw [el]; exact hx _ _)]
  simp only [el]
  unfold headNum
  have hl := l.isLt
  have e1 : ∀ k : Fin 64, o + (64 * (l.val / 64) + k.val) = 64 * ((o + l.val) / 64) + k.val := fun k => by omega
  have e2 : (⟨l.val % 64, by omega⟩ : Fin 64) = Fin.ofNat 64 ((o + l.val) % 64) := Fin.ext (show l.val % 64 = (o + l.val) % 64 % 64 by omega)
  have e3 : l = Fin.ofNat 128 ((o + l.val) % 128) := Fin.ext (show l.val = (o + l.val) % 128 % 128 by omega)
  simp only [e1]
  rw [e2, ← e3]

/-- What a store of queries holds: the same, scaled. -/
theorem stored_scaled (hx : ∀ r j, ∃ a : ℝ, x (ix2 r j) = (a : EReal)) (o : ℕ) (ho : o % 128 = 0) (ho' : o + 128 ≤ 1024) (off : Fin 2 → ℕ) (e : off = ![0, o])
    (hb : ∀ a, off a + S768x128.size a ≤ S768x1024.size a) (r : Fin 768) (l : Fin 128) :
    k0_pay20 (F := Ideal) ones g (View.ld x (Rect.unit (s := S768x1024) off S768x128.size hb)) (ix2 r l)
      = headNum x g r (o + l.val) * Ideal.ofBits .f32 0x3E000000#32 :=
  congrArg (fun a : EReal => a * Ideal.ofBits .f32 0x3E000000#32) (stored x g hx o ho ho' off e hb r l)

end Block

theorem cons_ok {φ : EltTy} (B : Vec Ideal S768x1024 φ) (o : ℕ) (ho : o + 128 ≤ 1024) (off : Fin 2 → ℕ) (e : off = ![0, o])
    (hb : ∀ a, off a + S768x128.size a ≤ S768x1024.size a) (v : Vec Ideal S768x128 φ)
    (hv : ∀ (r : Fin 768) (l : Fin 128), v (ix2 r l) = B (ix2 r (⟨o + l.val, by omega⟩ : Fin 1024))) (L : List (View.Piece (Elt Ideal) S768x1024 φ))
    (hL : ∀ p ∈ L, ∀ x, p.2 x = B (p.1.emb x)) :
    ∀ p ∈ (⟨Rect.unit (s := S768x1024) off S768x128.size hb, v⟩ : View.Piece (Elt Ideal) S768x1024 φ) :: L, ∀ x, p.2 x = B (p.1.emb x) :=
  List.forall_mem_cons.mpr ⟨fun x => by
    subst e
    have h0 : (x 0).val < 768 := (x 0).isLt
    have h1 : (x 1).val < 128 := (x 1).isLt
    have ex : x = ix2 (⟨(x 0).val, h0⟩ : Fin 768) (⟨(x 1).val, h1⟩ : Fin 128) := by funext a; match a with | 0 => rfl | 1 => rfl
    have ee : (Rect.unit (s := S768x1024) ![0, o] S768x128.size hb).emb x = ix2 (⟨(x 0).val, h0⟩ : Fin 768) (⟨o + (x 1).val, by omega⟩ : Fin 1024) := by
      funext a
      match a with
      | 0 => exact Fin.ext (show 0 + 1 * (x 0).val = (x 0).val by omega)
      | 1 => exact Fin.ext (show o + 1 * (x 1).val = o + (x 1).val by omega)
    dsimp only
    rw [ee]
    exact (congrArg v ex).trans (hv _ _), hL⟩

section Outputs

variable (x0 x1 x2 : Vec Ideal S768x1024 .f32) (x3 x4 : Vec Ideal S1x128 .f32)

theorem gain_q : k0_pay50 (F := Ideal) x0 x1 x2 x3 x4 = x3 := by
  unfold k0_pay50
  rw [View.ld_unit_zero hz]
  unfold k0_pay6
  exact shapeCast_self _ _

theorem gain_k : k0_pay51 (F := Ideal) x0 x1 x2 x3 x4 = x4 := by
  unfold k0_pay51
  rw [View.ld_unit_zero hz]
  unfold k0_pay7
  exact shapeCast_self _ _

/-- A block of normalised heads, unrounded, rounded, and scaled and rounded. -/
def keys (x : Vec Ideal S768x1024 .f32) (g : FVec Ideal S1x128 .f32) : Vec Ideal S768x1024 .f32 := fun y => headNum x g (y 0) (y 1).val
def keys' (x : Vec Ideal S768x1024 .f32) (g : FVec Ideal S1x128 .f32) : Vec Ideal S768x1024 .bf16 := fun y => headNum x g (y 0) (y 1).val
def queries (x : Vec Ideal S768x1024 .f32) (g : FVec Ideal S1x128 .f32) : Vec Ideal S768x1024 .bf16 := fun y =>
  headNum x g (y 0) (y 1).val * Ideal.ofBits .f32 0x3E000000#32

theorem keys_eq (hx : ∀ r j, ∃ a : ℝ, x1 (ix2 r j) = (a : EReal)) : out0_6 (F := Ideal) x0 x1 x2 x3 x4 = keys x1 x4 := by
  funext y
  unfold out0_6
  rw [gain_k]
  refine View.canon_apply_of_pieces (keys x1 x4) _ ?_ y (cover0_6 _ _ _ _ _ _ _ _ y)
  repeat
    refine cons_ok (keys x1 x4) _ ?_ _ rfl _ _ ?_ _ ?_
    · decide
    · intro r l; exact stored x1 x4 hx _ (by decide) (by decide) _ rfl _ r l
  exact fun p hp => absurd hp List.not_mem_nil

theorem keys'_eq (hx : ∀ r j, ∃ a : ℝ, x1 (ix2 r j) = (a : EReal)) : out0_7 (F := Ideal) x0 x1 x2 x3 x4 = keys' x1 x4 := by
  funext y
  unfold out0_7
  rw [gain_k]
  refine View.canon_apply_of_pieces (keys' x1 x4) _ ?_ y (cover0_7 _ _ _ _ _ _ _ _ y)
  repeat
    refine cons_ok (keys' x1 x4) _ ?_ _ rfl _ _ ?_ _ ?_
    · decide
    · intro r l; exact stored x1 x4 hx _ (by decide) (by decide) _ rfl _ r l
  exact fun p hp => absurd hp List.not_mem_nil

theorem queries_eq (hx : ∀ r j, ∃ a : ℝ, x0 (ix2 r j) = (a : EReal)) : out0_5 (F := Ideal) x0 x1 x2 x3 x4 = queries x0 x3 := by
  funext y
  unfold out0_5
  rw [show k0_pay8 (F := Ideal) (k0_pay44 x0 x1 x2 x3 x4) (k0_pay45 x0 x1 x2 x3 x4) (k0_pay46 x0 x1 x2 x3 x4) (k0_pay47 x0 x1 x2 x3 x4) (View.ld x3 r0_0)
    (View.ld x0 r0_1) = k0_pay20 ones (k0_pay50 x0 x1 x2 x3 x4) (View.ld x0 r0_1) from rfl, gain_q]
  refine View.canon_apply_of_pieces (queries x0 x3) _ ?_ y (cover0_5 _ _ _ _ _ _ _ _ y)
  repeat
    refine cons_ok (queries x0 x3) _ ?_ _ rfl _ _ ?_ _ ?_
    · decide
    · intro r l; exact stored_scaled x0 x3 hx _ (by decide) (by decide) _ rfl _ r l
  exact fun p hp => absurd hp List.not_mem_nil

/-- The values' block, rounded. -/
theorem values_eq : out0_8 (F := Ideal) x0 x1 x2 x3 x4 = fun y => x2 y := by
  unfold out0_8
  rw [View.canon_unit_zero hz, View.ld_unit_zero hz]
  rfl

end Outputs

end Cert.Kernel6Ideal.Body

end
-- ==== Proof.Norm.Algebraic.lean ====
/- The value claim of `qk_norm`: from memories that agree on the arguments, where the queries' and the keys' columns are finite, its four arrays and
   the reference's are equal as extended reals. -/
module

public import proofs.«01_k».proof.Proof.Norm.Value
public import proofs.«01_k».proof.Proof.Attn.Algebraic
public import proofs.«01_k».proof.Proof.Gen.Reference6Ideal.Run
public import proofs.«01_k».proof.Proof.Gen.Reference6Ideal.Read
public import proofs.«01_k».proof.Proof.Gen.Pre_finite_heads
public import Idealize.ShloMosaic.Lib.StableHlo.Run
public import Idealize.ShloMosaic.Lib.KernelVsHost

@[expose] public section

set_option maxRecDepth 16384

noncomputable section

namespace Cert.Kernel6Ideal.Body

open Idealize.ShloMosaic Idealize.ShloMosaic.TcCoe Idealize.SL.Sem Idealize.ShloMosaic.Tactic
open Cert.Kernel6Ideal.Gen

section Whole

variable (z : FVec Ideal S17664x11264 .f32) (g : FVec Ideal S1x64 .f32)

/-- A number of the normalised heads that begin at column `o` of the projections. -/
def rowNum (o : ℕ) (n : Fin 17664) (j : Fin 1024) : EReal :=
  rms (fun k => z (ix2 n (Fin.ofNat 11264 (o + (64 * (j.val / 64) + k.val))))) (Fin.ofNat 64 (j.val % 64)) * g (ix2 0 (Fin.ofNat 64 (j.val % 64)))

/-- The four arrays that both programs give. -/
def wantedQ : FVec Ideal S17664x1024 .bf16 := fun i => rowNum z g 4096 (i 0) (i 1) * Ideal.ofBits .f32 0x3E000000#32
def wantedK : FVec Ideal S17664x1024 .f32 := fun i => rowNum z g 5120 (i 0) (i 1)
def wantedK' : FVec Ideal S17664x1024 .bf16 := fun i => rowNum z g 5120 (i 0) (i 1)
def wantedV : FVec Ideal S17664x1024 .bf16 := fun i => z (ix2 (i 0) (Fin.ofNat 11264 (6144 + (i 1).val)))

/-- A block's number, where its arrays are of the arguments. -/
theorem headNum_of_blocks (x : Vec Ideal S768x1024 .f32) (g' : FVec Ideal S1x128 .f32) (o : ℕ) (ho : o + 1024 ≤ 11264) (r : Fin 768) (n : Fin 17664)
    (ex : ∀ j : Fin 1024, x (ix2 r j) = z (ix2 n (⟨o + j.val, by omega⟩ : Fin 11264)))
    (eg : ∀ l : Fin 128, g' (ix2 0 l) = g (ix2 0 (⟨l.val % 64, by omega⟩ : Fin 64))) (j : Fin 1024) :
    headNum x g' r j.val = rowNum z g o n j := by
  unfold headNum rowNum
  have hj := j.isLt
  simp only [ex, eg]
  have e1 : ∀ k : Fin 64, (⟨o + (Fin.ofNat 1024 (64 * (j.val / 64) + k.val)).val, by omega⟩ : Fin 11264) = Fin.ofNat 11264 (o + (64 * (j.val / 64) + k.val)) := fun k =>
    Fin.ext (show o + (64 * (j.val / 64) + k.val) % 1024 = (o + (64 * (j.val / 64) + k.val)) % 11264 by omega)
  have e2 : (⟨(Fin.ofNat 128 (j.val % 128)).val % 64, by omega⟩ : Fin 64) = Fin.ofNat 64 (j.val % 64) :=
    Fin.ext (show j.val % 128 % 128 % 64 = j.val % 64 % 64 by omega)
  simp only [e1]
  rw [e2]

/-- A number of the reference's normalised heads. -/
theorem reference_num (o : ℕ) (ho : o + 1024 ≤ 11264) (n : Fin 17664) (j : Fin 1024) :
    z (ix2 n (⟨o + j.val, by omega⟩ : Fin 11264))
        * Ideal.rsqrt (Ideal.div (∑ k : Fin 64, z (ix2 n (⟨o + (j.val / 128 * 128 + j.val / 64 % 2 * 64 + k.val), by omega⟩ : Fin 11264))
            * z (ix2 n (⟨o + (j.val / 128 * 128 + j.val / 64 % 2 * 64 + k.val), by omega⟩ : Fin 11264))) (Ideal.ofBits .f32 0x42800000#32) + Ideal.ofBits .f32 0x358637BD#32)
        * g (ix2 0 (⟨j.val % 64, by omega⟩ : Fin 64))
      = rowNum z g o n j := by
  unfold rowNum rms
  have hj := j.isLt
  have e1 : ∀ k : Fin 64, (⟨o + (j.val / 128 * 128 + j.val / 64 % 2 * 64 + k.val), by omega⟩ : Fin 11264) = Fin.ofNat 11264 (o + (64 * (j.val / 64) + k.val)) := fun k =>
    Fin.ext (show o + (j.val / 128 * 128 + j.val / 64 % 2 * 64 + k.val) = (o + (64 * (j.val / 64) + k.val)) % 11264 by omega)
  have e2 : (⟨j.val % 64, by omega⟩ : Fin 64) = Fin.ofNat 64 (j.val % 64) := Fin.ext (show j.val % 64 = j.val % 64 % 64 by omega)
  have e3 : (⟨o + j.val, by omega⟩ : Fin 11264) = Fin.ofNat 11264 (o + (64 * (j.val / 64) + (Fin.ofNat 64 (j.val % 64)).val)) :=
    Fin.ext (show o + j.val = (o + (64 * (j.val / 64) + j.val % 64 % 64)) % 11264 by omega)
  simp only [e1]
  rw [e2, e3]

open Cert.Reference6Ideal.Read in
theorem reference_q : val_main_v37 (F := Ideal) z g = wantedQ z g := by
  funext i
  unfold wantedQ
  have h1 : (i 1).val < 1024 := (i 1).isLt
  pointwise [val_main_v37, val_main_v35, val_main_v34, val_main_cst_5, val_main_v33, val_main_v15, val_main_v14, val_main_v13, val_main_v12, val_main_v11, val_main_v10,
    val_main_v9, val_main_v8, val_main_v7, val_main_v6, val_main_v5, val_main_v4, val_main_v3, val_main_v2, val_main_v1, val_main_v0, val_main_cst, val_main_cst_0, val_main_cst_1]
  exact congrArg (fun a : EReal => a * Ideal.ofBits .f32 0x3E000000#32) (reference_num z g 4096 (by decide) (i 0) (i 1))

open Cert.Reference6Ideal.Read in
theorem reference_k : val_main_v36 (F := Ideal) z g = wantedK z g := by
  funext i
  unfold wantedK
  have h1 : (i 1).val < 1024 := (i 1).isLt
  pointwise [val_main_v36, val_main_v31, val_main_v30, val_main_v29, val_main_v28, val_main_v27, val_main_v26, val_main_v25, val_main_v24, val_main_v23,
    val_main_v22, val_main_v21, val_main_v20, val_main_v19, val_main_v18, val_main_v17, val_main_v16, val_main_cst_2, val_main_cst_3, val_main_cst_4]
  exact reference_num z g 5120 (by decide) (i 0) (i 1)

open Cert.Reference6Ideal.Read in
theorem reference_k' : val_main_v38 (F := Ideal) z g = wantedK' z g := reference_k z g

open Cert.Reference6Ideal.Read in
theorem reference_v : val_main_v39 (F := Ideal) z = wantedV z := by
  funext i
  unfold wantedV
  have h1 : (i 1).val < 1024 := (i 1).isLt
  pointwise [val_main_v39, val_main_v32]
  exact congrArg (fun q => z (ix2 (i 0) q)) (Fin.ext (show 6144 + (i 1).val = (6144 + (i 1).val) % 11264 by omega))

end Whole

variable (m : (ℓ : Loc nD τ sig) → Buf (Elt Ideal) ℓ) (c : Dev nD)

abbrev argZ : FVec Ideal S17664x11264 .f32 := m ((c : Thread nD τ).loc main_arg0)
abbrev argQ : FVec Ideal S1x64 .f32 := m ((c : Thread nD τ).loc main_arg1)
abbrev argK : FVec Ideal S1x64 .f32 := m ((c : Thread nD τ).loc main_arg2)

/-- A head's gain, twice side by side. -/
abbrev twice (g : FVec Ideal S1x64 .f32) : FVec Ideal S1x128 .f32 :=
  shapeCast S1x128 (shapeCast S128 (broadcastInDim S2x64 ![0, 1] bcast_S1x64_S2x64_0_1 (shapeCast S1x64 (shapeCast S64 g shapeCasts_S1x64_S64) shapeCasts_S64_S1x64))
    shapeCasts_S2x64_S128) shapeCasts_S128_S1x128

theorem V_main_v5 : V m c main_v5 = twice (argQ m c) := by
  unfold V
  simp only [hostOps0, List.flatten_cons, List.flatten_nil, List.append_nil, List.cons_append, List.nil_append]
  after_results
  rfl

theorem V_main_v9 : V m c main_v9 = twice (argK m c) := by
  unfold V
  simp only [hostOps0, List.flatten_cons, List.flatten_nil, List.append_nil, List.cons_append, List.nil_append]
  after_results
  rfl

theorem twice_apply (g : FVec Ideal S1x64 .f32) (l : Fin 128) : twice g (ix2 0 l) = g (ix2 0 (⟨l.val % 64, by omega⟩ : Fin 64)) := by
  unfold twice
  pointwise []

theorem index_q : ∀ t : Fin cfg0.N, win0_0.index t = ![t.val, 4] := (by decide +kernel : ∀ t : Fin grid0.N, _)
theorem index_k : ∀ t : Fin cfg0.N, win0_1.index t = ![t.val, 5] := (by decide +kernel : ∀ t : Fin grid0.N, _)
theorem index_v : ∀ t : Fin cfg0.N, win0_2.index t = ![t.val, 6] := (by decide +kernel : ∀ t : Fin grid0.N, _)
theorem index_gq : ∀ t : Fin cfg0.N, win0_3.index t = ![0, 0] := (by decide +kernel : ∀ t : Fin grid0.N, _)
theorem index_gk : ∀ t : Fin cfg0.N, win0_4.index t = ![0, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)
theorem index_8 : ∀ t : Fin cfg0.N, win0_8.index t = ![t.val, 0] := (by decide +kernel : ∀ t : Fin grid0.N, _)

section Blocks

variable (t : Fin cfg0.N) (r : Fin 768) (n : Fin 17664) (hn : n.val = 768 * t.val + r.val) (j : Fin 1024)
include hn

theorem q_block : iblk m c 0 t (ix2 r j) = argZ m c (ix2 n (⟨4096 + j.val, by omega⟩ : Fin 11264)) := by
  blk_simp [iblk]
  refine (congrFun (V_main_arg0 m c) _).trans (congrArg (argZ m c) ?_)
  blk_ext [index_q, hn]

theorem k_block : iblk m c 1 t (ix2 r j) = argZ m c (ix2 n (⟨5120 + j.val, by omega⟩ : Fin 11264)) := by
  blk_simp [iblk]
  refine (congrFun (V_main_arg0 m c) _).trans (congrArg (argZ m c) ?_)
  blk_ext [index_k, hn]

theorem v_block : iblk m c 2 t (ix2 r j) = argZ m c (ix2 n (⟨6144 + j.val, by omega⟩ : Fin 11264)) := by
  blk_simp [iblk]
  refine (congrFun (V_main_arg0 m c) _).trans (congrArg (argZ m c) ?_)
  blk_ext [index_v, hn]

end Blocks

theorem gq_block (t : Fin cfg0.N) (l : Fin 128) : iblk m c 3 t (ix2 0 l) = argQ m c (ix2 0 (⟨l.val % 64, by omega⟩ : Fin 64)) := by
  refine Eq.trans ?_ (twice_apply _ l)
  refine Eq.trans ?_ (congrFun (V_main_v5 m c) _)
  blk_simp [iblk]
  refine congrArg (V m c main_v5) ?_
  blk_ext [index_gq]

theorem gk_block (t : Fin cfg0.N) (l : Fin 128) : iblk m c 4 t (ix2 0 l) = argK m c (ix2 0 (⟨l.val % 64, by omega⟩ : Fin 64)) := by
  refine Eq.trans ?_ (twice_apply _ l)
  refine Eq.trans ?_ (congrFun (V_main_v9 m c) _)
  blk_simp [iblk]
  refine congrArg (V m c main_v9) ?_
  blk_ext [index_gk]

section Finite

/-- The queries' and the keys' columns are real. -/
def Real : Prop := ∀ (n : Fin 17664) (j : Fin 2048), ∃ a : ℝ, argZ m c (ix2 n (⟨4096 + j.val, by omega⟩ : Fin 11264)) = (a : EReal)

variable (real : Real m c)
include real

theorem q_real (t : Fin cfg0.N) (r : Fin 768) (j : Fin 1024) : ∃ a : ℝ, iblk m c 0 t (ix2 r j) = (a : EReal) := by
  have ht : t.val < 23 := t.isLt
  rw [q_block m c t r (⟨768 * t.val + r.val, by omega⟩ : Fin 17664) rfl j]
  exact real _ (⟨j.val, by omega⟩ : Fin 2048)

theorem k_real (t : Fin cfg0.N) (r : Fin 768) (j : Fin 1024) : ∃ a : ℝ, iblk m c 1 t (ix2 r j) = (a : EReal) := by
  have ht : t.val < 23 := t.isLt
  rw [k_block m c t r (⟨768 * t.val + r.val, by omega⟩ : Fin 17664) rfl j,
    show (⟨5120 + j.val, by omega⟩ : Fin 11264) = (⟨4096 + (1024 + j.val), by omega⟩ : Fin 11264) from Fin.ext (by dsimp only; omega)]
  exact real _ (⟨1024 + j.val, by omega⟩ : Fin 2048)

theorem final_q : (dats m 0 c).arrAt 5 cfg0.N = wantedQ (argZ m c) (argQ m c) := by
  refine (dats m 0 c).arrAt_eq_of_covers 5 _ (by decide +kernel) fun t _ y => ?_
  blk_simp
  have ht : t.val < 23 := t.isLt
  have hr : (y 0).val < 768 := (y 0).isLt
  have hj : (y 1).val < 1024 := (y 1).isLt
  rw [after0_5, queries_eq _ _ _ _ _ (q_real m c real t)]
  have e : (win0_5.blk t).view.emb y = ix2 (⟨768 * t.val + (y 0).val, by omega⟩ : Fin 17664) (⟨(y 1).val, hj⟩ : Fin 1024) := by
    blk_ext [index_5]
  rw [e]
  exact congrArg (fun a : EReal => a * Ideal.ofBits .f32 0x3E000000#32) (headNum_of_blocks _ _ _ _ 4096 (by decide) (⟨(y 0).val, hr⟩ : Fin 768) _
    (q_block m c t _ _ rfl) (gq_block m c t) (⟨(y 1).val, hj⟩ : Fin 1024))

theorem final_k : (dats m 0 c).arrAt 6 cfg0.N = wantedK (argZ m c) (argK m c) := by
  refine (dats m 0 c).arrAt_eq_of_covers 6 _ (by decide +kernel) fun t _ y => ?_
  blk_simp
  have ht : t.val < 23 := t.isLt
  have hr : (y 0).val < 768 := (y 0).isLt
  have hj : (y 1).val < 1024 := (y 1).isLt
  rw [after0_6, keys_eq _ _ _ _ _ (k_real m c real t)]
  have e : (win0_6.blk t).view.emb y = ix2 (⟨768 * t.val + (y 0).val, by omega⟩ : Fin 17664) (⟨(y 1).val, hj⟩ : Fin 1024) := by
    blk_ext [index_6]
  rw [e]
  exact headNum_of_blocks _ _ _ _ 5120 (by decide) (⟨(y 0).val, hr⟩ : Fin 768) _ (k_block m c t _ _ rfl) (gk_block m c t) (⟨(y 1).val, hj⟩ : Fin 1024)

theorem final_k' : (dats m 0 c).arrAt 7 cfg0.N = wantedK' (argZ m c) (argK m c) := by
  refine (dats m 0 c).arrAt_eq_of_covers 7 _ (by decide +kernel) fun t _ y => ?_
  blk_simp
  have ht : t.val < 23 := t.isLt
  have hr : (y 0).val < 768 := (y 0).isLt
  have hj : (y 1).val < 1024 := (y 1).isLt
  rw [after0_7, keys'_eq _ _ _ _ _ (k_real m c real t)]
  have e : (win0_7.blk t).view.emb y = ix2 (⟨768 * t.val + (y 0).val, by omega⟩ : Fin 17664) (⟨(y 1).val, hj⟩ : Fin 1024) := by
    blk_ext [index_7]
  rw [e]
  exact headNum_of_blocks _ _ _ _ 5120 (by decide) (⟨(y 0).val, hr⟩ : Fin 768) _ (k_block m c t _ _ rfl) (gk_block m c t) (⟨(y 1).val, hj⟩ : Fin 1024)

end Finite

theorem final_v : (dats m 0 c).arrAt 8 cfg0.N = wantedV (argZ m c) := by
  refine (dats m 0 c).arrAt_eq_of_covers 8 _ (by decide +kernel) fun t _ y => ?_
  blk_simp
  have ht : t.val < 23 := t.isLt
  have hr : (y 0).val < 768 := (y 0).isLt
  have hj : (y 1).val < 1024 := (y 1).isLt
  rw [after0_8, values_eq]
  have ey : y = ix2 (⟨(y 0).val, hr⟩ : Fin 768) (⟨(y 1).val, hj⟩ : Fin 1024) := by funext a; match a with | 0 => rfl | 1 => rfl
  have e : (win0_8.blk t).view.emb y = ix2 (⟨768 * t.val + (y 0).val, by omega⟩ : Fin 17664) (⟨(y 1).val, hj⟩ : Fin 1024) := by
    blk_ext [index_8]
  rw [e]
  refine (congrArg (iblk m c 2 t) ey).trans ((v_block m c t _ (⟨768 * t.val + (y 0).val, by omega⟩ : Fin 17664) rfl _).trans ?_)
  exact congrArg (fun q => argZ m c (ix2 (⟨768 * t.val + (y 0).val, by omega⟩ : Fin 17664) q))
    (Fin.ext (show 6144 + (y 1).val = (6144 + (y 1).val) % 11264 by omega))

end Cert.Kernel6Ideal.Body

namespace Cert.Norm

open Idealize.ShloMosaic Idealize.ShloMosaic.TcCoe Idealize.SL.Sem Cert.Kernel6Ideal.Body

/-- The two programs' results agree. -/
theorem algebraic : Cert.algebraic_Kernel6Ideal_Reference6Ideal_pre_finite_heads (hKernel6Ideal := Cert.Kernel6Ideal.Gen.facts)
    (hReference6Ideal := Cert.Reference6Ideal.Gen.facts) (hPre_finite_heads := Cert.Pre_finite_heads.Gen.facts) := fun m g m' g' pre agree => by
  have real : ∀ c, Real m c := fun c n j => by
    have e : extractStridedSlice Cert.Pre_finite_heads.S17664x2048 ![0, 4096] (argZ m c) Cert.Pre_finite_heads.Gen.facts.slices_S17664x11264_S17664x2048_0_4096 (ix2 n j)
        = argZ m c (ix2 n (⟨4096 + j.val, by omega⟩ : Fin 11264)) := by pointwise []
    rw [← e]
    exact Cert.Attn.real_of_below (congrFun (pre c) (ix2 n j))
  refine ⟨fun c => wantedQ (argZ m c) (argQ m c), fun c => wantedK (argZ m c) (argK m c), fun c => wantedK' (argZ m c) (argK m c), fun c => wantedV (argZ m c), ?_, ?_⟩
  · exact (θ_run _ _ _).mono (fun r h c => ⟨(h c).1.trans (final_q m c (real c)), (h c).2.1.trans (final_k m c (real c)),
      (h c).2.2.1.trans (final_k' m c (real c)), (h c).2.2.2.1.trans (final_v m c), (h c).2.2.2.2⟩) (Cert.Kernel6Ideal.Value.run_blocks m g)
  · refine (θ_run _ _ _).mono (fun r h c => ?_) (Cert.Reference6Ideal.Value.run m' g')
    obtain ⟨a0, a1, a2⟩ := agree c
    refine ⟨(h c).1.trans ?_, (h c).2.1.trans ?_, (h c).2.2.1.trans ?_, (h c).2.2.2.1.trans ?_, (h c).2.2.2.2⟩
    · rw [Cert.Reference6Ideal.Read.val_main_v37_eq, a0, a1]
      exact reference_q _ _
    · rw [Cert.Reference6Ideal.Read.val_main_v36_eq, a0, a2]
      exact reference_k _ _
    · rw [Cert.Reference6Ideal.Read.val_main_v38_eq, a0, a2]
      exact reference_k' _ _
    · rw [Cert.Reference6Ideal.Read.val_main_v39_eq, a0]
      exact reference_v _

end Cert.Norm

end
-- ==== Proof.Dense.Value.lean ====
/- `peer_dense`, at the ideal instance: the array it writes is the reference's, index by index. A point adds to its 768 rows what 512 of the
   experts give; the 32 points of a row block add one after another, beginning from the residual rows. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.StableHlo.Run
public import Idealize.ShloMosaic.Lib.Claim
public import Idealize.ShloMosaic.Lib.KernelVsHost
public import Idealize.ShloMosaic.Lib.Pointwise

@[expose] public section

set_option maxRecDepth 16384

noncomputable section

namespace Cert.Kernel7Ideal.Body

open Idealize.ShloMosaic Idealize.ShloMosaic.TcCoe Idealize.SL.Sem Idealize.ShloMosaic.Tactic
open Cert.Kernel7Ideal.Gen

theorem hz : (![0, 0] : Fin 2 → ℕ) = fun _ => 0 := by funext a; fin_cases a <;> rfl

/-- The exact GELU. -/
def gelu (a : EReal) : EReal :=
  Ideal.ofBits .f32 0x3F000000#32 * a * (1 + Ideal.erf (a * Ideal.ofBits .f32 0x3F3504F3#32))

/-- The slice of the gates that one of a point's four parts reads. -/
abbrev gatesOf (x4 : Vec Ideal S4x768x128 .bf16) (s : ℕ) (hb : ∀ a, (![s, 0, 0] : Fin 3 → ℕ) a + S1x768x128.size a ≤ S4x768x128.size a) : Vec Ideal S1x768x128 .bf16 :=
  View.ld x4 (Rect.unit (s := S4x768x128) ![s, 0, 0] S1x768x128.size hb)

/-- What a point leaves over what it found. -/
def step (x0 : Vec Ideal S768x2048 .bf16) (x2 x3 : Vec Ideal S512x2048 .bf16) (x4 : Vec Ideal S4x768x128 .bf16) (acc : Vec Ideal S768x2048 .f32) : Vec Ideal S768x2048 .f32 :=
  k0_pay1 (k0_pay2 x0 x2) (k0_pay3 x0 x2 (gatesOf x4 0 inb_S4x768x128_S1x768x128_0_0_0)) (k0_pay4 x0 x2 (gatesOf x4 1 inb_S4x768x128_S1x768x128_1_0_0))
    (k0_pay5 x0 x2) (k0_pay6 (F := Ideal)) (gatesOf x4 2 inb_S4x768x128_S1x768x128_2_0_0) (gatesOf x4 3 inb_S4x768x128_S1x768x128_3_0_0) acc x3

section Cases

variable (c : Dev nD) (i : grid0.Coords) (arg2 : Memref sig .tc .vmem S768x2048 .bf16) (harg2 : arg2.IsWhole)
  (arg3 : Memref sig .tc .vmem S768x2048 .f32) (harg3 : arg3.IsWhole) (arg4 : Memref sig .tc .vmem S512x2048 .bf16) (harg4 : arg4.IsWhole)
  (arg5 : Memref sig .tc .vmem S512x2048 .bf16) (harg5 : arg5.IsWhole) (arg6 : Memref sig .tc .vmem S4x768x128 .bf16) (harg6 : arg6.IsWhole)
  (arg7 : Memref sig .tc .vmem S768x2048 .f32) (harg7 : arg7.IsWhole)
  (x0 : Vec Ideal S768x2048 .bf16) (x1 : Vec Ideal S768x2048 .f32) (x2 x3 : Vec Ideal S512x2048 .bf16) (x4 : Vec Ideal S4x768x128 .bf16)

/-- A row block's first point starts from the residual rows. -/
theorem out_first (hc : cond0_0 i) :
    out0_A_5 (F := Ideal) c i arg2 harg2 arg3 harg3 arg4 harg4 arg5 harg5 arg6 harg6 arg7 harg7 hc x0 x1 x2 x3 x4 = step x0 x2 x3 x4 x1 := by
  unfold out0_A_5
  rw [View.read_writes_junk_eq_canon]
  unfold kernelRun0_A
  dsimp only
  sl_unfold_words
  rw [View.canon_cons_unit_zero hz, View.readCov_unit_zero (S := S768x2048) _ hz]
  simp only [View.readAt_eq_ld, harg2.read_unread, harg3.read_unread, harg4.read_unread, harg5.read_unread, harg6.read_unread,
    View.ld_unit_zero (S := S768x2048) hz, View.ld_unit_zero (S := S512x2048) hz]
  rfl

/-- A later point starts from what the point before it left. -/
theorem out_later (hc : ¬cond0_0 i) (xo : Vec Ideal S768x2048 .f32) :
    out0_B_5 (F := Ideal) c i arg2 harg2 arg3 harg3 arg4 harg4 arg5 harg5 arg6 harg6 arg7 harg7 hc x0 x1 x2 x3 x4 xo = step x0 x2 x3 x4 xo := by
  unfold out0_B_5
  rw [View.read_writes_junk_eq_canon]
  unfold kernelRun0_B
  dsimp only
  sl_unfold_words
  rw [View.canon_unit_zero hz]
  simp only [View.readAt_eq_ld, harg2.read_unread, harg4.read_unread, harg5.read_unread, harg6.read_unread, harg7.read_unread,
    View.ld_unit_zero (S := S768x2048) hz, View.ld_unit_zero (S := S512x2048) hz]
  rfl

theorem gatesOf_apply (s : ℕ) (hs : s < 4) (hb : ∀ a, (![s, 0, 0] : Fin 3 → ℕ) a + S1x768x128.size a ≤ S4x768x128.size a) (r : Fin 768) (l : Fin 128) :
    gatesOf x4 s hb (ix3 0 r l) = x4 (ix3 (⟨s, hs⟩ : Fin 4) r l) := by
  refine congrArg x4 (funext fun a => ?_)
  match a with
  | 0 => exact Fin.ext (show s + 1 * 0 = s by omega)
  | 1 => exact Fin.ext (show 0 + 1 * r.val = r.val by omega)
  | 2 => exact Fin.ext (show 0 + 1 * l.val = l.val by omega)

theorem dot_apply (r : Fin 768) (k : Fin 512) : k0_pay2 (F := Ideal) x0 x2 (ix2 r k) = ∑ d, x0 (ix2 r d) * x2 (ix2 k d) := by
  pointwise [k0_pay2]

/-- One expert's activation times its gate, as one of the point's four parts has it. -/
theorem part_apply (s : ℕ) (hs : s < 4) (hb : ∀ a, (![s, 0, 0] : Fin 3 → ℕ) a + S1x768x128.size a ≤ S4x768x128.size a) (r : Fin 768) (k z : Fin 512)
    (l : Fin 128) (ez : z.val = k.val) (hl : k.val = 128 * s + l.val) :
    Ideal.ofBits .f32 0x3F000000#32 * k0_pay2 (F := Ideal) x0 x2 (ix2 r z)
        * (1 + Ideal.erf (k0_pay2 (F := Ideal) x0 x2 (ix2 r z) * Ideal.ofBits .f32 0x3F3504F3#32)) * gatesOf x4 s hb (ix3 0 r l)
      = gelu (∑ d, x0 (ix2 r d) * x2 (ix2 k d)) * x4 (ix3 (⟨k.val / 128, by omega⟩ : Fin 4) r (⟨k.val % 128, by omega⟩ : Fin 128)) := by
  obtain rfl : z = k := Fin.ext ez
  rw [gatesOf_apply x4 s hs, dot_apply]
  refine congrArg (gelu _ * ·) (congrArg x4 ?_)
  exact congrArg₂ (fun (a : Fin 4) (b : Fin 128) => ix3 a r b) (Fin.ext (show s = z.val / 128 by omega)) (Fin.ext (show l.val = z.val % 128 by omega))

/-- Each expert of the point adds its output row, weighted by its activation and its gate. -/
theorem step_apply (acc : Vec Ideal S768x2048 .f32) (r : Fin 768) (j : Fin 2048) :
    step x0 x2 x3 x4 acc (ix2 r j) = acc (ix2 r j)
      + ∑ k : Fin 512, gelu (∑ d, x0 (ix2 r d) * x2 (ix2 k d)) * x4 (ix3 (⟨k.val / 128, by omega⟩ : Fin 4) r (⟨k.val % 128, by omega⟩ : Fin 128)) * x3 (ix2 k j) := by
  unfold step
  pointwise [k0_pay1, k0_pay3, k0_pay4, k0_pay5, k0_pay6]
  refine congrArg (acc (ix2 r j) + ·) (Finset.sum_congr rfl fun k _ => congrArg (· * x3 (ix2 k j)) ?_)
  have hk := k.isLt
  split
  · exact part_apply x0 x2 x4 0 (by decide) _ r k _ _ rfl (by simp)
  split
  · exact part_apply x0 x2 x4 1 (by decide) _ r k _ _ (by dsimp only; omega) (by dsimp only; omega)
  split
  · exact part_apply x0 x2 x4 2 (by decide) _ r k _ _ (by dsimp only; omega) (by dsimp only; omega)
  · exact part_apply x0 x2 x4 3 (by decide) _ r k _ _ (by dsimp only; omega) (by dsimp only; omega)

end Cases

section Whole

variable (h : FVec Ideal S17664x2048 .bf16) (x : FVec Ideal S17664x2048 .f32) (g : FVec Ideal S128x17664x128 .bf16) (u v : FVec Ideal S1x16384x2048 .f32)

/-- What expert `k` adds to a number of the result. -/
def expert (n : Fin 17664) (j : Fin 2048) (k : ℕ) : EReal :=
  gelu (∑ d, h (ix2 n d) * u (ix3 0 (Fin.ofNat 16384 k) d)) * g (ix3 (Fin.ofNat 128 (k / 128)) n (Fin.ofNat 128 (k % 128))) * v (ix3 0 (Fin.ofNat 16384 k) j)

/-- The array that both programs give. -/
def wanted : FVec Ideal S17664x2048 .f32 := fun i => x i + ∑ k ∈ Finset.range 16384, expert h g u v (i 0) (i 1) k

theorem reference_apply : Cert.Reference7Ideal.Read.val_main_v16 (F := Ideal) h x g u v = wanted h x g u v := by
  funext i
  unfold wanted
  rw [Finset.sum_range]
  pointwise [Cert.Reference7Ideal.Read.val_main_v16, Cert.Reference7Ideal.Read.val_main_v15, Cert.Reference7Ideal.Read.val_main_v14, Cert.Reference7Ideal.Read.val_main_v13, Cert.Reference7Ideal.Read.val_main_v12, Cert.Reference7Ideal.Read.val_main_v11, Cert.Reference7Ideal.Read.val_main_v10, Cert.Reference7Ideal.Read.val_main_v9, Cert.Reference7Ideal.Read.val_main_v8, Cert.Reference7Ideal.Read.val_main_v7, Cert.Reference7Ideal.Read.val_main_v6, Cert.Reference7Ideal.Read.val_main_v5, Cert.Reference7Ideal.Read.val_main_v4, Cert.Reference7Ideal.Read.val_main_v3, Cert.Reference7Ideal.Read.val_main_v2, Cert.Reference7Ideal.Read.val_main_v1, Cert.Reference7Ideal.Read.val_main_v0, Cert.Reference7Ideal.Read.val_main_cst, Cert.Reference7Ideal.Read.val_main_cst_0]
  refine congrArg (x i + ·) (Finset.sum_congr rfl fun k _ => ?_)
  have hk := k.isLt
  unfold expert gelu
  have e1 : Fin.ofNat 16384 k.val = k := Fin.ext (show k.val % 16384 = k.val by omega)
  have e2 : Fin.ofNat 128 (k.val / 128) = (⟨k.val / 128, by omega⟩ : Fin 128) := Fin.ext (show k.val / 128 % 128 = k.val / 128 by omega)
  have e3 : Fin.ofNat 128 (k.val % 128) = (⟨k.val % 128, by omega⟩ : Fin 128) := Fin.ext (show k.val % 128 % 128 = k.val % 128 by omega)
  rw [e1, e2, e3, neg_mul, Ideal.erfc_neg]
  exact congrArg (· * v (ix3 0 k (i 1))) (mul_comm _ _)

/-- What a point adds, where its blocks are of the arguments. -/
theorem added (x0 : Vec Ideal S768x2048 .bf16) (x2 x3 : Vec Ideal S512x2048 .bf16) (x4 : Vec Ideal S4x768x128 .bf16) (acc : Vec Ideal S768x2048 .f32)
    (r : Fin 768) (n : Fin 17664) (j : Fin 2048) (e : ℕ) (he : e < 32) (er : ∀ d, x0 (ix2 r d) = h (ix2 n d))
    (eu : ∀ (k : Fin 512) d, x2 (ix2 k d) = u (ix3 0 (⟨512 * e + k.val, by omega⟩ : Fin 16384) d))
    (ev : ∀ (k : Fin 512) d, x3 (ix2 k d) = v (ix3 0 (⟨512 * e + k.val, by omega⟩ : Fin 16384) d))
    (eg : ∀ (s : Fin 4) l, x4 (ix3 s r l) = g (ix3 (⟨4 * e + s.val, by omega⟩ : Fin 128) n l)) :
    step x0 x2 x3 x4 acc (ix2 r j) = acc (ix2 r j) + ∑ k ∈ Finset.range 512, expert h g u v n j (512 * e + k) := by
  rw [step_apply, Finset.sum_range]
  simp only [er, eu, ev, eg]
  refine congrArg (acc (ix2 r j) + ·) (Finset.sum_congr rfl fun k _ => ?_)
  have hk := k.isLt
  unfold expert
  have e1 : (⟨512 * e + k.val, by omega⟩ : Fin 16384) = Fin.ofNat 16384 (512 * e + k.val) := Fin.ext (show 512 * e + k.val = (512 * e + k.val) % 16384 by omega)
  have e2 : (⟨4 * e + k.val / 128, by omega⟩ : Fin 128) = Fin.ofNat 128 ((512 * e + k.val) / 128) := Fin.ext (show 4 * e + k.val / 128 = (512 * e + k.val) / 128 % 128 by omega)
  have e3 : (⟨k.val % 128, by omega⟩ : Fin 128) = Fin.ofNat 128 ((512 * e + k.val) % 128) := Fin.ext (show k.val % 128 = (512 * e + k.val) % 128 % 128 by omega)
  rw [e1, e2, e3]

end Whole

variable (m : (ℓ : Loc nD τ sig) → Buf (Elt Ideal) ℓ) (c : Dev nD)

abbrev argH : FVec Ideal S17664x2048 .bf16 := m ((c : Thread nD τ).loc main_arg0)
abbrev argX : FVec Ideal S17664x2048 .f32 := m ((c : Thread nD τ).loc main_arg1)
abbrev argG : FVec Ideal S128x17664x128 .bf16 := m ((c : Thread nD τ).loc main_arg2)
abbrev argU : FVec Ideal S1x16384x2048 .f32 := m ((c : Thread nD τ).loc main_arg3)
abbrev argV : FVec Ideal S1x16384x2048 .f32 := m ((c : Thread nD τ).loc main_arg4)

theorem V_main_v1 : V m c main_v1 = truncf .bf16 (shapeCast S16384x2048 (argU m c) shapeCasts_S1x16384x2048_S16384x2048) bitsLt_bf16_f32 := by
  unfold V
  simp only [hostOps0, List.flatten_cons, List.flatten_nil, List.append_nil, List.cons_append, List.nil_append]
  after_results
  rfl

theorem V_main_v3 : V m c main_v3 = truncf .bf16 (shapeCast S16384x2048 (argV m c) shapeCasts_S1x16384x2048_S16384x2048) bitsLt_bf16_f32 := by
  unfold V
  simp only [hostOps0, List.flatten_cons, List.flatten_nil, List.append_nil, List.cons_append, List.nil_append]
  after_results
  rfl

theorem in_apply (k : Fin 16384) (d : Fin 2048) : V m c main_v1 (ix2 k d) = argU m c (ix3 0 k d) := by
  rw [V_main_v1]
  pointwise []

theorem out_apply (k : Fin 16384) (d : Fin 2048) : V m c main_v3 (ix2 k d) = argV m c (ix3 0 k d) := by
  rw [V_main_v3]
  pointwise []

theorem index_rows : ∀ t : Fin cfg0.N, win0_0.index t = ![t.val / 32, 0] := (by decide +kernel : ∀ t : Fin grid0.N, _)
theorem index_residual : ∀ t : Fin cfg0.N, win0_1.index t = ![t.val / 32, 0] := (by decide +kernel : ∀ t : Fin grid0.N, _)
theorem index_in : ∀ t : Fin cfg0.N, win0_2.index t = ![t.val % 32, 0] := (by decide +kernel : ∀ t : Fin grid0.N, _)
theorem index_out' : ∀ t : Fin cfg0.N, win0_3.index t = ![t.val % 32, 0] := (by decide +kernel : ∀ t : Fin grid0.N, _)
theorem index_gates : ∀ t : Fin cfg0.N, win0_4.index t = ![t.val % 32, t.val / 32, 0] := (by decide +kernel : ∀ t : Fin grid0.N, _)
theorem index_result : ∀ t : Fin cfg0.N, win0_5.index t = ![t.val / 32, 0] := (by decide +kernel : ∀ t : Fin grid0.N, _)
theorem flush_last : ∀ t : Fin cfg0.N, win0_5.flush t = true → t.val % 32 = 31 := (by decide +kernel : ∀ t : Fin grid0.N, _)

/-- What point `t` adds to what it found. -/
theorem point_adds (t : Fin cfg0.N) (acc : Vec Ideal S768x2048 .f32) (r : Fin 768) (j : Fin 2048) (n : Fin 17664) (hn : n.val = 768 * (t.val / 32) + r.val) :
    step (iblk m c 0 t) (iblk m c 2 t) (iblk m c 3 t) (iblk m c 4 t) acc (ix2 r j)
      = acc (ix2 r j) + ∑ k ∈ Finset.range 512, expert (argH m c) (argG m c) (argU m c) (argV m c) n j (512 * (t.val % 32) + k) := by
  have ht : t.val < 736 := t.isLt
  refine added _ _ _ _ _ _ _ _ _ r n j (t.val % 32) (by omega) (fun d => ?_) (fun k d => ?_) (fun k d => ?_) (fun s l => ?_)
  · blk_simp [iblk]
    refine (congrFun (V_main_arg0 m c) _).trans (congrArg (argH m c) ?_)
    blk_ext [index_rows, hn]
  · refine Eq.trans ?_ (in_apply m c _ d)
    blk_simp [iblk]
    refine congrArg (V m c main_v1) ?_
    blk_ext [index_in]
  · refine Eq.trans ?_ (out_apply m c _ d)
    blk_simp [iblk]
    refine congrArg (V m c main_v3) ?_
    blk_ext [index_out']
  · blk_simp [iblk]
    refine (congrFun (V_main_arg2 m c) _).trans (congrArg (argG m c) ?_)
    blk_ext [index_gates, hn]

theorem residual_block (t : Fin cfg0.N) (r : Fin 768) (j : Fin 2048) (n : Fin 17664) (hn : n.val = 768 * (t.val / 32) + r.val) :
    iblk m c 1 t (ix2 r j) = argX m c (ix2 n j) := by
  blk_simp [iblk]
  refine (congrFun (V_main_arg1 m c) _).trans (congrArg (argX m c) ?_)
  blk_ext [index_residual, hn]

/-- After a point, its rows hold the residual and what the experts so far add. -/
theorem after_point : ∀ (k : ℕ) (hk : k < cfg0.N) (r : Fin 768) (j : Fin 2048) (n : Fin 17664), n.val = 768 * (k / 32) + r.val →
    outsAt0 m c k hk (ix2 r j)
      = argX m c (ix2 n j) + ∑ p ∈ Finset.range (512 * (k % 32 + 1)), expert (argH m c) (argG m c) (argU m c) (argV m c) n j p := by
  have first : ∀ (k : ℕ) (hk : k < cfg0.N) (_ : k % 32 = 0) (r : Fin 768) (j : Fin 2048) (n : Fin 17664), n.val = 768 * (k / 32) + r.val →
      outsAt0 m c k hk (ix2 r j)
        = argX m c (ix2 n j) + ∑ p ∈ Finset.range (512 * (k % 32 + 1)), expert (argH m c) (argG m c) (argU m c) (argV m c) n j p := fun k hk h r j n hn => by
    rw [outsAt0_A m c ⟨k, hk⟩ h, out_first, point_adds m c ⟨k, hk⟩ _ r j n hn, residual_block m c ⟨k, hk⟩ r j n hn]
    dsimp only
    rw [h]
    simp only [Nat.mul_zero, Nat.zero_add, Nat.mul_one]
  intro k
  induction k with
  | zero => exact fun hk => first 0 hk rfl
  | succ k ih =>
    intro hk r j n hn
    by_cases h : (k + 1) % 32 = 0
    · exact first _ hk h r j n hn
    · rw [outsAt0_B m c ⟨k + 1, hk⟩ h, out_later, point_adds m c ⟨k + 1, hk⟩ _ r j n hn]
      dsimp only
      have e : 512 * ((k + 1) % 32 + 1) = 512 * ((k + 1) % 32) + 512 := by omega
      have e' : 512 * (k % 32 + 1) = 512 * ((k + 1) % 32) := by omega
      refine (congrArg (· + _) (ih (Nat.lt_of_succ_lt hk) r j n (by omega))).trans ?_
      rw [e, e', Finset.sum_range_add, add_assoc]

theorem final : (dats m 0 c).arrAt 5 cfg0.N = wanted (argH m c) (argX m c) (argG m c) (argU m c) (argV m c) := by
  refine (dats m 0 c).arrAt_eq_of_covers 5 _ (by decide +kernel) fun t hf y => ?_
  have hl := flush_last t hf
  blk_simp
  have ht : t.val < 736 := t.isLt
  have hr : (y 0).val < 768 := (y 0).isLt
  have hj : (y 1).val < 2048 := (y 1).isLt
  rw [after0_5]
  have ey : y = ix2 (⟨(y 0).val, hr⟩ : Fin 768) (⟨(y 1).val, hj⟩ : Fin 2048) := by funext a; match a with | 0 => rfl | 1 => rfl
  have e : (win0_5.blk t).view.emb y = ix2 (⟨768 * (t.val / 32) + (y 0).val, by omega⟩ : Fin 17664) (⟨(y 1).val, hj⟩ : Fin 2048) := by
    blk_ext [index_result]
  rw [e]
  refine (congrArg _ ey).trans ((after_point m c t.val t.isLt _ _ (⟨768 * (t.val / 32) + (y 0).val, by omega⟩ : Fin 17664) rfl).trans ?_)
  rw [hl]
  rfl

end Cert.Kernel7Ideal.Body

namespace Cert.Dense

open Idealize.ShloMosaic Idealize.ShloMosaic.TcCoe Idealize.SL.Sem Cert.Kernel7Ideal.Body

/-- The two programs' results agree, for all arguments. -/
theorem algebraic : Cert.algebraic_Kernel7Ideal_Reference7Ideal (hKernel7Ideal := Cert.Kernel7Ideal.Gen.facts)
    (hReference7Ideal := Cert.Reference7Ideal.Gen.facts) := fun m g m' g' _ agree => by
  refine ⟨fun c => wanted (argH m c) (argX m c) (argG m c) (argU m c) (argV m c), ?_, ?_⟩
  · exact (θ_run _ _ _).mono (fun r h c => ⟨(h c).1.trans (final m c), (h c).2⟩) (Cert.Kernel7Ideal.Value.run_blocks m g)
  · refine (θ_run _ _ _).mono (fun r h c => ⟨(h c).1.trans ?_, (h c).2⟩) (Cert.Reference7Ideal.Value.run m' g')
    obtain ⟨a0, a1, a2, a3, a4⟩ := agree c
    rw [Cert.Reference7Ideal.Read.val_main_v16_eq, a0, a1, a2, a3, a4]
    exact reference_apply _ _ _ _ _

end Cert.Dense

end
-- ==== Proof.Hgrn.Value.lean ====
/- `hgrn_c8`, at the ideal instance: the states it writes, index by index. A point has the eight rows of one sample and 128 columns of one head;
   it adds the logarithms of the forget gates up row by row, in three steps that each shift by twice as many rows as the one before. -/
module

public import proofs.«01_k».proof.Proof.Gen.Kernel8Ideal.Value
public import Idealize.ShloMosaic.Lib.Pipeline.ValueKit
public import Idealize.ShloMosaic.Lib.StableHlo.Run
public import Idealize.ShloMosaic.Lib.Claim
public import Idealize.ShloMosaic.Lib.KernelVsHost
public import Idealize.ShloMosaic.Lib.Pointwise

@[expose] public section

set_option maxRecDepth 16384

noncomputable section

namespace Cert.Kernel8Ideal.Body

open Idealize.ShloMosaic Idealize.ShloMosaic.TcCoe Idealize.SL.Sem Idealize.ShloMosaic.Tactic
open Cert.Kernel8Ideal.Gen

theorem hz : (![0, 0] : Fin 2 → ℕ) = fun _ => 0 := by funext a; fin_cases a <;> rfl
theorem hz4 : (![0, 0, 0, 0] : Fin 4 → ℕ) = fun _ => 0 := by funext a; fin_cases a <;> rfl

theorem hoff : k0_off1 = fun _ => 0 := by funext a; fin_cases a <;> rfl

/-- The larger of a column's two logits. -/
def most (g : Fin 2 → EReal) : EReal := (Finset.univ : Finset (Fin 2)).fold max (Ideal.ofBits .f32 0xFF800000#32) g

/-- The least share of a column's state that is kept: the first number of a softmax of the column's logits. -/
def least (g : Fin 2 → EReal) : EReal := Ideal.div (Ideal.exp (g 0 - most g)) (∑ k, Ideal.exp (g k - most g))

/-- A forget gate, from its column's logits and its projection. -/
def gate (g : Fin 2 → EReal) (x : EReal) : EReal := least g + (1 - least g) * Ideal.logistic x

theorem gate_apply (lg : Vec Ideal S2x128 .f32) (x : Vec Ideal S8x128 .f32) (r : Fin 8) (l : Fin 128) :
    k0_pay5 (F := Ideal) lg x (ix2 r l) = gate (fun k => lg (ix2 k l)) (x (ix2 r l)) := by
  unfold gate least most
  pointwise [k0_pay5]

theorem input_apply (f : FVec Ideal S8x128 .f32) (r : Fin 8) (l : Fin 128) : k0_pay6 (F := Ideal) f (ix2 r l) = 1 - f (ix2 r l) := by
  pointwise [k0_pay6]

/-- The sum of the numbers up to row `r`. -/
def upto (g : Fin 8 → EReal) (r : Fin 8) : EReal := ∑ s, if s ≤ r then g s else 0

theorem upto_apply (f : FVec Ideal S8x128 .f32) (r : Fin 8) (l : Fin 128) :
    k0_pay7 (F := Ideal) (iota .tc S8x128 32 [0] iota_S8x128_d0_w32) f (ix2 r l) = upto (fun s => Ideal.log (f (ix2 s l))) r := by
  unfold upto
  pointwise [k0_pay7]
  generalize hg : (fun s => Ideal.log (f (ix2 s l))) = g
  have e : ∀ s, Ideal.log (f (ix2 s l)) = g s := fun s => congrFun hg s
  simp only [e]
  fin_cases r <;> simp [Fin.sum_univ_eight, Scalar.select, IntOp.cmpi] <;> abel

theorem next_apply (v : Vec Ideal S8x128 .f32) (k b : FVec Ideal S8x128 .f32) (st : Vec Ideal S128x128 .f32) (i j : Fin 128) :
    k0_pay19 (F := Ideal) v k b st (ix2 i j)
      = st (ix2 i j) * Ideal.exp (b (ix2 7 j)) + ∑ s : Fin 8, v (ix2 s i) * (k (ix2 s j) * Ideal.exp (b (ix2 7 j) - b (ix2 s j))) := by
  pointwise [k0_pay19]

theorem first_apply (x : Vec Ideal S1x1x128x128 .f32) (i j : Fin 128) : k0_pay2 (F := Ideal) x (ix2 i j) = x (ix4 0 0 j i) := by
  pointwise [k0_pay2]

theorem last_apply (x : Vec Ideal S128x128 .f32) (i j : Fin 128) : k0_pay1 (F := Ideal) x (ix4 0 0 i j) = x (ix2 j i) := by
  pointwise [k0_pay1]

section Cases

variable (c : Dev nD) (i : grid0.Coords) (arg2 : Memref sig .tc .vmem S2x128 .f32) (harg2 : arg2.IsWhole) (arg3 : Memref sig .tc .vmem S1x128 .f32) (harg3 : arg3.IsWhole)
  (arg4 : Memref sig .tc .vmem S8x128 .f32) (harg4 : arg4.IsWhole) (arg5 : Memref sig .tc .vmem S8x128 .f32) (harg5 : arg5.IsWhole)
  (arg6 : Memref sig .tc .vmem S8x128 .f32) (harg6 : arg6.IsWhole) (arg7 : Memref sig .tc .vmem S8x128 .f32) (harg7 : arg7.IsWhole)
  (arg8 : Memref sig .tc .vmem S1x1x128x128 .f32) (harg8 : arg8.IsWhole) (arg9 : Memref sig .tc .vmem S8x128 .f32) (harg9 : arg9.IsWhole)
  (arg10 : Memref sig .tc .vmem S1x1x128x128 .f32) (harg10 : arg10.IsWhole) (arg11 : Memref sig .tc .vmem S128x128 .f32) (harg11 : arg11.IsWhole)
  (x0 : Vec Ideal S2x128 .f32) (x1 : Vec Ideal S1x128 .f32) (x2 x3 x4 x5 : Vec Ideal S8x128 .f32) (x6 : Vec Ideal S1x1x128x128 .f32)

/-- What a point writes of its state. -/
theorem out_eq : out0_A_8 (F := Ideal) c i arg2 harg2 arg3 harg3 arg4 harg4 arg5 harg5 arg6 harg6 arg7 harg7 arg8 harg8 arg9 harg9 arg10 harg10 arg11 harg11 x0 x1 x2 x3 x4 x5 x6
    = k0_pay1 (k0_pay19 x4 (k0_pay6 (k0_pay5 x0 x3)) (k0_pay7 (iota .tc S8x128 32 [0] iota_S8x128_d0_w32) (k0_pay5 x0 x3)) (k0_pay2 x6)) := by
  unfold out0_A_8
  rw [View.read_writes_junk_eq_canon]
  unfold kernelRun0_A
  dsimp only
  sl_unfold_words
  rw [View.canon_unit_zero hz4]
  simp only [View.readAt_eq_ld, harg2.read_unread, harg3.read_unread, harg4.read_unread, harg5.read_unread, harg6.read_unread, harg7.read_unread, harg8.read_unread,
    View.ld_unit_zero (S := S2x128) hz, View.ld_unit_zero (S := S1x1x128x128) hz4]
  rw [View.readCov_unit_zero (S := S128x128) _ hz, View.readCov_cons_unit_lit' (S := S128x128) _ _ _ _ _ (by decide) (by decide)]
  have e : ∀ x : Vec Ideal S8x128 .f32, View.ld x (Rect.unit (s := S8x128) k0_off1 S8x128.size k0_off1_inb) = x := fun x => View.ld_unit_zero (S := S8x128) hoff _ _
  exact congrArg₂ (fun a b => k0_pay1 (k0_pay19 a (k0_pay6 (k0_pay5 x0 b)) (k0_pay7 (iota .tc S8x128 32 [0] iota_S8x128_d0_w32) (k0_pay5 x0 b)) (k0_pay2 x6))) (e x4) (e x3)

end Cases

section Whole

variable (z : FVec Ideal S17664x11264 .f32) (lg : FVec Ideal S2x1024 .f32) (st : FVec Ideal S1x32x8x128x128 .f32)

/-- The forget gate of sample `b`'s row `s`, in column `k` of head `h`. -/
def forget (b : Fin 32) (h : Fin 8) (k : Fin 128) (s : Fin 8) : EReal :=
  gate (fun q => lg (ix2 q (⟨h.val * 128 + k.val, by omega⟩ : Fin 1024)))
    (z (ix2 (⟨17408 + (b.val * 8 + s.val), by omega⟩ : Fin 17664) (⟨1024 + (h.val * 128 + k.val), by omega⟩ : Fin 11264)))

/-- The logarithm of what the rows up to row `s` keep. -/
def kept (b : Fin 32) (h : Fin 8) (k : Fin 128) (s : Fin 8) : EReal := upto (fun s => Ideal.log (forget z lg b h k s)) s

/-- A number of a sample's last state: what is kept of its first state, and what each row adds. -/
def state (b : Fin 32) (h : Fin 8) (k v : Fin 128) : EReal :=
  st (ix5 0 b h k v) * Ideal.exp (kept z lg b h k 7)
    + ∑ s : Fin 8, z (ix2 (⟨17408 + (b.val * 8 + s.val), by omega⟩ : Fin 17664) (⟨2048 + (h.val * 128 + v.val), by omega⟩ : Fin 11264))
        * ((1 - forget z lg b h k s) * Ideal.exp (kept z lg b h k 7 - kept z lg b h k s))

/-- The array that both programs give. -/
def wanted : FVec Ideal S32x8x128x128 .f32 := fun i => state z lg st (i 0) (i 1) (i 2) (i 3)

/-- What a point writes, where its blocks are of the arguments. -/
theorem point (x0 : Vec Ideal S2x128 .f32) (x3 x4 : Vec Ideal S8x128 .f32) (x6 : Vec Ideal S1x1x128x128 .f32) (b : Fin 32) (h : Fin 8) (k v : Fin 128)
    (el : ∀ q k, x0 (ix2 q k) = lg (ix2 q (⟨h.val * 128 + k.val, by omega⟩ : Fin 1024)))
    (ef : ∀ (s : Fin 8) (k : Fin 128), x3 (ix2 s k) = z (ix2 (⟨17408 + (b.val * 8 + s.val), by omega⟩ : Fin 17664) (⟨1024 + (h.val * 128 + k.val), by omega⟩ : Fin 11264)))
    (ei : ∀ (s : Fin 8) (v : Fin 128), x4 (ix2 s v) = z (ix2 (⟨17408 + (b.val * 8 + s.val), by omega⟩ : Fin 17664) (⟨2048 + (h.val * 128 + v.val), by omega⟩ : Fin 11264)))
    (es : ∀ k v, x6 (ix4 0 0 k v) = st (ix5 0 b h k v)) :
    k0_pay1 (F := Ideal) (k0_pay19 x4 (k0_pay6 (k0_pay5 x0 x3)) (k0_pay7 (iota .tc S8x128 32 [0] iota_S8x128_d0_w32) (k0_pay5 x0 x3)) (k0_pay2 x6)) (ix4 0 0 k v)
      = state z lg st b h k v := by
  have eg : ∀ s, k0_pay5 (F := Ideal) x0 x3 (ix2 s k) = forget z lg b h k s := fun s => by
    rw [gate_apply, ef]
    exact congrArg (fun g => gate g _) (funext fun q => el q k)
  have eu : ∀ s, k0_pay7 (F := Ideal) (iota .tc S8x128 32 [0] iota_S8x128_d0_w32) (k0_pay5 x0 x3) (ix2 s k) = kept z lg b h k s := fun s => by
    rw [upto_apply]
    exact congrArg (fun g => upto g s) (funext fun q => congrArg Ideal.log (eg q))
  rw [last_apply, next_apply, first_apply]
  simp only [input_apply, eu, eg, ei, es]
  rfl

end Whole

variable (m : (ℓ : Loc nD τ sig) → Buf (Elt Ideal) ℓ) (c : Dev nD)

abbrev argZ : FVec Ideal S17664x11264 .f32 := m ((c : Thread nD τ).loc main_arg0)
abbrev argL : FVec Ideal S2x1024 .f32 := m ((c : Thread nD τ).loc main_arg1)
abbrev argS : FVec Ideal S1x32x8x128x128 .f32 := m ((c : Thread nD τ).loc main_arg3)

theorem V_main_v1 : V m c main_v1 = shapeCast S32x8x128x128 (argS m c) shapeCasts_S1x32x8x128x128_S32x8x128x128 := by
  unfold V
  simp only [hostOps0, List.flatten_cons, List.flatten_nil, List.append_nil, List.cons_append, List.nil_append]
  after_results
  rfl

theorem first_state (b : Fin 32) (h : Fin 8) (k v : Fin 128) : V m c main_v1 (ix4 b h k v) = argS m c (ix5 0 b h k v) := by
  rw [V_main_v1]
  pointwise []

theorem index_logits : ∀ t : Fin cfg0.N, win0_0.index t = ![0, (grid0.coords t 1).val] := (by decide +kernel : ∀ t : Fin grid0.N, _)
theorem index_forget : ∀ t : Fin cfg0.N, win0_3.index t = ![2176 + (grid0.coords t 0).val, 8 + (grid0.coords t 1).val] := (by decide +kernel : ∀ t : Fin grid0.N, _)
theorem index_input : ∀ t : Fin cfg0.N, win0_4.index t = ![2176 + (grid0.coords t 0).val, 16 + (grid0.coords t 1).val] := (by decide +kernel : ∀ t : Fin grid0.N, _)
theorem index_first : ∀ t : Fin cfg0.N, win0_6.index t = ![(grid0.coords t 0).val, (grid0.coords t 1).val, 0, 0] := (by decide +kernel : ∀ t : Fin grid0.N, _)
theorem index_last : ∀ t : Fin cfg0.N, win0_8.index t = ![(grid0.coords t 0).val, (grid0.coords t 1).val, 0, 0] := (by decide +kernel : ∀ t : Fin grid0.N, _)

theorem final : (dats m 0 c).arrAt 8 cfg0.N = wanted (argZ m c) (argL m c) (argS m c) := by
  refine (dats m 0 c).arrAt_eq_of_covers 8 _ (by decide +kernel) fun t _ y => ?_
  blk_simp
  have h0 : (grid0.coords t 0).val < 32 := (grid0.coords t 0).isLt
  have h1 : (grid0.coords t 1).val < 8 := (grid0.coords t 1).isLt
  have hk : (y 2).val < 128 := (y 2).isLt
  have hv : (y 3).val < 128 := (y 3).isLt
  have y0 : (y 0).val < 1 := (y 0).isLt
  have y1 : (y 1).val < 1 := (y 1).isLt
  rw [after0_8]
  unfold outsAt0
  dsimp only
  rw [out_eq]
  have ey : y = ix4 (0 : Fin 1) (0 : Fin 1) (⟨(y 2).val, hk⟩ : Fin 128) (⟨(y 3).val, hv⟩ : Fin 128) := by
    funext a
    match a with
    | 0 => exact Fin.ext (show (y 0).val = 0 by omega)
    | 1 => exact Fin.ext (show (y 1).val = 0 by omega)
    | 2 => rfl
    | 3 => rfl
  have e : (win0_8.blk t).view.emb y = ix4 (⟨(grid0.coords t 0).val, h0⟩ : Fin 32) (⟨(grid0.coords t 1).val, h1⟩ : Fin 8) (⟨(y 2).val, hk⟩ : Fin 128) (⟨(y 3).val, hv⟩ : Fin 128) := by
    blk_ext [index_last]
  rw [e]
  refine (congrArg _ ey).trans (point (argZ m c) (argL m c) (argS m c) _ _ _ _ (⟨(grid0.coords t 0).val, h0⟩ : Fin 32) (⟨(grid0.coords t 1).val, h1⟩ : Fin 8) _ _
    (fun q k => ?_) (fun s k => ?_) (fun s v => ?_) (fun k v => ?_))
  · blk_simp [iblk]
    refine (congrFun (V_main_arg1 m c) _).trans (congrArg (argL m c) ?_)
    blk_ext [index_logits]
  · blk_simp [iblk]
    refine (congrFun (V_main_arg0 m c) _).trans (congrArg (argZ m c) ?_)
    blk_ext [index_forget]
  · blk_simp [iblk]
    refine (congrFun (V_main_arg0 m c) _).trans (congrArg (argZ m c) ?_)
    blk_ext [index_input]
  · refine Eq.trans ?_ (first_state m c _ _ k v)
    blk_simp [iblk]
    refine congrArg (V m c main_v1) ?_
    blk_ext [index_first]

end Cert.Kernel8Ideal.Body

end
-- ==== Proof.Hgrn.Algebraic.lean ====
/- The value claim of `hgrn_c8`: from memories that agree on the arguments, its array of states and the reference's are equal as extended reals. -/
module

public import proofs.«01_k».proof.Defs
public import proofs.«01_k».proof.Proof.Hgrn.Value
public import proofs.«01_k».proof.Proof.Gen.Reference8Ideal.Run
public import proofs.«01_k».proof.Proof.Gen.Reference8Ideal.Read

@[expose] public section

set_option maxRecDepth 16384

noncomputable section

namespace Cert.Kernel8Ideal.Body

open Idealize.ShloMosaic Idealize.ShloMosaic.TcCoe Idealize.SL.Sem Idealize.ShloMosaic.Tactic
open Cert.Kernel8Ideal.Gen

theorem foldl_sum {N : ℕ} (f : Fin N → EReal) (r : EReal) : (List.finRange N).foldl (fun r n => r + f n) r = r + ∑ n, f n := by
  rw [Fin.sum_univ_def]
  generalize List.finRange N = l
  induction l generalizing r with
  | nil => simp
  | cons a l ih => rw [List.foldl_cons, ih, List.map_cons, List.sum_cons, add_assoc]

/-- The place of a window's number `n` on axis `a`, in the padded array. -/
abbrev place {s t : Shape} {window strides lo hi : Fin s.rank → ℕ} (h : s.ReduceWindows window strides lo hi t) (j : t.Idx) {N : ℕ}
    (hN : N = (⟨s.rank, window⟩ : Shape).numel) (n : Fin N) (a : Fin s.rank) : ℕ :=
  (j (a.cast h.1.symm)).val * strides a + ((⟨s.rank, window⟩ : Shape).rowMajor.symm (n.cast hN) a).val

/-- A sum over a window is the sum of the numbers at its places; a place in the padding holds zero. -/
theorem window_sum {s t u : Shape} {window strides lo hi : Fin s.rank → ℕ} (x : FVec Ideal s .f32) (init : u.Idx → EReal) (h : s.ReduceWindows window strides lo hi t)
    (hu : 0 < u.numel) (h0 : init (Shape.Idx.first hu) = 0) {N : ℕ} (hN : N = (⟨s.rank, window⟩ : Shape).numel) (j : t.Idx) (f : Fin N → EReal)
    (hin : ∀ n i, (∀ a, place h j hN n a = lo a + (i a).val) → f n = x i) (hout : ∀ n a, ¬ (lo a ≤ place h j hN n a ∧ place h j hN n a - lo a < s.size a) → f n = 0) :
    Host.reduceWindowAdd (φ := .f32) window strides lo hi x init h hu j = ∑ n, f n := by
  subst hN
  show (List.finRange _).foldl _ (init (Shape.Idx.first hu)) = _
  rw [h0]
  refine (foldl_sum _ 0).trans ?_
  rw [zero_add]
  refine Finset.sum_congr rfl fun n _ => ?_
  split
  · next hp => exact (hin n (fun a => ⟨_, (hp a).2⟩) fun a => (Nat.add_sub_of_le (hp a).1).symm).symm
  · next hp =>
    obtain ⟨a, ha⟩ := not_forall.1 hp
    exact (hout n a ha).symm

theorem place8 : ∀ n : Fin 8, (fun a => ((⟨4, ![1, 8, 1, 1]⟩ : Shape).rowMajor.symm n a).val) = ![0, n.val, 0, 0] := by decide +kernel

/-- The reference's sums over the rows. -/
theorem rows_sum (x : FVec Ideal Cert.Reference8Ideal.S32x8x8x128 .f32) (init : FVec Ideal Cert.Reference8Ideal.S_ .f32) (h0 : ∀ i, init i = 0) (b : Fin 32) (r h : Fin 8) (k : Fin 128)
    (hw : Cert.Reference8Ideal.S32x8x8x128.ReduceWindows (![1, 8, 1, 1] : Fin 4 → ℕ) ![1, 1, 1, 1] ![0, 7, 0, 0] ![0, 0, 0, 0] Cert.Reference8Ideal.S32x8x8x128) (hu : 0 < Cert.Reference8Ideal.S_.numel) :
    Host.reduceWindowAdd (φ := .f32) ![1, 8, 1, 1] ![1, 1, 1, 1] ![0, 7, 0, 0] ![0, 0, 0, 0] x init hw hu (ix4 b r h k) = upto (fun s => x (ix4 b s h k)) r := by
  have hr := r.isLt
  refine (window_sum x init hw hu (h0 _) (N := 8) (by decide) (ix4 b r h k)
    (fun n => if 7 ≤ r.val + n.val then x (ix4 b (Fin.ofNat 8 (r.val + n.val - 7)) h k) else 0) (fun n i hi => ?_) (fun n a ha => ?_)).trans ?_
  · have e0 : b.val * 1 + 0 = 0 + (i 0).val := (congrArg (b.val * 1 + ·) (congrFun (place8 n) 0)).symm.trans (hi 0)
    have e1 : r.val * 1 + n.val = 7 + (i 1).val := (congrArg (r.val * 1 + ·) (congrFun (place8 n) 1)).symm.trans (hi 1)
    have e2 : h.val * 1 + 0 = 0 + (i 2).val := (congrArg (h.val * 1 + ·) (congrFun (place8 n) 2)).symm.trans (hi 2)
    have e3 : k.val * 1 + 0 = 0 + (i 3).val := (congrArg (k.val * 1 + ·) (congrFun (place8 n) 3)).symm.trans (hi 3)
    have hi1 : (i 1).val < 8 := (i 1).isLt
    rw [if_pos (by omega)]
    refine congrArg x (funext fun a => ?_)
    match a with
    | 0 => exact Fin.ext (show b.val = (i 0).val by omega)
    | 1 => exact Fin.ext (show (r.val + n.val - 7) % 8 = (i 1).val by omega)
    | 2 => exact Fin.ext (show h.val = (i 2).val by omega)
    | 3 => exact Fin.ext (show k.val = (i 3).val by omega)
  · refine if_neg fun hn => ha ?_
    have hb := b.isLt
    have hh := h.isLt
    have hk := k.isLt
    have hn' := n.isLt
    match a with
    | 0 =>
      have e0 : place hw (ix4 b r h k) (by decide : 8 = (⟨4, ![1, 8, 1, 1]⟩ : Shape).numel) n 0 = b.val * 1 + 0 := congrArg (b.val * 1 + ·) (congrFun (place8 n) 0)
      rw [e0]
      exact ⟨Nat.zero_le _, show b.val * 1 + 0 - 0 < 32 by omega⟩
    | 1 =>
      have e0 : place hw (ix4 b r h k) (by decide : 8 = (⟨4, ![1, 8, 1, 1]⟩ : Shape).numel) n 1 = r.val * 1 + n.val := congrArg (r.val * 1 + ·) (congrFun (place8 n) 1)
      rw [e0]
      exact ⟨show 7 ≤ r.val * 1 + n.val by omega, show r.val * 1 + n.val - 7 < 8 by omega⟩
    | 2 =>
      have e0 : place hw (ix4 b r h k) (by decide : 8 = (⟨4, ![1, 8, 1, 1]⟩ : Shape).numel) n 2 = h.val * 1 + 0 := congrArg (h.val * 1 + ·) (congrFun (place8 n) 2)
      rw [e0]
      exact ⟨Nat.zero_le _, show h.val * 1 + 0 - 0 < 8 by omega⟩
    | 3 =>
      have e0 : place hw (ix4 b r h k) (by decide : 8 = (⟨4, ![1, 8, 1, 1]⟩ : Shape).numel) n 3 = k.val * 1 + 0 := congrArg (k.val * 1 + ·) (congrFun (place8 n) 3)
      rw [e0]
      exact ⟨Nat.zero_le _, show k.val * 1 + 0 - 0 < 128 by omega⟩
  · unfold upto
    have e : ∀ s, x (ix4 b s h k) = (fun s => x (ix4 b s h k)) s := fun _ => rfl
    generalize (fun s => x (ix4 b s h k)) = g at e
    simp only [e]
    fin_cases r <;> simp [Fin.sum_univ_eight] <;> rfl

theorem place2 : ∀ n : Fin 2, (fun a => ((⟨2, ![2, 1]⟩ : Shape).rowMajor.symm n a).val) = ![n.val, 0] := by decide +kernel

/-- The reference's sum over the layers, for the first layer. -/
theorem first_sum (x : FVec Ideal Cert.Reference8Ideal.S2x1024 .f32) (init : FVec Ideal Cert.Reference8Ideal.S_ .f32) (h0 : ∀ i, init i = 0) (k : Fin 1024)
    (hw : Cert.Reference8Ideal.S2x1024.ReduceWindows (![2, 1] : Fin 2 → ℕ) ![1, 1] ![1, 0] ![0, 0] Cert.Reference8Ideal.S2x1024) (hu : 0 < Cert.Reference8Ideal.S_.numel) :
    Host.reduceWindowAdd (φ := .f32) ![2, 1] ![1, 1] ![1, 0] ![0, 0] x init hw hu (ix2 0 k) = x (ix2 0 k) := by
  refine (window_sum x init hw hu (h0 _) (N := 2) (by decide) (ix2 0 k) (fun n => if n = 1 then x (ix2 0 k) else 0) (fun n i hi => ?_) (fun n a ha => ?_)).trans ?_
  · have e0 : 0 * 1 + n.val = 1 + (i 0).val := (congrArg (0 * 1 + ·) (congrFun (place2 n) 0)).symm.trans (hi 0)
    have e1 : k.val * 1 + 0 = 0 + (i 1).val := (congrArg (k.val * 1 + ·) (congrFun (place2 n) 1)).symm.trans (hi 1)
    have hn := n.isLt
    rw [if_pos (Fin.ext (show n.val = 1 by omega))]
    refine congrArg x (funext fun a => ?_)
    match a with
    | 0 => exact Fin.ext (show 0 = (i 0).val by omega)
    | 1 => exact Fin.ext (show k.val = (i 1).val by omega)
  · refine if_neg fun hn => ha ?_
    subst hn
    have hk := k.isLt
    match a with
    | 0 =>
      have e0 : place hw (ix2 0 k) (by decide : 2 = (⟨2, ![2, 1]⟩ : Shape).numel) 1 0 = 0 * 1 + 1 := congrArg (0 * 1 + ·) (congrFun (place2 1) 0)
      rw [e0]
      exact ⟨show 1 ≤ 0 * 1 + 1 by omega, show 0 * 1 + 1 - 1 < 2 by omega⟩
    | 1 =>
      have e0 : place hw (ix2 0 k) (by decide : 2 = (⟨2, ![2, 1]⟩ : Shape).numel) 1 1 = k.val * 1 + 0 := congrArg (k.val * 1 + ·) (congrFun (place2 1) 1)
      rw [e0]
      exact ⟨Nat.zero_le _, show k.val * 1 + 0 - 0 < 1024 by omega⟩
  · simp

section Reference

variable (x0 : FVec Ideal S17664x11264 .f32) (x1 : FVec Ideal S2x1024 .f32) (x3 : FVec Ideal S1x32x8x128x128 .f32)

open Cert.Reference8Ideal.Read

theorem reference_softmax (k : Fin 1024) : val_main_v10 (F := Ideal) x1 (ix2 0 k) = least (fun q => x1 (ix2 q k)) := by
  unfold least most
  pointwise [val_main_v10, val_main_v9, val_main_v8, val_main_v7, val_main_v6, val_main_v5, val_main_v4, val_main_v3, val_main_v2, val_main_v1, val_main_v0,
    val_main_cst, val_main_cst_0, val_main_cst_1]
  rw [max_eq_right ((Finset.le_fold_max _).2 (Or.inl le_rfl))]

theorem reference_least (k : Fin 1024) : val_main_v11 (F := Ideal) x1 (ix2 0 k) = least (fun q => x1 (ix2 q k)) := by
  unfold val_main_v11
  refine (first_sum _ _ (fun i => ?_) k _ _).trans (reference_softmax x1 k)
  pointwise [val_main_call0_call0_v0, val_main_call0_call0_cst]

theorem reference_gate (b : Fin 32) (s h : Fin 8) (k : Fin 128) : val_main_v31 (F := Ideal) x0 x1 (ix4 b s h k) = forget x0 x1 b h k s := by
  unfold forget gate
  have e := fun k => reference_least x1 k
  generalize hy : val_main_v11 (F := Ideal) x1 = y at e
  pointwise [val_main_v31, val_main_v30, val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v12, val_main_cst_2, val_main_cst_3, val_main_cst_4, hy]
  rw [e]
  rfl

theorem reference_kept (b : Fin 32) (s h : Fin 8) (k : Fin 128) : val_main_v38 (F := Ideal) x0 x1 (ix4 b s h k) = kept x0 x1 b h k s := by
  unfold val_main_v38 kept
  refine (rows_sum _ _ (fun i => ?_) b s h k _ _).trans (congrArg (upto · s) (funext fun s => ?_))
  · pointwise [val_main_call1_call0_v0, val_main_call1_call0_cst]
  · exact congrArg Ideal.log (reference_gate x0 x1 b s h k)

theorem reference_apply : val_main_v51 (F := Ideal) x0 x1 x3 = wanted x0 x1 x3 := by
  funext i
  unfold wanted state
  have e := reference_kept x0 x1
  have e' := reference_gate x0 x1
  generalize hy : val_main_v38 (F := Ideal) x0 x1 = y at e
  generalize hf : val_main_v31 (F := Ideal) x0 x1 = f at e'
  pointwise [val_main_v51, val_main_v50, val_main_v49, val_main_v48, val_main_v47, val_main_v46, val_main_v45, val_main_v44, val_main_v43, val_main_v42, val_main_v41,
    val_main_v40, val_main_v39, val_main_v36, val_main_v35, val_main_v34, val_main_v33, val_main_v32, val_main_v15, val_main_v14, val_main_cst_5, hy, hf]
  exact congrArg₂ (· + ·) ((congrArg (fun x => Ideal.exp x * _) (e _ _ _ _)).trans (mul_comm _ _))
    (Finset.sum_congr rfl fun s _ => (mul_comm _ _).trans (congrArg (_ * ·)
      (congrArg₂ (fun g d => (1 - g) * Ideal.exp d) (e' _ _ _ _) (congrArg₂ (· - ·) (e _ _ _ _) (e _ _ _ _)))))

end Reference

end Cert.Kernel8Ideal.Body

namespace Cert.Hgrn

open Idealize.ShloMosaic Idealize.ShloMosaic.TcCoe Idealize.SL.Sem Cert.Kernel8Ideal.Body

/-- The two programs' results agree, for all arguments. -/
theorem algebraic : Cert.algebraic_Kernel8Ideal_Reference8Ideal (hKernel8Ideal := Cert.Kernel8Ideal.Gen.facts)
    (hReference8Ideal := Cert.Reference8Ideal.Gen.facts) := fun m g m' g' _ agree => by
  refine ⟨fun c => wanted (argZ m c) (argL m c) (argS m c), ?_, ?_⟩
  · exact (θ_run _ _ _).mono (fun r h c => ⟨(h c).2.1.trans (final m c), (h c).2.2⟩) (Cert.Kernel8Ideal.Value.run_blocks m g)
  · refine (θ_run _ _ _).mono (fun r h c => ⟨(h c).1.trans ?_, (h c).2⟩) (Cert.Reference8Ideal.Value.run m' g')
    obtain ⟨a0, a1, a2, a3⟩ := agree c
    rw [Cert.Reference8Ideal.Read.val_main_v51_eq, a0, a1, a3]
    exact reference_apply _ _ _

end Cert.Hgrn

end
-- ==== Proof.Hgrn.Frame.lean ====
/- `hgrn_c16` runs to its end: what a point leaves, the launch, and its frame. -/
module

public import proofs.«01_k».proof.Proof.Hgrn.Run
public import Idealize.ShloMosaic.Lib.Claim

@[expose] public section

set_option maxRecDepth 16384

noncomputable section

namespace Cert.Kernel9.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9 Cert.Kernel9.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for output 7 cover its block. -/
theorem cover0_A_7 (c : Dev nD) (i : grid0.Coords) (arg2 : Memref sig .tc .vmem S2x128 .f32) (harg2 : arg2.IsWhole) (arg3 : Memref sig .tc .vmem S1x128 .f32) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2176x128 .f32) (harg6 : arg6.IsWhole) (arg7 : Memref sig .tc .vmem S2176x128 .f32) (harg7 : arg7.IsWhole) (arg8 : Memref sig .tc .vmem S1x1x128x128 .f32) (harg8 : arg8.IsWhole) (arg9 : Memref sig .tc .vmem S2176x128 .f32) (harg9 : arg9.IsWhole) (arg10 : Memref sig .tc .vmem S1x1x128x128 .f32) (harg10 : arg10.IsWhole) (arg11 : Memref sig .tc .vmem S128x128 .f32) (harg11 : arg11.IsWhole)
    (x0 : Vec F S2x128 .f32) (x1 : Vec F S1x128 .f32) (x2 : Vec F S2176x128 .f32) (x3 : Vec F S2176x128 .f32) (x4 : Vec F S2176x128 .f32) (x5 : Vec F S2176x128 .f32) (x6 : Vec F S1x1x128x128 .f32) (y : S2176x128.Idx) :
    ∃ pc ∈ (kernelRun0_A c i arg2 harg2 arg3 harg3 arg4 harg4 arg5 harg5 arg6 harg6 arg7 harg7 arg8 harg8 arg9 harg9 arg10 harg10 arg11 harg11 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4 x5 x6).1 S16x128.size (by sl_kernel_rfl) y

/-- What the run leaves in output 7's staging buffer: its pieces read back over junk. -/
def out0_A_7 (c : Dev nD) (i : grid0.Coords) (arg2 : Memref sig .tc .vmem S2x128 .f32) (harg2 : arg2.IsWhole) (arg3 : Memref sig .tc .vmem S1x128 .f32) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2176x128 .f32) (harg6 : arg6.IsWhole) (arg7 : Memref sig .tc .vmem S2176x128 .f32) (harg7 : arg7.IsWhole) (arg8 : Memref sig .tc .vmem S1x1x128x128 .f32) (harg8 : arg8.IsWhole) (arg9 : Memref sig .tc .vmem S2176x128 .f32) (harg9 : arg9.IsWhole) (arg10 : Memref sig .tc .vmem S1x1x128x128 .f32) (harg10 : arg10.IsWhole) (arg11 : Memref sig .tc .vmem S128x128 .f32) (harg11 : arg11.IsWhole)
    (x0 : Vec F S2x128 .f32) (x1 : Vec F S1x128 .f32) (x2 : Vec F S2176x128 .f32) (x3 : Vec F S2176x128 .f32) (x4 : Vec F S2176x128 .f32) (x5 : Vec F S2176x128 .f32) (x6 : Vec F S1x1x128x128 .f32) : Vec F S2176x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 x0 x1 x2 x3 x4 x5 x6).1)

/-- The run's pieces for output 8 cover its block. -/
theorem cover0_A_8 (c : Dev nD) (i : grid0.Coords) (arg2 : Memref sig .tc .vmem S2x128 .f32) (harg2 : arg2.IsWhole) (arg3 : Memref sig .tc .vmem S1x128 .f32) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2176x128 .f32) (harg6 : arg6.IsWhole) (arg7 : Memref sig .tc .vmem S2176x128 .f32) (harg7 : arg7.IsWhole) (arg8 : Memref sig .tc .vmem S1x1x128x128 .f32) (harg8 : arg8.IsWhole) (arg9 : Memref sig .tc .vmem S2176x128 .f32) (harg9 : arg9.IsWhole) (arg10 : Memref sig .tc .vmem S1x1x128x128 .f32) (harg10 : arg10.IsWhole) (arg11 : Memref sig .tc .vmem S128x128 .f32) (harg11 : arg11.IsWhole)
    (x0 : Vec F S2x128 .f32) (x1 : Vec F S1x128 .f32) (x2 : Vec F S2176x128 .f32) (x3 : Vec F S2176x128 .f32) (x4 : Vec F S2176x128 .f32) (x5 : Vec F S2176x128 .f32) (x6 : Vec F S1x1x128x128 .f32) (y : S1x1x128x128.Idx) :
    ∃ pc ∈ (kernelRun0_A c i arg2 harg2 arg3 harg3 arg4 harg4 arg5 harg5 arg6 harg6 arg7 harg7 arg8 harg8 arg9 harg9 arg10 harg10 arg11 harg11 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4 x5 x6).2.1 S1x1x128x128.size (by sl_kernel_rfl) y

/-- What the run leaves in output 8's staging buffer: its pieces read back over junk. -/
def out0_A_8 (c : Dev nD) (i : grid0.Coords) (arg2 : Memref sig .tc .vmem S2x128 .f32) (harg2 : arg2.IsWhole) (arg3 : Memref sig .tc .vmem S1x128 .f32) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2176x128 .f32) (harg6 : arg6.IsWhole) (arg7 : Memref sig .tc .vmem S2176x128 .f32) (harg7 : arg7.IsWhole) (arg8 : Memref sig .tc .vmem S1x1x128x128 .f32) (harg8 : arg8.IsWhole) (arg9 : Memref sig .tc .vmem S2176x128 .f32) (harg9 : arg9.IsWhole) (arg10 : Memref sig .tc .vmem S1x1x128x128 .f32) (harg10 : arg10.IsWhole) (arg11 : Memref sig .tc .vmem S128x128 .f32) (harg11 : arg11.IsWhole)
    (x0 : Vec F S2x128 .f32) (x1 : Vec F S1x128 .f32) (x2 : Vec F S2176x128 .f32) (x3 : Vec F S2176x128 .f32) (x4 : Vec F S2176x128 .f32) (x5 : Vec F S2176x128 .f32) (x6 : Vec F S1x1x128x128 .f32) : Vec F S1x1x128x128 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 x0 x1 x2 x3 x4 x5 x6).2.1)

/-! ## What the outputs hold after each point -/

/-- What the outputs' staging buffers hold after the body at point `t` (as a tuple, in window order): the run's contents at
    the point's memrefs and input blocks. -/
def outsAt0 (c : Dev nD) (t : Fin cfg0.N) : Vec F S2176x128 .f32 × Vec F S1x1x128x128 .f32 :=
  (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (X0_2 m c t) (X0_3 m c t) (X0_4 m c t) (X0_5 m c t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (X0_2 m c t) (X0_3 m c t) (X0_4 m c t) (X0_5 m c t) (iblk m c 6 t))

/-! ## The pipeline's proof data -/

/-- The pipeline's proof data: the arrays as the region finds them, each input's buffer left at its block, the outputs' at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => X0_3 m c t
    | ⟨4, _⟩ => X0_4 m c t
    | ⟨5, _⟩ => X0_5 m c t
    | ⟨6, _⟩ => iblk m c 6 t
    | ⟨7, _⟩ => (outsAt0 m c t).1
    | ⟨8, _⟩ => (outsAt0 m c t).2
  Φ _ := Pipeline.ΦA spec0 c
  q w := Pipeline.shareOf spec0 w
  owed _ := 0

/-- The arrays are those that the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t).1 := by dsimp only [dats]
theorem after0_8 (c : Dev nD) (t : Fin cfg0.N) : (dats m 0 c).after 8 t = (outsAt0 m c t).2 := by dsimp only [dats]

/-- Before the body each input's buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body has before point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What the body leaves after point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: the run, with the inputs' blocks in their buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  unfold out0_A_7 out0_A_8; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ (iblk m c 0 t) (iblk m c 1 t) (X0_2 m c t) (X0_3 m c t) (X0_4 m c t) (X0_5 m c t) (iblk m c 6 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  iintro ⟨H0, H1, H2, H3, H4, H5, H6, ⟨%e7, H7⟩, ⟨%e8, H8⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _)
  unfold owns; iexists _; isplitr
  swap; · iexact H8
  ipureintro; exact View.read_writes_of_cover _ _ _ _ _ (cover0_A_8 c _ _ _ _ _ _ _ _ _ _ _ _ _ _ _ _ _ _ _ _ _ _ _ _ _ _ _ _)

/-- The body that the table has for point `t`. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch, with every semaphore at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch: it ends, and its arrays hold what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The arguments are unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The launch ends, with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel9.Body

end
-- ==== Proof.Hgrn.RunIdeal.lean ====
/- `hgrn_c16`'s body run through by its stores' pieces. The loop over the chunks stores the rows it outputs into a block that it has not read (a store
   first takes what is there, and drops it), so the pieces do not depend on what the block held: `pieces_free`. -/
module

public import proofs.«01_k».proof.Proof.Gen.Kernel9Ideal.Frame.Runs

@[expose] public section

set_option maxRecDepth 16384

noncomputable section

namespace Cert.Kernel9Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal.Gen

variable {F : FTy → Type} [FloatOps F]

local notation "𝕄" => MT nD τ sig Unit (Elt F) ℕ (UR sig nD τ) ℕ

section
variable (𝒱 : Variants) (c : Dev nD) (bd : Option 𝒱.V) (i : grid0.Coords) (arg2 : Memref sig .tc .vmem S2x128 .f32) (harg2 : arg2.IsWhole) (arg3 : Memref sig .tc .vmem S1x128 .f32) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2176x128 .f32) (harg6 : arg6.IsWhole) (arg7 : Memref sig .tc .vmem S2176x128 .f32) (harg7 : arg7.IsWhole) (arg8 : Memref sig .tc .vmem S1x1x128x128 .f32) (harg8 : arg8.IsWhole) (arg9 : Memref sig .tc .vmem S2176x128 .f32) (harg9 : arg9.IsWhole) (arg10 : Memref sig .tc .vmem S1x1x128x128 .f32) (harg10 : arg10.IsWhole) (arg11 : Memref sig .tc .vmem S128x128 .f32) (harg11 : arg11.IsWhole) (v6 : Vec F S2x128 .f32) (v16 : Vec F S1x128 .f32) (v18 : IVec S16x128 32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty)

/-- A trip's pieces do not depend on what the block of output rows holds. -/
theorem trip_free (k : Fin k0_t1_loop.trips) (g g' : BufTy.Contents (Elt F) arg9.view.ty) (G : BufTy.Contents (Elt F) arg11.view.ty) :
    tripL_k0_t1 (F := F) 𝒱 c bd i arg2 harg2 arg3 harg3 arg4 harg4 arg5 harg5 arg6 harg6 arg7 harg7 arg8 harg8 arg9 harg9 arg10 harg10 arg11 harg11 v6 v16 v18 X_arg4 X_arg5 X_arg6 X_arg7 k g G = tripL_k0_t1 (F := F) 𝒱 c bd i arg2 harg2 arg3 harg3 arg4 harg4 arg5 harg5 arg6 harg6 arg7 harg7 arg8 harg8 arg9 harg9 arg10 harg10 arg11 harg11 v6 v16 v18 X_arg4 X_arg5 X_arg6 X_arg7 k g' G := by
  unfold tripL_k0_t1 trip_k0_t1
  rfl

/-- Nor do those of the first `n` trips. -/
theorem pieces_free (n : ℕ) (g g' : BufTy.Contents (Elt F) arg9.view.ty) (G : BufTy.Contents (Elt F) arg11.view.ty) :
    pb_k0_t1 (F := F) 𝒱 c bd i arg2 harg2 arg3 harg3 arg4 harg4 arg5 harg5 arg6 harg6 arg7 harg7 arg8 harg8 arg9 harg9 arg10 harg10 arg11 harg11 v6 v16 v18 X_arg4 X_arg5 X_arg6 X_arg7 g G n = pb_k0_t1 (F := F) 𝒱 c bd i arg2 harg2 arg3 harg3 arg4 harg4 arg5 harg5 arg6 harg6 arg7 harg7 arg8 harg8 arg9 harg9 arg10 harg10 arg11 harg11 v6 v16 v18 X_arg4 X_arg5 X_arg6 X_arg7 g' G n := by
  induction n with
  | zero => rfl
  | succ n ih =>
    rw [pb_k0_t1.eq_2, pb_k0_t1.eq_2, ih]
    unfold pb_k0_t1Step
    split
    · rw [trip_free (g := _) (g' := arg9.view.writes (Elt F) g' (pb_k0_t1 (F := F) 𝒱 c bd i arg2 harg2 arg3 harg3 arg4 harg4 arg5 harg5 arg6 harg6 arg7 harg7 arg8 harg8 arg9 harg9 arg10 harg10 arg11 harg11 v6 v16 v18 X_arg4 X_arg5 X_arg6 X_arg7 g' G n).1)]
    · rfl

end

-- (the run's proof term is large: the definition's epilogue — `abstractNestedProofs` — walks it past the default budget)
set_option maxHeartbeats 1000000 in
/-- What the body's stores leave in each output's staging memref, as pieces (last first), with the proof that it runs to them from whole
    staging memrefs: the inputs' at their contents, the outputs' and the scratch at anything. -/
noncomputable def kernelRun0_A (c : Dev nD) (i : grid0.Coords) (arg2 : Memref sig .tc .vmem S2x128 .f32) (harg2 : arg2.IsWhole) (arg3 : Memref sig .tc .vmem S1x128 .f32) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2176x128 .f32) (harg6 : arg6.IsWhole) (arg7 : Memref sig .tc .vmem S2176x128 .f32) (harg7 : arg7.IsWhole) (arg8 : Memref sig .tc .vmem S1x1x128x128 .f32) (harg8 : arg8.IsWhole) (arg9 : Memref sig .tc .vmem S2176x128 .f32) (harg9 : arg9.IsWhole) (arg10 : Memref sig .tc .vmem S1x1x128x128 .f32) (harg10 : arg10.IsWhole) (arg11 : Memref sig .tc .vmem S128x128 .f32) (harg11 : arg11.IsWhole)
    (x0 : Vec F S2x128 .f32) (x1 : Vec F S1x128 .f32) (x2 : Vec F S2176x128 .f32) (x3 : Vec F S2176x128 .f32) (x4 : Vec F S2176x128 .f32) (x5 : Vec F S2176x128 .f32) (x6 : Vec F S1x1x128x128 .f32) :
    Σ' (L7 : List (View.Piece (Elt F) S2176x128 .f32)), { L8 : List (View.Piece (Elt F) S1x1x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ d, owns (c : Thread nD τ) arg11 fullShare d)) -∗ K ⟨⟩))
          ⊢ wp frame (wpE (defs₀ (F := F)) Variants.none c none) E (cc0_hgrn_c16 i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_hgrn_c16_eq_skeleton]; unfold cc0_hgrn_c16_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    unfold kernelRun0_A.sl.v21
    rw [pieces_free (g := f7) (g' := arg9.view.junk)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _, _; isplitr; swap; · iexact HS0
    ipureintro; rfl

end Cert.Kernel9Ideal.Body

end
-- ==== Proof.Hgrn.FrameIdeal.lean ====
/- `hgrn_c16` runs to its end: what a point leaves, the launch, and its frame. -/
module

public import proofs.«01_k».proof.Proof.Hgrn.RunIdeal
public import Idealize.ShloMosaic.Lib.Claim
public import Idealize.ShloMosaic.Lib.Pipeline.Value

@[expose] public section

set_option maxRecDepth 16384

noncomputable section

namespace Cert.Kernel9Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for output 7 cover its block. -/
theorem cover0_A_7 (c : Dev nD) (i : grid0.Coords) (arg2 : Memref sig .tc .vmem S2x128 .f32) (harg2 : arg2.IsWhole) (arg3 : Memref sig .tc .vmem S1x128 .f32) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2176x128 .f32) (harg6 : arg6.IsWhole) (arg7 : Memref sig .tc .vmem S2176x128 .f32) (harg7 : arg7.IsWhole) (arg8 : Memref sig .tc .vmem S1x1x128x128 .f32) (harg8 : arg8.IsWhole) (arg9 : Memref sig .tc .vmem S2176x128 .f32) (harg9 : arg9.IsWhole) (arg10 : Memref sig .tc .vmem S1x1x128x128 .f32) (harg10 : arg10.IsWhole) (arg11 : Memref sig .tc .vmem S128x128 .f32) (harg11 : arg11.IsWhole)
    (x0 : Vec F S2x128 .f32) (x1 : Vec F S1x128 .f32) (x2 : Vec F S2176x128 .f32) (x3 : Vec F S2176x128 .f32) (x4 : Vec F S2176x128 .f32) (x5 : Vec F S2176x128 .f32) (x6 : Vec F S1x1x128x128 .f32) (y : S2176x128.Idx) :
    ∃ pc ∈ (kernelRun0_A c i arg2 harg2 arg3 harg3 arg4 harg4 arg5 harg5 arg6 harg6 arg7 harg7 arg8 harg8 arg9 harg9 arg10 harg10 arg11 harg11 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4 x5 x6).1 S16x128.size (by sl_kernel_rfl) y

/-- What the run leaves in output 7's staging buffer: its pieces read back over junk. -/
def out0_A_7 (c : Dev nD) (i : grid0.Coords) (arg2 : Memref sig .tc .vmem S2x128 .f32) (harg2 : arg2.IsWhole) (arg3 : Memref sig .tc .vmem S1x128 .f32) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2176x128 .f32) (harg6 : arg6.IsWhole) (arg7 : Memref sig .tc .vmem S2176x128 .f32) (harg7 : arg7.IsWhole) (arg8 : Memref sig .tc .vmem S1x1x128x128 .f32) (harg8 : arg8.IsWhole) (arg9 : Memref sig .tc .vmem S2176x128 .f32) (harg9 : arg9.IsWhole) (arg10 : Memref sig .tc .vmem S1x1x128x128 .f32) (harg10 : arg10.IsWhole) (arg11 : Memref sig .tc .vmem S128x128 .f32) (harg11 : arg11.IsWhole)
    (x0 : Vec F S2x128 .f32) (x1 : Vec F S1x128 .f32) (x2 : Vec F S2176x128 .f32) (x3 : Vec F S2176x128 .f32) (x4 : Vec F S2176x128 .f32) (x5 : Vec F S2176x128 .f32) (x6 : Vec F S1x1x128x128 .f32) : Vec F S2176x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 x0 x1 x2 x3 x4 x5 x6).1)

/-- The run's pieces for output 8 cover its block. -/
theorem cover0_A_8 (c : Dev nD) (i : grid0.Coords) (arg2 : Memref sig .tc .vmem S2x128 .f32) (harg2 : arg2.IsWhole) (arg3 : Memref sig .tc .vmem S1x128 .f32) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2176x128 .f32) (harg6 : arg6.IsWhole) (arg7 : Memref sig .tc .vmem S2176x128 .f32) (harg7 : arg7.IsWhole) (arg8 : Memref sig .tc .vmem S1x1x128x128 .f32) (harg8 : arg8.IsWhole) (arg9 : Memref sig .tc .vmem S2176x128 .f32) (harg9 : arg9.IsWhole) (arg10 : Memref sig .tc .vmem S1x1x128x128 .f32) (harg10 : arg10.IsWhole) (arg11 : Memref sig .tc .vmem S128x128 .f32) (harg11 : arg11.IsWhole)
    (x0 : Vec F S2x128 .f32) (x1 : Vec F S1x128 .f32) (x2 : Vec F S2176x128 .f32) (x3 : Vec F S2176x128 .f32) (x4 : Vec F S2176x128 .f32) (x5 : Vec F S2176x128 .f32) (x6 : Vec F S1x1x128x128 .f32) (y : S1x1x128x128.Idx) :
    ∃ pc ∈ (kernelRun0_A c i arg2 harg2 arg3 harg3 arg4 harg4 arg5 harg5 arg6 harg6 arg7 harg7 arg8 harg8 arg9 harg9 arg10 harg10 arg11 harg11 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4 x5 x6).2.1 S1x1x128x128.size (by sl_kernel_rfl) y

/-- What the run leaves in output 8's staging buffer: its pieces read back over junk. -/
def out0_A_8 (c : Dev nD) (i : grid0.Coords) (arg2 : Memref sig .tc .vmem S2x128 .f32) (harg2 : arg2.IsWhole) (arg3 : Memref sig .tc .vmem S1x128 .f32) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2176x128 .f32) (harg6 : arg6.IsWhole) (arg7 : Memref sig .tc .vmem S2176x128 .f32) (harg7 : arg7.IsWhole) (arg8 : Memref sig .tc .vmem S1x1x128x128 .f32) (harg8 : arg8.IsWhole) (arg9 : Memref sig .tc .vmem S2176x128 .f32) (harg9 : arg9.IsWhole) (arg10 : Memref sig .tc .vmem S1x1x128x128 .f32) (harg10 : arg10.IsWhole) (arg11 : Memref sig .tc .vmem S128x128 .f32) (harg11 : arg11.IsWhole)
    (x0 : Vec F S2x128 .f32) (x1 : Vec F S1x128 .f32) (x2 : Vec F S2176x128 .f32) (x3 : Vec F S2176x128 .f32) (x4 : Vec F S2176x128 .f32) (x5 : Vec F S2176x128 .f32) (x6 : Vec F S1x1x128x128 .f32) : Vec F S1x1x128x128 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 x0 x1 x2 x3 x4 x5 x6).2.1)

/-! ## What the outputs hold after each point -/

/-- What the outputs' staging buffers hold after the body at point `t` (as a tuple, in window order): the run's contents at
    the point's memrefs and input blocks. -/
def outsAt0 (c : Dev nD) (t : Fin cfg0.N) : Vec F S2176x128 .f32 × Vec F S1x1x128x128 .f32 :=
  (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (X0_2 m c t) (X0_3 m c t) (X0_4 m c t) (X0_5 m c t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (X0_2 m c t) (X0_3 m c t) (X0_4 m c t) (X0_5 m c t) (iblk m c 6 t))

/-! ## The pipeline's proof data -/

/-- The pipeline's proof data: the arrays as the region finds them, each input's buffer left at its block, the outputs' at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => X0_3 m c t
    | ⟨4, _⟩ => X0_4 m c t
    | ⟨5, _⟩ => X0_5 m c t
    | ⟨6, _⟩ => iblk m c 6 t
    | ⟨7, _⟩ => (outsAt0 m c t).1
    | ⟨8, _⟩ => (outsAt0 m c t).2
  Φ _ := Pipeline.ΦA spec0 c
  q w := Pipeline.shareOf spec0 w
  owed _ := 0

/-- The arrays are those that the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t).1 := by dsimp only [dats]
theorem after0_8 (c : Dev nD) (t : Fin cfg0.N) : (dats m 0 c).after 8 t = (outsAt0 m c t).2 := by dsimp only [dats]

/-- Before the body each input's buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body has before point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What the body leaves after point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: the run, with the inputs' blocks in their buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  unfold out0_A_7 out0_A_8; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ (iblk m c 0 t) (iblk m c 1 t) (X0_2 m c t) (X0_3 m c t) (X0_4 m c t) (X0_5 m c t) (iblk m c 6 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  iintro ⟨H0, H1, H2, H3, H4, H5, H6, ⟨%e7, H7⟩, ⟨%e8, H8⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _)
  unfold owns; iexists _; isplitr
  swap; · iexact H8
  ipureintro; exact View.read_writes_of_cover _ _ _ _ _ (cover0_A_8 c _ _ _ _ _ _ _ _ _ _ _ _ _ _ _ _ _ _ _ _ _ _ _ _ _ _ _ _)

/-- The body that the table has for point `t`. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch, with every semaphore at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch: it ends, and its arrays hold what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The arguments are unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The launch ends, with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

theorem flushed8 (c : Dev nD) (t : Fin cfg0.N) :
    (dats m 0 c).flushed 8 t = (cfg0.win 8).cut (grid0.coords t) ((outsAt0 m c t).2) := by
  show (cfg0.win 8).cut (grid0.coords t) ((dats m 0 c).after 8 t) = _
  rw [after0_8]

theorem post7 (r : PUnit × MemSt nD τ sig (Elt F)) (h : Pipeline.FramePost cfgs (dats m) 0 (V m) r) (c : Dev nD) :
    r.2.mem ((c : Thread nD τ).loc main_v6_0) = (dats m 0 c).arrAt 7 cfg0.N :=
  (h c).1 7

theorem post8 (r : PUnit × MemSt nD τ sig (Elt F)) (h : Pipeline.FramePost cfgs (dats m) 0 (V m) r) (c : Dev nD) :
    r.2.mem ((c : Thread nD τ).loc main_v6_1) = (dats m 0 c).arrAt 8 cfg0.N :=
  (h c).1 8

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 0).trans (((dats m 0 c).arrAt_in 0 rfl _).trans ((A_eq m c 0).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The launch with each output array named, the arguments unchanged. -/
theorem run_blocks : θ_run defs (onTc (τ := τ) (main (F := F))) ⟨m, fun _ => 0, ρ⟩ fun r => ∀ c : Dev nD,
      r.2.mem ((c : Thread nD τ).loc main_v6_0) = (dats m 0 c).arrAt 7 cfg0.N
      ∧ r.2.mem ((c : Thread nD τ).loc main_v6_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post7 m r h c,
      post8 m r h c,
      kept_main_arg0 m r h c,
      kept_main_arg1 m r h c,
      kept_main_arg2 m r h c⟩)
    (run_main m ρ)

end Cert.Kernel9Ideal.Body

end
-- ==== Proof.Hgrn.Chunks.lean ====
/- The recurrence's states, chunk by chunk: a state is a sum over the rows so far, each row's part times what the rows after it keep. With finite
   logarithms of the gates, sixteen more rows multiply the sum by what they keep and add their own parts. -/
module

public import proofs.«01_k».proof.Proof.Hgrn.Value

@[expose] public section

noncomputable section

namespace Cert.Hgrn

open Idealize.ShloMosaic Cert.Kernel8Ideal.Body

/-- What the rows from `a` to before `b` keep, its logarithm. -/
abbrev between (F : ℕ → ℝ) (a b : ℕ) : ℝ := ∑ r ∈ Finset.Ico a b, F r

/-- The state after `n` rows. -/
def total (F : ℕ → ℝ) (w v : ℕ → EReal) (n : ℕ) : EReal :=
  ∑ s ∈ Finset.range n, v s * (w s * ((Real.exp (between F (s + 1) n) : ℝ) : EReal))

theorem real_sum {α : Type} (s : Finset α) (g : α → ℝ) : ((∑ n ∈ s, g n : ℝ) : EReal) = ∑ n ∈ s, (g n : EReal) := by
  induction s using Finset.cons_induction with
  | empty => simp
  | cons a s ha ih => rw [Finset.sum_cons, Finset.sum_cons, EReal.coe_add, ih]

theorem sum_mul_real (s : Finset ℕ) (g : ℕ → EReal) (c : ℝ) (hc : 0 ≤ c) : (∑ n ∈ s, g n) * (c : EReal) = ∑ n ∈ s, g n * (c : EReal) := by
  induction s using Finset.cons_induction with
  | empty => simp
  | cons a s ha ih =>
    rw [Finset.sum_cons, Finset.sum_cons, EReal.right_distrib_of_nonneg_of_ne_top (by exact_mod_cast hc) (EReal.coe_ne_top c), ih]

theorem total_add (F : ℕ → ℝ) (w v : ℕ → EReal) (n : ℕ) :
    total F w v (n + 16) = total F w v n * ((Real.exp (between F n (n + 16)) : ℝ) : EReal)
      + ∑ s : Fin 16, v (n + s.val) * (w (n + s.val) * ((Real.exp (between F (n + s.val + 1) (n + 16)) : ℝ) : EReal)) := by
  unfold total
  rw [Finset.sum_range_add, sum_mul_real _ _ _ (Real.exp_pos _).le]
  refine congrArg₂ (· + ·) (Finset.sum_congr rfl fun s hs => ?_) (Finset.sum_range _)
  have hs' := Finset.mem_range.1 hs
  rw [mul_assoc, mul_assoc, ← EReal.coe_mul, ← Real.exp_add]
  unfold between
  rw [Finset.sum_Ico_consecutive F (by omega) (by omega)]

/-- The sum of the numbers of a chunk up to row `r`. -/
def sofar (g : Fin 16 → EReal) (r : Fin 16) : EReal := ∑ s, if s ≤ r then g s else 0

theorem sofar_real (F : ℕ → ℝ) (n : ℕ) (r : Fin 16) : sofar (fun s => ((F (n + s.val) : ℝ) : EReal)) r = ((between F n (n + r.val + 1) : ℝ) : EReal) := by
  have h := r.isLt
  unfold sofar between
  rw [Finset.sum_Ico_eq_sum_range, real_sum, ← Finset.sum_filter, show n + r.val + 1 - n = r.val + 1 by omega]
  refine Finset.sum_bij (fun s _ => s.val) (fun s hs => Finset.mem_range.2 ?_) (fun s _ t _ e => Fin.ext e) (fun m hm => ?_) (fun s _ => rfl)
  · have : s.val ≤ r.val := (Finset.mem_filter.1 hs).2
    omega
  · have := Finset.mem_range.1 hm
    exact ⟨⟨m, by omega⟩, Finset.mem_filter.2 ⟨Finset.mem_univ _, show m ≤ r.val by omega⟩, rfl⟩

/-- What the rows of a chunk after row `s` keep. -/
theorem after_real (F : ℕ → ℝ) (n : ℕ) (s : Fin 16) :
    Ideal.exp (sofar (fun s => ((F (n + s.val) : ℝ) : EReal)) 15 - sofar (fun s => ((F (n + s.val) : ℝ) : EReal)) s)
      = ((Real.exp (between F (n + s.val + 1) (n + 16)) : ℝ) : EReal) := by
  have h := s.isLt
  rw [sofar_real, sofar_real, ← EReal.coe_sub, Ideal.exp_coe]
  refine congrArg (fun x : ℝ => ((Real.exp x : ℝ) : EReal)) ?_
  rw [sub_eq_iff_eq_add']
  exact (Finset.sum_Ico_consecutive F (by omega) (show n + s.val + 1 ≤ n + 16 by omega)).symm

theorem all_real (F : ℕ → ℝ) (n : ℕ) : Ideal.exp (sofar (fun s => ((F (n + s.val) : ℝ) : EReal)) 15) = ((Real.exp (between F n (n + 16)) : ℝ) : EReal) := by
  rw [sofar_real, Ideal.exp_coe]
  rfl

/-- Rows at the front that add nothing may be left out. -/
theorem total_drop (F : ℕ → ℝ) (w v : ℕ → EReal) (a n : ℕ) (h0 : ∀ s, s < a → v s = 0) :
    total F w v (a + n) = total (fun s => F (a + s)) (fun s => w (a + s)) (fun s => v (a + s)) n := by
  unfold total
  rw [Finset.sum_range_add, Finset.sum_eq_zero (fun s hs => by rw [h0 s (Finset.mem_range.1 hs), zero_mul]), zero_add]
  refine Finset.sum_congr rfl fun s _ => ?_
  unfold between
  rw [Finset.sum_Ico_add F (s + 1) n a, show s + 1 + a = a + s + 1 by omega, show n + a = a + n by omega]

/-- With finite logits the least share that is kept is a number between 0 and 1. -/
theorem least_real (g : Fin 2 → EReal) (hg : ∀ k, ∃ r : ℝ, g k = r) : ∃ p : ℝ, 0 < p ∧ p ≤ 1 ∧ least g = p := by
  choose a ha using hg
  have hm : most g = ((max (a 0) (a 1) : ℝ) : EReal) := by
    unfold most
    rw [show g = fun k => ((a k : ℝ) : EReal) from funext ha]
    have hb : Ideal.ofBits .f32 0xFF800000#32 = ⊥ := by simp [Ideal.ofBits, Ideal.ieee]
    simp [Fin.univ_succ, hb]
    exact (EReal.coe_strictMono.monotone.map_max).symm
  have e : ∀ k, Ideal.exp (g k - most g) = ((Real.exp (a k - max (a 0) (a 1)) : ℝ) : EReal) := fun k => by
    rw [hm, ha, ← EReal.coe_sub, Ideal.exp_coe]
  have p0 := Real.exp_pos (a 0 - max (a 0) (a 1))
  have p1 := Real.exp_pos (a 1 - max (a 0) (a 1))
  refine ⟨Real.exp (a 0 - max (a 0) (a 1)) * (1 / (Real.exp (a 0 - max (a 0) (a 1)) + Real.exp (a 1 - max (a 0) (a 1)))), ?_, ?_, ?_⟩
  · positivity
  · rw [mul_one_div, div_le_one (by positivity)]
    linarith
  · unfold least
    simp only [e, Fin.sum_univ_two]
    rw [← EReal.coe_add, Ideal.div_coe (by positivity), ← EReal.coe_mul]

/-- … and the gate's logarithm is finite. -/
theorem gate_real (g : Fin 2 → EReal) (hg : ∀ k, ∃ r : ℝ, g k = r) (x : EReal) : Ideal.log (gate g x) = (((Ideal.log (gate g x)).toReal : ℝ) : EReal) := by
  obtain ⟨p, hp, hp1, e⟩ := least_real g hg
  have hq : ∃ q : ℝ, 0 ≤ q ∧ Ideal.logistic x = q := by
    induction x using EReal.rec with
    | bot => exact ⟨0, le_rfl, by simp⟩
    | top => exact ⟨1, zero_le_one, by simp⟩
    | coe r => exact ⟨_, by positivity, Ideal.logistic_coe r⟩
  obtain ⟨q, hq, e'⟩ := hq
  have : gate g x = ((p + (1 - p) * q : ℝ) : EReal) := by
    unfold gate
    rw [e, e']
    push_cast
    rfl
  have hpos : 0 < p + (1 - p) * q := by nlinarith
  rw [this, Ideal.log_coe, if_neg (by linarith), EReal.toReal_coe]

end Cert.Hgrn

end
-- ==== Proof.Hgrn.Long.lean ====
/- `hgrn_c16`, at the ideal instance: the states it writes, index by index. A point has the 2176 rows of one prompt (its padding first) and 128
   columns of one head; it goes through the rows in 136 chunks of sixteen, and keeps the state, turned over, in scratch between them. -/
module

public import proofs.«01_k».proof.Proof.Hgrn.FrameIdeal
public import proofs.«01_k».proof.Proof.Hgrn.Chunks
public import Idealize.ShloMosaic.Lib.VecWindow

@[expose] public section

set_option maxRecDepth 16384

noncomputable section

namespace Cert.Kernel9Ideal.Body

open Idealize.ShloMosaic Idealize.ShloMosaic.TcCoe Idealize.SL.Sem Idealize.ShloMosaic.Tactic
open Cert.Kernel9Ideal.Gen Cert.Hgrn
open Cert.Kernel8Ideal.Body (most least gate)

theorem hz : (![0, 0] : Fin 2 → ℕ) = fun _ => 0 := by funext a; fin_cases a <;> rfl
theorem hz4 : (![0, 0, 0, 0] : Fin 4 → ℕ) = fun _ => 0 := by funext a; fin_cases a <;> rfl

theorem gate_apply (lg : Vec Ideal S2x128 .f32) (x : Vec Ideal S16x128 .f32) (r : Fin 16) (l : Fin 128) :
    k0_pay10 (F := Ideal) (k0_pay2 lg) x (ix2 r l) = gate (fun k => lg (ix2 k l)) (x (ix2 r l)) := by
  unfold gate least most
  pointwise [k0_pay10, k0_pay2]

theorem input_apply (lb : FVec Ideal S1x128 .f32) (x : Vec Ideal S16x128 .f32) (r : Fin 16) (l : Fin 128) :
    k0_pay11 (F := Ideal) lb x (ix2 r l) = 1 - k0_pay10 (F := Ideal) lb x (ix2 r l) := by
  unfold k0_pay11
  generalize k0_pay10 (F := Ideal) lb x = y
  pointwise []

theorem sofar_apply (lb : FVec Ideal S1x128 .f32) (x : Vec Ideal S16x128 .f32) (r : Fin 16) (l : Fin 128) :
    k0_pay13 (F := Ideal) (iota .tc S16x128 32 [0] iota_S16x128_d0_w32) (k0_pay12 lb (iota .tc S16x128 32 [0] iota_S16x128_d0_w32) x) 8#32 (ix2 r l)
      = sofar (fun s => Ideal.log (k0_pay10 (F := Ideal) lb x (ix2 s l))) r := by
  unfold sofar k0_pay12
  generalize k0_pay10 (F := Ideal) lb x = f
  pointwise [k0_pay13]
  generalize hg : (fun s => Ideal.log (f (ix2 s l))) = g
  have e : ∀ s, Ideal.log (f (ix2 s l)) = g s := fun s => congrFun hg s
  simp only [e]
  fin_cases r <;> simp [Fin.sum_univ_succ, Scalar.select, IntOp.cmpi] <;> abel

theorem next_apply (v : Vec Ideal S16x128 .f32) (k b : FVec Ideal S16x128 .f32) (st : Vec Ideal S128x128 .f32) (i j : Fin 128) :
    k0_pay32 (F := Ideal) v k b st (ix2 i j)
      = st (ix2 i j) * Ideal.exp (b (ix2 15 j)) + ∑ s : Fin 16, v (ix2 s i) * (k (ix2 s j) * Ideal.exp (b (ix2 15 j) - b (ix2 s j))) := by
  pointwise [k0_pay32]

theorem same (v : Vec Ideal S16x128 .f32) : k0_pay8 (F := Ideal) v = v := by
  funext i
  rw [show i = ix2 (i 0) (i 1) from by funext a; fin_cases a <;> rfl]
  pointwise [k0_pay8]

theorem first_apply (x : Vec Ideal S1x1x128x128 .f32) (i j : Fin 128) : k0_pay1 (F := Ideal) x (ix2 i j) = x (ix4 0 0 j i) := by
  pointwise [k0_pay1]

theorem last_apply (x : Vec Ideal S128x128 .f32) (i j : Fin 128) : k0_pay6 (F := Ideal) x (ix4 0 0 i j) = x (ix2 j i) := by
  pointwise [k0_pay6]

/-- The rows of chunk `n`. -/
def rows (x : Vec Ideal S2176x128 .f32) (n : Fin 136) : Vec Ideal S16x128 .f32 :=
  fun y => x (ix2 (⟨n.val * 16 + (y 0).val, by have h : (y 0).val < 16 := (y 0).isLt; omega⟩ : Fin 2176) (⟨(y 1).val, (y 1).isLt⟩ : Fin 128))

/-- What a chunk makes of the state. -/
def step (x0 : Vec Ideal S2x128 .f32) (x3 x4 : Vec Ideal S2176x128 .f32) (n : Fin 136) (st : Vec Ideal S128x128 .f32) : Vec Ideal S128x128 .f32 :=
  k0_pay32 (k0_pay8 (rows x4 n)) (k0_pay11 (k0_pay2 x0) (rows x3 n))
    (k0_pay13 (iota .tc S16x128 32 [0] iota_S16x128_d0_w32) (k0_pay12 (k0_pay2 x0) (iota .tc S16x128 32 [0] iota_S16x128_d0_w32) (rows x3 n)) 8#32) st

/-- The state before chunk `n`. -/
def states (x0 : Vec Ideal S2x128 .f32) (x3 x4 : Vec Ideal S2176x128 .f32) (st : Vec Ideal S128x128 .f32) : ℕ → Vec Ideal S128x128 .f32
  | 0 => st
  | n + 1 => if h : n < 136 then step x0 x3 x4 ⟨n, h⟩ (states x0 x3 x4 st n) else states x0 x3 x4 st n

theorem trips : k0_t1_loop.trips = 136 := by decide +kernel

theorem hoff : ∀ k : Fin k0_t1_loop.trips, k0_off1 k = ![k.val * 16, 0] := by decide +kernel

theorem load_rows {arg : Memref sig .tc .vmem S2176x128 .f32} (harg : arg.IsWhole) (x : Vec Ideal S2176x128 .f32) (k : Fin k0_t1_loop.trips)
    (inb : ∀ a, (k0_off1 k) a + S16x128.size a ≤ S2176x128.size a) :
    arg.view.readAt (Elt Ideal) (Rect.unit (s := S2176x128) (k0_off1 k) S16x128.size inb).toLoadRect (harg.unread x) = rows x ⟨k.val, trips ▸ k.isLt⟩ := by
  rw [View.readAt_eq_ld, harg.read_unread]
  funext y
  refine congrArg x (funext fun a => Fin.ext ?_)
  match a with
  | 0 =>
    have e : k0_off1 k 0 = k.val * 16 := by rw [hoff k]; rfl
    show k0_off1 k 0 + 1 * (y 0).val = k.val * 16 + (y 0).val
    rw [e, one_mul]
  | 1 =>
    have e : k0_off1 k 1 = 0 := by rw [hoff k]; rfl
    show k0_off1 k 1 + 1 * (y 1).val = (y 1).val
    rw [e, one_mul, zero_add]

section
variable (𝒱 : Variants) (c : Dev nD) (bd : Option 𝒱.V) (i : grid0.Coords) (arg2 : Memref sig .tc .vmem S2x128 .f32) (harg2 : arg2.IsWhole) (arg3 : Memref sig .tc .vmem S1x128 .f32) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2176x128 .f32) (harg6 : arg6.IsWhole) (arg7 : Memref sig .tc .vmem S2176x128 .f32) (harg7 : arg7.IsWhole) (arg8 : Memref sig .tc .vmem S1x1x128x128 .f32) (harg8 : arg8.IsWhole) (arg9 : Memref sig .tc .vmem S2176x128 .f32) (harg9 : arg9.IsWhole) (arg10 : Memref sig .tc .vmem S1x1x128x128 .f32) (harg10 : arg10.IsWhole) (arg11 : Memref sig .tc .vmem S128x128 .f32) (harg11 : arg11.IsWhole) (v6 : Vec Ideal S2x128 .f32) (v16 : Vec Ideal S1x128 .f32) (v18 : IVec S16x128 32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty)

/-- What a trip stores into scratch. -/
theorem trip_scratch (k : Fin k0_t1_loop.trips) (g : BufTy.Contents (Elt Ideal) arg9.view.ty) (G : BufTy.Contents (Elt Ideal) arg11.view.ty) :
    (tripL_k0_t1 (F := Ideal) 𝒱 c bd i arg2 harg2 arg3 harg3 arg4 harg4 arg5 harg5 arg6 harg6 arg7 harg7 arg8 harg8 arg9 harg9 arg10 harg10 arg11 harg11 v6 v16 v18 X_arg4 X_arg5 X_arg6 X_arg7 k g G).2
      = [⟨Rect.unit (s := S128x128) ![0, 0] S128x128.size inb_S128x128_S128x128_0_0, k0_pay32
          (k0_pay8 (arg6.view.readAt (Elt Ideal) (Rect.unit (s := S2176x128) (k0_off1 k) S16x128.size (k0_off1_inb k)).toLoadRect X_arg6))
          (k0_pay11 (k0_pay2 v6) (arg5.view.readAt (Elt Ideal) (Rect.unit (s := S2176x128) (k0_off1 k) S16x128.size (k0_off1_inb k)).toLoadRect X_arg5))
          (k0_pay13 v18 (k0_pay12 (k0_pay2 v6) v18 (arg5.view.readAt (Elt Ideal) (Rect.unit (s := S2176x128) (k0_off1 k) S16x128.size (k0_off1_inb k)).toLoadRect X_arg5)) 8#32)
          (arg11.view.readAt (Elt Ideal) (Rect.unit (s := S128x128) ![0, 0] S128x128.size inb_S128x128_S128x128_0_0).toLoadRect G)⟩] := by
  unfold tripL_k0_t1 trip_k0_t1
  rfl

/-- The scratch after `n` trips. -/
theorem scratch (x3 x4 : Vec Ideal S2176x128 .f32) (g : BufTy.Contents (Elt Ideal) arg9.view.ty) (G : BufTy.Contents (Elt Ideal) arg11.view.ty) (n : ℕ) (hn : n ≤ 136) :
    arg11.view.read (Elt Ideal) (arg11.view.writes (Elt Ideal) G (pb_k0_t1 (F := Ideal) 𝒱 c bd i arg2 harg2 arg3 harg3 arg4 harg4 arg5 harg5 arg6 harg6 arg7 harg7 arg8 harg8 arg9 harg9 arg10 harg10 arg11 harg11 v6 v16 (iota .tc S16x128 32 [0] iota_S16x128_d0_w32) X_arg4 (harg5.unread x3) (harg6.unread x4) X_arg7 g G n).2)
      = states v6 x3 x4 (arg11.view.read (Elt Ideal) G) n := by
  induction n with
  | zero => rfl
  | succ n ih =>
    have h : n < k0_t1_loop.trips := by rw [trips]; omega
    have e := pb_k0_t1_succ (F := Ideal) 𝒱 c bd i arg2 harg2 arg3 harg3 arg4 harg4 arg5 harg5 arg6 harg6 arg7 harg7 arg8 harg8 arg9 harg9 arg10 harg10 arg11 harg11 v6 v16 (iota .tc S16x128 32 [0] iota_S16x128_d0_w32) X_arg4 (harg5.unread x3) (harg6.unread x4) X_arg7 g G ⟨n, h⟩
    rw [show n + 1 = (⟨n, h⟩ : Fin k0_t1_loop.trips).val + 1 from rfl, e]
    show arg11.view.read (Elt Ideal) (arg11.view.writes (Elt Ideal) G ((tripL_k0_t1 (F := Ideal) 𝒱 c bd i arg2 harg2 arg3 harg3 arg4 harg4 arg5 harg5 arg6 harg6 arg7 harg7 arg8 harg8 arg9 harg9 arg10 harg10 arg11 harg11 v6 v16 (iota .tc S16x128 32 [0] iota_S16x128_d0_w32) X_arg4 (harg5.unread x3) (harg6.unread x4) X_arg7 ⟨n, h⟩ _ _).2 ++ _)) = _
    rw [trip_scratch, View.writes_append, View.read_writes_full, load_rows harg6, load_rows harg5]
    show (_ : Vec Ideal S128x128 .f32) = states v6 x3 x4 (arg11.view.read (Elt Ideal) G) (n + 1)
    rw [states, dif_pos (by omega : n < 136), ← ih (by omega)]
    unfold step
    rw [View.readAt_full]

end

/-- What a point writes: the state after every chunk, turned back over. -/
theorem out_eq (c : Dev nD) (i : grid0.Coords) (arg2 : Memref sig .tc .vmem S2x128 .f32) (harg2 : arg2.IsWhole) (arg3 : Memref sig .tc .vmem S1x128 .f32) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2176x128 .f32) (harg6 : arg6.IsWhole) (arg7 : Memref sig .tc .vmem S2176x128 .f32) (harg7 : arg7.IsWhole) (arg8 : Memref sig .tc .vmem S1x1x128x128 .f32) (harg8 : arg8.IsWhole) (arg9 : Memref sig .tc .vmem S2176x128 .f32) (harg9 : arg9.IsWhole) (arg10 : Memref sig .tc .vmem S1x1x128x128 .f32) (harg10 : arg10.IsWhole) (arg11 : Memref sig .tc .vmem S128x128 .f32) (harg11 : arg11.IsWhole)
    (x0 : Vec Ideal S2x128 .f32) (x1 : Vec Ideal S1x128 .f32) (x2 x3 x4 x5 : Vec Ideal S2176x128 .f32) (x6 : Vec Ideal S1x1x128x128 .f32) :
    out0_A_8 (F := Ideal) c i arg2 harg2 arg3 harg3 arg4 harg4 arg5 harg5 arg6 harg6 arg7 harg7 arg8 harg8 arg9 harg9 arg10 harg10 arg11 harg11 x0 x1 x2 x3 x4 x5 x6
      = k0_pay6 (states x0 x3 x4 (k0_pay1 x6) 136) := by
  unfold out0_A_8
  rw [View.read_writes_junk_eq_canon]
  unfold kernelRun0_A
  dsimp only
  unfold kernelRun0_A.sl.v18 kernelRun0_A.sl.HS0_1
  rw [View.canon_unit_zero hz4]
  refine congrArg k0_pay6 ?_
  show View.readAt (Elt Ideal) arg11.view (Rect.unit (s := S128x128) ![0, 0] S128x128.size inb_S128x128_S128x128_0_0).toLoadRect (arg11.view.writes (Elt Ideal) arg11.view.junk _) = _
  rw [View.readAt_full, View.writes_append, show Scf.trips k0_t1_loop.lb k0_t1_loop.ub k0_t1_loop.st = 136 from trips]
  refine (scratch _ c _ i arg2 harg2 arg3 harg3 arg4 harg4 arg5 harg5 arg6 harg6 arg7 harg7 arg8 harg8 arg9 harg9 arg10 harg10 arg11 harg11 _ _ _ _ x3 x4 _ _ 136 le_rfl).trans ?_
  rw [View.readAt_full, harg2.read_unread, View.read_writes_full, View.readAt_full, harg8.read_unread]

section Whole

variable (z : FVec Ideal S8x2064x11264 .f32) (lg : FVec Ideal S2x1024 .f32)

/-- Number `n` of a column of a prompt's rows, after 112 rows of zeros. -/
def row (b : Fin 8) (q : Fin 11264) (n : ℕ) : EReal := if h : 112 ≤ n ∧ n - 112 < 2064 then z (ix3 b (⟨n - 112, h.2⟩ : Fin 2064) q) else 0

/-- The forget gates of column `k` of head `h`, row by row. -/
def forget (b : Fin 8) (h : Fin 8) (k : Fin 128) (n : ℕ) : EReal :=
  gate (fun q => lg (ix2 q (⟨h.val * 128 + k.val, by omega⟩ : Fin 1024))) (row z b (⟨1024 + (h.val * 128 + k.val), by omega⟩ : Fin 11264) n)

/-- Their logarithms, as real numbers. -/
def fade (b : Fin 8) (h : Fin 8) (k : Fin 128) (n : ℕ) : ℝ := (Ideal.log (forget z lg b h k n)).toReal

/-- A number of a prompt's last state: what its rows add, each faded by the gates of the rows after it. -/
def state (b : Fin 8) (h : Fin 8) (k v : Fin 128) : EReal :=
  total (fun n => fade z lg b h k (112 + n)) (fun n => 1 - forget z lg b h k (112 + n))
    (fun n => row z b (⟨2048 + (h.val * 128 + v.val), by omega⟩ : Fin 11264) (112 + n)) 2064

/-- The array that both programs give. -/
def wanted : FVec Ideal S8x8x128x128 .f32 := fun i => state z lg (i 0) (i 1) (i 2) (i 3)

variable (x0 : Vec Ideal S2x128 .f32) (x3 x4 : Vec Ideal S2176x128 .f32) (x6 : Vec Ideal S1x1x128x128 .f32) (b : Fin 8) (h : Fin 8) (k v : Fin 128)
  (el : ∀ q k, x0 (ix2 q k) = lg (ix2 q (⟨h.val * 128 + k.val, by omega⟩ : Fin 1024)))
  (ef : ∀ (s : Fin 2176) (k : Fin 128), x3 (ix2 s k) = row z b (⟨1024 + (h.val * 128 + k.val), by omega⟩ : Fin 11264) s.val)
  (ei : ∀ (s : Fin 2176) (v : Fin 128), x4 (ix2 s v) = row z b (⟨2048 + (h.val * 128 + v.val), by omega⟩ : Fin 11264) s.val)
  (hl : ∀ q k, ∃ r : ℝ, lg (ix2 q k) = r)

include hl in
theorem fade_real (n : ℕ) : Ideal.log (forget z lg b h k n) = ((fade z lg b h k n : ℝ) : EReal) := gate_real _ (fun q => hl q _) _

include el ef ei hl in
/-- The scratch before chunk `n`: what the rows before it add. -/
theorem states_apply (st : Vec Ideal S128x128 .f32) (e0 : st (ix2 v k) = 0) (n : ℕ) (hn : n ≤ 136) :
    states x0 x3 x4 st n (ix2 v k) = total (fade z lg b h k) (fun n => 1 - forget z lg b h k n) (row z b (⟨2048 + (h.val * 128 + v.val), by omega⟩ : Fin 11264)) (n * 16) := by
  induction n with
  | zero => simpa [states, total] using e0
  | succ n ih =>
    have hn' : n < 136 := by omega
    have eg : ∀ s : Fin 16, k0_pay10 (F := Ideal) (k0_pay2 x0) (rows x3 ⟨n, hn'⟩) (ix2 s k) = forget z lg b h k (n * 16 + s.val) := fun s => by
      rw [gate_apply]
      refine congrArg₂ gate (funext fun q => el q k) ?_
      exact ef ⟨n * 16 + s.val, by omega⟩ k
    have eu : ∀ s : Fin 16, k0_pay13 (F := Ideal) (iota .tc S16x128 32 [0] iota_S16x128_d0_w32) (k0_pay12 (k0_pay2 x0) (iota .tc S16x128 32 [0] iota_S16x128_d0_w32) (rows x3 ⟨n, hn'⟩)) 8#32 (ix2 s k)
        = sofar (fun s => ((fade z lg b h k (n * 16 + s.val) : ℝ) : EReal)) s := fun s => by
      rw [sofar_apply]
      exact congrArg (fun g => sofar g s) (funext fun q => (congrArg Ideal.log (eg q)).trans (fade_real z lg b h k hl _))
    have ev : ∀ s : Fin 16, rows x4 ⟨n, hn'⟩ (ix2 s v) = row z b (⟨2048 + (h.val * 128 + v.val), by omega⟩ : Fin 11264) (n * 16 + s.val) := fun s =>
      ei ⟨n * 16 + s.val, by omega⟩ v
    rw [states, dif_pos hn', show (n + 1) * 16 = n * 16 + 16 by ring, total_add]
    unfold step
    rw [same, next_apply, ih (by omega), eu, all_real]
    refine congrArg (_ + ·) (Finset.sum_congr rfl fun s _ => ?_)
    rw [ev, input_apply, eg, eu, after_real]

include el ef ei hl in
/-- What a point writes, where its blocks are of the arguments and its first state is zero. -/
theorem point (es : ∀ i, x6 i = 0) : k0_pay6 (F := Ideal) (states x0 x3 x4 (k0_pay1 x6) 136) (ix4 0 0 k v) = state z lg b h k v := by
  rw [last_apply, states_apply z lg x0 x3 x4 b h k v el ef ei hl _ ((first_apply x6 v k).trans (es _)) 136 le_rfl]
  exact total_drop _ _ _ 112 2064 fun s hs => dif_neg (by omega)

end Whole

variable (m : (ℓ : Loc nD τ sig) → Buf (Elt Ideal) ℓ) (c : Dev nD)

abbrev argZ : FVec Ideal S8x2064x11264 .f32 := m ((c : Thread nD τ).loc main_arg0)
abbrev argL : FVec Ideal S2x1024 .f32 := m ((c : Thread nD τ).loc main_arg1)

theorem V_main_v4 (i : S8x8x128x128.Idx) : V m c main_v4 i = (0 : EReal) := by
  unfold V
  simp only [hostOps0, hostOps0_1, hostOps0_2, hostOps0_3, hostOps0_4, List.flatten_cons, List.flatten_nil, List.append_nil, List.cons_append, List.nil_append]
  after_results
  show Ideal.ofBits .f32 0x00000000#32 = 0
  simp [Ideal.ofBits, Ideal.ieee]

theorem V_main_v2 : V m c main_v2 = pad S17664x11264 ![0, 0] ![256, 0] ![0, 0]
    (shapeCast S17408x11264 (pad S8x2176x11264 ![0, 112, 0] ![0, 0, 0] ![0, 0, 0] (argZ m c) (sitofp .f32 (constantI S_ 32 0#32)) pads_S8x2064x11264_S8x2176x11264_000_11200_000 h_S_) shapeCasts_S8x2176x11264_S17408x11264)
    (sitofp .f32 (constantI S_ 32 0#32)) pads_S17408x11264_S17664x11264_02560_000 h_S_ := by
  unfold V
  simp only [hostOps0, hostOps0_1, hostOps0_2, hostOps0_3, hostOps0_4, List.flatten_cons, List.flatten_nil, List.append_nil, List.cons_append, List.nil_append]
  after_results
  rfl

theorem staged (b : Fin 8) (s : Fin 2176) (q : Fin 11264) : V m c main_v2 (ix2 (⟨b.val * 2176 + s.val, by omega⟩ : Fin 17664) q) = row (argZ m c) b q s.val := by
  rw [V_main_v2]
  unfold row
  have e : FloatOps.sitofp (F := Ideal) FTy.f32 0#32 = (0 : EReal) := by simp [FloatOps.sitofp]
  pointwise []
  rw [dif_pos (by omega), e]

theorem index_logits : ∀ t : Fin cfg0.N, win0_0.index t = ![0, (grid0.coords t 1).val] := (by decide +kernel : ∀ t : Fin grid0.N, _)
theorem index_forget : ∀ t : Fin cfg0.N, win0_3.index t = ![(grid0.coords t 0).val, 8 + (grid0.coords t 1).val] := (by decide +kernel : ∀ t : Fin grid0.N, _)
theorem index_input : ∀ t : Fin cfg0.N, win0_4.index t = ![(grid0.coords t 0).val, 16 + (grid0.coords t 1).val] := (by decide +kernel : ∀ t : Fin grid0.N, _)
theorem index_last : ∀ t : Fin cfg0.N, win0_8.index t = ![(grid0.coords t 0).val, (grid0.coords t 1).val, 0, 0] := (by decide +kernel : ∀ t : Fin grid0.N, _)

theorem final (hl : ∀ q k, ∃ r : ℝ, argL m c (ix2 q k) = r) : (dats m 0 c).arrAt 8 cfg0.N = wanted (argZ m c) (argL m c) := by
  refine (dats m 0 c).arrAt_eq_of_covers 8 _ (by decide +kernel) fun t _ y => ?_
  blk_simp
  have h0 : (grid0.coords t 0).val < 8 := (grid0.coords t 0).isLt
  have h1 : (grid0.coords t 1).val < 8 := (grid0.coords t 1).isLt
  have hk : (y 2).val < 128 := (y 2).isLt
  have hv : (y 3).val < 128 := (y 3).isLt
  have y0 : (y 0).val < 1 := (y 0).isLt
  have y1 : (y 1).val < 1 := (y 1).isLt
  rw [after0_8]
  unfold outsAt0
  dsimp only
  rw [out_eq]
  have ey : y = ix4 (0 : Fin 1) (0 : Fin 1) (⟨(y 2).val, hk⟩ : Fin 128) (⟨(y 3).val, hv⟩ : Fin 128) := by
    funext a
    match a with
    | 0 => exact Fin.ext (show (y 0).val = 0 by omega)
    | 1 => exact Fin.ext (show (y 1).val = 0 by omega)
    | 2 => rfl
    | 3 => rfl
  have e : (win0_8.blk t).view.emb y = ix4 (⟨(grid0.coords t 0).val, h0⟩ : Fin 8) (⟨(grid0.coords t 1).val, h1⟩ : Fin 8) (⟨(y 2).val, hk⟩ : Fin 128) (⟨(y 3).val, hv⟩ : Fin 128) := by
    blk_ext [index_last]
  rw [e]
  refine (congrArg _ ey).trans (point (argZ m c) (argL m c) _ _ _ _ (⟨(grid0.coords t 0).val, h0⟩ : Fin 8) (⟨(grid0.coords t 1).val, h1⟩ : Fin 8) _ _
    (fun q k => ?_) (fun s k => ?_) (fun s v => ?_) hl (fun i => ?_))
  · blk_simp [iblk]
    refine (congrFun (V_main_arg1 m c) _).trans (congrArg (argL m c) ?_)
    blk_ext [index_logits]
  · refine Eq.trans ?_ (staged m c _ s _)
    unfold X0_3 Pipeline.Window.fill
    rw [dif_pos (moved0_3 t _)]
    blk_simp [iblk]
    refine congrArg (V m c main_v2) ?_
    blk_ext [index_forget]
  · refine Eq.trans ?_ (staged m c _ s _)
    unfold X0_4 Pipeline.Window.fill
    rw [dif_pos (moved0_4 t _)]
    blk_simp [iblk]
    refine congrArg (V m c main_v2) ?_
    blk_ext [index_input]
  · blk_simp [iblk]
    exact V_main_v4 m c _

end Cert.Kernel9Ideal.Body

end
-- ==== Proof.Hgrn.LongAlgebraic.lean ====
/- The value claim of `hgrn_c16`: with finite logits, from memories that agree on the arguments, its array of states and the reference's, which takes
   all 2064 rows of a prompt at once, are equal as extended reals. -/
module

public import proofs.«01_k».proof.Defs
public import proofs.«01_k».proof.Proof.Attn.Algebraic
public import proofs.«01_k».proof.Proof.Hgrn.Algebraic
public import proofs.«01_k».proof.Proof.Hgrn.Long
public import proofs.«01_k».proof.Proof.Gen.Reference9Ideal.Run
public import proofs.«01_k».proof.Proof.Gen.Reference9Ideal.Read
public import proofs.«01_k».proof.Proof.Gen.Pre_finite_logits

@[expose] public section

set_option maxRecDepth 16384

noncomputable section

namespace Cert.Kernel9Ideal.Body

open Idealize.ShloMosaic Idealize.ShloMosaic.TcCoe Idealize.SL.Sem Idealize.ShloMosaic.Tactic
open Cert.Kernel9Ideal.Gen Cert.Hgrn
open Cert.Kernel8Ideal.Body (most least gate place window_sum first_sum)

theorem places : 2064 = (⟨4, ![1, 2064, 1, 1]⟩ : Shape).numel := by decide +kernel

/-- The window's number `n` is that of row `n`. -/
theorem place_row (n : Fin 2064) : (fun a => ((⟨4, ![1, 2064, 1, 1]⟩ : Shape).rowMajor.symm (n.cast places) a).val) = ![0, n.val, 0, 0] := by
  have e : ((⟨4, ![1, 2064, 1, 1]⟩ : Shape).rowMajor ((⟨4, ![1, 2064, 1, 1]⟩ : Shape).rowMajor.symm (n.cast places))).val = n.val := by
    rw [Equiv.apply_symm_apply]
    rfl
  rw [Shape.rowMajor_val_four] at e
  generalize (⟨4, ![1, 2064, 1, 1]⟩ : Shape).rowMajor.symm (n.cast places) = i at e
  have e' : (((i 0).val * 2064 + (i 1).val) * 1 + (i 2).val) * 1 + (i 3).val = n.val := e
  have h0 : (i 0).val < 1 := (i 0).isLt
  have h2 : (i 2).val < 1 := (i 2).isLt
  have h3 : (i 3).val < 1 := (i 3).isLt
  funext a
  match a with
  | 0 => show (i 0).val = 0; omega
  | 1 => show (i 1).val = n.val; omega
  | 2 => show (i 2).val = 0; omega
  | 3 => show (i 3).val = 0; omega

/-- A window that ends at row `r` takes the rows up to it. -/
theorem window_rows (g : ℕ → EReal) (r : ℕ) (hr : r < 2064) :
    ∑ n : Fin 2064, (if 2063 ≤ r + n.val then g (r + n.val - 2063) else 0) = ∑ s ∈ Finset.range (r + 1), g s := by
  rw [← Finset.sum_range (fun n => if 2063 ≤ r + n then g (r + n - 2063) else 0), show 2064 = (2063 - r) + (r + 1) by omega, Finset.sum_range_add,
    Finset.sum_eq_zero (fun n hn => if_neg (by have := Finset.mem_range.1 hn; omega)), zero_add]
  refine Finset.sum_congr rfl fun s _ => ?_
  rw [if_pos (by omega), show r + (2063 - r + s) - 2063 = s by omega]

/-- The reference's sums over the rows. -/
theorem long_sum (x : FVec Ideal Cert.Reference9Ideal.S8x2064x8x128 .f32) (init : FVec Ideal Cert.Reference9Ideal.S_ .f32) (h0 : ∀ i, init i = 0) (b : Fin 8) (r : Fin 2064) (h : Fin 8) (k : Fin 128)
    (hw : Cert.Reference9Ideal.S8x2064x8x128.ReduceWindows (![1, 2064, 1, 1] : Fin 4 → ℕ) ![1, 1, 1, 1] ![0, 2063, 0, 0] ![0, 0, 0, 0] Cert.Reference9Ideal.S8x2064x8x128) (hu : 0 < Cert.Reference9Ideal.S_.numel) :
    Host.reduceWindowAdd (φ := .f32) ![1, 2064, 1, 1] ![1, 1, 1, 1] ![0, 2063, 0, 0] ![0, 0, 0, 0] x init hw hu (ix4 b r h k)
      = ∑ s ∈ Finset.range (r.val + 1), x (ix4 b (Fin.ofNat 2064 s) h k) := by
  have hr := r.isLt
  refine (window_sum x init hw hu (h0 _) (N := 2064) places (ix4 b r h k)
    (fun n => if 2063 ≤ r.val + n.val then x (ix4 b (Fin.ofNat 2064 (r.val + n.val - 2063)) h k) else 0) (fun n i hi => ?_) (fun n a ha => ?_)).trans
    (window_rows (fun s => x (ix4 b (Fin.ofNat 2064 s) h k)) r.val hr)
  · have e0 : b.val * 1 + 0 = 0 + (i 0).val := (congrArg (b.val * 1 + ·) (congrFun (place_row n) 0)).symm.trans (hi 0)
    have e1 : r.val * 1 + n.val = 2063 + (i 1).val := (congrArg (r.val * 1 + ·) (congrFun (place_row n) 1)).symm.trans (hi 1)
    have e2 : h.val * 1 + 0 = 0 + (i 2).val := (congrArg (h.val * 1 + ·) (congrFun (place_row n) 2)).symm.trans (hi 2)
    have e3 : k.val * 1 + 0 = 0 + (i 3).val := (congrArg (k.val * 1 + ·) (congrFun (place_row n) 3)).symm.trans (hi 3)
    have hi1 : (i 1).val < 2064 := (i 1).isLt
    rw [if_pos (by omega)]
    refine congrArg x (funext fun a => ?_)
    match a with
    | 0 => exact Fin.ext (show b.val = (i 0).val by omega)
    | 1 => exact Fin.ext (show (r.val + n.val - 2063) % 2064 = (i 1).val by omega)
    | 2 => exact Fin.ext (show h.val = (i 2).val by omega)
    | 3 => exact Fin.ext (show k.val = (i 3).val by omega)
  · refine if_neg fun hn => ha ?_
    have hb := b.isLt
    have hh := h.isLt
    have hk := k.isLt
    have hn' := n.isLt
    match a with
    | 0 =>
      have e0 : place hw (ix4 b r h k) places n 0 = b.val * 1 + 0 := congrArg (b.val * 1 + ·) (congrFun (place_row n) 0)
      rw [e0]
      exact ⟨Nat.zero_le _, show b.val * 1 + 0 - 0 < 8 by omega⟩
    | 1 =>
      have e0 : place hw (ix4 b r h k) places n 1 = r.val * 1 + n.val := congrArg (r.val * 1 + ·) (congrFun (place_row n) 1)
      rw [e0]
      exact ⟨show 2063 ≤ r.val * 1 + n.val by omega, show r.val * 1 + n.val - 2063 < 2064 by omega⟩
    | 2 =>
      have e0 : place hw (ix4 b r h k) places n 2 = h.val * 1 + 0 := congrArg (h.val * 1 + ·) (congrFun (place_row n) 2)
      rw [e0]
      exact ⟨Nat.zero_le _, show h.val * 1 + 0 - 0 < 8 by omega⟩
    | 3 =>
      have e0 : place hw (ix4 b r h k) places n 3 = k.val * 1 + 0 := congrArg (k.val * 1 + ·) (congrFun (place_row n) 3)
      rw [e0]
      exact ⟨Nat.zero_le _, show k.val * 1 + 0 - 0 < 128 by omega⟩

/-- The logarithms of all rows less those up to row `s` are those past it. -/
theorem exp_rest (F : ℕ → ℝ) {s : ℕ} (hs : s < 2064) :
    Ideal.exp (((between F 0 (2063 + 1) : ℝ) : EReal) - ((between F 0 (s + 1) : ℝ) : EReal)) = ((Real.exp (between F (s + 1) 2064) : ℝ) : EReal) := by
  have e := Finset.sum_Ico_consecutive F (Nat.zero_le (s + 1)) (show s + 1 ≤ 2064 by omega)
  rw [← EReal.coe_sub, show between F 0 (2063 + 1) - between F 0 (s + 1) = between F (s + 1) 2064 from sub_eq_of_eq_add' e.symm]
  exact Ideal.exp_coe _

section Reference

variable (x0 : FVec Ideal S8x2064x11264 .f32) (x1 : FVec Ideal S2x1024 .f32)

open Cert.Reference9Ideal.Read

theorem reference_softmax (k : Fin 1024) : val_main_v10 (F := Ideal) x1 (ix2 0 k) = least (fun q => x1 (ix2 q k)) := by
  unfold least most
  pointwise [val_main_v10, val_main_v9, val_main_v8, val_main_v7, val_main_v6, val_main_v5, val_main_v4, val_main_v3, val_main_v2, val_main_v1, val_main_v0,
    val_main_cst, val_main_cst_0, val_main_cst_1]
  rw [max_eq_right ((Finset.le_fold_max _).2 (Or.inl le_rfl))]

theorem reference_least (k : Fin 1024) : val_main_v11 (F := Ideal) x1 (ix2 0 k) = least (fun q => x1 (ix2 q k)) := by
  unfold val_main_v11
  refine (first_sum _ _ (fun i => ?_) k _ _).trans (reference_softmax x1 k)
  pointwise [val_main_call0_call0_v0, val_main_call0_call0_cst]

/-- Past the rows of zeros a row is the prompt's. -/
theorem row_apply (b : Fin 8) (q : Fin 11264) (s : Fin 2064) : row x0 b q (112 + s.val) = x0 (ix3 b s q) := by
  have hs := s.isLt
  unfold row
  rw [dif_pos (by omega)]
  exact congrArg (fun s => x0 (ix3 b s q)) (Fin.ext (show 112 + s.val - 112 = s.val by omega))

theorem reference_gate (b : Fin 8) (s : Fin 2064) (h : Fin 8) (k : Fin 128) : val_main_v29 (F := Ideal) x0 x1 (ix4 b s h k) = forget x0 x1 b h k (112 + s.val) := by
  unfold forget gate
  rw [row_apply]
  have e := fun k => reference_least x1 k
  generalize hy : val_main_v11 (F := Ideal) x1 = y at e
  pointwise [val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v12, val_main_cst_2, val_main_cst_3, val_main_cst_4, hy]
  rw [e]
  rfl

variable (hl : ∀ q k, ∃ r : ℝ, x1 (ix2 q k) = r)

include hl in
/-- What the rows up to row `s` keep, its logarithm. -/
theorem reference_kept (b : Fin 8) (s : Fin 2064) (h : Fin 8) (k : Fin 128) :
    val_main_v35 (F := Ideal) x0 x1 (ix4 b s h k) = ((between (fun n => fade x0 x1 b h k (112 + n)) 0 (s.val + 1) : ℝ) : EReal) := by
  unfold val_main_v35 between
  refine (long_sum _ _ (fun i => ?_) b s h k _ _).trans ?_
  · pointwise [val_main_call1_call0_v0, val_main_call1_call0_cst]
  · rw [real_sum, ← Finset.range_eq_Ico]
    refine Finset.sum_congr rfl fun n hn => ?_
    have hn' : n < 2064 := by have := Finset.mem_range.1 hn; have := s.isLt; omega
    refine (congrArg Ideal.log (reference_gate x0 x1 b (Fin.ofNat 2064 n) h k)).trans ?_
    rw [show (Fin.ofNat 2064 n).val = n from Nat.mod_eq_of_lt hn']
    exact fade_real x0 x1 b h k hl _

include hl in
theorem reference_apply : val_main_v43 (F := Ideal) x0 x1 = wanted x0 x1 := by
  funext i
  unfold wanted state total
  have e := reference_kept x0 x1 hl
  have e' := reference_gate x0 x1
  generalize hy : val_main_v35 (F := Ideal) x0 x1 = y at e
  generalize hf : val_main_v29 (F := Ideal) x0 x1 = f at e'
  rw [Finset.sum_range]
  pointwise [val_main_v43, val_main_v42, val_main_v41, val_main_v40, val_main_v39, val_main_v38, val_main_v37, val_main_v36, val_main_v33, val_main_v32, val_main_v31, val_main_v30,
    val_main_cst_5, hy, hf]
  refine Finset.sum_congr rfl fun x _ => ?_
  have part : Ideal.exp (y (ix4 (i 0) 2063 (i 1) (i 2)) - y (ix4 (i 0) x (i 1) (i 2)))
      = ((Real.exp (between (fun n => fade x0 x1 (i 0) (i 1) (i 2) (112 + n)) (x.val + 1) 2064) : ℝ) : EReal) :=
    (congrArg₂ (fun p q : EReal => Ideal.exp (p - q)) (e (i 0) 2063 (i 1) (i 2)) (e (i 0) x (i 1) (i 2))).trans (exp_rest _ x.isLt)
  exact (mul_comm _ _).trans (congrArg₂ (fun p q : EReal => p * q) (row_apply x0 (i 0) _ x).symm
    (congrArg₂ (fun p q : EReal => (1 - p) * q) (e' (i 0) x (i 1) (i 2)) part))

end Reference

end Cert.Kernel9Ideal.Body

namespace Cert.Hgrn

open Idealize.ShloMosaic Idealize.ShloMosaic.TcCoe Idealize.SL.Sem Cert.Kernel9Ideal.Body

/-- The two programs' results agree. -/
theorem algebraic_long : Cert.algebraic_Kernel9Ideal_Reference9Ideal_pre_finite_logits (hKernel9Ideal := Cert.Kernel9Ideal.Gen.facts)
    (hReference9Ideal := Cert.Reference9Ideal.Gen.facts) (hPre_finite_logits := Cert.Pre_finite_logits.Gen.facts) := fun m g m' g' pre agree => by
  have real : ∀ c q k, ∃ r : ℝ, argL m c (ix2 q k) = r := fun c q k => Cert.Attn.real_of_below (congrFun (pre c) (ix2 q k))
  refine ⟨fun c => wanted (argZ m c) (argL m c), ?_, ?_⟩
  · exact (θ_run _ _ _).mono (fun r h c => ⟨(h c).2.1.trans (final m c (real c)), (h c).2.2⟩) (run_blocks m g)
  · refine (θ_run _ _ _).mono (fun r h c => ⟨(h c).1.trans ?_, (h c).2⟩) (Cert.Reference9Ideal.Value.run m' g')
    obtain ⟨a0, a1, a2⟩ := agree c
    rw [Cert.Reference9Ideal.Read.val_main_v43_eq, a0, a1]
    exact reference_apply _ _ (real c)

end Cert.Hgrn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Reference.Run
public import proofs.«01_k».proof.Proof.Gen.ReferenceIdeal.Run
public import proofs.«01_k».proof.Proof.Gen.ReferenceIdeal.Read
public import proofs.«01_k».proof.Proof.Gen.Pre_finite_values
public import proofs.«01_k».proof.Proof.Attn.Algebraic
public import proofs.«01_k».proof.Proof.Words.Launch
public import Idealize.ShloMosaic.Lib.Quiescent
public import Idealize.ShloMosaic.Adequacy
public import Idealize.ShloMosaic.Init
public import proofs.«01_k».proof.Proof.Gen.Kernel2
public import proofs.«01_k».proof.Proof.Gen.Kernel2.Frame
public import proofs.«01_k».proof.Proof.Gen.Kernel2Ideal.Value
public import proofs.«01_k».proof.Proof.Gen.Reference2
public import proofs.«01_k».proof.Proof.Gen.Reference2.Run
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal.Value
public import proofs.«01_k».proof.Proof.Gen.Reference3
public import proofs.«01_k».proof.Proof.Gen.Reference3.Run
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal.Value
public import proofs.«01_k».proof.Proof.Gen.Reference4
public import proofs.«01_k».proof.Proof.Gen.Reference4.Run
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal.Value
public import proofs.«01_k».proof.Proof.Gen.Reference5
public import proofs.«01_k».proof.Proof.Gen.Reference5.Run
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal.Value
public import proofs.«01_k».proof.Proof.Gen.Reference6
public import proofs.«01_k».proof.Proof.Gen.Reference6.Run
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal.Value
public import proofs.«01_k».proof.Proof.Gen.Reference7
public import proofs.«01_k».proof.Proof.Gen.Reference7.Run
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal.Value
public import proofs.«01_k».proof.Proof.Gen.Reference8
public import proofs.«01_k».proof.Proof.Gen.Reference8.Run
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Reference9
public import proofs.«01_k».proof.Proof.Gen.Reference9.Run
public import proofs.«01_k».proof.Proof.Gen.Reference9Ideal.Run
public import proofs.«01_k».proof.Proof.Gen.Reference9Ideal.Read
public import proofs.«01_k».proof.Proof.Gen.Pre_finite_logits
public import proofs.«01_k».proof.Proof.Gen.Pre_finite_heads
public import proofs.«01_k».proof.Proof.Proj.Algebraic
public import proofs.«01_k».proof.Proof.Merge.Value
public import proofs.«01_k».proof.Proof.Out.Value
public import proofs.«01_k».proof.Proof.Scores.Value
public import proofs.«01_k».proof.Proof.Norm.Algebraic
public import proofs.«01_k».proof.Proof.Dense.Value
public import proofs.«01_k».proof.Proof.Hgrn.Algebraic
public import proofs.«01_k».proof.Proof.Hgrn.Frame
public import proofs.«01_k».proof.Proof.Hgrn.FrameIdeal
public import proofs.«01_k».proof.Proof.Hgrn.LongAlgebraic

@[expose] public section

noncomputable section

-- Each frame also says that every semaphore counter ends at zero.

namespace Cert.Proof

open Idealize.ShloMosaic Idealize.SL.Sem Cert.Kernel

/-- A program of host operations alone has no semaphore, so the counters end at zero with nothing to show. -/
theorem reference_frame : Cert.quiescent_Reference (hReference := Cert.Reference.Gen.facts) := fun m g _ =>
  (θ_run _ _ _).mono (fun r h => ⟨fun c => (h c).2, sem_eq_zero_of_no_sems rfl r.2⟩) (Cert.Reference.Value.run m g)

theorem referenceIdeal_frame : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

theorem kernel2_frame : Cert.quiescent_Kernel2 (hKernel2 := Cert.Kernel2.Gen.facts) := fun m g _ => Cert.Kernel2.Gen.frame m g

theorem reference2_frame : Cert.quiescent_Reference2 (hReference2 := Cert.Reference2.Gen.facts) := fun m g _ =>
  (θ_run _ _ _).mono (fun r h => ⟨fun c => (h c).2, sem_eq_zero_of_no_sems rfl r.2⟩) (Cert.Reference2.Value.run m g)

theorem reference2Ideal_frame : Cert.quiescent_Reference2Ideal (hReference2Ideal := Cert.Reference2Ideal.Gen.facts) := fun m g _ =>
  (θ_run _ _ _).mono (fun r h => ⟨fun c => (h c).2, sem_eq_zero_of_no_sems rfl r.2⟩) (Cert.Reference2Ideal.Value.run m g)

theorem kernel3_frame : Cert.quiescent_Kernel3 (hKernel3 := Cert.Kernel3.Gen.facts) := fun m g _ => Cert.Kernel3.Gen.frame m g

theorem reference3_frame : Cert.quiescent_Reference3 (hReference3 := Cert.Reference3.Gen.facts) := fun m g _ =>
  (θ_run _ _ _).mono (fun r h => ⟨fun c => (h c).2, sem_eq_zero_of_no_sems rfl r.2⟩) (Cert.Reference3.Value.run m g)

theorem reference3Ideal_frame : Cert.quiescent_Reference3Ideal (hReference3Ideal := Cert.Reference3Ideal.Gen.facts) := fun m g _ =>
  (θ_run _ _ _).mono (fun r h => ⟨fun c => (h c).2, sem_eq_zero_of_no_sems rfl r.2⟩) (Cert.Reference3Ideal.Value.run m g)

theorem kernel4_frame : Cert.quiescent_Kernel4 (hKernel4 := Cert.Kernel4.Gen.facts) := fun m g _ => Cert.Kernel4.Gen.frame m g

theorem reference4_frame : Cert.quiescent_Reference4 (hReference4 := Cert.Reference4.Gen.facts) := fun m g _ =>
  (θ_run _ _ _).mono (fun r h => ⟨fun c => (h c).2.2, sem_eq_zero_of_no_sems rfl r.2⟩) (Cert.Reference4.Value.run m g)

theorem reference4Ideal_frame : Cert.quiescent_Reference4Ideal (hReference4Ideal := Cert.Reference4Ideal.Gen.facts) := fun m g _ =>
  (θ_run _ _ _).mono (fun r h => ⟨fun c => (h c).2.2, sem_eq_zero_of_no_sems rfl r.2⟩) (Cert.Reference4Ideal.Value.run m g)

theorem kernel5_frame : Cert.quiescent_Kernel5 (hKernel5 := Cert.Kernel5.Gen.facts) := fun m g _ => Cert.Kernel5.Gen.frame m g

theorem reference5_frame : Cert.quiescent_Reference5 (hReference5 := Cert.Reference5.Gen.facts) := fun m g _ =>
  (θ_run _ _ _).mono (fun r h => ⟨fun c => (h c).2, sem_eq_zero_of_no_sems rfl r.2⟩) (Cert.Reference5.Value.run m g)

theorem reference5Ideal_frame : Cert.quiescent_Reference5Ideal (hReference5Ideal := Cert.Reference5Ideal.Gen.facts) := fun m g _ =>
  (θ_run _ _ _).mono (fun r h => ⟨fun c => (h c).2, sem_eq_zero_of_no_sems rfl r.2⟩) (Cert.Reference5Ideal.Value.run m g)

theorem kernel6_frame : Cert.quiescent_Kernel6 (hKernel6 := Cert.Kernel6.Gen.facts) := fun m g _ => Cert.Kernel6.Gen.frame m g

theorem reference6_frame : Cert.quiescent_Reference6 (hReference6 := Cert.Reference6.Gen.facts) := fun m g _ =>
  (θ_run _ _ _).mono (fun r h => ⟨fun c => (h c).2.2.2.2, sem_eq_zero_of_no_sems rfl r.2⟩) (Cert.Reference6.Value.run m g)

theorem reference6Ideal_frame : Cert.quiescent_Reference6Ideal (hReference6Ideal := Cert.Reference6Ideal.Gen.facts) := fun m g _ =>
  (θ_run _ _ _).mono (fun r h => ⟨fun c => (h c).2.2.2.2, sem_eq_zero_of_no_sems rfl r.2⟩) (Cert.Reference6Ideal.Value.run m g)

theorem kernel7_frame : Cert.quiescent_Kernel7 (hKernel7 := Cert.Kernel7.Gen.facts) := fun m g _ => Cert.Kernel7.Gen.frame m g

theorem reference7_frame : Cert.quiescent_Reference7 (hReference7 := Cert.Reference7.Gen.facts) := fun m g _ =>
  (θ_run _ _ _).mono (fun r h => ⟨fun c => (h c).2, sem_eq_zero_of_no_sems rfl r.2⟩) (Cert.Reference7.Value.run m g)

theorem reference7Ideal_frame : Cert.quiescent_Reference7Ideal (hReference7Ideal := Cert.Reference7Ideal.Gen.facts) := fun m g _ =>
  (θ_run _ _ _).mono (fun r h => ⟨fun c => (h c).2, sem_eq_zero_of_no_sems rfl r.2⟩) (Cert.Reference7Ideal.Value.run m g)

theorem kernel8_frame : Cert.quiescent_Kernel8 (hKernel8 := Cert.Kernel8.Gen.facts) := fun m g _ => Cert.Kernel8.Gen.frame m g

theorem reference8_frame : Cert.quiescent_Reference8 (hReference8 := Cert.Reference8.Gen.facts) := fun m g _ =>
  (θ_run _ _ _).mono (fun r h => ⟨fun c => (h c).2, sem_eq_zero_of_no_sems rfl r.2⟩) (Cert.Reference8.Value.run m g)

theorem reference8Ideal_frame : Cert.quiescent_Reference8Ideal (hReference8Ideal := Cert.Reference8Ideal.Gen.facts) := fun m g _ =>
  (θ_run _ _ _).mono (fun r h => ⟨fun c => (h c).2, sem_eq_zero_of_no_sems rfl r.2⟩) (Cert.Reference8Ideal.Value.run m g)

theorem kernel9_frame : Cert.quiescent_Kernel9 (hKernel9 := Cert.Kernel9.Gen.facts) := fun m g _ => Cert.Kernel9.Body.frame m g

theorem reference9_frame : Cert.quiescent_Reference9 (hReference9 := Cert.Reference9.Gen.facts) := fun m g _ =>
  (θ_run _ _ _).mono (fun r h => ⟨fun c => (h c).2, sem_eq_zero_of_no_sems rfl r.2⟩) (Cert.Reference9.Value.run m g)

theorem reference9Ideal_frame : Cert.quiescent_Reference9Ideal (hReference9Ideal := Cert.Reference9Ideal.Gen.facts) := fun m g _ =>
  (θ_run _ _ _).mono (fun r h => ⟨fun c => (h c).2, sem_eq_zero_of_no_sems rfl r.2⟩) (Cert.Reference9Ideal.Value.run m g)

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts, Cert.Reference2.Gen.facts,
    Cert.Kernel3.Gen.facts, Cert.Kernel3Ideal.Gen.facts, Cert.Reference3Ideal.Gen.facts, Cert.Reference3.Gen.facts,
    Cert.Kernel4.Gen.facts, Cert.Kernel4Ideal.Gen.facts, Cert.Reference4Ideal.Gen.facts, Cert.Reference4.Gen.facts,
    Cert.Kernel5.Gen.facts, Cert.Kernel5Ideal.Gen.facts, Cert.Reference5Ideal.Gen.facts, Cert.Reference5.Gen.facts,
    Cert.Kernel6.Gen.facts, Cert.Kernel6Ideal.Gen.facts, Cert.Reference6Ideal.Gen.facts, Cert.Reference6.Gen.facts,
    Cert.Kernel7.Gen.facts, Cert.Kernel7Ideal.Gen.facts, Cert.Reference7Ideal.Gen.facts, Cert.Reference7.Gen.facts,
    Cert.Kernel8.Gen.facts, Cert.Kernel8Ideal.Gen.facts, Cert.Reference8Ideal.Gen.facts, Cert.Reference8.Gen.facts,
    Cert.Kernel9.Gen.facts, Cert.Kernel9Ideal.Gen.facts, Cert.Reference9Ideal.Gen.facts, Cert.Reference9.Gen.facts,
    Cert.Pre_finite_values.Gen.facts, Cert.Pre_finite_heads.Gen.facts, Cert.Pre_finite_logits.Gen.facts,
    fun m g _ => Cert.Kernel.Body.frame m g,
    fun m g _ => Cert.KernelIdeal.Body.frame m g,
    fun m g _ => Cert.KernelIdeal.Body.frame m g,
    referenceIdeal_frame,
    fun m g _ => referenceIdeal_frame m g trivial,
    reference_frame,
    kernel2_frame, fun m g _ => Cert.Kernel2Ideal.Gen.frame m g, reference2Ideal_frame, reference2_frame,
    kernel3_frame, fun m g _ => Cert.Kernel3Ideal.Gen.frame m g, reference3Ideal_frame, reference3_frame,
    kernel4_frame, fun m g _ => Cert.Kernel4Ideal.Gen.frame m g, reference4Ideal_frame, reference4_frame,
    kernel5_frame, fun m g _ => Cert.Kernel5Ideal.Gen.frame m g, reference5Ideal_frame, reference5_frame,
    kernel6_frame, fun m g _ => Cert.Kernel6Ideal.Gen.frame m g, fun m g _ => Cert.Kernel6Ideal.Gen.frame m g,
    reference6Ideal_frame, fun m g _ => reference6Ideal_frame m g trivial, reference6_frame,
    kernel7_frame, fun m g _ => Cert.Kernel7Ideal.Gen.frame m g, reference7Ideal_frame, reference7_frame,
    kernel8_frame, fun m g _ => Cert.Kernel8Ideal.Gen.frame m g, reference8Ideal_frame, reference8_frame,
    kernel9_frame, fun m g _ => Cert.Kernel9Ideal.Body.frame m g, fun m g _ => Cert.Kernel9Ideal.Body.frame m g,
    reference9Ideal_frame, fun m g _ => reference9Ideal_frame m g trivial, reference9_frame,
    IdealRules.named_const.statement _ _ _ _ _ rfl, trivial, Cert.Attn.algebraic,
    trivial, trivial, Cert.Proj.algebraic,
    trivial, trivial, Cert.Merge.algebraic,
    trivial, trivial, Cert.Out.algebraic,
    trivial, trivial, Cert.Scores.algebraic,
    trivial, trivial, Cert.Norm.algebraic,
    trivial, trivial, Cert.Dense.algebraic,
    trivial, trivial, Cert.Hgrn.algebraic,
    trivial, trivial, Cert.Hgrn.algebraic_long⟩

end Cert.Proof

end
